-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_scores [hPre_finite_scores : Cert.Pre_finite_scores.Facts] (m : (ℓ : Loc Cert.FwdIdeal.nD Cert.FwdIdeal.τ Cert.FwdIdeal.sig) → Buf (Elt Ideal) ℓ) : Prop :=
  ∀ c : Dev Cert.FwdIdeal.nD,
    (Cert.Pre_finite_scores.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))).1 = (fun _ => 1#1)
    ∧ (Cert.Pre_finite_scores.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))).2 = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_finite_scores [hPre_finite_scores : Cert.Pre_finite_scores.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_finite_scores.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3)) (m ((c.tc : Thread Cert.FwdReferenceIdeal.nD Cert.FwdReferenceIdeal.τ).loc Cert.FwdReferenceIdeal.main_arg4))).1 = (fun _ => 1#1)
    ∧ (Cert.Pre_finite_scores.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3)) (m ((c.tc : Thread Cert.FwdReferenceIdeal.nD Cert.FwdReferenceIdeal.τ).loc Cert.FwdReferenceIdeal.main_arg4))).2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QReferenceIdeal (m : (ℓ : Loc Cert.QReferenceIdeal.nD Cert.QReferenceIdeal.τ Cert.QReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactReferenceIdeal (m : (ℓ : Loc Cert.DactReferenceIdeal.nD Cert.DactReferenceIdeal.τ Cert.DactReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_Dcat (m : (ℓ : Loc Cert.Dcat.nD Cert.Dcat.τ Cert.Dcat.sig) → Buf (Elt Bits) ℓ) : Prop :=
  True

def Pre_DcatIdeal (m : (ℓ : Loc Cert.DcatIdeal.nD Cert.DcatIdeal.τ Cert.DcatIdeal.sig) → Buf (Elt Ideal) ℓ) : Prop :=
  True

def Pre_DcatReferenceIdeal (m : (ℓ : Loc Cert.DcatReferenceIdeal.nD Cert.DcatReferenceIdeal.τ Cert.DcatReferenceIdeal.sig) → Buf (Elt Ideal) ℓ) : Prop :=
  True

def Pre_DwO (m : (ℓ : Loc Cert.DwO.nD Cert.DwO.τ Cert.DwO.sig) → Buf (Elt Bits) ℓ) : Prop :=
  True

def Pre_DwOIdeal (m : (ℓ : Loc Cert.DwOIdeal.nD Cert.DwOIdeal.τ Cert.DwOIdeal.sig) → Buf (Elt Ideal) ℓ) : Prop :=
  True

def Pre_DwOReferenceIdeal (m : (ℓ : Loc Cert.DwOReferenceIdeal.nD Cert.DwOReferenceIdeal.τ Cert.DwOReferenceIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1ReferenceIdeal (m : (ℓ : Loc Cert.Dh1ReferenceIdeal.nD Cert.Dh1ReferenceIdeal.τ Cert.Dh1ReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_Dqn (m : (ℓ : Loc Cert.Dqn.nD Cert.Dqn.τ Cert.Dqn.sig) → Buf (Elt Bits) ℓ) : Prop :=
  True

def Pre_DqnIdeal (m : (ℓ : Loc Cert.DqnIdeal.nD Cert.DqnIdeal.τ Cert.DqnIdeal.sig) → Buf (Elt Ideal) ℓ) : Prop :=
  True

def Pre_DqnReferenceIdeal (m : (ℓ : Loc Cert.DqnReferenceIdeal.nD Cert.DqnReferenceIdeal.τ Cert.DqnReferenceIdeal.sig) → Buf (Elt Ideal) ℓ) : Prop :=
  True

def Pre_DwUq (m : (ℓ : Loc Cert.DwUq.nD Cert.DwUq.τ Cert.DwUq.sig) → Buf (Elt Bits) ℓ) : Prop :=
  True

def Pre_DwUqIdeal (m : (ℓ : Loc Cert.DwUqIdeal.nD Cert.DwUqIdeal.τ Cert.DwUqIdeal.sig) → Buf (Elt Ideal) ℓ) : Prop :=
  True

def Pre_DwUqReferenceIdeal (m : (ℓ : Loc Cert.DwUqReferenceIdeal.nD Cert.DwUqReferenceIdeal.τ Cert.DwUqReferenceIdeal.sig) → Buf (Elt Ideal) ℓ) : Prop :=
  True

def Pre_Dkvn (m : (ℓ : Loc Cert.Dkvn.nD Cert.Dkvn.τ Cert.Dkvn.sig) → Buf (Elt Bits) ℓ) : Prop :=
  True

def Pre_DkvnIdeal (m : (ℓ : Loc Cert.DkvnIdeal.nD Cert.DkvnIdeal.τ Cert.DkvnIdeal.sig) → Buf (Elt Ideal) ℓ) : Prop :=
  True

def Pre_DkvnReferenceIdeal (m : (ℓ : Loc Cert.DkvnReferenceIdeal.nD Cert.DkvnReferenceIdeal.τ Cert.DkvnReferenceIdeal.sig) → Buf (Elt Ideal) ℓ) : Prop :=
  True

def Pre_DwUkv (m : (ℓ : Loc Cert.DwUkv.nD Cert.DwUkv.τ Cert.DwUkv.sig) → Buf (Elt Bits) ℓ) : Prop :=
  True

def Pre_DwUkvIdeal (m : (ℓ : Loc Cert.DwUkvIdeal.nD Cert.DwUkvIdeal.τ Cert.DwUkvIdeal.sig) → Buf (Elt Ideal) ℓ) : Prop :=
  True

def Pre_DwUkvReferenceIdeal (m : (ℓ : Loc Cert.DwUkvReferenceIdeal.nD Cert.DwUkvReferenceIdeal.τ Cert.DwUkvReferenceIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpReferenceIdeal (m : (ℓ : Loc Cert.DwUpReferenceIdeal.nD Cert.DwUpReferenceIdeal.τ Cert.DwUpReferenceIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2ReferenceIdeal (m : (ℓ : Loc Cert.Dh2ReferenceIdeal.nD Cert.Dh2ReferenceIdeal.τ Cert.Dh2ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdIdeal_pre_finite_scores [hFwdIdeal : Cert.FwdIdeal.Facts] [hPre_finite_scores : Cert.Pre_finite_scores.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_scores m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4))
      ∧ r.2.sem = fun _ => 0)

def quiescent_FwdReferenceIdeal_pre_finite_scores [hFwdReferenceIdeal : Cert.FwdReferenceIdeal.Facts] [hPre_finite_scores : Cert.Pre_finite_scores.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_finite_scores m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1))
      ∧ r.2.sem = fun _ => 0)

def quiescent_QReferenceIdeal [hQReferenceIdeal : Cert.QReferenceIdeal.Facts] : Prop :=
  ∀ (m : (ℓ : Loc Cert.QReferenceIdeal.nD Cert.QReferenceIdeal.τ Cert.QReferenceIdeal.sig) → Buf (Elt Ideal) ℓ) (g : Dev Cert.QReferenceIdeal.nD → PrngReg), Pre_QReferenceIdeal m →
    θ_run (Cert.QReferenceIdeal.defs (F := Ideal)) (onTc (τ := Cert.QReferenceIdeal.τ) (Cert.QReferenceIdeal.main (F := Ideal))) ⟨m, fun _ => 0, g⟩ (fun r => (∀ c : Dev Cert.QReferenceIdeal.nD,
      r.2.mem ((c.tc : Thread Cert.QReferenceIdeal.nD Cert.QReferenceIdeal.τ).loc Cert.QReferenceIdeal.main_arg0) = m ((c.tc : Thread Cert.QReferenceIdeal.nD Cert.QReferenceIdeal.τ).loc Cert.QReferenceIdeal.main_arg0)
      ∧ r.2.mem ((c.tc : Thread Cert.QReferenceIdeal.nD Cert.QReferenceIdeal.τ).loc Cert.QReferenceIdeal.main_arg1) = m ((c.tc : Thread Cert.QReferenceIdeal.nD Cert.QReferenceIdeal.τ).loc Cert.QReferenceIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1)
      ∧ r.2.mem ((c.tc : Thread Cert.DwDownReferenceIdeal.nD Cert.DwDownReferenceIdeal.τ).loc Cert.DwDownReferenceIdeal.main_arg2) = m ((c.tc : Thread Cert.DwDownReferenceIdeal.nD Cert.DwDownReferenceIdeal.τ).loc Cert.DwDownReferenceIdeal.main_arg2))
      ∧ r.2.sem = fun _ => 0)

def quiescent_Dcat [hDcat : Cert.Dcat.Facts] : Prop :=
  ∀ (m : (ℓ : Loc Cert.Dcat.nD Cert.Dcat.τ Cert.Dcat.sig) → Buf (Elt Bits) ℓ) (g : Dev Cert.Dcat.nD → PrngReg), Pre_Dcat m →
    θ_run (Cert.Dcat.defs (F := Bits)) (onTc (τ := Cert.Dcat.τ) (Cert.Dcat.main (F := Bits))) ⟨m, fun _ => 0, g⟩ (fun r => (∀ c : Dev Cert.Dcat.nD,
      r.2.mem ((c.tc : Thread Cert.Dcat.nD Cert.Dcat.τ).loc Cert.Dcat.main_arg0) = m ((c.tc : Thread Cert.Dcat.nD Cert.Dcat.τ).loc Cert.Dcat.main_arg0)
      ∧ r.2.mem ((c.tc : Thread Cert.Dcat.nD Cert.Dcat.τ).loc Cert.Dcat.main_arg1) = m ((c.tc : Thread Cert.Dcat.nD Cert.Dcat.τ).loc Cert.Dcat.main_arg1)
      ∧ r.2.mem ((c.tc : Thread Cert.Dcat.nD Cert.Dcat.τ).loc Cert.Dcat.main_arg2) = m ((c.tc : Thread Cert.Dcat.nD Cert.Dcat.τ).loc Cert.Dcat.main_arg2))
      ∧ r.2.sem = fun _ => 0)

def quiescent_DcatIdeal [hDcatIdeal : Cert.DcatIdeal.Facts] : Prop :=
  ∀ (m : (ℓ : Loc Cert.DcatIdeal.nD Cert.DcatIdeal.τ Cert.DcatIdeal.sig) → Buf (Elt Ideal) ℓ) (g : Dev Cert.DcatIdeal.nD → PrngReg), Pre_DcatIdeal m →
    θ_run (Cert.DcatIdeal.defs (F := Ideal)) (onTc (τ := Cert.DcatIdeal.τ) (Cert.DcatIdeal.main (F := Ideal))) ⟨m, fun _ => 0, g⟩ (fun r => (∀ c : Dev Cert.DcatIdeal.nD,
      r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
      ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1)
      ∧ r.2.mem ((c.tc : Thread Cert.DcatIdeal.nD Cert.DcatIdeal.τ).loc Cert.DcatIdeal.main_arg2) = m ((c.tc : Thread Cert.DcatIdeal.nD Cert.DcatIdeal.τ).loc Cert.DcatIdeal.main_arg2))
      ∧ r.2.sem = fun _ => 0)

def quiescent_DcatReferenceIdeal [hDcatReferenceIdeal : Cert.DcatReferenceIdeal.Facts] : Prop :=
  ∀ (m : (ℓ : Loc Cert.DcatReferenceIdeal.nD Cert.DcatReferenceIdeal.τ Cert.DcatReferenceIdeal.sig) → Buf (Elt Ideal) ℓ) (g : Dev Cert.DcatReferenceIdeal.nD → PrngReg), Pre_DcatReferenceIdeal m →
    θ_run (Cert.DcatReferenceIdeal.defs (F := Ideal)) (onTc (τ := Cert.DcatReferenceIdeal.τ) (Cert.DcatReferenceIdeal.main (F := Ideal))) ⟨m, fun _ => 0, g⟩ (fun r => (∀ c : Dev Cert.DcatReferenceIdeal.nD,
      r.2.mem ((c.tc : Thread Cert.DcatReferenceIdeal.nD Cert.DcatReferenceIdeal.τ).loc Cert.DcatReferenceIdeal.main_arg0) = m ((c.tc : Thread Cert.DcatReferenceIdeal.nD Cert.DcatReferenceIdeal.τ).loc Cert.DcatReferenceIdeal.main_arg0)
      ∧ r.2.mem ((c.tc : Thread Cert.DcatReferenceIdeal.nD Cert.DcatReferenceIdeal.τ).loc Cert.DcatReferenceIdeal.main_arg1) = m ((c.tc : Thread Cert.DcatReferenceIdeal.nD Cert.DcatReferenceIdeal.τ).loc Cert.DcatReferenceIdeal.main_arg1)
      ∧ r.2.mem ((c.tc : Thread Cert.DcatReferenceIdeal.nD Cert.DcatReferenceIdeal.τ).loc Cert.DcatReferenceIdeal.main_arg2) = m ((c.tc : Thread Cert.DcatReferenceIdeal.nD Cert.DcatReferenceIdeal.τ).loc Cert.DcatReferenceIdeal.main_arg2))
      ∧ r.2.sem = fun _ => 0)

def quiescent_DwO [hDwO : Cert.DwO.Facts] : Prop :=
  ∀ (m : (ℓ : Loc Cert.DwO.nD Cert.DwO.τ Cert.DwO.sig) → Buf (Elt Bits) ℓ) (g : Dev Cert.DwO.nD → PrngReg), Pre_DwO m →
    θ_run (Cert.DwO.defs (F := Bits)) (onTc (τ := Cert.DwO.τ) (Cert.DwO.main (F := Bits))) ⟨m, fun _ => 0, g⟩ (fun r => (∀ c : Dev Cert.DwO.nD,
      r.2.mem ((c.tc : Thread Cert.DwO.nD Cert.DwO.τ).loc Cert.DwO.main_arg0) = m ((c.tc : Thread Cert.DwO.nD Cert.DwO.τ).loc Cert.DwO.main_arg0)
      ∧ r.2.mem ((c.tc : Thread Cert.DwO.nD Cert.DwO.τ).loc Cert.DwO.main_arg1) = m ((c.tc : Thread Cert.DwO.nD Cert.DwO.τ).loc Cert.DwO.main_arg1)
      ∧ r.2.mem ((c.tc : Thread Cert.DwO.nD Cert.DwO.τ).loc Cert.DwO.main_arg2) = m ((c.tc : Thread Cert.DwO.nD Cert.DwO.τ).loc Cert.DwO.main_arg2))
      ∧ r.2.sem = fun _ => 0)

def quiescent_DwOIdeal [hDwOIdeal : Cert.DwOIdeal.Facts] : Prop :=
  ∀ (m : (ℓ : Loc Cert.DwOIdeal.nD Cert.DwOIdeal.τ Cert.DwOIdeal.sig) → Buf (Elt Ideal) ℓ) (g : Dev Cert.DwOIdeal.nD → PrngReg), Pre_DwOIdeal m →
    θ_run (Cert.DwOIdeal.defs (F := Ideal)) (onTc (τ := Cert.DwOIdeal.τ) (Cert.DwOIdeal.main (F := Ideal))) ⟨m, fun _ => 0, g⟩ (fun r => (∀ c : Dev Cert.DwOIdeal.nD,
      r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
      ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1)
      ∧ r.2.mem ((c.tc : Thread Cert.DwOIdeal.nD Cert.DwOIdeal.τ).loc Cert.DwOIdeal.main_arg2) = m ((c.tc : Thread Cert.DwOIdeal.nD Cert.DwOIdeal.τ).loc Cert.DwOIdeal.main_arg2))
      ∧ r.2.sem = fun _ => 0)

def quiescent_DwOReferenceIdeal [hDwOReferenceIdeal : Cert.DwOReferenceIdeal.Facts] : Prop :=
  ∀ (m : (ℓ : Loc Cert.DwOReferenceIdeal.nD Cert.DwOReferenceIdeal.τ Cert.DwOReferenceIdeal.sig) → Buf (Elt Ideal) ℓ) (g : Dev Cert.DwOReferenceIdeal.nD → PrngReg), Pre_DwOReferenceIdeal m →
    θ_run (Cert.DwOReferenceIdeal.defs (F := Ideal)) (onTc (τ := Cert.DwOReferenceIdeal.τ) (Cert.DwOReferenceIdeal.main (F := Ideal))) ⟨m, fun _ => 0, g⟩ (fun r => (∀ c : Dev Cert.DwOReferenceIdeal.nD,
      r.2.mem ((c.tc : Thread Cert.DwOReferenceIdeal.nD Cert.DwOReferenceIdeal.τ).loc Cert.DwOReferenceIdeal.main_arg0) = m ((c.tc : Thread Cert.DwOReferenceIdeal.nD Cert.DwOReferenceIdeal.τ).loc Cert.DwOReferenceIdeal.main_arg0)
      ∧ r.2.mem ((c.tc : Thread Cert.DwOReferenceIdeal.nD Cert.DwOReferenceIdeal.τ).loc Cert.DwOReferenceIdeal.main_arg1) = m ((c.tc : Thread Cert.DwOReferenceIdeal.nD Cert.DwOReferenceIdeal.τ).loc Cert.DwOReferenceIdeal.main_arg1)
      ∧ r.2.mem ((c.tc : Thread Cert.DwOReferenceIdeal.nD Cert.DwOReferenceIdeal.τ).loc Cert.DwOReferenceIdeal.main_arg2) = m ((c.tc : Thread Cert.DwOReferenceIdeal.nD Cert.DwOReferenceIdeal.τ).loc Cert.DwOReferenceIdeal.main_arg2))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1)
      ∧ r.2.mem ((c.tc : Thread Cert.Dh1.nD Cert.Dh1.τ).loc Cert.Dh1.main_arg2) = m ((c.tc : Thread Cert.Dh1.nD Cert.Dh1.τ).loc Cert.Dh1.main_arg2))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
      ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2))
      ∧ r.2.sem = fun _ => 0)

def quiescent_Dh1ReferenceIdeal [hDh1ReferenceIdeal : Cert.Dh1ReferenceIdeal.Facts] : Prop :=
  ∀ (m : (ℓ : Loc Cert.Dh1ReferenceIdeal.nD Cert.Dh1ReferenceIdeal.τ Cert.Dh1ReferenceIdeal.sig) → Buf (Elt Ideal) ℓ) (g : Dev Cert.Dh1ReferenceIdeal.nD → PrngReg), Pre_Dh1ReferenceIdeal m →
    θ_run (Cert.Dh1ReferenceIdeal.defs (F := Ideal)) (onTc (τ := Cert.Dh1ReferenceIdeal.τ) (Cert.Dh1ReferenceIdeal.main (F := Ideal))) ⟨m, fun _ => 0, g⟩ (fun r => (∀ c : Dev Cert.Dh1ReferenceIdeal.nD,
      r.2.mem ((c.tc : Thread Cert.Dh1ReferenceIdeal.nD Cert.Dh1ReferenceIdeal.τ).loc Cert.Dh1ReferenceIdeal.main_arg0) = m ((c.tc : Thread Cert.Dh1ReferenceIdeal.nD Cert.Dh1ReferenceIdeal.τ).loc Cert.Dh1ReferenceIdeal.main_arg0)
      ∧ r.2.mem ((c.tc : Thread Cert.Dh1ReferenceIdeal.nD Cert.Dh1ReferenceIdeal.τ).loc Cert.Dh1ReferenceIdeal.main_arg1) = m ((c.tc : Thread Cert.Dh1ReferenceIdeal.nD Cert.Dh1ReferenceIdeal.τ).loc Cert.Dh1ReferenceIdeal.main_arg1)
      ∧ r.2.mem ((c.tc : Thread Cert.Dh1ReferenceIdeal.nD Cert.Dh1ReferenceIdeal.τ).loc Cert.Dh1ReferenceIdeal.main_arg2) = m ((c.tc : Thread Cert.Dh1ReferenceIdeal.nD Cert.Dh1ReferenceIdeal.τ).loc Cert.Dh1ReferenceIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1)
      ∧ r.2.mem ((c.tc : Thread Cert.DwInReferenceIdeal.nD Cert.DwInReferenceIdeal.τ).loc Cert.DwInReferenceIdeal.main_arg2) = m ((c.tc : Thread Cert.DwInReferenceIdeal.nD Cert.DwInReferenceIdeal.τ).loc Cert.DwInReferenceIdeal.main_arg2))
      ∧ r.2.sem = fun _ => 0)

def quiescent_Dqn [hDqn : Cert.Dqn.Facts] : Prop :=
  ∀ (m : (ℓ : Loc Cert.Dqn.nD Cert.Dqn.τ Cert.Dqn.sig) → Buf (Elt Bits) ℓ) (g : Dev Cert.Dqn.nD → PrngReg), Pre_Dqn m →
    θ_run (Cert.Dqn.defs (F := Bits)) (onTc (τ := Cert.Dqn.τ) (Cert.Dqn.main (F := Bits))) ⟨m, fun _ => 0, g⟩ (fun r => (∀ c : Dev Cert.Dqn.nD,
      r.2.mem ((c.tc : Thread Cert.Dqn.nD Cert.Dqn.τ).loc Cert.Dqn.main_arg0) = m ((c.tc : Thread Cert.Dqn.nD Cert.Dqn.τ).loc Cert.Dqn.main_arg0)
      ∧ r.2.mem ((c.tc : Thread Cert.Dqn.nD Cert.Dqn.τ).loc Cert.Dqn.main_arg1) = m ((c.tc : Thread Cert.Dqn.nD Cert.Dqn.τ).loc Cert.Dqn.main_arg1)
      ∧ r.2.mem ((c.tc : Thread Cert.Dqn.nD Cert.Dqn.τ).loc Cert.Dqn.main_arg2) = m ((c.tc : Thread Cert.Dqn.nD Cert.Dqn.τ).loc Cert.Dqn.main_arg2))
      ∧ r.2.sem = fun _ => 0)

def quiescent_DqnIdeal [hDqnIdeal : Cert.DqnIdeal.Facts] : Prop :=
  ∀ (m : (ℓ : Loc Cert.DqnIdeal.nD Cert.DqnIdeal.τ Cert.DqnIdeal.sig) → Buf (Elt Ideal) ℓ) (g : Dev Cert.DqnIdeal.nD → PrngReg), Pre_DqnIdeal m →
    θ_run (Cert.DqnIdeal.defs (F := Ideal)) (onTc (τ := Cert.DqnIdeal.τ) (Cert.DqnIdeal.main (F := Ideal))) ⟨m, fun _ => 0, g⟩ (fun r => (∀ c : Dev Cert.DqnIdeal.nD,
      r.2.mem ((c.tc : Thread Cert.DqnIdeal.nD Cert.DqnIdeal.τ).loc Cert.DqnIdeal.main_arg0) = m ((c.tc : Thread Cert.DqnIdeal.nD Cert.DqnIdeal.τ).loc Cert.DqnIdeal.main_arg0)
      ∧ r.2.mem ((c.tc : Thread Cert.DqnIdeal.nD Cert.DqnIdeal.τ).loc Cert.DqnIdeal.main_arg1) = m ((c.tc : Thread Cert.DqnIdeal.nD Cert.DqnIdeal.τ).loc Cert.DqnIdeal.main_arg1)
      ∧ r.2.mem ((c.tc : Thread Cert.DqnIdeal.nD Cert.DqnIdeal.τ).loc Cert.DqnIdeal.main_arg2) = m ((c.tc : Thread Cert.DqnIdeal.nD Cert.DqnIdeal.τ).loc Cert.DqnIdeal.main_arg2))
      ∧ r.2.sem = fun _ => 0)

def quiescent_DqnReferenceIdeal [hDqnReferenceIdeal : Cert.DqnReferenceIdeal.Facts] : Prop :=
  ∀ (m : (ℓ : Loc Cert.DqnReferenceIdeal.nD Cert.DqnReferenceIdeal.τ Cert.DqnReferenceIdeal.sig) → Buf (Elt Ideal) ℓ) (g : Dev Cert.DqnReferenceIdeal.nD → PrngReg), Pre_DqnReferenceIdeal m →
    θ_run (Cert.DqnReferenceIdeal.defs (F := Ideal)) (onTc (τ := Cert.DqnReferenceIdeal.τ) (Cert.DqnReferenceIdeal.main (F := Ideal))) ⟨m, fun _ => 0, g⟩ (fun r => (∀ c : Dev Cert.DqnReferenceIdeal.nD,
      r.2.mem ((c.tc : Thread Cert.DqnReferenceIdeal.nD Cert.DqnReferenceIdeal.τ).loc Cert.DqnReferenceIdeal.main_arg0) = m ((c.tc : Thread Cert.DqnReferenceIdeal.nD Cert.DqnReferenceIdeal.τ).loc Cert.DqnReferenceIdeal.main_arg0)
      ∧ r.2.mem ((c.tc : Thread Cert.DqnReferenceIdeal.nD Cert.DqnReferenceIdeal.τ).loc Cert.DqnReferenceIdeal.main_arg1) = m ((c.tc : Thread Cert.DqnReferenceIdeal.nD Cert.DqnReferenceIdeal.τ).loc Cert.DqnReferenceIdeal.main_arg1)
      ∧ r.2.mem ((c.tc : Thread Cert.DqnReferenceIdeal.nD Cert.DqnReferenceIdeal.τ).loc Cert.DqnReferenceIdeal.main_arg2) = m ((c.tc : Thread Cert.DqnReferenceIdeal.nD Cert.DqnReferenceIdeal.τ).loc Cert.DqnReferenceIdeal.main_arg2))
      ∧ r.2.sem = fun _ => 0)

def quiescent_DwUq [hDwUq : Cert.DwUq.Facts] : Prop :=
  ∀ (m : (ℓ : Loc Cert.DwUq.nD Cert.DwUq.τ Cert.DwUq.sig) → Buf (Elt Bits) ℓ) (g : Dev Cert.DwUq.nD → PrngReg), Pre_DwUq m →
    θ_run (Cert.DwUq.defs (F := Bits)) (onTc (τ := Cert.DwUq.τ) (Cert.DwUq.main (F := Bits))) ⟨m, fun _ => 0, g⟩ (fun r => (∀ c : Dev Cert.DwUq.nD,
      r.2.mem ((c.tc : Thread Cert.DwUq.nD Cert.DwUq.τ).loc Cert.DwUq.main_arg0) = m ((c.tc : Thread Cert.DwUq.nD Cert.DwUq.τ).loc Cert.DwUq.main_arg0)
      ∧ r.2.mem ((c.tc : Thread Cert.DwUq.nD Cert.DwUq.τ).loc Cert.DwUq.main_arg1) = m ((c.tc : Thread Cert.DwUq.nD Cert.DwUq.τ).loc Cert.DwUq.main_arg1)
      ∧ r.2.mem ((c.tc : Thread Cert.DwUq.nD Cert.DwUq.τ).loc Cert.DwUq.main_arg2) = m ((c.tc : Thread Cert.DwUq.nD Cert.DwUq.τ).loc Cert.DwUq.main_arg2))
      ∧ r.2.sem = fun _ => 0)

def quiescent_DwUqIdeal [hDwUqIdeal : Cert.DwUqIdeal.Facts] : Prop :=
  ∀ (m : (ℓ : Loc Cert.DwUqIdeal.nD Cert.DwUqIdeal.τ Cert.DwUqIdeal.sig) → Buf (Elt Ideal) ℓ) (g : Dev Cert.DwUqIdeal.nD → PrngReg), Pre_DwUqIdeal m →
    θ_run (Cert.DwUqIdeal.defs (F := Ideal)) (onTc (τ := Cert.DwUqIdeal.τ) (Cert.DwUqIdeal.main (F := Ideal))) ⟨m, fun _ => 0, g⟩ (fun r => (∀ c : Dev Cert.DwUqIdeal.nD,
      r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
      ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1)
      ∧ r.2.mem ((c.tc : Thread Cert.DwUqIdeal.nD Cert.DwUqIdeal.τ).loc Cert.DwUqIdeal.main_arg2) = m ((c.tc : Thread Cert.DwUqIdeal.nD Cert.DwUqIdeal.τ).loc Cert.DwUqIdeal.main_arg2))
      ∧ r.2.sem = fun _ => 0)

def quiescent_DwUqReferenceIdeal [hDwUqReferenceIdeal : Cert.DwUqReferenceIdeal.Facts] : Prop :=
  ∀ (m : (ℓ : Loc Cert.DwUqReferenceIdeal.nD Cert.DwUqReferenceIdeal.τ Cert.DwUqReferenceIdeal.sig) → Buf (Elt Ideal) ℓ) (g : Dev Cert.DwUqReferenceIdeal.nD → PrngReg), Pre_DwUqReferenceIdeal m →
    θ_run (Cert.DwUqReferenceIdeal.defs (F := Ideal)) (onTc (τ := Cert.DwUqReferenceIdeal.τ) (Cert.DwUqReferenceIdeal.main (F := Ideal))) ⟨m, fun _ => 0, g⟩ (fun r => (∀ c : Dev Cert.DwUqReferenceIdeal.nD,
      r.2.mem ((c.tc : Thread Cert.DwUqReferenceIdeal.nD Cert.DwUqReferenceIdeal.τ).loc Cert.DwUqReferenceIdeal.main_arg0) = m ((c.tc : Thread Cert.DwUqReferenceIdeal.nD Cert.DwUqReferenceIdeal.τ).loc Cert.DwUqReferenceIdeal.main_arg0)
      ∧ r.2.mem ((c.tc : Thread Cert.DwUqReferenceIdeal.nD Cert.DwUqReferenceIdeal.τ).loc Cert.DwUqReferenceIdeal.main_arg1) = m ((c.tc : Thread Cert.DwUqReferenceIdeal.nD Cert.DwUqReferenceIdeal.τ).loc Cert.DwUqReferenceIdeal.main_arg1)
      ∧ r.2.mem ((c.tc : Thread Cert.DwUqReferenceIdeal.nD Cert.DwUqReferenceIdeal.τ).loc Cert.DwUqReferenceIdeal.main_arg2) = m ((c.tc : Thread Cert.DwUqReferenceIdeal.nD Cert.DwUqReferenceIdeal.τ).loc Cert.DwUqReferenceIdeal.main_arg2))
      ∧ r.2.sem = fun _ => 0)

def quiescent_Dkvn [hDkvn : Cert.Dkvn.Facts] : Prop :=
  ∀ (m : (ℓ : Loc Cert.Dkvn.nD Cert.Dkvn.τ Cert.Dkvn.sig) → Buf (Elt Bits) ℓ) (g : Dev Cert.Dkvn.nD → PrngReg), Pre_Dkvn m →
    θ_run (Cert.Dkvn.defs (F := Bits)) (onTc (τ := Cert.Dkvn.τ) (Cert.Dkvn.main (F := Bits))) ⟨m, fun _ => 0, g⟩ (fun r => (∀ c : Dev Cert.Dkvn.nD,
      r.2.mem ((c.tc : Thread Cert.Dkvn.nD Cert.Dkvn.τ).loc Cert.Dkvn.main_arg0) = m ((c.tc : Thread Cert.Dkvn.nD Cert.Dkvn.τ).loc Cert.Dkvn.main_arg0)
      ∧ r.2.mem ((c.tc : Thread Cert.Dkvn.nD Cert.Dkvn.τ).loc Cert.Dkvn.main_arg1) = m ((c.tc : Thread Cert.Dkvn.nD Cert.Dkvn.τ).loc Cert.Dkvn.main_arg1)
      ∧ r.2.mem ((c.tc : Thread Cert.Dkvn.nD Cert.Dkvn.τ).loc Cert.Dkvn.main_arg2) = m ((c.tc : Thread Cert.Dkvn.nD Cert.Dkvn.τ).loc Cert.Dkvn.main_arg2))
      ∧ r.2.sem = fun _ => 0)

def quiescent_DkvnIdeal [hDkvnIdeal : Cert.DkvnIdeal.Facts] : Prop :=
  ∀ (m : (ℓ : Loc Cert.DkvnIdeal.nD Cert.DkvnIdeal.τ Cert.DkvnIdeal.sig) → Buf (Elt Ideal) ℓ) (g : Dev Cert.DkvnIdeal.nD → PrngReg), Pre_DkvnIdeal m →
    θ_run (Cert.DkvnIdeal.defs (F := Ideal)) (onTc (τ := Cert.DkvnIdeal.τ) (Cert.DkvnIdeal.main (F := Ideal))) ⟨m, fun _ => 0, g⟩ (fun r => (∀ c : Dev Cert.DkvnIdeal.nD,
      r.2.mem ((c.tc : Thread Cert.DkvnIdeal.nD Cert.DkvnIdeal.τ).loc Cert.DkvnIdeal.main_arg0) = m ((c.tc : Thread Cert.DkvnIdeal.nD Cert.DkvnIdeal.τ).loc Cert.DkvnIdeal.main_arg0)
      ∧ r.2.mem ((c.tc : Thread Cert.DkvnIdeal.nD Cert.DkvnIdeal.τ).loc Cert.DkvnIdeal.main_arg1) = m ((c.tc : Thread Cert.DkvnIdeal.nD Cert.DkvnIdeal.τ).loc Cert.DkvnIdeal.main_arg1)
      ∧ r.2.mem ((c.tc : Thread Cert.DkvnIdeal.nD Cert.DkvnIdeal.τ).loc Cert.DkvnIdeal.main_arg2) = m ((c.tc : Thread Cert.DkvnIdeal.nD Cert.DkvnIdeal.τ).loc Cert.DkvnIdeal.main_arg2))
      ∧ r.2.sem = fun _ => 0)

def quiescent_DkvnReferenceIdeal [hDkvnReferenceIdeal : Cert.DkvnReferenceIdeal.Facts] : Prop :=
  ∀ (m : (ℓ : Loc Cert.DkvnReferenceIdeal.nD Cert.DkvnReferenceIdeal.τ Cert.DkvnReferenceIdeal.sig) → Buf (Elt Ideal) ℓ) (g : Dev Cert.DkvnReferenceIdeal.nD → PrngReg), Pre_DkvnReferenceIdeal m →
    θ_run (Cert.DkvnReferenceIdeal.defs (F := Ideal)) (onTc (τ := Cert.DkvnReferenceIdeal.τ) (Cert.DkvnReferenceIdeal.main (F := Ideal))) ⟨m, fun _ => 0, g⟩ (fun r => (∀ c : Dev Cert.DkvnReferenceIdeal.nD,
      r.2.mem ((c.tc : Thread Cert.DkvnReferenceIdeal.nD Cert.DkvnReferenceIdeal.τ).loc Cert.DkvnReferenceIdeal.main_arg0) = m ((c.tc : Thread Cert.DkvnReferenceIdeal.nD Cert.DkvnReferenceIdeal.τ).loc Cert.DkvnReferenceIdeal.main_arg0)
      ∧ r.2.mem ((c.tc : Thread Cert.DkvnReferenceIdeal.nD Cert.DkvnReferenceIdeal.τ).loc Cert.DkvnReferenceIdeal.main_arg1) = m ((c.tc : Thread Cert.DkvnReferenceIdeal.nD Cert.DkvnReferenceIdeal.τ).loc Cert.DkvnReferenceIdeal.main_arg1)
      ∧ r.2.mem ((c.tc : Thread Cert.DkvnReferenceIdeal.nD Cert.DkvnReferenceIdeal.τ).loc Cert.DkvnReferenceIdeal.main_arg2) = m ((c.tc : Thread Cert.DkvnReferenceIdeal.nD Cert.DkvnReferenceIdeal.τ).loc Cert.DkvnReferenceIdeal.main_arg2))
      ∧ r.2.sem = fun _ => 0)

def quiescent_DwUkv [hDwUkv : Cert.DwUkv.Facts] : Prop :=
  ∀ (m : (ℓ : Loc Cert.DwUkv.nD Cert.DwUkv.τ Cert.DwUkv.sig) → Buf (Elt Bits) ℓ) (g : Dev Cert.DwUkv.nD → PrngReg), Pre_DwUkv m →
    θ_run (Cert.DwUkv.defs (F := Bits)) (onTc (τ := Cert.DwUkv.τ) (Cert.DwUkv.main (F := Bits))) ⟨m, fun _ => 0, g⟩ (fun r => (∀ c : Dev Cert.DwUkv.nD,
      r.2.mem ((c.tc : Thread Cert.DwUkv.nD Cert.DwUkv.τ).loc Cert.DwUkv.main_arg0) = m ((c.tc : Thread Cert.DwUkv.nD Cert.DwUkv.τ).loc Cert.DwUkv.main_arg0)
      ∧ r.2.mem ((c.tc : Thread Cert.DwUkv.nD Cert.DwUkv.τ).loc Cert.DwUkv.main_arg1) = m ((c.tc : Thread Cert.DwUkv.nD Cert.DwUkv.τ).loc Cert.DwUkv.main_arg1)
      ∧ r.2.mem ((c.tc : Thread Cert.DwUkv.nD Cert.DwUkv.τ).loc Cert.DwUkv.main_arg2) = m ((c.tc : Thread Cert.DwUkv.nD Cert.DwUkv.τ).loc Cert.DwUkv.main_arg2))
      ∧ r.2.sem = fun _ => 0)

def quiescent_DwUkvIdeal [hDwUkvIdeal : Cert.DwUkvIdeal.Facts] : Prop :=
  ∀ (m : (ℓ : Loc Cert.DwUkvIdeal.nD Cert.DwUkvIdeal.τ Cert.DwUkvIdeal.sig) → Buf (Elt Ideal) ℓ) (g : Dev Cert.DwUkvIdeal.nD → PrngReg), Pre_DwUkvIdeal m →
    θ_run (Cert.DwUkvIdeal.defs (F := Ideal)) (onTc (τ := Cert.DwUkvIdeal.τ) (Cert.DwUkvIdeal.main (F := Ideal))) ⟨m, fun _ => 0, g⟩ (fun r => (∀ c : Dev Cert.DwUkvIdeal.nD,
      r.2.mem ((c.tc : Thread Cert.DwUkvIdeal.nD Cert.DwUkvIdeal.τ).loc Cert.DwUkvIdeal.main_arg0) = m ((c.tc : Thread Cert.DwUkvIdeal.nD Cert.DwUkvIdeal.τ).loc Cert.DwUkvIdeal.main_arg0)
      ∧ r.2.mem ((c.tc : Thread Cert.DwUkvIdeal.nD Cert.DwUkvIdeal.τ).loc Cert.DwUkvIdeal.main_arg1) = m ((c.tc : Thread Cert.DwUkvIdeal.nD Cert.DwUkvIdeal.τ).loc Cert.DwUkvIdeal.main_arg1)
      ∧ r.2.mem ((c.tc : Thread Cert.DwUkvIdeal.nD Cert.DwUkvIdeal.τ).loc Cert.DwUkvIdeal.main_arg2) = m ((c.tc : Thread Cert.DwUkvIdeal.nD Cert.DwUkvIdeal.τ).loc Cert.DwUkvIdeal.main_arg2))
      ∧ r.2.sem = fun _ => 0)

def quiescent_DwUkvReferenceIdeal [hDwUkvReferenceIdeal : Cert.DwUkvReferenceIdeal.Facts] : Prop :=
  ∀ (m : (ℓ : Loc Cert.DwUkvReferenceIdeal.nD Cert.DwUkvReferenceIdeal.τ Cert.DwUkvReferenceIdeal.sig) → Buf (Elt Ideal) ℓ) (g : Dev Cert.DwUkvReferenceIdeal.nD → PrngReg), Pre_DwUkvReferenceIdeal m →
    θ_run (Cert.DwUkvReferenceIdeal.defs (F := Ideal)) (onTc (τ := Cert.DwUkvReferenceIdeal.τ) (Cert.DwUkvReferenceIdeal.main (F := Ideal))) ⟨m, fun _ => 0, g⟩ (fun r => (∀ c : Dev Cert.DwUkvReferenceIdeal.nD,
      r.2.mem ((c.tc : Thread Cert.DwUkvReferenceIdeal.nD Cert.DwUkvReferenceIdeal.τ).loc Cert.DwUkvReferenceIdeal.main_arg0) = m ((c.tc : Thread Cert.DwUkvReferenceIdeal.nD Cert.DwUkvReferenceIdeal.τ).loc Cert.DwUkvReferenceIdeal.main_arg0)
      ∧ r.2.mem ((c.tc : Thread Cert.DwUkvReferenceIdeal.nD Cert.DwUkvReferenceIdeal.τ).loc Cert.DwUkvReferenceIdeal.main_arg1) = m ((c.tc : Thread Cert.DwUkvReferenceIdeal.nD Cert.DwUkvReferenceIdeal.τ).loc Cert.DwUkvReferenceIdeal.main_arg1)
      ∧ r.2.mem ((c.tc : Thread Cert.DwUkvReferenceIdeal.nD Cert.DwUkvReferenceIdeal.τ).loc Cert.DwUkvReferenceIdeal.main_arg2) = m ((c.tc : Thread Cert.DwUkvReferenceIdeal.nD Cert.DwUkvReferenceIdeal.τ).loc Cert.DwUkvReferenceIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpReferenceIdeal [hDwUpReferenceIdeal : Cert.DwUpReferenceIdeal.Facts] : Prop :=
  ∀ (m : (ℓ : Loc Cert.DwUpReferenceIdeal.nD Cert.DwUpReferenceIdeal.τ Cert.DwUpReferenceIdeal.sig) → Buf (Elt Ideal) ℓ) (g : Dev Cert.DwUpReferenceIdeal.nD → PrngReg), Pre_DwUpReferenceIdeal m →
    θ_run (Cert.DwUpReferenceIdeal.defs (F := Ideal)) (onTc (τ := Cert.DwUpReferenceIdeal.τ) (Cert.DwUpReferenceIdeal.main (F := Ideal))) ⟨m, fun _ => 0, g⟩ (fun r => (∀ c : Dev Cert.DwUpReferenceIdeal.nD,
      r.2.mem ((c.tc : Thread Cert.DwUpReferenceIdeal.nD Cert.DwUpReferenceIdeal.τ).loc Cert.DwUpReferenceIdeal.main_arg0) = m ((c.tc : Thread Cert.DwUpReferenceIdeal.nD Cert.DwUpReferenceIdeal.τ).loc Cert.DwUpReferenceIdeal.main_arg0)
      ∧ r.2.mem ((c.tc : Thread Cert.DwUpReferenceIdeal.nD Cert.DwUpReferenceIdeal.τ).loc Cert.DwUpReferenceIdeal.main_arg1) = m ((c.tc : Thread Cert.DwUpReferenceIdeal.nD Cert.DwUpReferenceIdeal.τ).loc Cert.DwUpReferenceIdeal.main_arg1)
      ∧ r.2.mem ((c.tc : Thread Cert.DwUpReferenceIdeal.nD Cert.DwUpReferenceIdeal.τ).loc Cert.DwUpReferenceIdeal.main_arg2) = m ((c.tc : Thread Cert.DwUpReferenceIdeal.nD Cert.DwUpReferenceIdeal.τ).loc Cert.DwUpReferenceIdeal.main_arg2))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1)
      ∧ r.2.mem ((c.tc : Thread Cert.Dh2.nD Cert.Dh2.τ).loc Cert.Dh2.main_arg2) = m ((c.tc : Thread Cert.Dh2.nD Cert.Dh2.τ).loc Cert.Dh2.main_arg2))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2))
      ∧ r.2.sem = fun _ => 0)

def quiescent_Dh2ReferenceIdeal [hDh2ReferenceIdeal : Cert.Dh2ReferenceIdeal.Facts] : Prop :=
  ∀ (m : (ℓ : Loc Cert.Dh2ReferenceIdeal.nD Cert.Dh2ReferenceIdeal.τ Cert.Dh2ReferenceIdeal.sig) → Buf (Elt Ideal) ℓ) (g : Dev Cert.Dh2ReferenceIdeal.nD → PrngReg), Pre_Dh2ReferenceIdeal m →
    θ_run (Cert.Dh2ReferenceIdeal.defs (F := Ideal)) (onTc (τ := Cert.Dh2ReferenceIdeal.τ) (Cert.Dh2ReferenceIdeal.main (F := Ideal))) ⟨m, fun _ => 0, g⟩ (fun r => (∀ c : Dev Cert.Dh2ReferenceIdeal.nD,
      r.2.mem ((c.tc : Thread Cert.Dh2ReferenceIdeal.nD Cert.Dh2ReferenceIdeal.τ).loc Cert.Dh2ReferenceIdeal.main_arg0) = m ((c.tc : Thread Cert.Dh2ReferenceIdeal.nD Cert.Dh2ReferenceIdeal.τ).loc Cert.Dh2ReferenceIdeal.main_arg0)
      ∧ r.2.mem ((c.tc : Thread Cert.Dh2ReferenceIdeal.nD Cert.Dh2ReferenceIdeal.τ).loc Cert.Dh2ReferenceIdeal.main_arg1) = m ((c.tc : Thread Cert.Dh2ReferenceIdeal.nD Cert.Dh2ReferenceIdeal.τ).loc Cert.Dh2ReferenceIdeal.main_arg1)
      ∧ r.2.mem ((c.tc : Thread Cert.Dh2ReferenceIdeal.nD Cert.Dh2ReferenceIdeal.τ).loc Cert.Dh2ReferenceIdeal.main_arg2) = m ((c.tc : Thread Cert.Dh2ReferenceIdeal.nD Cert.Dh2ReferenceIdeal.τ).loc Cert.Dh2ReferenceIdeal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale2" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)) (v3 : (c : Dev Cert.KernelIdeal.nD) → Buf (Elt Ideal) ((c.tc : Thread Cert.KernelIdeal.nD Cert.KernelIdeal.τ).loc Cert.KernelIdeal.main_v55_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_v55_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Fwd_FwdIdeal : Prop :=
  IdealRules.named_const.Statement Cert.FwdIdeal.κ "mask" .f32 0xF149F2CA#32 ⊥
  ∧ IdealRules.named_const.Statement Cert.FwdIdeal.κ "scale2" .f32 0x3DD53B95#32 (((Real.sqrt 192)⁻¹ * (Real.log 2)⁻¹ : ℝ) : EReal)
  ∧ IdealRules.named_const.Statement Cert.FwdIdeal.κ "log2e" .f32 0x3FB8AA3B#32 (((Real.log 2)⁻¹ : ℝ) : EReal)

def algebraic_FwdIdeal_FwdReferenceIdeal_pre_finite_scores [hFwdIdeal : Cert.FwdIdeal.Facts] [hFwdReferenceIdeal : Cert.FwdReferenceIdeal.Facts] [hPre_finite_scores : Cert.Pre_finite_scores.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal_finite_scores m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)
      ∧ m' ((c.tc : Thread Cert.FwdReferenceIdeal.nD Cert.FwdReferenceIdeal.τ).loc Cert.FwdReferenceIdeal.main_arg1) = m ((c.tc : Thread Cert.FwdIdeal.nD Cert.FwdIdeal.τ).loc Cert.FwdIdeal.main_arg1)
      ∧ m' ((c.tc : Thread Cert.FwdReferenceIdeal.nD Cert.FwdReferenceIdeal.τ).loc Cert.FwdReferenceIdeal.main_arg2) = m ((c.tc : Thread Cert.FwdIdeal.nD Cert.FwdIdeal.τ).loc Cert.FwdIdeal.main_arg2)
      ∧ m' ((c.tc : Thread Cert.FwdReferenceIdeal.nD Cert.FwdReferenceIdeal.τ).loc Cert.FwdReferenceIdeal.main_arg3) = m ((c.tc : Thread Cert.FwdIdeal.nD Cert.FwdIdeal.τ).loc Cert.FwdIdeal.main_arg3)
      ∧ m' ((c.tc : Thread Cert.FwdReferenceIdeal.nD Cert.FwdReferenceIdeal.τ).loc Cert.FwdReferenceIdeal.main_arg4) = m ((c.tc : Thread Cert.FwdIdeal.nD Cert.FwdIdeal.τ).loc Cert.FwdIdeal.main_arg4)) →
    ∃ (v0 : (c : Dev Cert.FwdIdeal.nD) → Buf (Elt Ideal) ((c.tc : Thread Cert.FwdIdeal.nD Cert.FwdIdeal.τ).loc Cert.FwdIdeal.main_v14_0)) (v1 : (c : Dev Cert.FwdIdeal.nD) → Buf (Elt Ideal) ((c.tc : Thread Cert.FwdIdeal.nD Cert.FwdIdeal.τ).loc Cert.FwdIdeal.main_v14_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v14_0) = v0 c
          ∧ r.2.mem ((c.tc : Thread Cert.FwdIdeal.nD Cert.FwdIdeal.τ).loc Cert.FwdIdeal.main_v14_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v55) = v0 c
          ∧ r.2.mem ((c.tc : Thread Cert.FwdReferenceIdeal.nD Cert.FwdReferenceIdeal.τ).loc Cert.FwdReferenceIdeal.main_v59) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v0) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Q_QIdeal : Prop :=
  True

def algebraic_QIdeal_QReferenceIdeal [hQIdeal : Cert.QIdeal.Facts] [hQReferenceIdeal : Cert.QReferenceIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QReferenceIdeal.nD Cert.QReferenceIdeal.τ Cert.QReferenceIdeal.sig) → Buf (Elt Ideal) ℓ) (g' : Dev Cert.QReferenceIdeal.nD → PrngReg), Pre_QIdeal m →
    (∀ c : Dev Cert.QIdeal.nD,
      m' ((c.tc : Thread Cert.QReferenceIdeal.nD Cert.QReferenceIdeal.τ).loc Cert.QReferenceIdeal.main_arg0) = m ((c.tc : Thread Cert.QIdeal.nD Cert.QIdeal.τ).loc Cert.QIdeal.main_arg0)
      ∧ m' ((c.tc : Thread Cert.QReferenceIdeal.nD Cert.QReferenceIdeal.τ).loc Cert.QReferenceIdeal.main_arg1) = m ((c.tc : Thread Cert.QIdeal.nD Cert.QIdeal.τ).loc Cert.QIdeal.main_arg1)) →
    ∃ (v0 : (c : Dev Cert.QIdeal.nD) → Buf (Elt Ideal) ((c.tc : Thread Cert.QIdeal.nD Cert.QIdeal.τ).loc Cert.QIdeal.main_v2)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v2) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1))
      ∧ θ_run (Cert.QReferenceIdeal.defs (F := Ideal)) (onTc (τ := Cert.QReferenceIdeal.τ) (Cert.QReferenceIdeal.main (F := Ideal))) ⟨m', fun _ => 0, g'⟩ (fun r => ∀ c : Dev Cert.QReferenceIdeal.nD,
          r.2.mem ((c.tc : Thread Cert.QReferenceIdeal.nD Cert.QReferenceIdeal.τ).loc Cert.QReferenceIdeal.main_v0) = v0 c
          ∧ r.2.mem ((c.tc : Thread Cert.QReferenceIdeal.nD Cert.QReferenceIdeal.τ).loc Cert.QReferenceIdeal.main_arg0) = m' ((c.tc : Thread Cert.QReferenceIdeal.nD Cert.QReferenceIdeal.τ).loc Cert.QReferenceIdeal.main_arg0)
          ∧ r.2.mem ((c.tc : Thread Cert.QReferenceIdeal.nD Cert.QReferenceIdeal.τ).loc Cert.QReferenceIdeal.main_arg1) = m' ((c.tc : Thread Cert.QReferenceIdeal.nD Cert.QReferenceIdeal.τ).loc Cert.QReferenceIdeal.main_arg1))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v1) = v0 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v0) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Dact_DactIdeal : Prop :=
  True

def algebraic_DactIdeal_DactReferenceIdeal [hDactIdeal : Cert.DactIdeal.Facts] [hDactReferenceIdeal : Cert.DactReferenceIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactIdeal m →
    (∀ c : Dev Cert.DactIdeal.nD,
      m' ((c.tc : Thread Cert.DactReferenceIdeal.nD Cert.DactReferenceIdeal.τ).loc Cert.DactReferenceIdeal.main_arg0) = m ((c.tc : Thread Cert.DactIdeal.nD Cert.DactIdeal.τ).loc Cert.DactIdeal.main_arg0)
      ∧ m' ((c.tc : Thread Cert.DactReferenceIdeal.nD Cert.DactReferenceIdeal.τ).loc Cert.DactReferenceIdeal.main_arg1) = m ((c.tc : Thread Cert.DactIdeal.nD Cert.DactIdeal.τ).loc Cert.DactIdeal.main_arg1)
      ∧ m' ((c.tc : Thread Cert.DactReferenceIdeal.nD Cert.DactReferenceIdeal.τ).loc Cert.DactReferenceIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v2)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v2) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v3) = v0 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1)
          ∧ r.2.mem ((c.tc : Thread Cert.DactReferenceIdeal.nD Cert.DactReferenceIdeal.τ).loc Cert.DactReferenceIdeal.main_arg2) = m' ((c.tc : Thread Cert.DactReferenceIdeal.nD Cert.DactReferenceIdeal.τ).loc Cert.DactReferenceIdeal.main_arg2))

def preserves_DwDown_DwDownIdeal : Prop :=
  True

def algebraic_DwDownIdeal_DwDownReferenceIdeal [hDwDownIdeal : Cert.DwDownIdeal.Facts] [hDwDownReferenceIdeal : Cert.DwDownReferenceIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownIdeal m →
    (∀ c : Dev Cert.DwDownIdeal.nD,
      m' ((c.tc : Thread Cert.DwDownReferenceIdeal.nD Cert.DwDownReferenceIdeal.τ).loc Cert.DwDownReferenceIdeal.main_arg0) = m ((c.tc : Thread Cert.DwDownIdeal.nD Cert.DwDownIdeal.τ).loc Cert.DwDownIdeal.main_arg0)
      ∧ m' ((c.tc : Thread Cert.DwDownReferenceIdeal.nD Cert.DwDownReferenceIdeal.τ).loc Cert.DwDownReferenceIdeal.main_arg1) = m ((c.tc : Thread Cert.DwDownIdeal.nD Cert.DwDownIdeal.τ).loc Cert.DwDownIdeal.main_arg1)
      ∧ m' ((c.tc : Thread Cert.DwDownReferenceIdeal.nD Cert.DwDownReferenceIdeal.τ).loc Cert.DwDownReferenceIdeal.main_arg2) = m ((c.tc : Thread Cert.DwDownIdeal.nD Cert.DwDownIdeal.τ).loc Cert.DwDownIdeal.main_arg2)) →
    ∃ (v0 : (c : Dev Cert.DwDownIdeal.nD) → Buf (Elt Ideal) ((c.tc : Thread Cert.DwDownIdeal.nD Cert.DwDownIdeal.τ).loc Cert.DwDownIdeal.main_v2)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v2) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v4) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1)
          ∧ r.2.mem ((c.tc : Thread Cert.DwDownReferenceIdeal.nD Cert.DwDownReferenceIdeal.τ).loc Cert.DwDownReferenceIdeal.main_arg2) = m' ((c.tc : Thread Cert.DwDownReferenceIdeal.nD Cert.DwDownReferenceIdeal.τ).loc Cert.DwDownReferenceIdeal.main_arg2))

def preserves_Dcat_DcatIdeal : Prop :=
  True

def algebraic_DcatIdeal_DcatReferenceIdeal [hDcatIdeal : Cert.DcatIdeal.Facts] [hDcatReferenceIdeal : Cert.DcatReferenceIdeal.Facts] : Prop :=
  ∀ (m : (ℓ : Loc Cert.DcatIdeal.nD Cert.DcatIdeal.τ Cert.DcatIdeal.sig) → Buf (Elt Ideal) ℓ) (g : Dev Cert.DcatIdeal.nD → PrngReg)
    (m' : (ℓ : Loc Cert.DcatReferenceIdeal.nD Cert.DcatReferenceIdeal.τ Cert.DcatReferenceIdeal.sig) → Buf (Elt Ideal) ℓ) (g' : Dev Cert.DcatReferenceIdeal.nD → PrngReg), Pre_DcatIdeal m →
    (∀ c : Dev Cert.DcatIdeal.nD,
      m' ((c.tc : Thread Cert.DcatReferenceIdeal.nD Cert.DcatReferenceIdeal.τ).loc Cert.DcatReferenceIdeal.main_arg0) = m ((c.tc : Thread Cert.DcatIdeal.nD Cert.DcatIdeal.τ).loc Cert.DcatIdeal.main_arg0)
      ∧ m' ((c.tc : Thread Cert.DcatReferenceIdeal.nD Cert.DcatReferenceIdeal.τ).loc Cert.DcatReferenceIdeal.main_arg1) = m ((c.tc : Thread Cert.DcatIdeal.nD Cert.DcatIdeal.τ).loc Cert.DcatIdeal.main_arg1)
      ∧ m' ((c.tc : Thread Cert.DcatReferenceIdeal.nD Cert.DcatReferenceIdeal.τ).loc Cert.DcatReferenceIdeal.main_arg2) = m ((c.tc : Thread Cert.DcatIdeal.nD Cert.DcatIdeal.τ).loc Cert.DcatIdeal.main_arg2)) →
    ∃ (v0 : (c : Dev Cert.DcatIdeal.nD) → Buf (Elt Ideal) ((c.tc : Thread Cert.DcatIdeal.nD Cert.DcatIdeal.τ).loc Cert.DcatIdeal.main_v2)),
      θ_run (Cert.DcatIdeal.defs (F := Ideal)) (onTc (τ := Cert.DcatIdeal.τ) (Cert.DcatIdeal.main (F := Ideal))) ⟨m, fun _ => 0, g⟩ (fun r => ∀ c : Dev Cert.DcatIdeal.nD,
          r.2.mem ((c.tc : Thread Cert.DcatIdeal.nD Cert.DcatIdeal.τ).loc Cert.DcatIdeal.main_v2) = v0 c
          ∧ r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
          ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1)
          ∧ r.2.mem ((c.tc : Thread Cert.DcatIdeal.nD Cert.DcatIdeal.τ).loc Cert.DcatIdeal.main_arg2) = m ((c.tc : Thread Cert.DcatIdeal.nD Cert.DcatIdeal.τ).loc Cert.DcatIdeal.main_arg2))
      ∧ θ_run (Cert.DcatReferenceIdeal.defs (F := Ideal)) (onTc (τ := Cert.DcatReferenceIdeal.τ) (Cert.DcatReferenceIdeal.main (F := Ideal))) ⟨m', fun _ => 0, g'⟩ (fun r => ∀ c : Dev Cert.DcatReferenceIdeal.nD,
          r.2.mem ((c.tc : Thread Cert.DcatReferenceIdeal.nD Cert.DcatReferenceIdeal.τ).loc Cert.DcatReferenceIdeal.main_v3) = v0 c
          ∧ r.2.mem ((c.tc : Thread Cert.DcatReferenceIdeal.nD Cert.DcatReferenceIdeal.τ).loc Cert.DcatReferenceIdeal.main_arg0) = m' ((c.tc : Thread Cert.DcatReferenceIdeal.nD Cert.DcatReferenceIdeal.τ).loc Cert.DcatReferenceIdeal.main_arg0)
          ∧ r.2.mem ((c.tc : Thread Cert.DcatReferenceIdeal.nD Cert.DcatReferenceIdeal.τ).loc Cert.DcatReferenceIdeal.main_arg1) = m' ((c.tc : Thread Cert.DcatReferenceIdeal.nD Cert.DcatReferenceIdeal.τ).loc Cert.DcatReferenceIdeal.main_arg1)
          ∧ r.2.mem ((c.tc : Thread Cert.DcatReferenceIdeal.nD Cert.DcatReferenceIdeal.τ).loc Cert.DcatReferenceIdeal.main_arg2) = m' ((c.tc : Thread Cert.DcatReferenceIdeal.nD Cert.DcatReferenceIdeal.τ).loc Cert.DcatReferenceIdeal.main_arg2))

def preserves_DwO_DwOIdeal : Prop :=
  True

def algebraic_DwOIdeal_DwOReferenceIdeal [hDwOIdeal : Cert.DwOIdeal.Facts] [hDwOReferenceIdeal : Cert.DwOReferenceIdeal.Facts] : Prop :=
  ∀ (m : (ℓ : Loc Cert.DwOIdeal.nD Cert.DwOIdeal.τ Cert.DwOIdeal.sig) → Buf (Elt Ideal) ℓ) (g : Dev Cert.DwOIdeal.nD → PrngReg)
    (m' : (ℓ : Loc Cert.DwOReferenceIdeal.nD Cert.DwOReferenceIdeal.τ Cert.DwOReferenceIdeal.sig) → Buf (Elt Ideal) ℓ) (g' : Dev Cert.DwOReferenceIdeal.nD → PrngReg), Pre_DwOIdeal m →
    (∀ c : Dev Cert.DwOIdeal.nD,
      m' ((c.tc : Thread Cert.DwOReferenceIdeal.nD Cert.DwOReferenceIdeal.τ).loc Cert.DwOReferenceIdeal.main_arg0) = m ((c.tc : Thread Cert.DwOIdeal.nD Cert.DwOIdeal.τ).loc Cert.DwOIdeal.main_arg0)
      ∧ m' ((c.tc : Thread Cert.DwOReferenceIdeal.nD Cert.DwOReferenceIdeal.τ).loc Cert.DwOReferenceIdeal.main_arg1) = m ((c.tc : Thread Cert.DwOIdeal.nD Cert.DwOIdeal.τ).loc Cert.DwOIdeal.main_arg1)
      ∧ m' ((c.tc : Thread Cert.DwOReferenceIdeal.nD Cert.DwOReferenceIdeal.τ).loc Cert.DwOReferenceIdeal.main_arg2) = m ((c.tc : Thread Cert.DwOIdeal.nD Cert.DwOIdeal.τ).loc Cert.DwOIdeal.main_arg2)) →
    ∃ (v0 : (c : Dev Cert.DwOIdeal.nD) → Buf (Elt Ideal) ((c.tc : Thread Cert.DwOIdeal.nD Cert.DwOIdeal.τ).loc Cert.DwOIdeal.main_v2)),
      θ_run (Cert.DwOIdeal.defs (F := Ideal)) (onTc (τ := Cert.DwOIdeal.τ) (Cert.DwOIdeal.main (F := Ideal))) ⟨m, fun _ => 0, g⟩ (fun r => ∀ c : Dev Cert.DwOIdeal.nD,
          r.2.mem ((c.tc : Thread Cert.DwOIdeal.nD Cert.DwOIdeal.τ).loc Cert.DwOIdeal.main_v2) = v0 c
          ∧ r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
          ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1)
          ∧ r.2.mem ((c.tc : Thread Cert.DwOIdeal.nD Cert.DwOIdeal.τ).loc Cert.DwOIdeal.main_arg2) = m ((c.tc : Thread Cert.DwOIdeal.nD Cert.DwOIdeal.τ).loc Cert.DwOIdeal.main_arg2))
      ∧ θ_run (Cert.DwOReferenceIdeal.defs (F := Ideal)) (onTc (τ := Cert.DwOReferenceIdeal.τ) (Cert.DwOReferenceIdeal.main (F := Ideal))) ⟨m', fun _ => 0, g'⟩ (fun r => ∀ c : Dev Cert.DwOReferenceIdeal.nD,
          r.2.mem ((c.tc : Thread Cert.DwOReferenceIdeal.nD Cert.DwOReferenceIdeal.τ).loc Cert.DwOReferenceIdeal.main_v4) = v0 c
          ∧ r.2.mem ((c.tc : Thread Cert.DwOReferenceIdeal.nD Cert.DwOReferenceIdeal.τ).loc Cert.DwOReferenceIdeal.main_arg0) = m' ((c.tc : Thread Cert.DwOReferenceIdeal.nD Cert.DwOReferenceIdeal.τ).loc Cert.DwOReferenceIdeal.main_arg0)
          ∧ r.2.mem ((c.tc : Thread Cert.DwOReferenceIdeal.nD Cert.DwOReferenceIdeal.τ).loc Cert.DwOReferenceIdeal.main_arg1) = m' ((c.tc : Thread Cert.DwOReferenceIdeal.nD Cert.DwOReferenceIdeal.τ).loc Cert.DwOReferenceIdeal.main_arg1)
          ∧ r.2.mem ((c.tc : Thread Cert.DwOReferenceIdeal.nD Cert.DwOReferenceIdeal.τ).loc Cert.DwOReferenceIdeal.main_arg2) = m' ((c.tc : Thread Cert.DwOReferenceIdeal.nD Cert.DwOReferenceIdeal.τ).loc Cert.DwOReferenceIdeal.main_arg2))

def preserves_Dh1_Dh1Ideal : Prop :=
  True

def algebraic_Dh1Ideal_Dh1ReferenceIdeal [hDh1Ideal : Cert.Dh1Ideal.Facts] [hDh1ReferenceIdeal : Cert.Dh1ReferenceIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1ReferenceIdeal.nD Cert.Dh1ReferenceIdeal.τ Cert.Dh1ReferenceIdeal.sig) → Buf (Elt Ideal) ℓ) (g' : Dev Cert.Dh1ReferenceIdeal.nD → PrngReg), Pre_Dh1Ideal m →
    (∀ c : Dev Cert.Dh1Ideal.nD,
      m' ((c.tc : Thread Cert.Dh1ReferenceIdeal.nD Cert.Dh1ReferenceIdeal.τ).loc Cert.Dh1ReferenceIdeal.main_arg0) = m ((c.tc : Thread Cert.Dh1Ideal.nD Cert.Dh1Ideal.τ).loc Cert.Dh1Ideal.main_arg0)
      ∧ m' ((c.tc : Thread Cert.Dh1ReferenceIdeal.nD Cert.Dh1ReferenceIdeal.τ).loc Cert.Dh1ReferenceIdeal.main_arg1) = m ((c.tc : Thread Cert.Dh1Ideal.nD Cert.Dh1Ideal.τ).loc Cert.Dh1Ideal.main_arg1)
      ∧ m' ((c.tc : Thread Cert.Dh1ReferenceIdeal.nD Cert.Dh1ReferenceIdeal.τ).loc Cert.Dh1ReferenceIdeal.main_arg2) = m ((c.tc : Thread Cert.Dh1Ideal.nD Cert.Dh1Ideal.τ).loc Cert.Dh1Ideal.main_arg2)) →
    ∃ (v0 : (c : Dev Cert.Dh1Ideal.nD) → Buf (Elt Ideal) ((c.tc : Thread Cert.Dh1Ideal.nD Cert.Dh1Ideal.τ).loc Cert.Dh1Ideal.main_v2)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v2) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
          ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2))
      ∧ θ_run (Cert.Dh1ReferenceIdeal.defs (F := Ideal)) (onTc (τ := Cert.Dh1ReferenceIdeal.τ) (Cert.Dh1ReferenceIdeal.main (F := Ideal))) ⟨m', fun _ => 0, g'⟩ (fun r => ∀ c : Dev Cert.Dh1ReferenceIdeal.nD,
          r.2.mem ((c.tc : Thread Cert.Dh1ReferenceIdeal.nD Cert.Dh1ReferenceIdeal.τ).loc Cert.Dh1ReferenceIdeal.main_v3) = v0 c
          ∧ r.2.mem ((c.tc : Thread Cert.Dh1ReferenceIdeal.nD Cert.Dh1ReferenceIdeal.τ).loc Cert.Dh1ReferenceIdeal.main_arg0) = m' ((c.tc : Thread Cert.Dh1ReferenceIdeal.nD Cert.Dh1ReferenceIdeal.τ).loc Cert.Dh1ReferenceIdeal.main_arg0)
          ∧ r.2.mem ((c.tc : Thread Cert.Dh1ReferenceIdeal.nD Cert.Dh1ReferenceIdeal.τ).loc Cert.Dh1ReferenceIdeal.main_arg1) = m' ((c.tc : Thread Cert.Dh1ReferenceIdeal.nD Cert.Dh1ReferenceIdeal.τ).loc Cert.Dh1ReferenceIdeal.main_arg1)
          ∧ r.2.mem ((c.tc : Thread Cert.Dh1ReferenceIdeal.nD Cert.Dh1ReferenceIdeal.τ).loc Cert.Dh1ReferenceIdeal.main_arg2) = m' ((c.tc : Thread Cert.Dh1ReferenceIdeal.nD Cert.Dh1ReferenceIdeal.τ).loc Cert.Dh1ReferenceIdeal.main_arg2))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)
      ∧ m' ((c.tc : Thread Cert.DwInReferenceIdeal.nD Cert.DwInReferenceIdeal.τ).loc Cert.DwInReferenceIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v2)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v2) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v4) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1)
          ∧ r.2.mem ((c.tc : Thread Cert.DwInReferenceIdeal.nD Cert.DwInReferenceIdeal.τ).loc Cert.DwInReferenceIdeal.main_arg2) = m' ((c.tc : Thread Cert.DwInReferenceIdeal.nD Cert.DwInReferenceIdeal.τ).loc Cert.DwInReferenceIdeal.main_arg2))

def preserves_Dqn_DqnIdeal : Prop :=
  True

def algebraic_DqnIdeal_DqnReferenceIdeal [hDqnIdeal : Cert.DqnIdeal.Facts] [hDqnReferenceIdeal : Cert.DqnReferenceIdeal.Facts] : Prop :=
  ∀ (m : (ℓ : Loc Cert.DqnIdeal.nD Cert.DqnIdeal.τ Cert.DqnIdeal.sig) → Buf (Elt Ideal) ℓ) (g : Dev Cert.DqnIdeal.nD → PrngReg)
    (m' : (ℓ : Loc Cert.DqnReferenceIdeal.nD Cert.DqnReferenceIdeal.τ Cert.DqnReferenceIdeal.sig) → Buf (Elt Ideal) ℓ) (g' : Dev Cert.DqnReferenceIdeal.nD → PrngReg), Pre_DqnIdeal m →
    (∀ c : Dev Cert.DqnIdeal.nD,
      m' ((c.tc : Thread Cert.DqnReferenceIdeal.nD Cert.DqnReferenceIdeal.τ).loc Cert.DqnReferenceIdeal.main_arg0) = m ((c.tc : Thread Cert.DqnIdeal.nD Cert.DqnIdeal.τ).loc Cert.DqnIdeal.main_arg0)
      ∧ m' ((c.tc : Thread Cert.DqnReferenceIdeal.nD Cert.DqnReferenceIdeal.τ).loc Cert.DqnReferenceIdeal.main_arg1) = m ((c.tc : Thread Cert.DqnIdeal.nD Cert.DqnIdeal.τ).loc Cert.DqnIdeal.main_arg1)
      ∧ m' ((c.tc : Thread Cert.DqnReferenceIdeal.nD Cert.DqnReferenceIdeal.τ).loc Cert.DqnReferenceIdeal.main_arg2) = m ((c.tc : Thread Cert.DqnIdeal.nD Cert.DqnIdeal.τ).loc Cert.DqnIdeal.main_arg2)) →
    ∃ (v0 : (c : Dev Cert.DqnIdeal.nD) → Buf (Elt Ideal) ((c.tc : Thread Cert.DqnIdeal.nD Cert.DqnIdeal.τ).loc Cert.DqnIdeal.main_v2)),
      θ_run (Cert.DqnIdeal.defs (F := Ideal)) (onTc (τ := Cert.DqnIdeal.τ) (Cert.DqnIdeal.main (F := Ideal))) ⟨m, fun _ => 0, g⟩ (fun r => ∀ c : Dev Cert.DqnIdeal.nD,
          r.2.mem ((c.tc : Thread Cert.DqnIdeal.nD Cert.DqnIdeal.τ).loc Cert.DqnIdeal.main_v2) = v0 c
          ∧ r.2.mem ((c.tc : Thread Cert.DqnIdeal.nD Cert.DqnIdeal.τ).loc Cert.DqnIdeal.main_arg0) = m ((c.tc : Thread Cert.DqnIdeal.nD Cert.DqnIdeal.τ).loc Cert.DqnIdeal.main_arg0)
          ∧ r.2.mem ((c.tc : Thread Cert.DqnIdeal.nD Cert.DqnIdeal.τ).loc Cert.DqnIdeal.main_arg1) = m ((c.tc : Thread Cert.DqnIdeal.nD Cert.DqnIdeal.τ).loc Cert.DqnIdeal.main_arg1)
          ∧ r.2.mem ((c.tc : Thread Cert.DqnIdeal.nD Cert.DqnIdeal.τ).loc Cert.DqnIdeal.main_arg2) = m ((c.tc : Thread Cert.DqnIdeal.nD Cert.DqnIdeal.τ).loc Cert.DqnIdeal.main_arg2))
      ∧ θ_run (Cert.DqnReferenceIdeal.defs (F := Ideal)) (onTc (τ := Cert.DqnReferenceIdeal.τ) (Cert.DqnReferenceIdeal.main (F := Ideal))) ⟨m', fun _ => 0, g'⟩ (fun r => ∀ c : Dev Cert.DqnReferenceIdeal.nD,
          r.2.mem ((c.tc : Thread Cert.DqnReferenceIdeal.nD Cert.DqnReferenceIdeal.τ).loc Cert.DqnReferenceIdeal.main_v3) = v0 c
          ∧ r.2.mem ((c.tc : Thread Cert.DqnReferenceIdeal.nD Cert.DqnReferenceIdeal.τ).loc Cert.DqnReferenceIdeal.main_arg0) = m' ((c.tc : Thread Cert.DqnReferenceIdeal.nD Cert.DqnReferenceIdeal.τ).loc Cert.DqnReferenceIdeal.main_arg0)
          ∧ r.2.mem ((c.tc : Thread Cert.DqnReferenceIdeal.nD Cert.DqnReferenceIdeal.τ).loc Cert.DqnReferenceIdeal.main_arg1) = m' ((c.tc : Thread Cert.DqnReferenceIdeal.nD Cert.DqnReferenceIdeal.τ).loc Cert.DqnReferenceIdeal.main_arg1)
          ∧ r.2.mem ((c.tc : Thread Cert.DqnReferenceIdeal.nD Cert.DqnReferenceIdeal.τ).loc Cert.DqnReferenceIdeal.main_arg2) = m' ((c.tc : Thread Cert.DqnReferenceIdeal.nD Cert.DqnReferenceIdeal.τ).loc Cert.DqnReferenceIdeal.main_arg2))

def preserves_DwUq_DwUqIdeal : Prop :=
  True

def algebraic_DwUqIdeal_DwUqReferenceIdeal [hDwUqIdeal : Cert.DwUqIdeal.Facts] [hDwUqReferenceIdeal : Cert.DwUqReferenceIdeal.Facts] : Prop :=
  ∀ (m : (ℓ : Loc Cert.DwUqIdeal.nD Cert.DwUqIdeal.τ Cert.DwUqIdeal.sig) → Buf (Elt Ideal) ℓ) (g : Dev Cert.DwUqIdeal.nD → PrngReg)
    (m' : (ℓ : Loc Cert.DwUqReferenceIdeal.nD Cert.DwUqReferenceIdeal.τ Cert.DwUqReferenceIdeal.sig) → Buf (Elt Ideal) ℓ) (g' : Dev Cert.DwUqReferenceIdeal.nD → PrngReg), Pre_DwUqIdeal m →
    (∀ c : Dev Cert.DwUqIdeal.nD,
      m' ((c.tc : Thread Cert.DwUqReferenceIdeal.nD Cert.DwUqReferenceIdeal.τ).loc Cert.DwUqReferenceIdeal.main_arg0) = m ((c.tc : Thread Cert.DwUqIdeal.nD Cert.DwUqIdeal.τ).loc Cert.DwUqIdeal.main_arg0)
      ∧ m' ((c.tc : Thread Cert.DwUqReferenceIdeal.nD Cert.DwUqReferenceIdeal.τ).loc Cert.DwUqReferenceIdeal.main_arg1) = m ((c.tc : Thread Cert.DwUqIdeal.nD Cert.DwUqIdeal.τ).loc Cert.DwUqIdeal.main_arg1)
      ∧ m' ((c.tc : Thread Cert.DwUqReferenceIdeal.nD Cert.DwUqReferenceIdeal.τ).loc Cert.DwUqReferenceIdeal.main_arg2) = m ((c.tc : Thread Cert.DwUqIdeal.nD Cert.DwUqIdeal.τ).loc Cert.DwUqIdeal.main_arg2)) →
    ∃ (v0 : (c : Dev Cert.DwUqIdeal.nD) → Buf (Elt Ideal) ((c.tc : Thread Cert.DwUqIdeal.nD Cert.DwUqIdeal.τ).loc Cert.DwUqIdeal.main_v2)),
      θ_run (Cert.DwUqIdeal.defs (F := Ideal)) (onTc (τ := Cert.DwUqIdeal.τ) (Cert.DwUqIdeal.main (F := Ideal))) ⟨m, fun _ => 0, g⟩ (fun r => ∀ c : Dev Cert.DwUqIdeal.nD,
          r.2.mem ((c.tc : Thread Cert.DwUqIdeal.nD Cert.DwUqIdeal.τ).loc Cert.DwUqIdeal.main_v2) = v0 c
          ∧ r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
          ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1)
          ∧ r.2.mem ((c.tc : Thread Cert.DwUqIdeal.nD Cert.DwUqIdeal.τ).loc Cert.DwUqIdeal.main_arg2) = m ((c.tc : Thread Cert.DwUqIdeal.nD Cert.DwUqIdeal.τ).loc Cert.DwUqIdeal.main_arg2))
      ∧ θ_run (Cert.DwUqReferenceIdeal.defs (F := Ideal)) (onTc (τ := Cert.DwUqReferenceIdeal.τ) (Cert.DwUqReferenceIdeal.main (F := Ideal))) ⟨m', fun _ => 0, g'⟩ (fun r => ∀ c : Dev Cert.DwUqReferenceIdeal.nD,
          r.2.mem ((c.tc : Thread Cert.DwUqReferenceIdeal.nD Cert.DwUqReferenceIdeal.τ).loc Cert.DwUqReferenceIdeal.main_v4) = v0 c
          ∧ r.2.mem ((c.tc : Thread Cert.DwUqReferenceIdeal.nD Cert.DwUqReferenceIdeal.τ).loc Cert.DwUqReferenceIdeal.main_arg0) = m' ((c.tc : Thread Cert.DwUqReferenceIdeal.nD Cert.DwUqReferenceIdeal.τ).loc Cert.DwUqReferenceIdeal.main_arg0)
          ∧ r.2.mem ((c.tc : Thread Cert.DwUqReferenceIdeal.nD Cert.DwUqReferenceIdeal.τ).loc Cert.DwUqReferenceIdeal.main_arg1) = m' ((c.tc : Thread Cert.DwUqReferenceIdeal.nD Cert.DwUqReferenceIdeal.τ).loc Cert.DwUqReferenceIdeal.main_arg1)
          ∧ r.2.mem ((c.tc : Thread Cert.DwUqReferenceIdeal.nD Cert.DwUqReferenceIdeal.τ).loc Cert.DwUqReferenceIdeal.main_arg2) = m' ((c.tc : Thread Cert.DwUqReferenceIdeal.nD Cert.DwUqReferenceIdeal.τ).loc Cert.DwUqReferenceIdeal.main_arg2))

def preserves_Dkvn_DkvnIdeal : Prop :=
  True

def algebraic_DkvnIdeal_DkvnReferenceIdeal [hDkvnIdeal : Cert.DkvnIdeal.Facts] [hDkvnReferenceIdeal : Cert.DkvnReferenceIdeal.Facts] : Prop :=
  ∀ (m : (ℓ : Loc Cert.DkvnIdeal.nD Cert.DkvnIdeal.τ Cert.DkvnIdeal.sig) → Buf (Elt Ideal) ℓ) (g : Dev Cert.DkvnIdeal.nD → PrngReg)
    (m' : (ℓ : Loc Cert.DkvnReferenceIdeal.nD Cert.DkvnReferenceIdeal.τ Cert.DkvnReferenceIdeal.sig) → Buf (Elt Ideal) ℓ) (g' : Dev Cert.DkvnReferenceIdeal.nD → PrngReg), Pre_DkvnIdeal m →
    (∀ c : Dev Cert.DkvnIdeal.nD,
      m' ((c.tc : Thread Cert.DkvnReferenceIdeal.nD Cert.DkvnReferenceIdeal.τ).loc Cert.DkvnReferenceIdeal.main_arg0) = m ((c.tc : Thread Cert.DkvnIdeal.nD Cert.DkvnIdeal.τ).loc Cert.DkvnIdeal.main_arg0)
      ∧ m' ((c.tc : Thread Cert.DkvnReferenceIdeal.nD Cert.DkvnReferenceIdeal.τ).loc Cert.DkvnReferenceIdeal.main_arg1) = m ((c.tc : Thread Cert.DkvnIdeal.nD Cert.DkvnIdeal.τ).loc Cert.DkvnIdeal.main_arg1)
      ∧ m' ((c.tc : Thread Cert.DkvnReferenceIdeal.nD Cert.DkvnReferenceIdeal.τ).loc Cert.DkvnReferenceIdeal.main_arg2) = m ((c.tc : Thread Cert.DkvnIdeal.nD Cert.DkvnIdeal.τ).loc Cert.DkvnIdeal.main_arg2)) →
    ∃ (v0 : (c : Dev Cert.DkvnIdeal.nD) → Buf (Elt Ideal) ((c.tc : Thread Cert.DkvnIdeal.nD Cert.DkvnIdeal.τ).loc Cert.DkvnIdeal.main_v2)),
      θ_run (Cert.DkvnIdeal.defs (F := Ideal)) (onTc (τ := Cert.DkvnIdeal.τ) (Cert.DkvnIdeal.main (F := Ideal))) ⟨m, fun _ => 0, g⟩ (fun r => ∀ c : Dev Cert.DkvnIdeal.nD,
          r.2.mem ((c.tc : Thread Cert.DkvnIdeal.nD Cert.DkvnIdeal.τ).loc Cert.DkvnIdeal.main_v2) = v0 c
          ∧ r.2.mem ((c.tc : Thread Cert.DkvnIdeal.nD Cert.DkvnIdeal.τ).loc Cert.DkvnIdeal.main_arg0) = m ((c.tc : Thread Cert.DkvnIdeal.nD Cert.DkvnIdeal.τ).loc Cert.DkvnIdeal.main_arg0)
          ∧ r.2.mem ((c.tc : Thread Cert.DkvnIdeal.nD Cert.DkvnIdeal.τ).loc Cert.DkvnIdeal.main_arg1) = m ((c.tc : Thread Cert.DkvnIdeal.nD Cert.DkvnIdeal.τ).loc Cert.DkvnIdeal.main_arg1)
          ∧ r.2.mem ((c.tc : Thread Cert.DkvnIdeal.nD Cert.DkvnIdeal.τ).loc Cert.DkvnIdeal.main_arg2) = m ((c.tc : Thread Cert.DkvnIdeal.nD Cert.DkvnIdeal.τ).loc Cert.DkvnIdeal.main_arg2))
      ∧ θ_run (Cert.DkvnReferenceIdeal.defs (F := Ideal)) (onTc (τ := Cert.DkvnReferenceIdeal.τ) (Cert.DkvnReferenceIdeal.main (F := Ideal))) ⟨m', fun _ => 0, g'⟩ (fun r => ∀ c : Dev Cert.DkvnReferenceIdeal.nD,
          r.2.mem ((c.tc : Thread Cert.DkvnReferenceIdeal.nD Cert.DkvnReferenceIdeal.τ).loc Cert.DkvnReferenceIdeal.main_v3) = v0 c
          ∧ r.2.mem ((c.tc : Thread Cert.DkvnReferenceIdeal.nD Cert.DkvnReferenceIdeal.τ).loc Cert.DkvnReferenceIdeal.main_arg0) = m' ((c.tc : Thread Cert.DkvnReferenceIdeal.nD Cert.DkvnReferenceIdeal.τ).loc Cert.DkvnReferenceIdeal.main_arg0)
          ∧ r.2.mem ((c.tc : Thread Cert.DkvnReferenceIdeal.nD Cert.DkvnReferenceIdeal.τ).loc Cert.DkvnReferenceIdeal.main_arg1) = m' ((c.tc : Thread Cert.DkvnReferenceIdeal.nD Cert.DkvnReferenceIdeal.τ).loc Cert.DkvnReferenceIdeal.main_arg1)
          ∧ r.2.mem ((c.tc : Thread Cert.DkvnReferenceIdeal.nD Cert.DkvnReferenceIdeal.τ).loc Cert.DkvnReferenceIdeal.main_arg2) = m' ((c.tc : Thread Cert.DkvnReferenceIdeal.nD Cert.DkvnReferenceIdeal.τ).loc Cert.DkvnReferenceIdeal.main_arg2))

def preserves_DwUkv_DwUkvIdeal : Prop :=
  True

def algebraic_DwUkvIdeal_DwUkvReferenceIdeal [hDwUkvIdeal : Cert.DwUkvIdeal.Facts] [hDwUkvReferenceIdeal : Cert.DwUkvReferenceIdeal.Facts] : Prop :=
  ∀ (m : (ℓ : Loc Cert.DwUkvIdeal.nD Cert.DwUkvIdeal.τ Cert.DwUkvIdeal.sig) → Buf (Elt Ideal) ℓ) (g : Dev Cert.DwUkvIdeal.nD → PrngReg)
    (m' : (ℓ : Loc Cert.DwUkvReferenceIdeal.nD Cert.DwUkvReferenceIdeal.τ Cert.DwUkvReferenceIdeal.sig) → Buf (Elt Ideal) ℓ) (g' : Dev Cert.DwUkvReferenceIdeal.nD → PrngReg), Pre_DwUkvIdeal m →
    (∀ c : Dev Cert.DwUkvIdeal.nD,
      m' ((c.tc : Thread Cert.DwUkvReferenceIdeal.nD Cert.DwUkvReferenceIdeal.τ).loc Cert.DwUkvReferenceIdeal.main_arg0) = m ((c.tc : Thread Cert.DwUkvIdeal.nD Cert.DwUkvIdeal.τ).loc Cert.DwUkvIdeal.main_arg0)
      ∧ m' ((c.tc : Thread Cert.DwUkvReferenceIdeal.nD Cert.DwUkvReferenceIdeal.τ).loc Cert.DwUkvReferenceIdeal.main_arg1) = m ((c.tc : Thread Cert.DwUkvIdeal.nD Cert.DwUkvIdeal.τ).loc Cert.DwUkvIdeal.main_arg1)
      ∧ m' ((c.tc : Thread Cert.DwUkvReferenceIdeal.nD Cert.DwUkvReferenceIdeal.τ).loc Cert.DwUkvReferenceIdeal.main_arg2) = m ((c.tc : Thread Cert.DwUkvIdeal.nD Cert.DwUkvIdeal.τ).loc Cert.DwUkvIdeal.main_arg2)) →
    ∃ (v0 : (c : Dev Cert.DwUkvIdeal.nD) → Buf (Elt Ideal) ((c.tc : Thread Cert.DwUkvIdeal.nD Cert.DwUkvIdeal.τ).loc Cert.DwUkvIdeal.main_v2)),
      θ_run (Cert.DwUkvIdeal.defs (F := Ideal)) (onTc (τ := Cert.DwUkvIdeal.τ) (Cert.DwUkvIdeal.main (F := Ideal))) ⟨m, fun _ => 0, g⟩ (fun r => ∀ c : Dev Cert.DwUkvIdeal.nD,
          r.2.mem ((c.tc : Thread Cert.DwUkvIdeal.nD Cert.DwUkvIdeal.τ).loc Cert.DwUkvIdeal.main_v2) = v0 c
          ∧ r.2.mem ((c.tc : Thread Cert.DwUkvIdeal.nD Cert.DwUkvIdeal.τ).loc Cert.DwUkvIdeal.main_arg0) = m ((c.tc : Thread Cert.DwUkvIdeal.nD Cert.DwUkvIdeal.τ).loc Cert.DwUkvIdeal.main_arg0)
          ∧ r.2.mem ((c.tc : Thread Cert.DwUkvIdeal.nD Cert.DwUkvIdeal.τ).loc Cert.DwUkvIdeal.main_arg1) = m ((c.tc : Thread Cert.DwUkvIdeal.nD Cert.DwUkvIdeal.τ).loc Cert.DwUkvIdeal.main_arg1)
          ∧ r.2.mem ((c.tc : Thread Cert.DwUkvIdeal.nD Cert.DwUkvIdeal.τ).loc Cert.DwUkvIdeal.main_arg2) = m ((c.tc : Thread Cert.DwUkvIdeal.nD Cert.DwUkvIdeal.τ).loc Cert.DwUkvIdeal.main_arg2))
      ∧ θ_run (Cert.DwUkvReferenceIdeal.defs (F := Ideal)) (onTc (τ := Cert.DwUkvReferenceIdeal.τ) (Cert.DwUkvReferenceIdeal.main (F := Ideal))) ⟨m', fun _ => 0, g'⟩ (fun r => ∀ c : Dev Cert.DwUkvReferenceIdeal.nD,
          r.2.mem ((c.tc : Thread Cert.DwUkvReferenceIdeal.nD Cert.DwUkvReferenceIdeal.τ).loc Cert.DwUkvReferenceIdeal.main_v4) = v0 c
          ∧ r.2.mem ((c.tc : Thread Cert.DwUkvReferenceIdeal.nD Cert.DwUkvReferenceIdeal.τ).loc Cert.DwUkvReferenceIdeal.main_arg0) = m' ((c.tc : Thread Cert.DwUkvReferenceIdeal.nD Cert.DwUkvReferenceIdeal.τ).loc Cert.DwUkvReferenceIdeal.main_arg0)
          ∧ r.2.mem ((c.tc : Thread Cert.DwUkvReferenceIdeal.nD Cert.DwUkvReferenceIdeal.τ).loc Cert.DwUkvReferenceIdeal.main_arg1) = m' ((c.tc : Thread Cert.DwUkvReferenceIdeal.nD Cert.DwUkvReferenceIdeal.τ).loc Cert.DwUkvReferenceIdeal.main_arg1)
          ∧ r.2.mem ((c.tc : Thread Cert.DwUkvReferenceIdeal.nD Cert.DwUkvReferenceIdeal.τ).loc Cert.DwUkvReferenceIdeal.main_arg2) = m' ((c.tc : Thread Cert.DwUkvReferenceIdeal.nD Cert.DwUkvReferenceIdeal.τ).loc Cert.DwUkvReferenceIdeal.main_arg2))

def preserves_DwUp_DwUpIdeal : Prop :=
  True

def algebraic_DwUpIdeal_DwUpReferenceIdeal [hDwUpIdeal : Cert.DwUpIdeal.Facts] [hDwUpReferenceIdeal : Cert.DwUpReferenceIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpReferenceIdeal.nD Cert.DwUpReferenceIdeal.τ Cert.DwUpReferenceIdeal.sig) → Buf (Elt Ideal) ℓ) (g' : Dev Cert.DwUpReferenceIdeal.nD → PrngReg), Pre_DwUpIdeal m →
    (∀ c : Dev Cert.DwUpIdeal.nD,
      m' ((c.tc : Thread Cert.DwUpReferenceIdeal.nD Cert.DwUpReferenceIdeal.τ).loc Cert.DwUpReferenceIdeal.main_arg0) = m ((c.tc : Thread Cert.DwUpIdeal.nD Cert.DwUpIdeal.τ).loc Cert.DwUpIdeal.main_arg0)
      ∧ m' ((c.tc : Thread Cert.DwUpReferenceIdeal.nD Cert.DwUpReferenceIdeal.τ).loc Cert.DwUpReferenceIdeal.main_arg1) = m ((c.tc : Thread Cert.DwUpIdeal.nD Cert.DwUpIdeal.τ).loc Cert.DwUpIdeal.main_arg1)
      ∧ m' ((c.tc : Thread Cert.DwUpReferenceIdeal.nD Cert.DwUpReferenceIdeal.τ).loc Cert.DwUpReferenceIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v5)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v5) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpReferenceIdeal.defs (F := Ideal)) (onTc (τ := Cert.DwUpReferenceIdeal.τ) (Cert.DwUpReferenceIdeal.main (F := Ideal))) ⟨m', fun _ => 0, g'⟩ (fun r => ∀ c : Dev Cert.DwUpReferenceIdeal.nD,
          r.2.mem ((c.tc : Thread Cert.DwUpReferenceIdeal.nD Cert.DwUpReferenceIdeal.τ).loc Cert.DwUpReferenceIdeal.main_v6) = v0 c
          ∧ r.2.mem ((c.tc : Thread Cert.DwUpReferenceIdeal.nD Cert.DwUpReferenceIdeal.τ).loc Cert.DwUpReferenceIdeal.main_arg0) = m' ((c.tc : Thread Cert.DwUpReferenceIdeal.nD Cert.DwUpReferenceIdeal.τ).loc Cert.DwUpReferenceIdeal.main_arg0)
          ∧ r.2.mem ((c.tc : Thread Cert.DwUpReferenceIdeal.nD Cert.DwUpReferenceIdeal.τ).loc Cert.DwUpReferenceIdeal.main_arg1) = m' ((c.tc : Thread Cert.DwUpReferenceIdeal.nD Cert.DwUpReferenceIdeal.τ).loc Cert.DwUpReferenceIdeal.main_arg1)
          ∧ r.2.mem ((c.tc : Thread Cert.DwUpReferenceIdeal.nD Cert.DwUpReferenceIdeal.τ).loc Cert.DwUpReferenceIdeal.main_arg2) = m' ((c.tc : Thread Cert.DwUpReferenceIdeal.nD Cert.DwUpReferenceIdeal.τ).loc Cert.DwUpReferenceIdeal.main_arg2))

def preserves_Dh2_Dh2Ideal : Prop :=
  True

def algebraic_Dh2Ideal_Dh2ReferenceIdeal [hDh2Ideal : Cert.Dh2Ideal.Facts] [hDh2ReferenceIdeal : Cert.Dh2ReferenceIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2ReferenceIdeal.nD Cert.Dh2ReferenceIdeal.τ Cert.Dh2ReferenceIdeal.sig) → Buf (Elt Ideal) ℓ) (g' : Dev Cert.Dh2ReferenceIdeal.nD → PrngReg), Pre_Dh2Ideal m →
    (∀ c : Dev Cert.Dh2Ideal.nD,
      m' ((c.tc : Thread Cert.Dh2ReferenceIdeal.nD Cert.Dh2ReferenceIdeal.τ).loc Cert.Dh2ReferenceIdeal.main_arg0) = m ((c.tc : Thread Cert.Dh2Ideal.nD Cert.Dh2Ideal.τ).loc Cert.Dh2Ideal.main_arg0)
      ∧ m' ((c.tc : Thread Cert.Dh2ReferenceIdeal.nD Cert.Dh2ReferenceIdeal.τ).loc Cert.Dh2ReferenceIdeal.main_arg1) = m ((c.tc : Thread Cert.Dh2Ideal.nD Cert.Dh2Ideal.τ).loc Cert.Dh2Ideal.main_arg1)
      ∧ m' ((c.tc : Thread Cert.Dh2ReferenceIdeal.nD Cert.Dh2ReferenceIdeal.τ).loc Cert.Dh2ReferenceIdeal.main_arg2) = m ((c.tc : Thread Cert.Dh2Ideal.nD Cert.Dh2Ideal.τ).loc Cert.Dh2Ideal.main_arg2)) →
    ∃ (v0 : (c : Dev Cert.Dh2Ideal.nD) → Buf (Elt Ideal) ((c.tc : Thread Cert.Dh2Ideal.nD Cert.Dh2Ideal.τ).loc Cert.Dh2Ideal.main_v7)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v7) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
          ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2))
      ∧ θ_run (Cert.Dh2ReferenceIdeal.defs (F := Ideal)) (onTc (τ := Cert.Dh2ReferenceIdeal.τ) (Cert.Dh2ReferenceIdeal.main (F := Ideal))) ⟨m', fun _ => 0, g'⟩ (fun r => ∀ c : Dev Cert.Dh2ReferenceIdeal.nD,
          r.2.mem ((c.tc : Thread Cert.Dh2ReferenceIdeal.nD Cert.Dh2ReferenceIdeal.τ).loc Cert.Dh2ReferenceIdeal.main_v3) = v0 c
          ∧ r.2.mem ((c.tc : Thread Cert.Dh2ReferenceIdeal.nD Cert.Dh2ReferenceIdeal.τ).loc Cert.Dh2ReferenceIdeal.main_arg0) = m' ((c.tc : Thread Cert.Dh2ReferenceIdeal.nD Cert.Dh2ReferenceIdeal.τ).loc Cert.Dh2ReferenceIdeal.main_arg0)
          ∧ r.2.mem ((c.tc : Thread Cert.Dh2ReferenceIdeal.nD Cert.Dh2ReferenceIdeal.τ).loc Cert.Dh2ReferenceIdeal.main_arg1) = m' ((c.tc : Thread Cert.Dh2ReferenceIdeal.nD Cert.Dh2ReferenceIdeal.τ).loc Cert.Dh2ReferenceIdeal.main_arg1)
          ∧ r.2.mem ((c.tc : Thread Cert.Dh2ReferenceIdeal.nD Cert.Dh2ReferenceIdeal.τ).loc Cert.Dh2ReferenceIdeal.main_arg2) = m' ((c.tc : Thread Cert.Dh2ReferenceIdeal.nD Cert.Dh2ReferenceIdeal.τ).loc Cert.Dh2ReferenceIdeal.main_arg2))

def Claim : Prop :=
  ∃ (hKernel : Cert.Kernel.Facts) (hKernelIdeal : Cert.KernelIdeal.Facts) (hReferenceIdeal : Cert.ReferenceIdeal.Facts) (hFwd : Cert.Fwd.Facts) (hFwdIdeal : Cert.FwdIdeal.Facts) (hFwdReferenceIdeal : Cert.FwdReferenceIdeal.Facts) (hProj : Cert.Proj.Facts) (hProjIdeal : Cert.ProjIdeal.Facts) (hProjReferenceIdeal : Cert.ProjReferenceIdeal.Facts) (hQ : Cert.Q.Facts) (hQIdeal : Cert.QIdeal.Facts) (hQReferenceIdeal : Cert.QReferenceIdeal.Facts) (hKv : Cert.Kv.Facts) (hKvIdeal : Cert.KvIdeal.Facts) (hKvReferenceIdeal : Cert.KvReferenceIdeal.Facts) (hMix : Cert.Mix.Facts) (hMixIdeal : Cert.MixIdeal.Facts) (hMixReferenceIdeal : Cert.MixReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hDact : Cert.Dact.Facts) (hDactIdeal : Cert.DactIdeal.Facts) (hDactReferenceIdeal : Cert.DactReferenceIdeal.Facts) (hDwDown : Cert.DwDown.Facts) (hDwDownIdeal : Cert.DwDownIdeal.Facts) (hDwDownReferenceIdeal : Cert.DwDownReferenceIdeal.Facts) (hDcat : Cert.Dcat.Facts) (hDcatIdeal : Cert.DcatIdeal.Facts) (hDcatReferenceIdeal : Cert.DcatReferenceIdeal.Facts) (hDwO : Cert.DwO.Facts) (hDwOIdeal : Cert.DwOIdeal.Facts) (hDwOReferenceIdeal : Cert.DwOReferenceIdeal.Facts) (hDh1 : Cert.Dh1.Facts) (hDh1Ideal : Cert.Dh1Ideal.Facts) (hDh1ReferenceIdeal : Cert.Dh1ReferenceIdeal.Facts) (hDwIn : Cert.DwIn.Facts) (hDwInIdeal : Cert.DwInIdeal.Facts) (hDwInReferenceIdeal : Cert.DwInReferenceIdeal.Facts) (hDqn : Cert.Dqn.Facts) (hDqnIdeal : Cert.DqnIdeal.Facts) (hDqnReferenceIdeal : Cert.DqnReferenceIdeal.Facts) (hDwUq : Cert.DwUq.Facts) (hDwUqIdeal : Cert.DwUqIdeal.Facts) (hDwUqReferenceIdeal : Cert.DwUqReferenceIdeal.Facts) (hDkvn : Cert.Dkvn.Facts) (hDkvnIdeal : Cert.DkvnIdeal.Facts) (hDkvnReferenceIdeal : Cert.DkvnReferenceIdeal.Facts) (hDwUkv : Cert.DwUkv.Facts) (hDwUkvIdeal : Cert.DwUkvIdeal.Facts) (hDwUkvReferenceIdeal : Cert.DwUkvReferenceIdeal.Facts) (hDwUp : Cert.DwUp.Facts) (hDwUpIdeal : Cert.DwUpIdeal.Facts) (hDwUpReferenceIdeal : Cert.DwUpReferenceIdeal.Facts) (hDh2 : Cert.Dh2.Facts) (hDh2Ideal : Cert.Dh2Ideal.Facts) (hDh2ReferenceIdeal : Cert.Dh2ReferenceIdeal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Fwd (hFwd := hFwd)
    ∧ quiescent_FwdIdeal (hFwdIdeal := hFwdIdeal)
    ∧ quiescent_FwdIdeal_pre_finite_scores (hFwdIdeal := hFwdIdeal) (hPre_finite_scores := hPre_finite_scores)
    ∧ quiescent_FwdReferenceIdeal (hFwdReferenceIdeal := hFwdReferenceIdeal)
    ∧ quiescent_FwdReferenceIdeal_pre_finite_scores (hFwdReferenceIdeal := hFwdReferenceIdeal) (hPre_finite_scores := hPre_finite_scores)
    ∧ quiescent_Proj (hProj := hProj)
    ∧ quiescent_ProjIdeal (hProjIdeal := hProjIdeal)
    ∧ quiescent_ProjReferenceIdeal (hProjReferenceIdeal := hProjReferenceIdeal)
    ∧ quiescent_Q (hQ := hQ)
    ∧ quiescent_QIdeal (hQIdeal := hQIdeal)
    ∧ quiescent_QReferenceIdeal (hQReferenceIdeal := hQReferenceIdeal)
    ∧ quiescent_Kv (hKv := hKv)
    ∧ quiescent_KvIdeal (hKvIdeal := hKvIdeal)
    ∧ quiescent_KvReferenceIdeal (hKvReferenceIdeal := hKvReferenceIdeal)
    ∧ quiescent_Mix (hMix := hMix)
    ∧ quiescent_MixIdeal (hMixIdeal := hMixIdeal)
    ∧ quiescent_MixReferenceIdeal (hMixReferenceIdeal := hMixReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Dact (hDact := hDact)
    ∧ quiescent_DactIdeal (hDactIdeal := hDactIdeal)
    ∧ quiescent_DactReferenceIdeal (hDactReferenceIdeal := hDactReferenceIdeal)
    ∧ quiescent_DwDown (hDwDown := hDwDown)
    ∧ quiescent_DwDownIdeal (hDwDownIdeal := hDwDownIdeal)
    ∧ quiescent_DwDownReferenceIdeal (hDwDownReferenceIdeal := hDwDownReferenceIdeal)
    ∧ quiescent_Dcat (hDcat := hDcat)
    ∧ quiescent_DcatIdeal (hDcatIdeal := hDcatIdeal)
    ∧ quiescent_DcatReferenceIdeal (hDcatReferenceIdeal := hDcatReferenceIdeal)
    ∧ quiescent_DwO (hDwO := hDwO)
    ∧ quiescent_DwOIdeal (hDwOIdeal := hDwOIdeal)
    ∧ quiescent_DwOReferenceIdeal (hDwOReferenceIdeal := hDwOReferenceIdeal)
    ∧ quiescent_Dh1 (hDh1 := hDh1)
    ∧ quiescent_Dh1Ideal (hDh1Ideal := hDh1Ideal)
    ∧ quiescent_Dh1ReferenceIdeal (hDh1ReferenceIdeal := hDh1ReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_Dqn (hDqn := hDqn)
    ∧ quiescent_DqnIdeal (hDqnIdeal := hDqnIdeal)
    ∧ quiescent_DqnReferenceIdeal (hDqnReferenceIdeal := hDqnReferenceIdeal)
    ∧ quiescent_DwUq (hDwUq := hDwUq)
    ∧ quiescent_DwUqIdeal (hDwUqIdeal := hDwUqIdeal)
    ∧ quiescent_DwUqReferenceIdeal (hDwUqReferenceIdeal := hDwUqReferenceIdeal)
    ∧ quiescent_Dkvn (hDkvn := hDkvn)
    ∧ quiescent_DkvnIdeal (hDkvnIdeal := hDkvnIdeal)
    ∧ quiescent_DkvnReferenceIdeal (hDkvnReferenceIdeal := hDkvnReferenceIdeal)
    ∧ quiescent_DwUkv (hDwUkv := hDwUkv)
    ∧ quiescent_DwUkvIdeal (hDwUkvIdeal := hDwUkvIdeal)
    ∧ quiescent_DwUkvReferenceIdeal (hDwUkvReferenceIdeal := hDwUkvReferenceIdeal)
    ∧ quiescent_DwUp (hDwUp := hDwUp)
    ∧ quiescent_DwUpIdeal (hDwUpIdeal := hDwUpIdeal)
    ∧ quiescent_DwUpReferenceIdeal (hDwUpReferenceIdeal := hDwUpReferenceIdeal)
    ∧ quiescent_Dh2 (hDh2 := hDh2)
    ∧ quiescent_Dh2Ideal (hDh2Ideal := hDh2Ideal)
    ∧ quiescent_Dh2ReferenceIdeal (hDh2ReferenceIdeal := hDh2ReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Fwd_FwdIdeal
    ∧ algebraic_FwdIdeal_FwdReferenceIdeal_pre_finite_scores (hFwdIdeal := hFwdIdeal) (hFwdReferenceIdeal := hFwdReferenceIdeal) (hPre_finite_scores := hPre_finite_scores)
    ∧ preserves_Proj_ProjIdeal
    ∧ algebraic_ProjIdeal_ProjReferenceIdeal (hProjIdeal := hProjIdeal) (hProjReferenceIdeal := hProjReferenceIdeal)
    ∧ preserves_Q_QIdeal
    ∧ algebraic_QIdeal_QReferenceIdeal (hQIdeal := hQIdeal) (hQReferenceIdeal := hQReferenceIdeal)
    ∧ preserves_Kv_KvIdeal
    ∧ algebraic_KvIdeal_KvReferenceIdeal (hKvIdeal := hKvIdeal) (hKvReferenceIdeal := hKvReferenceIdeal)
    ∧ preserves_Mix_MixIdeal
    ∧ algebraic_MixIdeal_MixReferenceIdeal (hMixIdeal := hMixIdeal) (hMixReferenceIdeal := hMixReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Dact_DactIdeal
    ∧ algebraic_DactIdeal_DactReferenceIdeal (hDactIdeal := hDactIdeal) (hDactReferenceIdeal := hDactReferenceIdeal)
    ∧ preserves_DwDown_DwDownIdeal
    ∧ algebraic_DwDownIdeal_DwDownReferenceIdeal (hDwDownIdeal := hDwDownIdeal) (hDwDownReferenceIdeal := hDwDownReferenceIdeal)
    ∧ preserves_Dcat_DcatIdeal
    ∧ algebraic_DcatIdeal_DcatReferenceIdeal (hDcatIdeal := hDcatIdeal) (hDcatReferenceIdeal := hDcatReferenceIdeal)
    ∧ preserves_DwO_DwOIdeal
    ∧ algebraic_DwOIdeal_DwOReferenceIdeal (hDwOIdeal := hDwOIdeal) (hDwOReferenceIdeal := hDwOReferenceIdeal)
    ∧ preserves_Dh1_Dh1Ideal
    ∧ algebraic_Dh1Ideal_Dh1ReferenceIdeal (hDh1Ideal := hDh1Ideal) (hDh1ReferenceIdeal := hDh1ReferenceIdeal)
    ∧ preserves_DwIn_DwInIdeal
    ∧ algebraic_DwInIdeal_DwInReferenceIdeal (hDwInIdeal := hDwInIdeal) (hDwInReferenceIdeal := hDwInReferenceIdeal)
    ∧ preserves_Dqn_DqnIdeal
    ∧ algebraic_DqnIdeal_DqnReferenceIdeal (hDqnIdeal := hDqnIdeal) (hDqnReferenceIdeal := hDqnReferenceIdeal)
    ∧ preserves_DwUq_DwUqIdeal
    ∧ algebraic_DwUqIdeal_DwUqReferenceIdeal (hDwUqIdeal := hDwUqIdeal) (hDwUqReferenceIdeal := hDwUqReferenceIdeal)
    ∧ preserves_Dkvn_DkvnIdeal
    ∧ algebraic_DkvnIdeal_DkvnReferenceIdeal (hDkvnIdeal := hDkvnIdeal) (hDkvnReferenceIdeal := hDkvnReferenceIdeal)
    ∧ preserves_DwUkv_DwUkvIdeal
    ∧ algebraic_DwUkvIdeal_DwUkvReferenceIdeal (hDwUkvIdeal := hDwUkvIdeal) (hDwUkvReferenceIdeal := hDwUkvReferenceIdeal)
    ∧ preserves_DwUp_DwUpIdeal
    ∧ algebraic_DwUpIdeal_DwUpReferenceIdeal (hDwUpIdeal := hDwUpIdeal) (hDwUpReferenceIdeal := hDwUpReferenceIdeal)
    ∧ preserves_Dh2_Dh2Ideal
    ∧ algebraic_Dh2Ideal_Dh2ReferenceIdeal (hDh2Ideal := hDh2Ideal) (hDh2ReferenceIdeal := hDh2ReferenceIdeal)
-- ==== Pre_finite.lean ====
abbrev S8192x8x128 : Shape := ⟨3, ![8192, 8, 128]⟩
abbrev S8192x8x64 : Shape := ⟨3, ![8192, 8, 64]⟩
abbrev S8192x64 : Shape := ⟨2, ![8192, 64]⟩
abbrev S_ : Shape := ⟨0, ![]⟩
abbrev S8192x1x64 : Shape := ⟨3, ![8192, 1, 64]⟩

class Facts : Prop where
  bcast_S_S8192x8x128 : S_.BroadcastsInDim S8192x8x128 (![] : Fin 0 → Fin S8192x8x128.rank)
  bcast_S_S8192x8x64 : S_.BroadcastsInDim S8192x8x64 (![] : Fin 0 → Fin S8192x8x64.rank)
  bcast_S_S8192x64 : S_.BroadcastsInDim S8192x64 (![] : Fin 0 → Fin S8192x64.rank)
  bcast_S8192x64_S8192x1x64_0_2 : S8192x64.BroadcastsInDim S8192x1x64 (![0, 2] : Fin 2 → Fin S8192x1x64.rank)
  bcast_S8192x1x64_S8192x8x64_0_1_2 : S8192x1x64.BroadcastsInDim S8192x8x64 (![0, 1, 2] : Fin 3 → Fin S8192x8x64.rank)

variable [Facts]

def fn_part1 {F : FTy → Type} [FloatOps F] (main_v14 : IVec S8192x8x128 1) (main_v17 : IVec S8192x8x64 1) (main_v18 : FVec F S8192x64 .f32) : IVec S8192x8x128 1 × IVec S8192x8x64 1 :=
  let main_cst_4 : FVec F S_ .f32 := constant S_ .f32 0x7F800000#32
  let main_v19 : FVec F S8192x64 .f32 := broadcastInDim S8192x64 ![] bcast_S_S8192x64 main_cst_4
  let main_v20 : IVec S8192x64 1 := cmpf .olt main_v18 main_v19
  let main_v21 : IVec S8192x1x64 1 := broadcastInDim S8192x1x64 ![0, 2] bcast_S8192x64_S8192x1x64_0_2 main_v20
  let main_v22 : IVec S8192x8x64 1 := broadcastInDim S8192x8x64 ![0, 1, 2] bcast_S8192x1x64_S8192x8x64_0_1_2 main_v21
  let main_v23 : IVec S8192x8x64 1 := andi main_v17 main_v22
  (main_v14, main_v23)

def fn {F : FTy → Type} [FloatOps F] (main_arg0 : FVec F S8192x8x128 .f32) (main_arg1 : FVec F S8192x8x64 .f32) (main_arg2 : FVec F S8192x8x128 .f32) (main_arg3 : FVec F S8192x64 .f32) (main_arg4 : FVec F S8192x8x128 .f32) (main_arg5 : FVec F S8192x8x128 .f32) : IVec S8192x8x128 1 × IVec S8192x8x64 1 :=
  let main_v0 : FVec F S8192x8x128 .f32 := Host.absf main_arg0
  let main_cst : FVec F S_ .f32 := constant S_ .f32 0x7F800000#32
  let main_v1 : FVec F S8192x8x128 .f32 := broadcastInDim S8192x8x128 ![] bcast_S_S8192x8x128 main_cst
  let main_v2 : IVec S8192x8x128 1 := cmpf .olt main_v0 main_v1
  let main_v3 : FVec F S8192x8x128 .f32 := Host.absf main_arg2
  let main_cst_0 : FVec F S_ .f32 := constant S_ .f32 0x7F800000#32
  let main_v4 : FVec F S8192x8x128 .f32 := broadcastInDim S8192x8x128 ![] bcast_S_S8192x8x128 main_cst_0
  let main_v5 : IVec S8192x8x128 1 := cmpf .olt main_v3 main_v4
  let main_v6 : IVec S8192x8x128 1 := andi main_v2 main_v5
  let main_v7 : FVec F S8192x8x128 .f32 := Host.absf main_arg4
  let main_cst_1 : FVec F S_ .f32 := constant S_ .f32 0x7F800000#32
  let main_v8 : FVec F S8192x8x128 .f32 := broadcastInDim S8192x8x128 ![] bcast_S_S8192x8x128 main_cst_1
  let main_v9 : IVec S8192x8x128 1 := cmpf .olt main_v7 main_v8
  let main_v10 : IVec S8192x8x128 1 := andi main_v6 main_v9
  let main_v11 : FVec F S8192x8x128 .f32 := Host.absf main_arg5
  let main_cst_2 : FVec F S_ .f32 := constant S_ .f32 0x7F800000#32
  let main_v12 : FVec F S8192x8x128 .f32 := broadcastInDim S8192x8x128 ![] bcast_S_S8192x8x128 main_cst_2
  let main_v13 : IVec S8192x8x128 1 := cmpf .olt main_v11 main_v12
  let main_v14 : IVec S8192x8x128 1 := andi main_v10 main_v13
  let main_v15 : FVec F S8192x8x64 .f32 := Host.absf main_arg1
  let main_cst_3 : FVec F S_ .f32 := constant S_ .f32 0x7F800000#32
  let main_v16 : FVec F S8192x8x64 .f32 := broadcastInDim S8192x8x64 ![] bcast_S_S8192x8x64 main_cst_3
  let main_v17 : IVec S8192x8x64 1 := cmpf .olt main_v15 main_v16
  let main_v18 : FVec F S8192x64 .f32 := Host.absf main_arg3
  fn_part1 (F := F) main_v14 main_v17 main_v18
-- ==== Pre_finite_scores.lean ====
abbrev S8192x8x128 : Shape := ⟨3, ![8192, 8, 128]⟩
abbrev S8192x8x64 : Shape := ⟨3, ![8192, 8, 64]⟩
abbrev S8192x64 : Shape := ⟨2, ![8192, 64]⟩
abbrev S_ : Shape := ⟨0, ![]⟩
abbrev S8192x1x64 : Shape := ⟨3, ![8192, 1, 64]⟩

class Facts : Prop where
  bcast_S_S8192x8x128 : S_.BroadcastsInDim S8192x8x128 (![] : Fin 0 → Fin S8192x8x128.rank)
  bcast_S_S8192x8x64 : S_.BroadcastsInDim S8192x8x64 (![] : Fin 0 → Fin S8192x8x64.rank)
  bcast_S_S8192x64 : S_.BroadcastsInDim S8192x64 (![] : Fin 0 → Fin S8192x64.rank)
  bcast_S8192x64_S8192x1x64_0_2 : S8192x64.BroadcastsInDim S8192x1x64 (![0, 2] : Fin 2 → Fin S8192x1x64.rank)
  bcast_S8192x1x64_S8192x8x64_0_1_2 : S8192x1x64.BroadcastsInDim S8192x8x64 (![0, 1, 2] : Fin 3 → Fin S8192x8x64.rank)

variable [Facts]

def fn {F : FTy → Type} [FloatOps F] (main_arg0 : FVec F S8192x8x128 .f32) (main_arg1 : FVec F S8192x8x64 .f32) (main_arg2 : FVec F S8192x8x128 .f32) (main_arg3 : FVec F S8192x64 .f32) (main_arg4 : FVec F S8192x8x128 .f32) : IVec S8192x8x128 1 × IVec S8192x8x64 1 :=
  let main_v0 : FVec F S8192x8x128 .f32 := Host.absf main_arg0
  let main_cst : FVec F S_ .f32 := constant S_ .f32 0x7F800000#32
  let main_v1 : FVec F S8192x8x128 .f32 := broadcastInDim S8192x8x128 ![] bcast_S_S8192x8x128 main_cst
  let main_v2 : IVec S8192x8x128 1 := cmpf .olt main_v0 main_v1
  let main_v3 : FVec F S8192x8x128 .f32 := Host.absf main_arg2
  let main_cst_0 : FVec F S_ .f32 := constant S_ .f32 0x7F800000#32
  let main_v4 : FVec F S8192x8x128 .f32 := broadcastInDim S8192x8x128 ![] bcast_S_S8192x8x128 main_cst_0
  let main_v5 : IVec S8192x8x128 1 := cmpf .olt main_v3 main_v4
  let main_v6 : IVec S8192x8x128 1 := andi main_v2 main_v5
  let main_v7 : FVec F S8192x8x64 .f32 := Host.absf main_arg1
  let main_cst_1 : FVec F S_ .f32 := constant S_ .f32 0x7F800000#32
  let main_v8 : FVec F S8192x8x64 .f32 := broadcastInDim S8192x8x64 ![] bcast_S_S8192x8x64 main_cst_1
  let main_v9 : IVec S8192x8x64 1 := cmpf .olt main_v7 main_v8
  let main_v10 : FVec F S8192x64 .f32 := Host.absf main_arg3
  let main_cst_2 : FVec F S_ .f32 := constant S_ .f32 0x7F800000#32
  let main_v11 : FVec F S8192x64 .f32 := broadcastInDim S8192x64 ![] bcast_S_S8192x64 main_cst_2
  let main_v12 : IVec S8192x64 1 := cmpf .olt main_v10 main_v11
  let main_v13 : IVec S8192x1x64 1 := broadcastInDim S8192x1x64 ![0, 2] bcast_S8192x64_S8192x1x64_0_2 main_v12
  let main_v14 : IVec S8192x8x64 1 := broadcastInDim S8192x8x64 ![0, 1, 2] bcast_S8192x1x64_S8192x8x64_0_1_2 main_v13
  let main_v15 : IVec S8192x8x64 1 := andi main_v9 main_v14
  (main_v6, main_v15)
-- ==== Kernel.lean ====
abbrev S8192x8x128 : Shape := ⟨3, ![8192, 8, 128]⟩
abbrev S8192x8x64 : Shape := ⟨3, ![8192, 8, 64]⟩
abbrev S8192x64 : Shape := ⟨2, ![8192, 64]⟩
abbrev S8192x1x64 : Shape := ⟨3, ![8192, 1, 64]⟩
abbrev S_ : Shape := ⟨0, ![]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8 : Shape := ⟨2, ![8192, 8]⟩
abbrev S8192x8x256 : Shape := ⟨3, ![8192, 8, 256]⟩
abbrev S8192x2048 : Shape := ⟨2, ![8192, 2048]⟩
abbrev S8192x1024 : Shape := ⟨2, ![8192, 1024]⟩
abbrev S8192x8x1 : Shape := ⟨3, ![8192, 8, 1]⟩
abbrev S8192x256 : Shape := ⟨2, ![8192, 256]⟩
abbrev S1024x256 : Shape := ⟨2, ![1024, 256]⟩
abbrev S1024x128 : Shape := ⟨2, ![1024, 128]⟩
abbrev S8192x128 : Shape := ⟨2, ![8192, 128]⟩
abbrev S256x256 : Shape := ⟨2, ![256, 256]⟩
abbrev S256x128 : Shape := ⟨2, ![256, 128]⟩
abbrev S512x256 : Shape := ⟨2, ![512, 256]⟩
abbrev S256x512 : Shape := ⟨2, ![256, 512]⟩
abbrev S512x128 : Shape := ⟨2, ![512, 128]⟩
abbrev S256x1 : Shape := ⟨2, ![256, 1]⟩
abbrev S768x256 : Shape := ⟨2, ![768, 256]⟩
abbrev S256x768 : Shape := ⟨2, ![256, 768]⟩
abbrev S768x128 : Shape := ⟨2, ![768, 128]⟩
abbrev S256x1024 : Shape := ⟨2, ![256, 1024]⟩

abbrev nBuf : Space → Nat
  | .hbm => 78
  | .vmem => 20
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S8192x8x128, .f32⟩
  | .hbm, ⟨6, _⟩ => ⟨S8192x1x64, .f32⟩
  | .hbm, ⟨7, _⟩ => ⟨S8192x8x64, .f32⟩
  | .hbm, ⟨8, _⟩ => ⟨S_, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8x8192x8192, .f32⟩
  | .hbm, ⟨13, _⟩ => ⟨S8x8192x8192, .f32⟩
  | .hbm, ⟨14, _⟩ => ⟨S8x8192x8192, .f32⟩
  | .hbm, ⟨15, _⟩ => ⟨S8192, .i32⟩
  | .hbm, ⟨16, _⟩ => ⟨S1x8192, .i32⟩
  | .hbm, ⟨17, _⟩ => ⟨S8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8x8192x8192, .i1⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S8x8192x1, .f32⟩
  | .hbm, ⟨36, _⟩ => ⟨S8x8192x8192, .f32⟩
  | .hbm, ⟨37, _⟩ => ⟨S8x8192x8192, .f32⟩
  | .hbm, ⟨38, _⟩ => ⟨S8x128x8192, .f32⟩
  | .hbm, ⟨39, _⟩ => ⟨S8192x8x128, .f32⟩
  | .hbm, ⟨40, _⟩ => ⟨S8x8192, .f32⟩
  | .hbm, ⟨41, _⟩ => ⟨S8x8192, .f32⟩
  | .hbm, ⟨42, _⟩ => ⟨S_, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8192x8x128, .f32⟩
  | .hbm, ⟨47, _⟩ => ⟨S_, .f32⟩
  | .hbm, ⟨48, _⟩ => ⟨S8192x8, .f32⟩
  | .hbm, ⟨49, _⟩ => ⟨S_, .i32⟩
  | .hbm, ⟨50, _⟩ => ⟨S_, .f32⟩
  | .hbm, ⟨51, _⟩ => ⟨S8192x8x128, .f32⟩
  | .hbm, ⟨52, _⟩ => ⟨S8192x8x256, .f32⟩
  | .hbm, ⟨53, _⟩ => ⟨S8192x2048, .f32⟩
  | .hbm, ⟨54, _⟩ => ⟨S8192x2048, .bf16⟩
  | .hbm, ⟨55, _⟩ => ⟨S_, .i32⟩
  | .hbm, ⟨56, _⟩ => ⟨S_, .f32⟩
  | .hbm, ⟨57, _⟩ => ⟨S8192x8x128, .f32⟩
  | .hbm, ⟨58, _⟩ => ⟨S8192x8x256, .f32⟩
  | .hbm, ⟨59, _⟩ => ⟨S8192x2048, .f32⟩
  | .hbm, ⟨60, _⟩ => ⟨S8192x2048, .bf16⟩
  | .hbm, ⟨61, _⟩ => ⟨S8192x1024, .f32⟩
  | .hbm, ⟨62, _⟩ => ⟨S8192x1024, .f32⟩
  | .hbm, ⟨63, _⟩ => ⟨S8192x2048, .f32⟩
  | .hbm, ⟨64, _⟩ => ⟨S8192x2048, .bf16⟩
  | .hbm, ⟨65, _⟩ => ⟨S8192x8, .f32⟩
  | .hbm, ⟨66, _⟩ => ⟨S8192x8x1, .f32⟩
  | .hbm, ⟨67, _⟩ => ⟨S8192x8x64, .f32⟩
  | .hbm, ⟨68, _⟩ => ⟨S8192x8x1, .f32⟩
  | .hbm, ⟨69, _⟩ => ⟨S8192x8x64, .f32⟩
  | .hbm, ⟨70, _⟩ => ⟨S8192x8x128, .f32⟩
  | .hbm, ⟨71, _⟩ => ⟨S8192x1024, .f32⟩
  | .hbm, ⟨72, _⟩ => ⟨S8192x1024, .f32⟩
  | .hbm, ⟨73, _⟩ => ⟨S8192x1024, .bf16⟩
  | .hbm, ⟨74, _⟩ => ⟨S8192x2048, .f32⟩
  | .hbm, ⟨75, _⟩ => ⟨S8192x1024, .bf16⟩
  | .hbm, ⟨76, _⟩ => ⟨S8192x1024, .bf16⟩
  | .hbm, ⟨77, _⟩ => ⟨S8192x1024, .f32⟩
  | .local _ .vmem, ⟨0, _⟩ => ⟨S8192x256, .bf16⟩
  | .local _ .vmem, ⟨1, _⟩ => ⟨S8192x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .f32⟩
  | .local _ .vmem, ⟨9, _⟩ => ⟨S8192x128, .f32⟩
  | .local _ .vmem, ⟨10, _⟩ => ⟨S8192x256, .f32⟩
  | .local _ .vmem, ⟨11, _⟩ => ⟨S8192x256, .f32⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .f32⟩
  | .local _ .vmem, ⟨17, _⟩ => ⟨S1024x128, .f32⟩
  | .local _ .vmem, ⟨18, _⟩ => ⟨S1024x256, .f32⟩
  | .local _ .vmem, ⟨19, _⟩ => ⟨S1024x128, .f32⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_c : Ref sig .tc := ⟨.hbm, 49, rfl⟩
abbrev main_call1_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_call2_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55_0 : Ref sig .tc := ⟨.hbm, 74, rfl⟩
abbrev main_v55_1 : Ref sig .tc := ⟨.hbm, 75, rfl⟩
abbrev main_v55_2 : Ref sig .tc := ⟨.hbm, 76, rfl⟩
abbrev main_v55_3 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v11 : BitVec 32 := Scalar.muli arg1 c1024_i32
  v11
def k0_off1 (i : grid0.Coords) (c0_i32_5 : BitVec 32) : Fin 2 → Nat :=
  let arg1 : BitVec 32 := BitVec.ofNat 32 (i 1).val
  let c1024_i32 : BitVec 32 := 1024#32
  let v11 : BitVec 32 := Scalar.muli arg1 c1024_i32
  let v12 : BitVec 32 := v11
  let v13 : BitVec 32 := Scalar.addi v12 c0_i32_5
  let v14 : Index := Scalar.indexCast v13
  let c0_6 : Index := 0#32
  ![v14.toNat, 0]
def k0_off2 (i : grid0.Coords) (c0_i32_5 : BitVec 32) : Fin 2 → Nat :=
  let arg1 : BitVec 32 := BitVec.ofNat 32 (i 1).val
  let c1024_i32 : BitVec 32 := 1024#32
  let v11 : BitVec 32 := Scalar.muli arg1 c1024_i32
  let v12 : BitVec 32 := v11
  let v13 : BitVec 32 := Scalar.addi v12 c0_i32_5
  let v20 : Index := Scalar.indexCast v13
  let c0_10 : Index := 0#32
  ![v20.toNat, 0]
@[reducible] def k0_t1_loop (i : grid0.Coords) : Scf.Loop 32 :=
  let arg1 : BitVec 32 := BitVec.ofNat 32 (i 1).val
  let c1_i32 : BitVec 32 := 1#32
  let v273 : BitVec 32 := Scalar.addi arg1 c1_i32
  let c8_i32 : BitVec 32 := 8#32
  let v274 : BitVec 32 := Scalar.subi c8_i32 v273
  let c1_i32_131 : BitVec 32 := 1#32
  let v276 : BitVec 32 := Scalar.divsi v274 c1_i32_131
  let v277 : BitVec 32 := Scalar.muli v276 c1_i32_131
  let v278 : BitVec 32 := Scalar.addi v273 v277
  let c1_i32_132 : BitVec 32 := 1#32
  ⟨v273, v278, c1_i32_132⟩
def k0_mult2 (i : grid0.Coords) (k0_t1 : Fin (k0_t1_loop i).trips) : BitVec 32 :=
  let arg1 : BitVec 32 := BitVec.ofNat 32 (i 1).val
  let c1_i32 : BitVec 32 := 1#32
  let v273 : BitVec 32 := Scalar.addi arg1 c1_i32
  let c1_i32_132 : BitVec 32 := 1#32
  let arg13 : BitVec 32 := Scf.iv v273 c1_i32_132 k0_t1
  let c1024_i32_145 : BitVec 32 := 1024#32
  let v287 : BitVec 32 := Scalar.muli arg13 c1024_i32_145
  v287
def k0_off3 (i : grid0.Coords) (k0_t1 : Fin (k0_t1_loop i).trips) (c0_i32_146 : BitVec 32) : Fin 2 → Nat :=
  let arg1 : BitVec 32 := BitVec.ofNat 32 (i 1).val
  let c1_i32 : BitVec 32 := 1#32
  let v273 : BitVec 32 := Scalar.addi arg1 c1_i32
  let c1_i32_132 : BitVec 32 := 1#32
  let arg13 : BitVec 32 := Scf.iv v273 c1_i32_132 k0_t1
  let c1024_i32_145 : BitVec 32 := 1024#32
  let v287 : BitVec 32 := Scalar.muli arg13 c1024_i32_145
  let v288 : BitVec 32 := v287
  let v289 : BitVec 32 := Scalar.addi v288 c0_i32_146
  let v290 : Index := Scalar.indexCast v289
  let c0_147 : Index := 0#32
  ![v290.toNat, 0]
def k0_off4 (i : grid0.Coords) (k0_t1 : Fin (k0_t1_loop i).trips) (c0_i32_146 : BitVec 32) : Fin 2 → Nat :=
  let arg1 : BitVec 32 := BitVec.ofNat 32 (i 1).val
  let c1_i32 : BitVec 32 := 1#32
  let v273 : BitVec 32 := Scalar.addi arg1 c1_i32
  let c1_i32_132 : BitVec 32 := 1#32
  let arg13 : BitVec 32 := Scf.iv v273 c1_i32_132 k0_t1
  let c1024_i32_145 : BitVec 32 := 1024#32
  let v287 : BitVec 32 := Scalar.muli arg13 c1024_i32_145
  let v288 : BitVec 32 := v287
  let v289 : BitVec 32 := Scalar.addi v288 c0_i32_146
  let v296 : Index := Scalar.indexCast v289
  let c0_151 : Index := 0#32
  ![v296.toNat, 0]
@[reducible] def k0_t2_loop (i : grid0.Coords) : Scf.Loop 32 :=
  let arg1 : BitVec 32 := BitVec.ofNat 32 (i 1).val
  let c1_i32 : BitVec 32 := 1#32
  let v273 : BitVec 32 := Scalar.addi arg1 c1_i32
  let c8_i32 : BitVec 32 := 8#32
  let v274 : BitVec 32 := Scalar.subi c8_i32 v273
  let c1_i32_131 : BitVec 32 := 1#32
  let v276 : BitVec 32 := Scalar.divsi v274 c1_i32_131
  let v277 : BitVec 32 := Scalar.muli v276 c1_i32_131
  let v278 : BitVec 32 := Scalar.addi v273 v277
  let v275 : BitVec 32 := Scalar.addi v273 v274
  let c1_i32_133 : BitVec 32 := 1#32
  ⟨v278, v275, c1_i32_133⟩
def k0_mult3 (i : grid0.Coords) (k0_t2 : Fin (k0_t2_loop i).trips) : BitVec 32 :=
  let arg1 : BitVec 32 := BitVec.ofNat 32 (i 1).val
  let c1_i32 : BitVec 32 := 1#32
  let v273 : BitVec 32 := Scalar.addi arg1 c1_i32
  let c8_i32 : BitVec 32 := 8#32
  let v274 : BitVec 32 := Scalar.subi c8_i32 v273
  let c1_i32_131 : BitVec 32 := 1#32
  let v276 : BitVec 32 := Scalar.divsi v274 c1_i32_131
  let v277 : BitVec 32 := Scalar.muli v276 c1_i32_131
  let v278 : BitVec 32 := Scalar.addi v273 v277
  let c1_i32_133 : BitVec 32 := 1#32
  let arg13 : BitVec 32 := Scf.iv v278 c1_i32_133 k0_t2
  let c1024_i32_145 : BitVec 32 := 1024#32
  let v287 : BitVec 32 := Scalar.muli arg13 c1024_i32_145
  v287
def k0_off5 (i : grid0.Coords) (k0_t2 : Fin (k0_t2_loop i).trips) (c0_i32_146 : BitVec 32) : Fin 2 → Nat :=
  let arg1 : BitVec 32 := BitVec.ofNat 32 (i 1).val
  let c1_i32 : BitVec 32 := 1#32
  let v273 : BitVec 32 := Scalar.addi arg1 c1_i32
  let c8_i32 : BitVec 32 := 8#32
  let v274 : BitVec 32 := Scalar.subi c8_i32 v273
  let c1_i32_131 : BitVec 32 := 1#32
  let v276 : BitVec 32 := Scalar.divsi v274 c1_i32_131
  let v277 : BitVec 32 := Scalar.muli v276 c1_i32_131
  let v278 : BitVec 32 := Scalar.addi v273 v277
  let c1_i32_133 : BitVec 32 := 1#32
  let arg13 : BitVec 32 := Scf.iv v278 c1_i32_133 k0_t2
  let c1024_i32_145 : BitVec 32 := 1024#32
  let v287 : BitVec 32 := Scalar.muli arg13 c1024_i32_145
  let v288 : BitVec 32 := v287
  let v289 : BitVec 32 := Scalar.addi v288 c0_i32_146
  let v290 : Index := Scalar.indexCast v289
  let c0_147 : Index := 0#32
  ![v290.toNat, 0]
def k0_off6 (i : grid0.Coords) (k0_t2 : Fin (k0_t2_loop i).trips) (c0_i32_146 : BitVec 32) : Fin 2 → Nat :=
  let arg1 : BitVec 32 := BitVec.ofNat 32 (i 1).val
  let c1_i32 : BitVec 32 := 1#32
  let v273 : BitVec 32 := Scalar.addi arg1 c1_i32
  let c8_i32 : BitVec 32 := 8#32
  let v274 : BitVec 32 := Scalar.subi c8_i32 v273
  let c1_i32_131 : BitVec 32 := 1#32
  let v276 : BitVec 32 := Scalar.divsi v274 c1_i32_131
  let v277 : BitVec 32 := Scalar.muli v276 c1_i32_131
  let v278 : BitVec 32 := Scalar.addi v273 v277
  let c1_i32_133 : BitVec 32 := 1#32
  let arg13 : BitVec 32 := Scf.iv v278 c1_i32_133 k0_t2
  let c1024_i32_145 : BitVec 32 := 1024#32
  let v287 : BitVec 32 := Scalar.muli arg13 c1024_i32_145
  let v288 : BitVec 32 := v287
  let v289 : BitVec 32 := Scalar.addi v288 c0_i32_146
  let v296 : Index := Scalar.indexCast v289
  let c0_151 : Index := 0#32
  ![v296.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
abbrev S8192x8x128 : Shape := ⟨3, ![8192, 8, 128]⟩
abbrev S8192x8x64 : Shape := ⟨3, ![8192, 8, 64]⟩
abbrev S8192x64 : Shape := ⟨2, ![8192, 64]⟩
abbrev S8192x1x64 : Shape := ⟨3, ![8192, 1, 64]⟩
abbrev S_ : Shape := ⟨0, ![]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8 : Shape := ⟨2, ![8192, 8]⟩
abbrev S8192x8x256 : Shape := ⟨3, ![8192, 8, 256]⟩
abbrev S8192x2048 : Shape := ⟨2, ![8192, 2048]⟩
abbrev S8192x1024 : Shape := ⟨2, ![8192, 1024]⟩
abbrev S8192x8x1 : Shape := ⟨3, ![8192, 8, 1]⟩
abbrev S8192x256 : Shape := ⟨2, ![8192, 256]⟩
abbrev S1024x256 : Shape := ⟨2, ![1024, 256]⟩
abbrev S1024x128 : Shape := ⟨2, ![1024, 128]⟩
abbrev S8192x128 : Shape := ⟨2, ![8192, 128]⟩
abbrev S256x256 : Shape := ⟨2, ![256, 256]⟩
abbrev S256x128 : Shape := ⟨2, ![256, 128]⟩
abbrev S512x256 : Shape := ⟨2, ![512, 256]⟩
abbrev S256x512 : Shape := ⟨2, ![256, 512]⟩
abbrev S512x128 : Shape := ⟨2, ![512, 128]⟩
abbrev S256x1 : Shape := ⟨2, ![256, 1]⟩
abbrev S768x256 : Shape := ⟨2, ![768, 256]⟩
abbrev S256x768 : Shape := ⟨2, ![256, 768]⟩
abbrev S768x128 : Shape := ⟨2, ![768, 128]⟩
abbrev S256x1024 : Shape := ⟨2, ![256, 1024]⟩

abbrev nBuf : Space → Nat
  | .hbm => 78
  | .vmem => 20
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S8192x8x128, .f32⟩
  | .hbm, ⟨6, _⟩ => ⟨S8192x1x64, .f32⟩
  | .hbm, ⟨7, _⟩ => ⟨S8192x8x64, .f32⟩
  | .hbm, ⟨8, _⟩ => ⟨S_, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8x8192x8192, .f32⟩
  | .hbm, ⟨13, _⟩ => ⟨S8x8192x8192, .f32⟩
  | .hbm, ⟨14, _⟩ => ⟨S8x8192x8192, .f32⟩
  | .hbm, ⟨15, _⟩ => ⟨S8192, .i32⟩
  | .hbm, ⟨16, _⟩ => ⟨S1x8192, .i32⟩
  | .hbm, ⟨17, _⟩ => ⟨S8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8x8192x8192, .i1⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S8x8192x1, .f32⟩
  | .hbm, ⟨36, _⟩ => ⟨S8x8192x8192, .f32⟩
  | .hbm, ⟨37, _⟩ => ⟨S8x8192x8192, .f32⟩
  | .hbm, ⟨38, _⟩ => ⟨S8x128x8192, .f32⟩
  | .hbm, ⟨39, _⟩ => ⟨S8192x8x128, .f32⟩
  | .hbm, ⟨40, _⟩ => ⟨S8x8192, .f32⟩
  | .hbm, ⟨41, _⟩ => ⟨S8x8192, .f32⟩
  | .hbm, ⟨42, _⟩ => ⟨S_, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8192x8x128, .f32⟩
  | .hbm, ⟨47, _⟩ => ⟨S_, .f32⟩
  | .hbm, ⟨48, _⟩ => ⟨S8192x8, .f32⟩
  | .hbm, ⟨49, _⟩ => ⟨S_, .i32⟩
  | .hbm, ⟨50, _⟩ => ⟨S_, .f32⟩
  | .hbm, ⟨51, _⟩ => ⟨S8192x8x128, .f32⟩
  | .hbm, ⟨52, _⟩ => ⟨S8192x8x256, .f32⟩
  | .hbm, ⟨53, _⟩ => ⟨S8192x2048, .f32⟩
  | .hbm, ⟨54, _⟩ => ⟨S8192x2048, .bf16⟩
  | .hbm, ⟨55, _⟩ => ⟨S_, .i32⟩
  | .hbm, ⟨56, _⟩ => ⟨S_, .f32⟩
  | .hbm, ⟨57, _⟩ => ⟨S8192x8x128, .f32⟩
  | .hbm, ⟨58, _⟩ => ⟨S8192x8x256, .f32⟩
  | .hbm, ⟨59, _⟩ => ⟨S8192x2048, .f32⟩
  | .hbm, ⟨60, _⟩ => ⟨S8192x2048, .bf16⟩
  | .hbm, ⟨61, _⟩ => ⟨S8192x1024, .f32⟩
  | .hbm, ⟨62, _⟩ => ⟨S8192x1024, .f32⟩
  | .hbm, ⟨63, _⟩ => ⟨S8192x2048, .f32⟩
  | .hbm, ⟨64, _⟩ => ⟨S8192x2048, .bf16⟩
  | .hbm, ⟨65, _⟩ => ⟨S8192x8, .f32⟩
  | .hbm, ⟨66, _⟩ => ⟨S8192x8x1, .f32⟩
  | .hbm, ⟨67, _⟩ => ⟨S8192x8x64, .f32⟩
  | .hbm, ⟨68, _⟩ => ⟨S8192x8x1, .f32⟩
  | .hbm, ⟨69, _⟩ => ⟨S8192x8x64, .f32⟩
  | .hbm, ⟨70, _⟩ => ⟨S8192x8x128, .f32⟩
  | .hbm, ⟨71, _⟩ => ⟨S8192x1024, .f32⟩
  | .hbm, ⟨72, _⟩ => ⟨S8192x1024, .f32⟩
  | .hbm, ⟨73, _⟩ => ⟨S8192x1024, .bf16⟩
  | .hbm, ⟨74, _⟩ => ⟨S8192x2048, .f32⟩
  | .hbm, ⟨75, _⟩ => ⟨S8192x1024, .bf16⟩
  | .hbm, ⟨76, _⟩ => ⟨S8192x1024, .bf16⟩
  | .hbm, ⟨77, _⟩ => ⟨S8192x1024, .f32⟩
  | .local _ .vmem, ⟨0, _⟩ => ⟨S8192x256, .bf16⟩
  | .local _ .vmem, ⟨1, _⟩ => ⟨S8192x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .f32⟩
  | .local _ .vmem, ⟨9, _⟩ => ⟨S8192x128, .f32⟩
  | .local _ .vmem, ⟨10, _⟩ => ⟨S8192x256, .f32⟩
  | .local _ .vmem, ⟨11, _⟩ => ⟨S8192x256, .f32⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .f32⟩
  | .local _ .vmem, ⟨17, _⟩ => ⟨S1024x128, .f32⟩
  | .local _ .vmem, ⟨18, _⟩ => ⟨S1024x256, .f32⟩
  | .local _ .vmem, ⟨19, _⟩ => ⟨S1024x128, .f32⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_c : Ref sig .tc := ⟨.hbm, 49, rfl⟩
abbrev main_call1_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_call2_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55_0 : Ref sig .tc := ⟨.hbm, 74, rfl⟩
abbrev main_v55_1 : Ref sig .tc := ⟨.hbm, 75, rfl⟩
abbrev main_v55_2 : Ref sig .tc := ⟨.hbm, 76, rfl⟩
abbrev main_v55_3 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "mask" => some ⊥
  | "scale" => some (((Real.sqrt 192)⁻¹ : ℝ) : EReal)
  | "scale2" => some (((Real.sqrt 192)⁻¹ * (Real.log 2)⁻¹ : ℝ) : EReal)
  | _ => none

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v11 : BitVec 32 := Scalar.muli arg1 c1024_i32
  v11
def k0_off1 (i : grid0.Coords) (c0_i32_5 : BitVec 32) : Fin 2 → Nat :=
  let arg1 : BitVec 32 := BitVec.ofNat 32 (i 1).val
  let c1024_i32 : BitVec 32 := 1024#32
  let v11 : BitVec 32 := Scalar.muli arg1 c1024_i32
  let v12 : BitVec 32 := v11
  let v13 : BitVec 32 := Scalar.addi v12 c0_i32_5
  let v14 : Index := Scalar.indexCast v13
  let c0_6 : Index := 0#32
  ![v14.toNat, 0]
def k0_off2 (i : grid0.Coords) (c0_i32_5 : BitVec 32) : Fin 2 → Nat :=
  let arg1 : BitVec 32 := BitVec.ofNat 32 (i 1).val
  let c1024_i32 : BitVec 32 := 1024#32
  let v11 : BitVec 32 := Scalar.muli arg1 c1024_i32
  let v12 : BitVec 32 := v11
  let v13 : BitVec 32 := Scalar.addi v12 c0_i32_5
  let v20 : Index := Scalar.indexCast v13
  let c0_10 : Index := 0#32
  ![v20.toNat, 0]
@[reducible] def k0_t1_loop (i : grid0.Coords) : Scf.Loop 32 :=
  let arg1 : BitVec 32 := BitVec.ofNat 32 (i 1).val
  let c1_i32 : BitVec 32 := 1#32
  let v273 : BitVec 32 := Scalar.addi arg1 c1_i32
  let c8_i32 : BitVec 32 := 8#32
  let v274 : BitVec 32 := Scalar.subi c8_i32 v273
  let c1_i32_131 : BitVec 32 := 1#32
  let v276 : BitVec 32 := Scalar.divsi v274 c1_i32_131
  let v277 : BitVec 32 := Scalar.muli v276 c1_i32_131
  let v278 : BitVec 32 := Scalar.addi v273 v277
  let c1_i32_132 : BitVec 32 := 1#32
  ⟨v273, v278, c1_i32_132⟩
def k0_mult2 (i : grid0.Coords) (k0_t1 : Fin (k0_t1_loop i).trips) : BitVec 32 :=
  let arg1 : BitVec 32 := BitVec.ofNat 32 (i 1).val
  let c1_i32 : BitVec 32 := 1#32
  let v273 : BitVec 32 := Scalar.addi arg1 c1_i32
  let c1_i32_132 : BitVec 32 := 1#32
  let arg13 : BitVec 32 := Scf.iv v273 c1_i32_132 k0_t1
  let c1024_i32_145 : BitVec 32 := 1024#32
  let v287 : BitVec 32 := Scalar.muli arg13 c1024_i32_145
  v287
def k0_off3 (i : grid0.Coords) (k0_t1 : Fin (k0_t1_loop i).trips) (c0_i32_146 : BitVec 32) : Fin 2 → Nat :=
  let arg1 : BitVec 32 := BitVec.ofNat 32 (i 1).val
  let c1_i32 : BitVec 32 := 1#32
  let v273 : BitVec 32 := Scalar.addi arg1 c1_i32
  let c1_i32_132 : BitVec 32 := 1#32
  let arg13 : BitVec 32 := Scf.iv v273 c1_i32_132 k0_t1
  let c1024_i32_145 : BitVec 32 := 1024#32
  let v287 : BitVec 32 := Scalar.muli arg13 c1024_i32_145
  let v288 : BitVec 32 := v287
  let v289 : BitVec 32 := Scalar.addi v288 c0_i32_146
  let v290 : Index := Scalar.indexCast v289
  let c0_147 : Index := 0#32
  ![v290.toNat, 0]
def k0_off4 (i : grid0.Coords) (k0_t1 : Fin (k0_t1_loop i).trips) (c0_i32_146 : BitVec 32) : Fin 2 → Nat :=
  let arg1 : BitVec 32 := BitVec.ofNat 32 (i 1).val
  let c1_i32 : BitVec 32 := 1#32
  let v273 : BitVec 32 := Scalar.addi arg1 c1_i32
  let c1_i32_132 : BitVec 32 := 1#32
  let arg13 : BitVec 32 := Scf.iv v273 c1_i32_132 k0_t1
  let c1024_i32_145 : BitVec 32 := 1024#32
  let v287 : BitVec 32 := Scalar.muli arg13 c1024_i32_145
  let v288 : BitVec 32 := v287
  let v289 : BitVec 32 := Scalar.addi v288 c0_i32_146
  let v296 : Index := Scalar.indexCast v289
  let c0_151 : Index := 0#32
  ![v296.toNat, 0]
@[reducible] def k0_t2_loop (i : grid0.Coords) : Scf.Loop 32 :=
  let arg1 : BitVec 32 := BitVec.ofNat 32 (i 1).val
  let c1_i32 : BitVec 32 := 1#32
  let v273 : BitVec 32 := Scalar.addi arg1 c1_i32
  let c8_i32 : BitVec 32 := 8#32
  let v274 : BitVec 32 := Scalar.subi c8_i32 v273
  let c1_i32_131 : BitVec 32 := 1#32
  let v276 : BitVec 32 := Scalar.divsi v274 c1_i32_131
  let v277 : BitVec 32 := Scalar.muli v276 c1_i32_131
  let v278 : BitVec 32 := Scalar.addi v273 v277
  let v275 : BitVec 32 := Scalar.addi v273 v274
  let c1_i32_133 : BitVec 32 := 1#32
  ⟨v278, v275, c1_i32_133⟩
def k0_mult3 (i : grid0.Coords) (k0_t2 : Fin (k0_t2_loop i).trips) : BitVec 32 :=
  let arg1 : BitVec 32 := BitVec.ofNat 32 (i 1).val
  let c1_i32 : BitVec 32 := 1#32
  let v273 : BitVec 32 := Scalar.addi arg1 c1_i32
  let c8_i32 : BitVec 32 := 8#32
  let v274 : BitVec 32 := Scalar.subi c8_i32 v273
  let c1_i32_131 : BitVec 32 := 1#32
  let v276 : BitVec 32 := Scalar.divsi v274 c1_i32_131
  let v277 : BitVec 32 := Scalar.muli v276 c1_i32_131
  let v278 : BitVec 32 := Scalar.addi v273 v277
  let c1_i32_133 : BitVec 32 := 1#32
  let arg13 : BitVec 32 := Scf.iv v278 c1_i32_133 k0_t2
  let c1024_i32_145 : BitVec 32 := 1024#32
  let v287 : BitVec 32 := Scalar.muli arg13 c1024_i32_145
  v287
def k0_off5 (i : grid0.Coords) (k0_t2 : Fin (k0_t2_loop i).trips) (c0_i32_146 : BitVec 32) : Fin 2 → Nat :=
  let arg1 : BitVec 32 := BitVec.ofNat 32 (i 1).val
  let c1_i32 : BitVec 32 := 1#32
  let v273 : BitVec 32 := Scalar.addi arg1 c1_i32
  let c8_i32 : BitVec 32 := 8#32
  let v274 : BitVec 32 := Scalar.subi c8_i32 v273
  let c1_i32_131 : BitVec 32 := 1#32
  let v276 : BitVec 32 := Scalar.divsi v274 c1_i32_131
  let v277 : BitVec 32 := Scalar.muli v276 c1_i32_131
  let v278 : BitVec 32 := Scalar.addi v273 v277
  let c1_i32_133 : BitVec 32 := 1#32
  let arg13 : BitVec 32 := Scf.iv v278 c1_i32_133 k0_t2
  let c1024_i32_145 : BitVec 32 := 1024#32
  let v287 : BitVec 32 := Scalar.muli arg13 c1024_i32_145
  let v288 : BitVec 32 := v287
  let v289 : BitVec 32 := Scalar.addi v288 c0_i32_146
  let v290 : Index := Scalar.indexCast v289
  let c0_147 : Index := 0#32
  ![v290.toNat, 0]
def k0_off6 (i : grid0.Coords) (k0_t2 : Fin (k0_t2_loop i).trips) (c0_i32_146 : BitVec 32) : Fin 2 → Nat :=
  let arg1 : BitVec 32 := BitVec.ofNat 32 (i 1).val
  let c1_i32 : BitVec 32 := 1#32
  let v273 : BitVec 32 := Scalar.addi arg1 c1_i32
  let c8_i32 : BitVec 32 := 8#32
  let v274 : BitVec 32 := Scalar.subi c8_i32 v273
  let c1_i32_131 : BitVec 32 := 1#32
  let v276 : BitVec 32 := Scalar.divsi v274 c1_i32_131
  let v277 : BitVec 32 := Scalar.muli v276 c1_i32_131
  let v278 : BitVec 32 := Scalar.addi v273 v277
  let c1_i32_133 : BitVec 32 := 1#32
  let arg13 : BitVec 32 := Scf.iv v278 c1_i32_133 k0_t2
  let c1024_i32_145 : BitVec 32 := 1024#32
  let v287 : BitVec 32 := Scalar.muli arg13 c1024_i32_145
  let v288 : BitVec 32 := v287
  let v289 : BitVec 32 := Scalar.addi v288 c0_i32_146
  let v296 : Index := Scalar.indexCast v289
  let c0_151 : Index := 0#32
  ![v296.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8192x8x128 : Shape := ⟨3, ![8192, 8, 128]⟩
abbrev S8192x8x64 : Shape := ⟨3, ![8192, 8, 64]⟩
abbrev S8192x64 : Shape := ⟨2, ![8192, 64]⟩
abbrev S8192x1x64 : Shape := ⟨3, ![8192, 1, 64]⟩
abbrev S_ : Shape := ⟨0, ![]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x64 : Shape := ⟨3, ![8, 8192, 64]⟩
abbrev S8x8192x128 : Shape := ⟨3, ![8, 8192, 128]⟩
abbrev S8192x8x256 : Shape := ⟨3, ![8192, 8, 256]⟩
abbrev S8192x2048 : Shape := ⟨2, ![8192, 2048]⟩
abbrev S8192x1024 : Shape := ⟨2, ![8192, 1024]⟩

abbrev nBuf : Space → Nat
  | .hbm => 113
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S8192x8x128, .f32⟩
  | .hbm, ⟨6, _⟩ => ⟨S8192x1x64, .f32⟩
  | .hbm, ⟨7, _⟩ => ⟨S8192x8x64, .f32⟩
  | .hbm, ⟨8, _⟩ => ⟨S_, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8x8192x8192, .f32⟩
  | .hbm, ⟨13, _⟩ => ⟨S8x8192x8192, .f32⟩
  | .hbm, ⟨14, _⟩ => ⟨S8x8192x8192, .f32⟩
  | .hbm, ⟨15, _⟩ => ⟨S8192, .i32⟩
  | .hbm, ⟨16, _⟩ => ⟨S1x8192, .i32⟩
  | .hbm, ⟨17, _⟩ => ⟨S8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8x8192x8192, .i1⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S8x8192x1, .f32⟩
  | .hbm, ⟨32, _⟩ => ⟨S8x8192x8192, .f32⟩
  | .hbm, ⟨33, _⟩ => ⟨S8x8192x8192, .i1⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S_, .f32⟩
  | .hbm, ⟨38, _⟩ => ⟨S8x8192, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S8x8192, .i1⟩
  | .hbm, ⟨43, _⟩ => ⟨S_, .f32⟩
  | .hbm, ⟨44, _⟩ => ⟨S8x8192, .f32⟩
  | .hbm, ⟨45, _⟩ => ⟨S8x8192, .i1⟩
  | .hbm, ⟨46, _⟩ => ⟨S_, .f32⟩
  | .hbm, ⟨47, _⟩ => ⟨S8x8192, .f32⟩
  | .hbm, ⟨48, _⟩ => ⟨S_, .f32⟩
  | .hbm, ⟨49, _⟩ => ⟨S8x8192, .f32⟩
  | .hbm, ⟨50, _⟩ => ⟨S_, .f32⟩
  | .hbm, ⟨51, _⟩ => ⟨S8x8192, .f32⟩
  | .hbm, ⟨52, _⟩ => ⟨S8x8192, .f32⟩
  | .hbm, ⟨53, _⟩ => ⟨S8x8192, .f32⟩
  | .hbm, ⟨54, _⟩ => ⟨S8x8192x1, .f32⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S_, .f32⟩
  | .hbm, ⟨59, _⟩ => ⟨S8x8192, .f32⟩
  | .hbm, ⟨60, _⟩ => ⟨S8x8192x1, .f32⟩
  | .hbm, ⟨61, _⟩ => ⟨S8x8192x8192, .f32⟩
  | .hbm, ⟨62, _⟩ => ⟨S8x8192x8192, .f32⟩
  | .hbm, ⟨63, _⟩ => ⟨S8x8192x1, .f32⟩
  | .hbm, ⟨64, _⟩ => ⟨S_, .f32⟩
  | .hbm, ⟨65, _⟩ => ⟨S8x8192x1, .f32⟩
  | .hbm, ⟨66, _⟩ => ⟨S8x8192x1, .f32⟩
  | .hbm, ⟨67, _⟩ => ⟨S8x128x8192, .f32⟩
  | .hbm, ⟨68, _⟩ => ⟨S8192x8x128, .f32⟩
  | .hbm, ⟨69, _⟩ => ⟨S8x128x8192, .f32⟩
  | .hbm, ⟨70, _⟩ => ⟨S8x8192x8192, .f32⟩
  | .hbm, ⟨71, _⟩ => ⟨S8x128x8192, .f32⟩
  | .hbm, ⟨72, _⟩ => ⟨S8192x8x128, .f32⟩
  | .hbm, ⟨73, _⟩ => ⟨S8x8192x8192, .f32⟩
  | .hbm, ⟨74, _⟩ => ⟨S8x8192x8192, .f32⟩
  | .hbm, ⟨75, _⟩ => ⟨S8x8192x8192, .f32⟩
  | .hbm, ⟨76, _⟩ => ⟨S_, .f32⟩
  | .hbm, ⟨77, _⟩ => ⟨S8x8192, .f32⟩
  | .hbm, ⟨78, _⟩ => ⟨S8x8192x1, .f32⟩
  | .hbm, ⟨79, _⟩ => ⟨S8x8192x1, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192, .f32⟩
  | .hbm, ⟨84, _⟩ => ⟨S8x8192x8192, .f32⟩
  | .hbm, ⟨85, _⟩ => ⟨S8x8192x8192, .f32⟩
  | .hbm, ⟨86, _⟩ => ⟨S8x8192x8192, .f32⟩
  | .hbm, ⟨87, _⟩ => ⟨S_, .f32⟩
  | .hbm, ⟨88, _⟩ => ⟨S8x8192x8192, .f32⟩
  | .hbm, ⟨89, _⟩ => ⟨S8x8192x8192, .f32⟩
  | .hbm, ⟨90, _⟩ => ⟨S8x8192x8192, .f32⟩
  | .hbm, ⟨91, _⟩ => ⟨S8x8192x8192, .f32⟩
  | .hbm, ⟨92, _⟩ => ⟨S8x8192x64, .f32⟩
  | .hbm, ⟨93, _⟩ => ⟨S8192x8x64, .f32⟩
  | .hbm, ⟨94, _⟩ => ⟨S8x8192x64, .f32⟩
  | .hbm, ⟨95, _⟩ => ⟨S8192x8x64, .f32⟩
  | .hbm, ⟨96, _⟩ => ⟨S8x8192x128, .f32⟩
  | .hbm, ⟨97, _⟩ => ⟨S8192x8x128, .f32⟩
  | .hbm, ⟨98, _⟩ => ⟨S8x8192x128, .f32⟩
  | .hbm, ⟨99, _⟩ => ⟨S8192x8x128, .f32⟩
  | .hbm, ⟨100, _⟩ => ⟨S_, .i32⟩
  | .hbm, ⟨101, _⟩ => ⟨S_, .f32⟩
  | .hbm, ⟨102, _⟩ => ⟨S8192x8x128, .f32⟩
  | .hbm, ⟨103, _⟩ => ⟨S8192x8x256, .f32⟩
  | .hbm, ⟨104, _⟩ => ⟨S8192x2048, .f32⟩
  | .hbm, ⟨105, _⟩ => ⟨S8192x1024, .f32⟩
  | .hbm, ⟨106, _⟩ => ⟨S8192x1024, .bf16⟩
  | .hbm, ⟨107, _⟩ => ⟨S8192x1024, .f32⟩
  | .hbm, ⟨108, _⟩ => ⟨S8192x1024, .bf16⟩
  | .hbm, ⟨109, _⟩ => ⟨S_, .i32⟩
  | .hbm, ⟨110, _⟩ => ⟨S_, .f32⟩
  | .hbm, ⟨111, _⟩ => ⟨S8192x8x128, .f32⟩
  | .hbm, ⟨112, _⟩ => ⟨S8192x1024, .f32⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_v15_1 : Ref sig .tc := ⟨.hbm, 24, rfl⟩
abbrev main_call0_v2 : Ref sig .tc := ⟨.hbm, 25, rfl⟩
abbrev main_v15_0 : Ref sig .tc := ⟨.hbm, 26, rfl⟩
abbrev main_call0_cst : Ref sig .tc := ⟨.hbm, 27, rfl⟩
abbrev main_v15_2 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c : Ref sig .tc := ⟨.hbm, 100, rfl⟩
abbrev main_call2_v0 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_13 : Ref sig .tc := ⟨.hbm, 109, rfl⟩
abbrev main_call3_v0 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]
-- ==== Fwd.lean ====
abbrev S8192x8x128 : Shape := ⟨3, ![8192, 8, 128]⟩
abbrev S8192x8x64 : Shape := ⟨3, ![8192, 8, 64]⟩
abbrev S8192x64 : Shape := ⟨2, ![8192, 64]⟩
abbrev S8192x1x64 : Shape := ⟨3, ![8192, 1, 64]⟩
abbrev S_ : Shape := ⟨0, ![]⟩
abbrev S8192x8x256 : Shape := ⟨3, ![8192, 8, 256]⟩
abbrev S8192x2048 : Shape := ⟨2, ![8192, 2048]⟩
abbrev S8192x1024 : Shape := ⟨2, ![8192, 1024]⟩
abbrev S2048x256 : Shape := ⟨2, ![2048, 256]⟩
abbrev S8192x256 : Shape := ⟨2, ![8192, 256]⟩
abbrev S8192x128 : Shape := ⟨2, ![8192, 128]⟩
abbrev S2048x128 : Shape := ⟨2, ![2048, 128]⟩
abbrev S2048x1 : Shape := ⟨2, ![2048, 1]⟩
abbrev S256x256 : Shape := ⟨2, ![256, 256]⟩
abbrev S256x2048 : Shape := ⟨2, ![256, 2048]⟩
abbrev S256x1 : Shape := ⟨2, ![256, 1]⟩
abbrev S256 : Shape := ⟨1, ![256]⟩
abbrev S256x128 : Shape := ⟨2, ![256, 128]⟩
abbrev S512x256 : Shape := ⟨2, ![512, 256]⟩
abbrev S256x512 : Shape := ⟨2, ![256, 512]⟩
abbrev S768x256 : Shape := ⟨2, ![768, 256]⟩
abbrev S256x768 : Shape := ⟨2, ![256, 768]⟩
abbrev S512x128 : Shape := ⟨2, ![512, 128]⟩
abbrev S1024x256 : Shape := ⟨2, ![1024, 256]⟩
abbrev S256x1024 : Shape := ⟨2, ![256, 1024]⟩
abbrev S768x128 : Shape := ⟨2, ![768, 128]⟩
abbrev S1280x256 : Shape := ⟨2, ![1280, 256]⟩
abbrev S256x1280 : Shape := ⟨2, ![256, 1280]⟩
abbrev S1024x128 : Shape := ⟨2, ![1024, 128]⟩
abbrev S1536x256 : Shape := ⟨2, ![1536, 256]⟩
abbrev S256x1536 : Shape := ⟨2, ![256, 1536]⟩
abbrev S1280x128 : Shape := ⟨2, ![1280, 128]⟩
abbrev S1792x256 : Shape := ⟨2, ![1792, 256]⟩
abbrev S256x1792 : Shape := ⟨2, ![256, 1792]⟩
abbrev S1536x128 : Shape := ⟨2, ![1536, 128]⟩
abbrev S1792x128 : Shape := ⟨2, ![1792, 128]⟩

abbrev nBuf : Space → Nat
  | .hbm => 25
  | .vmem => 13
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S8192x1x64, .f32⟩
  | .hbm, ⟨6, _⟩ => ⟨S8192x8x64, .f32⟩
  | .hbm, ⟨7, _⟩ => ⟨S_, .i32⟩
  | .hbm, ⟨8, _⟩ => ⟨S_, .f32⟩
  | .hbm, ⟨9, _⟩ => ⟨S8192x8x128, .f32⟩
  | .hbm, ⟨10, _⟩ => ⟨S8192x8x256, .f32⟩
  | .hbm, ⟨11, _⟩ => ⟨S8192x2048, .f32⟩
  | .hbm, ⟨12, _⟩ => ⟨S8192x2048, .bf16⟩
  | .hbm, ⟨13, _⟩ => ⟨S_, .i32⟩
  | .hbm, ⟨14, _⟩ => ⟨S_, .f32⟩
  | .hbm, ⟨15, _⟩ => ⟨S8192x8x128, .f32⟩
  | .hbm, ⟨16, _⟩ => ⟨S8192x8x256, .f32⟩
  | .hbm, ⟨17, _⟩ => ⟨S8192x2048, .f32⟩
  | .hbm, ⟨18, _⟩ => ⟨S8192x2048, .bf16⟩
  | .hbm, ⟨19, _⟩ => ⟨S8192x1024, .f32⟩
  | .hbm, ⟨20, _⟩ => ⟨S8192x1024, .f32⟩
  | .hbm, ⟨21, _⟩ => ⟨S8192x2048, .f32⟩
  | .hbm, ⟨22, _⟩ => ⟨S8192x2048, .bf16⟩
  | .hbm, ⟨23, _⟩ => ⟨S8192x1024, .bf16⟩
  | .hbm, ⟨24, _⟩ => ⟨S8192x1024, .f32⟩
  | .local _ .vmem, ⟨0, _⟩ => ⟨S2048x256, .bf16⟩
  | .local _ .vmem, ⟨1, _⟩ => ⟨S2048x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x1, .f32⟩
  | .local _ .vmem, ⟨11, _⟩ => ⟨S2048x1, .f32⟩
  | .local _ .vmem, ⟨12, _⟩ => ⟨S2048x128, .f32⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_7 : BitVec 32 := 0#32
  let arg1 : BitVec 32 := BitVec.ofNat 32 (i 1).val
  let v12 : BitVec 32 := Scalar.subi arg1 c0_i32_7
  let c1_i32 : BitVec 32 := 1#32
  let v14 : BitVec 32 := Scalar.divsi v12 c1_i32
  let v15 : BitVec 32 := Scalar.muli v14 c1_i32
  let v16 : BitVec 32 := Scalar.addi c0_i32_7 v15
  let c1_i32_8 : BitVec 32 := 1#32
  ⟨c0_i32_7, v16, c1_i32_8⟩
def k0_mult1 (i : grid0.Coords) (k0_t1 : Fin (k0_t1_loop i).trips) : BitVec 32 :=
  let c0_i32_7 : BitVec 32 := 0#32
  let c1_i32_8 : BitVec 32 := 1#32
  let arg10 : BitVec 32 := Scf.iv c0_i32_7 c1_i32_8 k0_t1
  let c2048_i32_116 : BitVec 32 := 2048#32
  let v370 : BitVec 32 := Scalar.muli arg10 c2048_i32_116
  v370
def k0_off1 (i : grid0.Coords) (k0_t1 : Fin (k0_t1_loop i).trips) : Fin 2 → Nat :=
  let c0_i32_7 : BitVec 32 := 0#32
  let c1_i32_8 : BitVec 32 := 1#32
  let arg10 : BitVec 32 := Scf.iv c0_i32_7 c1_i32_8 k0_t1
  let c2048_i32_116 : BitVec 32 := 2048#32
  let v370 : BitVec 32 := Scalar.muli arg10 c2048_i32_116
  let v371 : BitVec 32 := v370
  let v377 : Index := Scalar.indexCast v371
  let c0_125 : Index := 0#32
  ![v377.toNat, 0]
def k0_off2 (i : grid0.Coords) (k0_t1 : Fin (k0_t1_loop i).trips) : Fin 2 → Nat :=
  let c0_i32_7 : BitVec 32 := 0#32
  let c1_i32_8 : BitVec 32 := 1#32
  let arg10 : BitVec 32 := Scf.iv c0_i32_7 c1_i32_8 k0_t1
  let c2048_i32_116 : BitVec 32 := 2048#32
  let v370 : BitVec 32 := Scalar.muli arg10 c2048_i32_116
  let v371 : BitVec 32 := v370
  let v401 : Index := Scalar.indexCast v371
  let c0_134 : Index := 0#32
  ![v401.toNat, 0]
@[reducible] def k0_t2_loop (i : grid0.Coords) : Scf.Loop 32 :=
  let c0_i32_7 : BitVec 32 := 0#32
  let arg1 : BitVec 32 := BitVec.ofNat 32 (i 1).val
  let v12 : BitVec 32 := Scalar.subi arg1 c0_i32_7
  let c1_i32 : BitVec 32 := 1#32
  let v14 : BitVec 32 := Scalar.divsi v12 c1_i32
  let v15 : BitVec 32 := Scalar.muli v14 c1_i32
  let v16 : BitVec 32 := Scalar.addi c0_i32_7 v15
  let v13 : BitVec 32 := Scalar.addi c0_i32_7 v12
  let c1_i32_9 : BitVec 32 := 1#32
  ⟨v16, v13, c1_i32_9⟩
def k0_mult2 (i : grid0.Coords) (k0_t2 : Fin (k0_t2_loop i).trips) : BitVec 32 :=
  let c0_i32_7 : BitVec 32 := 0#32
  let arg1 : BitVec 32 := BitVec.ofNat 32 (i 1).val
  let v12 : BitVec 32 := Scalar.subi arg1 c0_i32_7
  let c1_i32 : BitVec 32 := 1#32
  let v14 : BitVec 32 := Scalar.divsi v12 c1_i32
  let v15 : BitVec 32 := Scalar.muli v14 c1_i32
  let v16 : BitVec 32 := Scalar.addi c0_i32_7 v15
  let c1_i32_9 : BitVec 32 := 1#32
  let arg10 : BitVec 32 := Scf.iv v16 c1_i32_9 k0_t2
  let c2048_i32_116 : BitVec 32 := 2048#32
  let v370 : BitVec 32 := Scalar.muli arg10 c2048_i32_116
  v370
def k0_off3 (i : grid0.Coords) (k0_t2 : Fin (k0_t2_loop i).trips) : Fin 2 → Nat :=
  let c0_i32_7 : BitVec 32 := 0#32
  let arg1 : BitVec 32 := BitVec.ofNat 32 (i 1).val
  let v12 : BitVec 32 := Scalar.subi arg1 c0_i32_7
  let c1_i32 : BitVec 32 := 1#32
  let v14 : BitVec 32 := Scalar.divsi v12 c1_i32
  let v15 : BitVec 32 := Scalar.muli v14 c1_i32
  let v16 : BitVec 32 := Scalar.addi c0_i32_7 v15
  let c1_i32_9 : BitVec 32 := 1#32
  let arg10 : BitVec 32 := Scf.iv v16 c1_i32_9 k0_t2
  let c2048_i32_116 : BitVec 32 := 2048#32
  let v370 : BitVec 32 := Scalar.muli arg10 c2048_i32_116
  let v371 : BitVec 32 := v370
  let v377 : Index := Scalar.indexCast v371
  let c0_125 : Index := 0#32
  ![v377.toNat, 0]
def k0_off4 (i : grid0.Coords) (k0_t2 : Fin (k0_t2_loop i).trips) : Fin 2 → Nat :=
  let c0_i32_7 : BitVec 32 := 0#32
  let arg1 : BitVec 32 := BitVec.ofNat 32 (i 1).val
  let v12 : BitVec 32 := Scalar.subi arg1 c0_i32_7
  let c1_i32 : BitVec 32 := 1#32
  let v14 : BitVec 32 := Scalar.divsi v12 c1_i32
  let v15 : BitVec 32 := Scalar.muli v14 c1_i32
  let v16 : BitVec 32 := Scalar.addi c0_i32_7 v15
  let c1_i32_9 : BitVec 32 := 1#32
  let arg10 : BitVec 32 := Scf.iv v16 c1_i32_9 k0_t2
  let c2048_i32_116 : BitVec 32 := 2048#32
  let v370 : BitVec 32 := Scalar.muli arg10 c2048_i32_116
  let v371 : BitVec 32 := v370
  let v401 : Index := Scalar.indexCast v371
  let c0_134 : Index := 0#32
  ![v401.toNat, 0]
def k0_mult3 (i : grid0.Coords) : BitVec 32 :=
  let arg1 : BitVec 32 := BitVec.ofNat 32 (i 1).val
  let c2048_i32 : BitVec 32 := 2048#32
  let v17 : BitVec 32 := Scalar.muli arg1 c2048_i32
  v17
def k0_off5 (i : grid0.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v24 : Index := Scalar.indexCast v18
  let c0_18 : Index := 0#32
  ![v24.toNat, 0]
def k0_off6 (i : grid0.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v30 : Index := Scalar.indexCast v18
  let c0_21 : Index := 0#32
  ![v30.toNat, 0]
def k0_off7 (i : grid0.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v55 : Index := Scalar.indexCast v18
  let c0_28 : Index := 0#32
  ![v55.toNat, 0]
def k0_off8 (i : grid0.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v70 : Index := Scalar.indexCast v18
  let c0_32 : Index := 0#32
  ![v70.toNat, 0]
def k0_off9 (i : grid0.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v95 : Index := Scalar.indexCast v18
  let c0_38 : Index := 0#32
  ![v95.toNat, 0]
def k0_off10 (i : grid0.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v110 : Index := Scalar.indexCast v18
  let c0_42 : Index := 0#32
  ![v110.toNat, 0]
def k0_off11 (i : grid0.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v135 : Index := Scalar.indexCast v18
  let c0_48 : Index := 0#32
  ![v135.toNat, 0]
def k0_off12 (i : grid0.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v150 : Index := Scalar.indexCast v18
  let c0_52 : Index := 0#32
  ![v150.toNat, 0]
def k0_off13 (i : grid0.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v175 : Index := Scalar.indexCast v18
  let c0_58 : Index := 0#32
  ![v175.toNat, 0]
def k0_off14 (i : grid0.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v190 : Index := Scalar.indexCast v18
  let c0_62 : Index := 0#32
  ![v190.toNat, 0]
def k0_off15 (i : grid0.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v215 : Index := Scalar.indexCast v18
  let c0_68 : Index := 0#32
  ![v215.toNat, 0]
def k0_off16 (i : grid0.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v230 : Index := Scalar.indexCast v18
  let c0_72 : Index := 0#32
  ![v230.toNat, 0]
def k0_off17 (i : grid0.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v255 : Index := Scalar.indexCast v18
  let c0_78 : Index := 0#32
  ![v255.toNat, 0]
def k0_off18 (i : grid0.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v270 : Index := Scalar.indexCast v18
  let c0_82 : Index := 0#32
  ![v270.toNat, 0]
def k0_off19 (i : grid0.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v295 : Index := Scalar.indexCast v18
  let c0_88 : Index := 0#32
  ![v295.toNat, 0]
def k0_off20 (i : grid0.Coords) : Fin 2 → Nat :=
  let arg1 : BitVec 32 := BitVec.ofNat 32 (i 1).val
  let c2048_i32 : BitVec 32 := 2048#32
  let v17 : BitVec 32 := Scalar.muli arg1 c2048_i32
  let v18 : BitVec 32 := v17
  let v329 : Index := Scalar.indexCast v18
  let c0_95 : Index := 0#32
  ![v329.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdIdeal.lean ====
variable {F : FTy → Type} [FloatOps F] [Named F]
def κ : String → Option EReal := fun
  | "log2e" => some (((Real.log 2)⁻¹ : ℝ) : EReal)
  | "mask" => some ⊥
  | "scale2" => some (((Real.sqrt 192)⁻¹ * (Real.log 2)⁻¹ : ℝ) : EReal)
  | _ => none
-- ==== FwdReferenceIdeal.lean ====
abbrev S8192x8x128 : Shape := ⟨3, ![8192, 8, 128]⟩
abbrev S8192x8x64 : Shape := ⟨3, ![8192, 8, 64]⟩
abbrev S8192x64 : Shape := ⟨2, ![8192, 64]⟩
abbrev S8192x1x64 : Shape := ⟨3, ![8192, 1, 64]⟩
abbrev S_ : Shape := ⟨0, ![]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x1024 : Shape := ⟨2, ![8192, 1024]⟩
abbrev S8192x8 : Shape := ⟨2, ![8192, 8]⟩
abbrev S8192x8x1 : Shape := ⟨3, ![8192, 8, 1]⟩

abbrev nBuf : Space → Nat
  | .hbm => 81
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S8192x1x64, .f32⟩
  | .hbm, ⟨6, _⟩ => ⟨S8192x8x64, .f32⟩
  | .hbm, ⟨7, _⟩ => ⟨S_, .f32⟩
  | .hbm, ⟨8, _⟩ => ⟨S_, .f32⟩
  | .hbm, ⟨9, _⟩ => ⟨S8x8192x8192, .f32⟩
  | .hbm, ⟨10, _⟩ => ⟨S8x8192x8192, .f32⟩
  | .hbm, ⟨11, _⟩ => ⟨S8x8192x8192, .f32⟩
  | .hbm, ⟨12, _⟩ => ⟨S8x8192x8192, .f32⟩
  | .hbm, ⟨13, _⟩ => ⟨S8x8192x8192, .f32⟩
  | .hbm, ⟨14, _⟩ => ⟨S8192, .i32⟩
  | .hbm, ⟨15, _⟩ => ⟨S1x8192, .i32⟩
  | .hbm, ⟨16, _⟩ => ⟨S8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S_, .f32⟩
  | .hbm, ⟨29, _⟩ => ⟨S8x8192, .f32⟩
  | .hbm, ⟨30, _⟩ => ⟨S8x8192, .f32⟩
  | .hbm, ⟨31, _⟩ => ⟨S8x8192x1, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x8192, .f32⟩
  | .hbm, ⟨39, _⟩ => ⟨S8x8192x8192, .f32⟩
  | .hbm, ⟨40, _⟩ => ⟨S8x128x8192, .f32⟩
  | .hbm, ⟨41, _⟩ => ⟨S8192x8x128, .f32⟩
  | .hbm, ⟨42, _⟩ => ⟨S_, .f32⟩
  | .hbm, ⟨43, _⟩ => ⟨S_, .f32⟩
  | .hbm, ⟨44, _⟩ => ⟨S8x8192x8192, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S8192, .i32⟩
  | .hbm, ⟨50, _⟩ => ⟨S1x8192, .i32⟩
  | .hbm, ⟨51, _⟩ => ⟨S8192, .i32⟩
  | .hbm, ⟨52, _⟩ => ⟨S8192x1, .i32⟩
  | .hbm, ⟨53, _⟩ => ⟨S8192x8192, .i32⟩
  | .hbm, ⟨54, _⟩ => ⟨S8192x8192, .i32⟩
  | .hbm, ⟨55, _⟩ => ⟨S8192x8192, .i1⟩
  | .hbm, ⟨56, _⟩ => ⟨S_, .f32⟩
  | .hbm, ⟨57, _⟩ => ⟨S_, .f32⟩
  | .hbm, ⟨58, _⟩ => ⟨S8x8192x8192, .i1⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S8x8192, .f32⟩
  | .hbm, ⟨63, _⟩ => ⟨S8x8192x1, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S8x8192, .f32⟩
  | .hbm, ⟨69, _⟩ => ⟨S8x8192, .f32⟩
  | .hbm, ⟨70, _⟩ => ⟨S8x8192, .f32⟩
  | .hbm, ⟨71, _⟩ => ⟨S_, .f32⟩
  | .hbm, ⟨72, _⟩ => ⟨S_, .f32⟩
  | .hbm, ⟨73, _⟩ => ⟨S8x8192, .f32⟩
  | .hbm, ⟨74, _⟩ => ⟨S8x8192, .f32⟩
  | .hbm, ⟨75, _⟩ => ⟨S8192x1024, .f32⟩
  | .hbm, ⟨76, _⟩ => ⟨S8192x1024, .bf16⟩
  | .hbm, ⟨77, _⟩ => ⟨S8192x8, .f32⟩
  | .hbm, ⟨78, _⟩ => ⟨S8192x8x1, .f32⟩
  | .hbm, ⟨79, _⟩ => ⟨S8192x8x128, .f32⟩
  | .hbm, ⟨80, _⟩ => ⟨S8192x1024, .f32⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Proj.lean ====
abbrev S8192x2048 : Shape := ⟨2, ![8192, 2048]⟩
abbrev S2048x4608 : Shape := ⟨2, ![2048, 4608]⟩
abbrev S8192x4608 : Shape := ⟨2, ![8192, 4608]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S8192x2048, .bf16⟩
  | .hbm, ⟨3, _⟩ => ⟨S2048x4608, .bf16⟩
  | .hbm, ⟨4, _⟩ => ⟨S8192x4608, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjIdeal.lean ====
abbrev S8192x2048 : Shape := ⟨2, ![8192, 2048]⟩
abbrev S2048x4608 : Shape := ⟨2, ![2048, 4608]⟩
abbrev S8192x4608 : Shape := ⟨2, ![8192, 4608]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S8192x2048, .bf16⟩
  | .hbm, ⟨3, _⟩ => ⟨S2048x4608, .bf16⟩
  | .hbm, ⟨4, _⟩ => ⟨S8192x4608, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S8192x2048 : Shape := ⟨2, ![8192, 2048]⟩
abbrev S2048x4608 : Shape := ⟨2, ![2048, 4608]⟩
abbrev S8192x4608 : Shape := ⟨2, ![8192, 4608]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S8192x4608, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Q.lean ====
abbrev S8192x768 : Shape := ⟨2, ![8192, 768]⟩
abbrev S768x2048 : Shape := ⟨2, ![768, 2048]⟩
abbrev S8192x2048 : Shape := ⟨2, ![8192, 2048]⟩
abbrev S1024x768 : Shape := ⟨2, ![1024, 768]⟩
abbrev S768x1024 : Shape := ⟨2, ![768, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x768, .f32⟩
  | .hbm, ⟨1, _⟩ => ⟨S768x2048, .f32⟩
  | .hbm, ⟨2, _⟩ => ⟨S8192x768, .bf16⟩
  | .hbm, ⟨3, _⟩ => ⟨S768x2048, .bf16⟩
  | .hbm, ⟨4, _⟩ => ⟨S8192x2048, .f32⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | .local _ .vmem, ⟨5, _⟩ => ⟨S1024x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QIdeal.lean ====
abbrev S8192x768 : Shape := ⟨2, ![8192, 768]⟩
abbrev S768x2048 : Shape := ⟨2, ![768, 2048]⟩
abbrev S8192x2048 : Shape := ⟨2, ![8192, 2048]⟩
abbrev S1024x768 : Shape := ⟨2, ![1024, 768]⟩
abbrev S768x1024 : Shape := ⟨2, ![768, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x768, .f32⟩
  | .hbm, ⟨1, _⟩ => ⟨S768x2048, .f32⟩
  | .hbm, ⟨2, _⟩ => ⟨S8192x768, .bf16⟩
  | .hbm, ⟨3, _⟩ => ⟨S768x2048, .bf16⟩
  | .hbm, ⟨4, _⟩ => ⟨S8192x2048, .f32⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | .local _ .vmem, ⟨5, _⟩ => ⟨S1024x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QReferenceIdeal.lean ====
abbrev S8192x768 : Shape := ⟨2, ![8192, 768]⟩
abbrev S768x2048 : Shape := ⟨2, ![768, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S768x2048, .f32⟩
  | .hbm, ⟨2, _⟩ => ⟨S8192x2048, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kv.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x512, .bf16⟩
  | .hbm, ⟨3, _⟩ => ⟨S512x2048, .bf16⟩
  | .hbm, ⟨4, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvReferenceIdeal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x2048, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Mix.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixIdeal.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixReferenceIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Up.lean ====
abbrev S8192x2048 : Shape := ⟨2, ![8192, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S8192x11264 : Shape := ⟨2, ![8192, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x2048, .bf16⟩
  | .hbm, ⟨3, _⟩ => ⟨S2048x4x2816, .f32⟩
  | .hbm, ⟨4, _⟩ => ⟨S4x2048x2816, .f32⟩
  | .hbm, ⟨5, _⟩ => ⟨S4x2048x2816, .bf16⟩
  | .hbm, ⟨6, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c2_i32_10 : BitVec 32 := 2#32
  let v29 : BitVec 32 := Scalar.divsi v28 c2_i32_10
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v28 c2_i32_10
  let c0_i32_15 : BitVec 32 := 0#32
  let v42 : BitVec 1 := Scalar.cmpi .ne v41 c0_i32_15
  let v43 : BitVec 1 := Scalar.andi v40 v42
  let c1_i32_16 : BitVec 32 := 1#32
  let v44 : BitVec 32 := Scalar.subi v29 c1_i32_16
  let v45 : BitVec 32 := Scalar.select v43 v44 v29
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi arg0 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c4_i32_23 : BitVec 32 := 4#32
  let v56 : BitVec 32 := Scalar.muli v55 c4_i32_23
  let c2_i32_24 : BitVec 32 := 2#32
  let v57 : BitVec 32 := Scalar.divsi arg0 c2_i32_24
  let c0_i32_25 : BitVec 32 := 0#32
  let v58 : BitVec 1 := Scalar.cmpi .sgt arg0 c0_i32_25
  let v59 : BitVec 32 := Scalar.extui v58
  let c0_i32_26 : BitVec 32 := 0#32
  let v60 : BitVec 1 := Scalar.cmpi .slt arg0 c0_i32_26
  let v61 : BitVec 32 := Scalar.extui v60
  let v62 : BitVec 32 := Scalar.subi v59 v61
  let c0_i32_27 : BitVec 32 := 0#32
  let v63 : BitVec 1 := Scalar.cmpi .sgt c2_i32_24 c0_i32_27
  let v64 : BitVec 32 := Scalar.extui v63
  let c0_i32_28 : BitVec 32 := 0#32
  let v65 : BitVec 1 := Scalar.cmpi .slt c2_i32_24 c0_i32_28
  let v66 : BitVec 32 := Scalar.extui v65
  let v67 : BitVec 32 := Scalar.subi v64 v66
  let v68 : BitVec 1 := Scalar.cmpi .ne v62 v67
  let v69 : BitVec 32 := Scalar.remsi arg0 c2_i32_24
  let c0_i32_29 : BitVec 32 := 0#32
  let v70 : BitVec 1 := Scalar.cmpi .ne v69 c0_i32_29
  let v71 : BitVec 1 := Scalar.andi v68 v70
  let c1_i32_30 : BitVec 32 := 1#32
  let v72 : BitVec 32 := Scalar.subi v57 c1_i32_30
  let v73 : BitVec 32 := Scalar.select v71 v72 v57
  let v74 : BitVec 32 := Scalar.addi v56 v73
  let c2_i32_31 : BitVec 32 := 2#32
  let c0_i32_32 : BitVec 32 := 0#32
  let v75 : BitVec 1 := Scalar.cmpi .eq c2_i32_31 c0_i32_32
  let c1_i32_33 : BitVec 32 := 1#32
  let v76 : BitVec 32 := Scalar.select v75 c1_i32_33 c2_i32_31
  let v77 : BitVec 32 := Scalar.remsi v74 v76
  let c0_i32_34 : BitVec 32 := 0#32
  let v78 : BitVec 1 := Scalar.cmpi .ne v77 c0_i32_34
  let c0_i32_35 : BitVec 32 := 0#32
  let v79 : BitVec 1 := Scalar.cmpi .slt v77 c0_i32_35
  let c0_i32_36 : BitVec 32 := 0#32
  let v80 : BitVec 1 := Scalar.cmpi .slt v76 c0_i32_36
  let v81 : BitVec 1 := Scalar.xori v79 v80
  let v82 : BitVec 1 := Scalar.andi v81 v78
  let v83 : BitVec 32 := Scalar.addi v77 v76
  let v84 : BitVec 32 := Scalar.select v82 v83 v77
  let c0_i32_37 : BitVec 32 := 0#32
  ![v45.toNat, arg2.toNat, v84.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8192x2048 : Shape := ⟨2, ![8192, 2048]⟩
abbrev S2048x11264 : Shape := ⟨2, ![2048, 11264]⟩
abbrev S8192x11264 : Shape := ⟨2, ![8192, 11264]⟩
abbrev S8192x2x4x1408 : Shape := ⟨4, ![8192, 2, 4, 1408]⟩
abbrev S8192x4x2x1408 : Shape := ⟨4, ![8192, 4, 2, 1408]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x2x4x1408, .f32⟩
  | .hbm, ⟨4, _⟩ => ⟨S8192x4x2x1408, .f32⟩
  | .hbm, ⟨5, _⟩ => ⟨S8192x11264, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x5632, .bf16⟩
  | .hbm, ⟨3, _⟩ => ⟨S5632x2048, .bf16⟩
  | .hbm, ⟨4, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x5632, .bf16⟩
  | .hbm, ⟨3, _⟩ => ⟨S5632x2048, .bf16⟩
  | .hbm, ⟨4, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Dact.lean ====
abbrev S8192x5632 : Shape := ⟨2, ![8192, 5632]⟩
abbrev S5632x2048 : Shape := ⟨2, ![5632, 2048]⟩
abbrev S8192x2048 : Shape := ⟨2, ![8192, 2048]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .bf16⟩
  | .hbm, ⟨4, _⟩ => ⟨S5632x2048, .bf16⟩
  | .hbm, ⟨5, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactIdeal.lean ====
abbrev S8192x5632 : Shape := ⟨2, ![8192, 5632]⟩
abbrev S5632x2048 : Shape := ⟨2, ![5632, 2048]⟩
abbrev S8192x2048 : Shape := ⟨2, ![8192, 2048]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .bf16⟩
  | .hbm, ⟨4, _⟩ => ⟨S5632x2048, .bf16⟩
  | .hbm, ⟨5, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactReferenceIdeal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S2048x5632, .f32⟩
  | .hbm, ⟨5, _⟩ => ⟨S5632x2048, .f32⟩
  | .hbm, ⟨6, _⟩ => ⟨S8192x5632, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwDown.lean ====
abbrev S8192x5632 : Shape := ⟨2, ![8192, 5632]⟩
abbrev S5632x2048 : Shape := ⟨2, ![5632, 2048]⟩
abbrev S8192x2048 : Shape := ⟨2, ![8192, 2048]⟩
abbrev S4096x512 : Shape := ⟨2, ![4096, 512]⟩
abbrev S4096x2048 : Shape := ⟨2, ![4096, 2048]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S8192x2048, .bf16⟩
  | .hbm, ⟨5, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S4096x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownIdeal.lean ====
abbrev S8192x5632 : Shape := ⟨2, ![8192, 5632]⟩
abbrev S5632x2048 : Shape := ⟨2, ![5632, 2048]⟩
abbrev S8192x2048 : Shape := ⟨2, ![8192, 2048]⟩
abbrev S4096x512 : Shape := ⟨2, ![4096, 512]⟩
abbrev S4096x2048 : Shape := ⟨2, ![4096, 2048]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S8192x2048, .bf16⟩
  | .hbm, ⟨5, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S4096x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownReferenceIdeal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S2048x5632, .f32⟩
  | .hbm, ⟨5, _⟩ => ⟨S5632x2048, .f32⟩
  | .hbm, ⟨6, _⟩ => ⟨S8192x5632, .f32⟩
  | .hbm, ⟨7, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dcat.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DcatIdeal.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DcatReferenceIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwO.lean ====
abbrev S8192x2048 : Shape := ⟨2, ![8192, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOIdeal.lean ====
abbrev S8192x2048 : Shape := ⟨2, ![8192, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOReferenceIdeal.lean ====
abbrev S8192x2048 : Shape := ⟨2, ![8192, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S8192x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dh1.lean ====
abbrev S8192x2048 : Shape := ⟨2, ![8192, 2048]⟩
abbrev S2048x4608 : Shape := ⟨2, ![2048, 4608]⟩
abbrev S8192x4608 : Shape := ⟨2, ![8192, 4608]⟩
abbrev S512x4608 : Shape := ⟨2, ![512, 4608]⟩
abbrev S1024x4608 : Shape := ⟨2, ![1024, 4608]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S8192x4608, .f32⟩
  | .hbm, ⟨3, _⟩ => ⟨S8192x4608, .bf16⟩
  | .hbm, ⟨4, _⟩ => ⟨S2048x4608, .bf16⟩
  | .hbm, ⟨5, _⟩ => ⟨S8192x2048, .f32⟩
  | .local _ .vmem, ⟨0, _⟩ => ⟨S512x4608, .bf16⟩
  | .local _ .vmem, ⟨1, _⟩ => ⟨S512x4608, .bf16⟩
  | .local _ .vmem, ⟨2, _⟩ => ⟨S1024x4608, .bf16⟩
  | .local _ .vmem, ⟨3, _⟩ => ⟨S1024x4608, .bf16⟩
  | .local _ .vmem, ⟨4, _⟩ => ⟨S512x1024, .f32⟩
  | .local _ .vmem, ⟨5, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh1Ideal.lean ====
abbrev S8192x2048 : Shape := ⟨2, ![8192, 2048]⟩
abbrev S2048x4608 : Shape := ⟨2, ![2048, 4608]⟩
abbrev S8192x4608 : Shape := ⟨2, ![8192, 4608]⟩
abbrev S512x4608 : Shape := ⟨2, ![512, 4608]⟩
abbrev S1024x4608 : Shape := ⟨2, ![1024, 4608]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S8192x4608, .f32⟩
  | .hbm, ⟨3, _⟩ => ⟨S8192x4608, .bf16⟩
  | .hbm, ⟨4, _⟩ => ⟨S2048x4608, .bf16⟩
  | .hbm, ⟨5, _⟩ => ⟨S8192x2048, .f32⟩
  | .local _ .vmem, ⟨0, _⟩ => ⟨S512x4608, .bf16⟩
  | .local _ .vmem, ⟨1, _⟩ => ⟨S512x4608, .bf16⟩
  | .local _ .vmem, ⟨2, _⟩ => ⟨S1024x4608, .bf16⟩
  | .local _ .vmem, ⟨3, _⟩ => ⟨S1024x4608, .bf16⟩
  | .local _ .vmem, ⟨4, _⟩ => ⟨S512x1024, .f32⟩
  | .local _ .vmem, ⟨5, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh1ReferenceIdeal.lean ====
abbrev S8192x2048 : Shape := ⟨2, ![8192, 2048]⟩
abbrev S2048x4608 : Shape := ⟨2, ![2048, 4608]⟩
abbrev S8192x4608 : Shape := ⟨2, ![8192, 4608]⟩
abbrev S4608x2048 : Shape := ⟨2, ![4608, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S8192x4608, .f32⟩
  | .hbm, ⟨3, _⟩ => ⟨S8192x4608, .f32⟩
  | .hbm, ⟨4, _⟩ => ⟨S4608x2048, .f32⟩
  | .hbm, ⟨5, _⟩ => ⟨S2048x4608, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwIn.lean ====
abbrev S8192x2048 : Shape := ⟨2, ![8192, 2048]⟩
abbrev S2048x4608 : Shape := ⟨2, ![2048, 4608]⟩
abbrev S8192x4608 : Shape := ⟨2, ![8192, 4608]⟩
abbrev S4096x512 : Shape := ⟨2, ![4096, 512]⟩
abbrev S4096x1536 : Shape := ⟨2, ![4096, 1536]⟩
abbrev S512x1536 : Shape := ⟨2, ![512, 1536]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S8192x4608, .f32⟩
  | .hbm, ⟨3, _⟩ => ⟨S8192x2048, .bf16⟩
  | .hbm, ⟨4, _⟩ => ⟨S8192x4608, .bf16⟩
  | .hbm, ⟨5, _⟩ => ⟨S2048x4608, .bf16⟩
  | .local _ .vmem, ⟨0, _⟩ => ⟨S4096x512, .bf16⟩
  | .local _ .vmem, ⟨1, _⟩ => ⟨S4096x512, .bf16⟩
  | .local _ .vmem, ⟨2, _⟩ => ⟨S4096x1536, .bf16⟩
  | .local _ .vmem, ⟨3, _⟩ => ⟨S4096x1536, .bf16⟩
  | .local _ .vmem, ⟨4, _⟩ => ⟨S512x1536, .bf16⟩
  | .local _ .vmem, ⟨5, _⟩ => ⟨S512x1536, .bf16⟩
  | .local _ .vmem, ⟨6, _⟩ => ⟨S512x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInIdeal.lean ====
abbrev S8192x2048 : Shape := ⟨2, ![8192, 2048]⟩
abbrev S2048x4608 : Shape := ⟨2, ![2048, 4608]⟩
abbrev S8192x4608 : Shape := ⟨2, ![8192, 4608]⟩
abbrev S4096x512 : Shape := ⟨2, ![4096, 512]⟩
abbrev S4096x1536 : Shape := ⟨2, ![4096, 1536]⟩
abbrev S512x1536 : Shape := ⟨2, ![512, 1536]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S8192x4608, .f32⟩
  | .hbm, ⟨3, _⟩ => ⟨S8192x2048, .bf16⟩
  | .hbm, ⟨4, _⟩ => ⟨S8192x4608, .bf16⟩
  | .hbm, ⟨5, _⟩ => ⟨S2048x4608, .bf16⟩
  | .local _ .vmem, ⟨0, _⟩ => ⟨S4096x512, .bf16⟩
  | .local _ .vmem, ⟨1, _⟩ => ⟨S4096x512, .bf16⟩
  | .local _ .vmem, ⟨2, _⟩ => ⟨S4096x1536, .bf16⟩
  | .local _ .vmem, ⟨3, _⟩ => ⟨S4096x1536, .bf16⟩
  | .local _ .vmem, ⟨4, _⟩ => ⟨S512x1536, .bf16⟩
  | .local _ .vmem, ⟨5, _⟩ => ⟨S512x1536, .bf16⟩
  | .local _ .vmem, ⟨6, _⟩ => ⟨S512x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInReferenceIdeal.lean ====
abbrev S8192x2048 : Shape := ⟨2, ![8192, 2048]⟩
abbrev S2048x4608 : Shape := ⟨2, ![2048, 4608]⟩
abbrev S8192x4608 : Shape := ⟨2, ![8192, 4608]⟩
abbrev S4608x2048 : Shape := ⟨2, ![4608, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S8192x4608, .f32⟩
  | .hbm, ⟨3, _⟩ => ⟨S8192x4608, .f32⟩
  | .hbm, ⟨4, _⟩ => ⟨S4608x2048, .f32⟩
  | .hbm, ⟨5, _⟩ => ⟨S2048x4608, .f32⟩
  | .hbm, ⟨6, _⟩ => ⟨S8192x2048, .f32⟩
  | .hbm, ⟨7, _⟩ => ⟨S2048x4608, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dqn.lean ====
abbrev S8192x768 : Shape := ⟨2, ![8192, 768]⟩
abbrev S768x2048 : Shape := ⟨2, ![768, 2048]⟩
abbrev S8192x2048 : Shape := ⟨2, ![8192, 2048]⟩
abbrev S1024x2048 : Shape := ⟨2, ![1024, 2048]⟩
abbrev S1024x768 : Shape := ⟨2, ![1024, 768]⟩

abbrev nBuf : Space → Nat
  | .hbm => 6
  | .vmem => 5
  | .smem => 0
  | _ => 0

abbrev bufTy : (tb : Table) → Fin (tcTables nBuf tb) → BufTy
  | .hbm, ⟨0, _⟩ => ⟨S8192x768, .f32⟩
  | .hbm, ⟨1, _⟩ => ⟨S768x2048, .f32⟩
  | .hbm, ⟨2, _⟩ => ⟨S8192x2048, .f32⟩
  | .hbm, ⟨3, _⟩ => ⟨S8192x2048, .bf16⟩
  | .hbm, ⟨4, _⟩ => ⟨S768x2048, .bf16⟩
  | .hbm, ⟨5, _⟩ => ⟨S8192x768, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S1024x768, .f32⟩
  | .local _ .vmem, ⟨4, _⟩ => ⟨S1024x768, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DqnIdeal.lean ====
abbrev S8192x768 : Shape := ⟨2, ![8192, 768]⟩
abbrev S768x2048 : Shape := ⟨2, ![768, 2048]⟩
abbrev S8192x2048 : Shape := ⟨2, ![8192, 2048]⟩
abbrev S1024x2048 : Shape := ⟨2, ![1024, 2048]⟩
abbrev S1024x768 : Shape := ⟨2, ![1024, 768]⟩

abbrev nBuf : Space → Nat
  | .hbm => 6
  | .vmem => 5
  | .smem => 0
  | _ => 0

abbrev bufTy : (tb : Table) → Fin (tcTables nBuf tb) → BufTy
  | .hbm, ⟨0, _⟩ => ⟨S8192x768, .f32⟩
  | .hbm, ⟨1, _⟩ => ⟨S768x2048, .f32⟩
  | .hbm, ⟨2, _⟩ => ⟨S8192x2048, .f32⟩
  | .hbm, ⟨3, _⟩ => ⟨S8192x2048, .bf16⟩
  | .hbm, ⟨4, _⟩ => ⟨S768x2048, .bf16⟩
  | .hbm, ⟨5, _⟩ => ⟨S8192x768, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S1024x768, .f32⟩
  | .local _ .vmem, ⟨4, _⟩ => ⟨S1024x768, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DqnReferenceIdeal.lean ====
abbrev S8192x768 : Shape := ⟨2, ![8192, 768]⟩
abbrev S768x2048 : Shape := ⟨2, ![768, 2048]⟩
abbrev S8192x2048 : Shape := ⟨2, ![8192, 2048]⟩
abbrev S2048x768 : Shape := ⟨2, ![2048, 768]⟩

abbrev nBuf : Space → Nat
  | .hbm => 7
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S768x2048, .f32⟩
  | .hbm, ⟨2, _⟩ => ⟨S8192x2048, .f32⟩
  | .hbm, ⟨3, _⟩ => ⟨S8192x2048, .f32⟩
  | .hbm, ⟨4, _⟩ => ⟨S2048x768, .f32⟩
  | .hbm, ⟨5, _⟩ => ⟨S768x2048, .f32⟩
  | .hbm, ⟨6, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwUq.lean ====
abbrev S8192x768 : Shape := ⟨2, ![8192, 768]⟩
abbrev S768x2048 : Shape := ⟨2, ![768, 2048]⟩
abbrev S8192x2048 : Shape := ⟨2, ![8192, 2048]⟩
abbrev S1024x768 : Shape := ⟨2, ![1024, 768]⟩
abbrev S1024x1024 : Shape := ⟨2, ![1024, 1024]⟩
abbrev S768x1024 : Shape := ⟨2, ![768, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x768, .f32⟩
  | .hbm, ⟨1, _⟩ => ⟨S768x2048, .f32⟩
  | .hbm, ⟨2, _⟩ => ⟨S8192x2048, .f32⟩
  | .hbm, ⟨3, _⟩ => ⟨S8192x768, .bf16⟩
  | .hbm, ⟨4, _⟩ => ⟨S8192x2048, .bf16⟩
  | .hbm, ⟨5, _⟩ => ⟨S768x2048, .bf16⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUqIdeal.lean ====
abbrev S8192x768 : Shape := ⟨2, ![8192, 768]⟩
abbrev S768x2048 : Shape := ⟨2, ![768, 2048]⟩
abbrev S8192x2048 : Shape := ⟨2, ![8192, 2048]⟩
abbrev S1024x768 : Shape := ⟨2, ![1024, 768]⟩
abbrev S1024x1024 : Shape := ⟨2, ![1024, 1024]⟩
abbrev S768x1024 : Shape := ⟨2, ![768, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x768, .f32⟩
  | .hbm, ⟨1, _⟩ => ⟨S768x2048, .f32⟩
  | .hbm, ⟨2, _⟩ => ⟨S8192x2048, .f32⟩
  | .hbm, ⟨3, _⟩ => ⟨S8192x768, .bf16⟩
  | .hbm, ⟨4, _⟩ => ⟨S8192x2048, .bf16⟩
  | .hbm, ⟨5, _⟩ => ⟨S768x2048, .bf16⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUqReferenceIdeal.lean ====
abbrev S8192x768 : Shape := ⟨2, ![8192, 768]⟩
abbrev S768x2048 : Shape := ⟨2, ![768, 2048]⟩
abbrev S8192x2048 : Shape := ⟨2, ![8192, 2048]⟩
abbrev S2048x768 : Shape := ⟨2, ![2048, 768]⟩

abbrev nBuf : Space → Nat
  | .hbm => 8
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S768x2048, .f32⟩
  | .hbm, ⟨2, _⟩ => ⟨S8192x2048, .f32⟩
  | .hbm, ⟨3, _⟩ => ⟨S8192x2048, .f32⟩
  | .hbm, ⟨4, _⟩ => ⟨S2048x768, .f32⟩
  | .hbm, ⟨5, _⟩ => ⟨S768x2048, .f32⟩
  | .hbm, ⟨6, _⟩ => ⟨S8192x768, .f32⟩
  | .hbm, ⟨7, _⟩ => ⟨S768x2048, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dkvn.lean ====
abbrev S8192x512 : Shape := ⟨2, ![8192, 512]⟩
abbrev S512x2048 : Shape := ⟨2, ![512, 2048]⟩
abbrev S8192x2048 : Shape := ⟨2, ![8192, 2048]⟩
abbrev S1024x2048 : Shape := ⟨2, ![1024, 2048]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x2048, .bf16⟩
  | .hbm, ⟨4, _⟩ => ⟨S512x2048, .bf16⟩
  | .hbm, ⟨5, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DkvnIdeal.lean ====
abbrev S8192x512 : Shape := ⟨2, ![8192, 512]⟩
abbrev S512x2048 : Shape := ⟨2, ![512, 2048]⟩
abbrev S8192x2048 : Shape := ⟨2, ![8192, 2048]⟩
abbrev S1024x2048 : Shape := ⟨2, ![1024, 2048]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x2048, .bf16⟩
  | .hbm, ⟨4, _⟩ => ⟨S512x2048, .bf16⟩
  | .hbm, ⟨5, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DkvnReferenceIdeal.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x2048, .f32⟩
  | .hbm, ⟨4, _⟩ => ⟨S2048x512, .f32⟩
  | .hbm, ⟨5, _⟩ => ⟨S512x2048, .f32⟩
  | .hbm, ⟨6, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwUkv.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x512, .bf16⟩
  | .hbm, ⟨4, _⟩ => ⟨S8192x2048, .bf16⟩
  | .hbm, ⟨5, _⟩ => ⟨S512x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUkvReferenceIdeal.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x2048, .f32⟩
  | .hbm, ⟨4, _⟩ => ⟨S2048x512, .f32⟩
  | .hbm, ⟨5, _⟩ => ⟨S512x2048, .f32⟩
  | .hbm, ⟨6, _⟩ => ⟨S8192x512, .f32⟩
  | .hbm, ⟨7, _⟩ => ⟨S512x2048, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwUp.lean ====
abbrev S8192x2048 : Shape := ⟨2, ![8192, 2048]⟩
abbrev S2048x11264 : Shape := ⟨2, ![2048, 11264]⟩
abbrev S8192x11264 : Shape := ⟨2, ![8192, 11264]⟩
abbrev S8192x2x4x1408 : Shape := ⟨4, ![8192, 2, 4, 1408]⟩
abbrev S8192x4x2x1408 : Shape := ⟨4, ![8192, 4, 2, 1408]⟩
abbrev S4x2048x2816 : Shape := ⟨3, ![4, 2048, 2816]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 9
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x2048, .bf16⟩
  | .hbm, ⟨4, _⟩ => ⟨S8192x2x4x1408, .f32⟩
  | .hbm, ⟨5, _⟩ => ⟨S8192x4x2x1408, .f32⟩
  | .hbm, ⟨6, _⟩ => ⟨S8192x11264, .f32⟩
  | .hbm, ⟨7, _⟩ => ⟨S8192x11264, .bf16⟩
  | .hbm, ⟨8, _⟩ => ⟨S4x2048x2816, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg1 c2_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg1 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c2_i32_10 : BitVec 32 := 2#32
  let v29 : BitVec 32 := Scalar.divsi v28 c2_i32_10
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v28 c2_i32_10
  let c0_i32_15 : BitVec 32 := 0#32
  let v42 : BitVec 1 := Scalar.cmpi .ne v41 c0_i32_15
  let v43 : BitVec 1 := Scalar.andi v40 v42
  let c1_i32_16 : BitVec 32 := 1#32
  let v44 : BitVec 32 := Scalar.subi v29 c1_i32_16
  let v45 : BitVec 32 := Scalar.select v43 v44 v29
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi arg1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c4_i32_23 : BitVec 32 := 4#32
  let v56 : BitVec 32 := Scalar.muli v55 c4_i32_23
  let c2_i32_24 : BitVec 32 := 2#32
  let v57 : BitVec 32 := Scalar.divsi arg1 c2_i32_24
  let c0_i32_25 : BitVec 32 := 0#32
  let v58 : BitVec 1 := Scalar.cmpi .sgt arg1 c0_i32_25
  let v59 : BitVec 32 := Scalar.extui v58
  let c0_i32_26 : BitVec 32 := 0#32
  let v60 : BitVec 1 := Scalar.cmpi .slt arg1 c0_i32_26
  let v61 : BitVec 32 := Scalar.extui v60
  let v62 : BitVec 32 := Scalar.subi v59 v61
  let c0_i32_27 : BitVec 32 := 0#32
  let v63 : BitVec 1 := Scalar.cmpi .sgt c2_i32_24 c0_i32_27
  let v64 : BitVec 32 := Scalar.extui v63
  let c0_i32_28 : BitVec 32 := 0#32
  let v65 : BitVec 1 := Scalar.cmpi .slt c2_i32_24 c0_i32_28
  let v66 : BitVec 32 := Scalar.extui v65
  let v67 : BitVec 32 := Scalar.subi v64 v66
  let v68 : BitVec 1 := Scalar.cmpi .ne v62 v67
  let v69 : BitVec 32 := Scalar.remsi arg1 c2_i32_24
  let c0_i32_29 : BitVec 32 := 0#32
  let v70 : BitVec 1 := Scalar.cmpi .ne v69 c0_i32_29
  let v71 : BitVec 1 := Scalar.andi v68 v70
  let c1_i32_30 : BitVec 32 := 1#32
  let v72 : BitVec 32 := Scalar.subi v57 c1_i32_30
  let v73 : BitVec 32 := Scalar.select v71 v72 v57
  let v74 : BitVec 32 := Scalar.addi v56 v73
  let c2_i32_31 : BitVec 32 := 2#32
  let c0_i32_32 : BitVec 32 := 0#32
  let v75 : BitVec 1 := Scalar.cmpi .eq c2_i32_31 c0_i32_32
  let c1_i32_33 : BitVec 32 := 1#32
  let v76 : BitVec 32 := Scalar.select v75 c1_i32_33 c2_i32_31
  let v77 : BitVec 32 := Scalar.remsi v74 v76
  let c0_i32_34 : BitVec 32 := 0#32
  let v78 : BitVec 1 := Scalar.cmpi .ne v77 c0_i32_34
  let c0_i32_35 : BitVec 32 := 0#32
  let v79 : BitVec 1 := Scalar.cmpi .slt v77 c0_i32_35
  let c0_i32_36 : BitVec 32 := 0#32
  let v80 : BitVec 1 := Scalar.cmpi .slt v76 c0_i32_36
  let v81 : BitVec 1 := Scalar.xori v79 v80
  let v82 : BitVec 1 := Scalar.andi v81 v78
  let v83 : BitVec 32 := Scalar.addi v77 v76
  let v84 : BitVec 32 := Scalar.select v82 v83 v77
  let c0_i32_37 : BitVec 32 := 0#32
  ![v45.toNat, arg0.toNat, v84.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpReferenceIdeal.lean ====
abbrev S8192x2048 : Shape := ⟨2, ![8192, 2048]⟩
abbrev S2048x11264 : Shape := ⟨2, ![2048, 11264]⟩
abbrev S8192x11264 : Shape := ⟨2, ![8192, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x11264, .f32⟩
  | .hbm, ⟨4, _⟩ => ⟨S11264x2048, .f32⟩
  | .hbm, ⟨5, _⟩ => ⟨S2048x11264, .f32⟩
  | .hbm, ⟨6, _⟩ => ⟨S8192x2048, .f32⟩
  | .hbm, ⟨7, _⟩ => ⟨S2048x11264, .bf16⟩
  | .hbm, ⟨8, _⟩ => ⟨S2048x4x2816, .bf16⟩
  | .hbm, ⟨9, _⟩ => ⟨S4x2048x2816, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dh2.lean ====
abbrev S8192x2048 : Shape := ⟨2, ![8192, 2048]⟩
abbrev S2048x11264 : Shape := ⟨2, ![2048, 11264]⟩
abbrev S8192x11264 : Shape := ⟨2, ![8192, 11264]⟩
abbrev S8192x2x4x1408 : Shape := ⟨4, ![8192, 2, 4, 1408]⟩
abbrev S8192x4x2x1408 : Shape := ⟨4, ![8192, 4, 2, 1408]⟩
abbrev S2048x4x2816 : Shape := ⟨3, ![2048, 4, 2816]⟩
abbrev S4x2048x2816 : Shape := ⟨3, ![4, 2048, 2816]⟩
abbrev S512x5632 : Shape := ⟨2, ![512, 5632]⟩
abbrev S1x1024x1408 : Shape := ⟨3, ![1, 1024, 1408]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x2x4x1408, .f32⟩
  | .hbm, ⟨4, _⟩ => ⟨S8192x4x2x1408, .f32⟩
  | .hbm, ⟨5, _⟩ => ⟨S8192x11264, .f32⟩
  | .hbm, ⟨6, _⟩ => ⟨S8192x11264, .bf16⟩
  | .hbm, ⟨7, _⟩ => ⟨S2048x4x2816, .f32⟩
  | .hbm, ⟨8, _⟩ => ⟨S4x2048x2816, .f32⟩
  | .hbm, ⟨9, _⟩ => ⟨S4x2048x2816, .bf16⟩
  | .hbm, ⟨10, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 2], ![false, false, false]⟩

def k0_cond3 (i : grid0.Coords) : BitVec 1 :=
  let arg2 : BitVec 32 := BitVec.ofNat 32 (i 2).val
  let c1_i32 : BitVec 32 := 1#32
  let v27 : BitVec 1 := Scalar.cmpi .eq arg2 c1_i32
  let v28 : BitVec 32 := Scalar.extui v27
  let c0_i32_19 : BitVec 32 := 0#32
  let v29 : BitVec 1 := Scalar.cmpi .ne v28 c0_i32_19
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi c0_i32 v0
  let c0_i32_0 : BitVec 32 := 0#32
  let v2 : BitVec 32 := Scalar.addi v1 c0_i32_0
  let c2_i32_1 : BitVec 32 := 2#32
  let v3 : BitVec 32 := Scalar.divsi v2 c2_i32_1
  let c0_i32_2 : BitVec 32 := 0#32
  let v4 : BitVec 1 := Scalar.cmpi .sgt v2 c0_i32_2
  let v5 : BitVec 32 := Scalar.extui v4
  let c0_i32_3 : BitVec 32 := 0#32
  let v6 : BitVec 1 := Scalar.cmpi .slt v2 c0_i32_3
  let v7 : BitVec 32 := Scalar.extui v6
  let v8 : BitVec 32 := Scalar.subi v5 v7
  let c0_i32_4 : BitVec 32 := 0#32
  let v9 : BitVec 1 := Scalar.cmpi .sgt c2_i32_1 c0_i32_4
  let v10 : BitVec 32 := Scalar.extui v9
  let c0_i32_5 : BitVec 32 := 0#32
  let v11 : BitVec 1 := Scalar.cmpi .slt c2_i32_1 c0_i32_5
  let v12 : BitVec 32 := Scalar.extui v11
  let v13 : BitVec 32 := Scalar.subi v10 v12
  let v14 : BitVec 1 := Scalar.cmpi .ne v8 v13
  let v15 : BitVec 32 := Scalar.remsi v2 c2_i32_1
  let c0_i32_6 : BitVec 32 := 0#32
  let v16 : BitVec 1 := Scalar.cmpi .ne v15 c0_i32_6
  let v17 : BitVec 1 := Scalar.andi v14 v16
  let c1_i32 : BitVec 32 := 1#32
  let v18 : BitVec 32 := Scalar.subi v3 c1_i32
  let v19 : BitVec 32 := Scalar.select v17 v18 v3
  let c2_i32_7 : BitVec 32 := 2#32
  let v20 : BitVec 32 := Scalar.muli c2_i32_7 arg2
  let c0_i32_8 : BitVec 32 := 0#32
  let v21 : BitVec 32 := Scalar.addi c0_i32_8 v20
  let c0_i32_9 : BitVec 32 := 0#32
  let v22 : BitVec 32 := Scalar.addi v21 c0_i32_9
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v22 v24
  let c0_i32_13 : BitVec 32 := 0#32
  let v26 : BitVec 1 := Scalar.cmpi .ne v25 c0_i32_13
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let v30 : BitVec 1 := Scalar.andi v29 v26
  let v31 : BitVec 32 := Scalar.addi v25 v24
  let v32 : BitVec 32 := Scalar.select v30 v31 v25
  let c0_i32_16 : BitVec 32 := 0#32
  ![v19.toNat, arg1.toNat, v32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c4_i32 : BitVec 32 := 4#32
  let v1 : BitVec 32 := Scalar.addi c4_i32 v0
  let c0_i32 : BitVec 32 := 0#32
  let v2 : BitVec 32 := Scalar.addi v1 c0_i32
  let c2_i32_0 : BitVec 32 := 2#32
  let v3 : BitVec 32 := Scalar.divsi v2 c2_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32_0 c0_i32_3
  let v10 : BitVec 32 := Scalar.extui v9
  let c0_i32_4 : BitVec 32 := 0#32
  let v11 : BitVec 1 := Scalar.cmpi .slt c2_i32_0 c0_i32_4
  let v12 : BitVec 32 := Scalar.extui v11
  let v13 : BitVec 32 := Scalar.subi v10 v12
  let v14 : BitVec 1 := Scalar.cmpi .ne v8 v13
  let v15 : BitVec 32 := Scalar.remsi v2 c2_i32_0
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c2_i32_6 : BitVec 32 := 2#32
  let v20 : BitVec 32 := Scalar.muli c2_i32_6 arg2
  let c4_i32_7 : BitVec 32 := 4#32
  let v21 : BitVec 32 := Scalar.addi c4_i32_7 v20
  let c0_i32_8 : BitVec 32 := 0#32
  let v22 : BitVec 32 := Scalar.addi v21 c0_i32_8
  let c2_i32_9 : BitVec 32 := 2#32
  let c0_i32_10 : BitVec 32 := 0#32
  let v23 : BitVec 1 := Scalar.cmpi .eq c2_i32_9 c0_i32_10
  let c1_i32_11 : BitVec 32 := 1#32
  let v24 : BitVec 32 := Scalar.select v23 c1_i32_11 c2_i32_9
  let v25 : BitVec 32 := Scalar.remsi v22 v24
  let c0_i32_12 : BitVec 32 := 0#32
  let v26 : BitVec 1 := Scalar.cmpi .ne v25 c0_i32_12
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let v30 : BitVec 1 := Scalar.andi v29 v26
  let v31 : BitVec 32 := Scalar.addi v25 v24
  let v32 : BitVec 32 := Scalar.select v30 v31 v25
  let c0_i32_15 : BitVec 32 := 0#32
  ![v19.toNat, arg1.toNat, v32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi c0_i32 v0
  let c1_i32 : BitVec 32 := 1#32
  let v2 : BitVec 32 := Scalar.addi v1 c1_i32
  let c2_i32_0 : BitVec 32 := 2#32
  let v3 : BitVec 32 := Scalar.divsi v2 c2_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32_0 c0_i32_3
  let v10 : BitVec 32 := Scalar.extui v9
  let c0_i32_4 : BitVec 32 := 0#32
  let v11 : BitVec 1 := Scalar.cmpi .slt c2_i32_0 c0_i32_4
  let v12 : BitVec 32 := Scalar.extui v11
  let v13 : BitVec 32 := Scalar.subi v10 v12
  let v14 : BitVec 1 := Scalar.cmpi .ne v8 v13
  let v15 : BitVec 32 := Scalar.remsi v2 c2_i32_0
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c2_i32_7 : BitVec 32 := 2#32
  let v20 : BitVec 32 := Scalar.muli c2_i32_7 arg2
  let c0_i32_8 : BitVec 32 := 0#32
  let v21 : BitVec 32 := Scalar.addi c0_i32_8 v20
  let c1_i32_9 : BitVec 32 := 1#32
  let v22 : BitVec 32 := Scalar.addi v21 c1_i32_9
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v22 v24
  let c0_i32_13 : BitVec 32 := 0#32
  let v26 : BitVec 1 := Scalar.cmpi .ne v25 c0_i32_13
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let v30 : BitVec 1 := Scalar.andi v29 v26
  let v31 : BitVec 32 := Scalar.addi v25 v24
  let v32 : BitVec 32 := Scalar.select v30 v31 v25
  let c0_i32_16 : BitVec 32 := 0#32
  ![v19.toNat, arg1.toNat, v32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c4_i32 : BitVec 32 := 4#32
  let v1 : BitVec 32 := Scalar.addi c4_i32 v0
  let c1_i32 : BitVec 32 := 1#32
  let v2 : BitVec 32 := Scalar.addi v1 c1_i32
  let c2_i32_0 : BitVec 32 := 2#32
  let v3 : BitVec 32 := Scalar.divsi v2 c2_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2_i32_0 c0_i32_2
  let v10 : BitVec 32 := Scalar.extui v9
  let c0_i32_3 : BitVec 32 := 0#32
  let v11 : BitVec 1 := Scalar.cmpi .slt c2_i32_0 c0_i32_3
  let v12 : BitVec 32 := Scalar.extui v11
  let v13 : BitVec 32 := Scalar.subi v10 v12
  let v14 : BitVec 1 := Scalar.cmpi .ne v8 v13
  let v15 : BitVec 32 := Scalar.remsi v2 c2_i32_0
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c2_i32_6 : BitVec 32 := 2#32
  let v20 : BitVec 32 := Scalar.muli c2_i32_6 arg2
  let c4_i32_7 : BitVec 32 := 4#32
  let v21 : BitVec 32 := Scalar.addi c4_i32_7 v20
  let c1_i32_8 : BitVec 32 := 1#32
  let v22 : BitVec 32 := Scalar.addi v21 c1_i32_8
  let c2_i32_9 : BitVec 32 := 2#32
  let c0_i32_10 : BitVec 32 := 0#32
  let v23 : BitVec 1 := Scalar.cmpi .eq c2_i32_9 c0_i32_10
  let c1_i32_11 : BitVec 32 := 1#32
  let v24 : BitVec 32 := Scalar.select v23 c1_i32_11 c2_i32_9
  let v25 : BitVec 32 := Scalar.remsi v22 v24
  let c0_i32_12 : BitVec 32 := 0#32
  let v26 : BitVec 1 := Scalar.cmpi .ne v25 c0_i32_12
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let v30 : BitVec 1 := Scalar.andi v29 v26
  let v31 : BitVec 32 := Scalar.addi v25 v24
  let v32 : BitVec 32 := Scalar.select v30 v31 v25
  let c0_i32_15 : BitVec 32 := 0#32
  ![v19.toNat, arg1.toNat, v32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Dh2ReferenceIdeal.lean ====
abbrev S8192x2048 : Shape := ⟨2, ![8192, 2048]⟩
abbrev S2048x11264 : Shape := ⟨2, ![2048, 11264]⟩
abbrev S8192x11264 : Shape := ⟨2, ![8192, 11264]⟩
abbrev S11264x2048 : Shape := ⟨2, ![11264, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x11264, .f32⟩
  | .hbm, ⟨4, _⟩ => ⟨S11264x2048, .f32⟩
  | .hbm, ⟨5, _⟩ => ⟨S2048x11264, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Frame.lean ====
module

public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.PureOps.BitExact
public import Idealize.ShloMosaic.Lib.Pipeline.ValueKit
public import Idealize.ShloMosaic.Lib.Pipeline.FrameBody
public import Idealize.ShloMosaic.Lib.LoopRemainder
public import Idealize.ShloMosaic.Lib.Tactic
public import Idealize.ShloMosaic.Lib.Claim

/-! The kernel at its own formats runs to the end: each block operand is given back, each result block and scratch
array at some contents, whatever the words computed. -/

@[expose] public section

set_option maxRecDepth 16384
noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

/-- Whether the key block is the first one. -/
abbrev isFirst (i : grid0.Coords) : Prop := (Scalar.cmpi .ne (Scalar.extui (Scalar.cmpi .eq (BitVec.ofNat 32 (i 1).val) 0#32)) 0#32) = 1#1

set_option maxHeartbeats 8000000 in
/-- The body, at any grid point. -/
theorem run_body (c : Dev nD) (i : grid0.Coords) (arg2 : Memref sig .tc .vmem S8192x256 .bf16) (harg2 : arg2.IsWhole) (arg3 : Memref sig .tc .vmem S1024x256 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x256 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x256 .f32) (harg11 : arg11.IsWhole) (arg12 : Memref sig .tc .vmem S1024x128 .f32) (harg12 : arg12.IsWhole)
    (x0 : Vec Bits S8192x256 .bf16) (x1 : Vec Bits S1024x256 .bf16) (x2 : Vec Bits S1024x128 .bf16) (x3 : Vec Bits S8192x128 .bf16) (x4 : Vec Bits S8192x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := Bits)) Variants.none c none) E (cc0_attn_bwd i arg2 harg2 arg3 harg3 arg4 harg4 arg5 harg5 arg6 harg6 arg7 harg7 arg8 harg8 arg9 harg9 arg10 harg10 arg11 harg11 arg12 harg12) K := by
    intro E K
    simp only [cc0_attn_bwd_eq_skeleton]; unfold cc0_attn_bwd_skel
    simp only [k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    by_cases hc0 : isFirst i
    · -- the query gradient starts from zero
      sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [HS0]
      · iexists _, _; isplitr; swap; · iexact HS0
        ipureintro; rfl
      iexists _, _; isplitr; swap; · iexact HS1
      ipureintro; rfl
    · -- the query gradient goes on from what the block held
      sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [HS0]
      · iexists _, _; isplitr; swap; · iexact HS0
        ipureintro; rfl
      iexists _, _; isplitr; swap; · iexact HS1
      ipureintro; rfl

variable (m : (ℓ : Loc nD τ sig) → Buf (Elt Bits) ℓ) (ρ : Dev nD → PrngReg)

/-- What the blocks hold after a grid point: an operand its block; a result block, nothing said. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by dsimp only [dats]
/-- What the body leaves in window 0: its block. -/
theorem after_0 (c : Dev nD) (t : Fin cfg0.N) : (dats m 0 c).after 0 t = iblk m c 0 t := by dsimp only [dats]
/-- What it finds there. -/
theorem before_0 (c : Dev nD) (t : Fin cfg0.N) (d) : (dats m 0 c).before 0 t d = iblk m c 0 t := before0_0_of m (dats m 0 c) (A_eq m c 0) (after_0 m c) t d
/-- What the body leaves in window 1: its block. -/
theorem after_1 (c : Dev nD) (t : Fin cfg0.N) : (dats m 0 c).after 1 t = iblk m c 1 t := by dsimp only [dats]
/-- What it finds there. -/
theorem before_1 (c : Dev nD) (t : Fin cfg0.N) (d) : (dats m 0 c).before 1 t d = iblk m c 1 t := before0_1_of m (dats m 0 c) (A_eq m c 1) (after_1 m c) t d
/-- What the body leaves in window 2: its block. -/
theorem after_2 (c : Dev nD) (t : Fin cfg0.N) : (dats m 0 c).after 2 t = iblk m c 2 t := by dsimp only [dats]
/-- What it finds there. -/
theorem before_2 (c : Dev nD) (t : Fin cfg0.N) (d) : (dats m 0 c).before 2 t d = iblk m c 2 t := before0_2_of m (dats m 0 c) (A_eq m c 2) (after_2 m c) t d
/-- What the body leaves in window 3: its block. -/
theorem after_3 (c : Dev nD) (t : Fin cfg0.N) : (dats m 0 c).after 3 t = iblk m c 3 t := by dsimp only [dats]
/-- What it finds there. -/
theorem before_3 (c : Dev nD) (t : Fin cfg0.N) (d) : (dats m 0 c).before 3 t d = iblk m c 3 t := before0_3_of m (dats m 0 c) (A_eq m c 3) (after_3 m c) t d
/-- What the body leaves in window 4: its block. -/
theorem after_4 (c : Dev nD) (t : Fin cfg0.N) : (dats m 0 c).after 4 t = iblk m c 4 t := by dsimp only [dats]
/-- What it finds there. -/
theorem before_4 (c : Dev nD) (t : Fin cfg0.N) (d) : (dats m 0 c).before 4 t d = iblk m c 4 t := before0_4_of m (dats m 0 c) (A_eq m c 4) (after_4 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d))

/-- The two scratch operands. -/
abbrev scr0 : Memref sig .tc .vmem S1024x256 .f32 := Memref.whole cc0_scratch0
/-- The second. -/
abbrev scr1 : Memref sig .tc .vmem S1024x128 .f32 := Memref.whole cc0_scratch1

/-- The invariant as the scratch operands at some contents. -/
theorem inv_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

set_option maxHeartbeats 1600000 in
/-- The body at any point. -/
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, inv_eq]
  iintro ⟨⟨⟨HS0, HS1⟩, Hg⟩, Ho, ⟨%d0, H0⟩, ⟨%d1, H1⟩, ⟨%d2, H2⟩, ⟨%d3, H3⟩, ⟨%d4, H4⟩, H5, H6, H7, H8⟩
  iapply ((run_body c (grid0.coords t) _ _ _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point's slots. -/
theorem row_eq (t : Fin cfg0.N) : defs₀ (F := Bits) .tc cfg0.body (cfg0.bodyArgs t (cfg0.slots t)) = bodyAt0 t := by
  unfold defs₀; rw [Defs.onTc_tc]

/-- The result windows, of whose contents nothing is said. -/
def fgt : Fin cfg0.W → Bool := fun w => decide (5 ≤ w.val)

/-- The body's triple at every point, as the launch takes it. -/
theorem body_ok (c : Dev nD) : BodyObligation (dats m 0 c) (defs₀ (F := Bits)) Variants.none () Set.univ fgt := fun t => by
  rw [bigSep_W0, bigSep_W0, row_eq]
  exact triple_restated (sound_body m c t) rfl .rfl fun _ => .rfl

set_option backward.isDefEq.respectTransparency.types false in
/-- The launch: every execution ends, with the arguments as they were and no semaphore held. -/
theorem frame : θ_run defs (onTc (τ := τ) (main (F := Bits))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_forget cfgs (dats m) (0 : Fin 1) launch0 defs₀ Variants.none fgt m ρ main
    (fun c => (body_ok m c).loose) (fun c => (dats m 0 c).share_full fun _ => rfl)
    (fun _ _ => rfl) (V m) (hmain m Variants.none) (A_eq m) (fun _ _ => rfl) _
    fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩

end Cert.Kernel.Val
end
-- ==== Proof.Block.lean ====
module

public import proofs.«01_k».proof.Proof.Gen.KernelIdeal.Skeleton
public import Idealize.ShloMosaic.Lib.Pipeline.ValueKit
public import Idealize.ShloMosaic.Lib.Pointwise
public import Idealize.ShloMosaic.Lib.VecWindow
public import Idealize.ShloMosaic.Lib.WordCmp

/-! What one block of the kernel computes, as functions of its operands: the weights of a query row and a key row of the
block, the sums over the first `n` query rows, and that each of the kernel's sub-blocks of 256 rows takes the sums
from `n` to `n + 256`. -/

@[expose] public section

set_option maxRecDepth 16384
noncomputable section

namespace Cert.KernelIdeal.Val

open Cert.KernelIdeal Cert.KernelIdeal.Gen
open Idealize.ShloMosaic Idealize.ShloMosaic.TcCoe Idealize.ShloMosaic.Tactic

/-! ## The functions -/

/-- Row `q` of the sequence, for any natural number. -/
def row (q : ℕ) : Fin 8192 := ⟨q % 8192, Nat.mod_lt _ (by decide)⟩

theorem row_val {q : ℕ} (h : q < 8192) : (row q).val = q := Nat.mod_eq_of_lt h

theorem row_fin (q : Fin 8192) : row q.val = q := Fin.ext (row_val q.isLt)

/-- The 256 rows from row `n` of an array of 256 columns. -/
def rowsA (X : S8192x256.Idx → EReal) (n : ℕ) : S256x256.Idx → EReal := fun y => X (ix2 (row (n + (y 0).val)) (y 1))

/-- The 256 rows from row `n` of an array of 128 columns. -/
def rowsB (X : S8192x128.Idx → EReal) (n : ℕ) : S256x128.Idx → EReal := fun y => X (ix2 (row (n + (y 0).val)) (y 1))

/-- The product of query row `q` and key row `c` of the block. -/
def sc (x0 : S8192x256.Idx → EReal) (x1 : S1024x256.Idx → EReal) (q : ℕ) (c : Fin 1024) : EReal :=
  ∑ d : Fin 256, x0 (ix2 (row q) d) * x1 (ix2 c d)

/-- The product of the incoming gradient's row `q` and value row `c` of the block. -/
def dp (x2 : S1024x128.Idx → EReal) (x3 : S8192x128.Idx → EReal) (q : ℕ) (c : Fin 1024) : EReal :=
  ∑ d : Fin 128, x3 (ix2 (row q) d) * x2 (ix2 c d)

/-- The softmax weight of query row `q` and key row `c` of block `j`, from the row's saved log-sum. -/
def pr (j : ℕ) (x0 : S8192x256.Idx → EReal) (x1 : S1024x256.Idx → EReal) (x4 : S8192x128.Idx → EReal) (q : ℕ) (c : Fin 1024) : EReal :=
  Ideal.exp2 ((if 1024 * j + c.val ≤ q then sc x0 x1 q c else ⊥) * (((Real.sqrt 192)⁻¹ * (Real.log 2)⁻¹ : ℝ) : EReal) - x4 (ix2 (row q) 0))

/-- The gradient of the score of query row `q` and key row `c` of block `j`. -/
def ds (j : ℕ) (x0 : S8192x256.Idx → EReal) (x1 : S1024x256.Idx → EReal) (x2 : S1024x128.Idx → EReal) (x3 x4 : S8192x128.Idx → EReal)
    (q : ℕ) (c : Fin 1024) : EReal :=
  pr j x0 x1 x4 q c * (dp x2 x3 q c - x4 (ix2 (row q) 64)) * (((Real.sqrt 192)⁻¹ : ℝ) : EReal)

/-- Of weights `f`: the sum over the first `n` query rows of the weighted rows of `X` (128 columns). -/
def accB (f : ℕ → Fin 1024 → EReal) (X : S8192x128.Idx → EReal) (n : ℕ) : S1024x128.Idx → EReal :=
  fun y => ∑ q ∈ Finset.range n, f q (y 0) * X (ix2 (row q) (y 1))

/-- Of weights `f`: the sum over the first `n` query rows of the weighted rows of `X` (256 columns). -/
def accA (f : ℕ → Fin 1024 → EReal) (X : S8192x256.Idx → EReal) (n : ℕ) : S1024x256.Idx → EReal :=
  fun y => ∑ q ∈ Finset.range n, f q (y 0) * X (ix2 (row q) (y 1))

/-- Of weights `f`: `D` with the block's weighted rows of `X` added to its first `n` rows. -/
def accQ (f : ℕ → Fin 1024 → EReal) (X : S1024x256.Idx → EReal) (D : S8192x256.Idx → EReal) (n : ℕ) : S8192x256.Idx → EReal :=
  fun y => if (y 0).val < n then D y + ∑ c : Fin 1024, f (y 0).val c * X (ix2 c (y 1)) else D y

/-! ## Masked entries -/

theorem bot_mul_pos (r : ℝ) (h : 0 < r) : (⊥ : EReal) * (r : EReal) = ⊥ := EReal.bot_mul_coe_of_pos h

theorem scale_pos : (0 : ℝ) < (Real.sqrt 192)⁻¹ := inv_pos.mpr (Real.sqrt_pos.mpr (by norm_num))

theorem scale2_pos : (0 : ℝ) < (Real.sqrt 192)⁻¹ * (Real.log 2)⁻¹ := mul_pos scale_pos (inv_pos.mpr (Real.log_pos (by norm_num)))

/-- A masked weight is zero. -/
theorem pr_masked (j : ℕ) (x0 : S8192x256.Idx → EReal) (x1 : S1024x256.Idx → EReal) (x4 : S8192x128.Idx → EReal) (q : ℕ) (c : Fin 1024)
    (h : q < 1024 * j + c.val) : pr j x0 x1 x4 q c = 0 := by
  unfold pr
  rw [if_neg (by omega), bot_mul_pos _ scale2_pos, EReal.bot_sub]
  rfl

theorem ds_masked (j : ℕ) (x0 : S8192x256.Idx → EReal) (x1 : S1024x256.Idx → EReal) (x2 : S1024x128.Idx → EReal) (x3 x4 : S8192x128.Idx → EReal)
    (q : ℕ) (c : Fin 1024) (h : q < 1024 * j + c.val) : ds j x0 x1 x2 x3 x4 q c = 0 := by
  unfold ds
  rw [pr_masked j x0 x1 x4 q c h, zero_mul, zero_mul]

/-! ## The kernel's constants and mask -/

theorem scale_eq : (Named.named κ "scale" 1033096506#32 : Ideal .f32) = (((Real.sqrt 192)⁻¹ : ℝ) : EReal) :=
  IdealRules.named_const.ideal_named_scalar _ _ _ _ rfl

theorem scale2_eq : (Named.named κ "scale2" 1037384597#32 : Ideal .f32) = (((Real.sqrt 192)⁻¹ * (Real.log 2)⁻¹ : ℝ) : EReal) :=
  IdealRules.named_const.ideal_named_scalar _ _ _ _ rfl

theorem mask_eq : (Named.named κ "mask" 4048155338#32 : Ideal .f32) = (⊥ : EReal) :=
  IdealRules.named_const.ideal_named_scalar _ _ _ _ rfl

/-- The mask of the kernel, a comparison of positions in the block. -/
theorem mask_sel {α : Type} (a b r : ℕ) (ha : a < 256) (hb : b < 1024) (hr : r < 1024) (x y : α) :
    Scalar.select (IntOp.cmpi CmpIPredicate.sle (BitVec.ofNat 32 b) (IntOp.addi (BitVec.ofNat 32 a) (BitVec.ofNat 32 r))) x y
      = if b ≤ a + r then x else y := by
  have e : IntOp.cmpi CmpIPredicate.sle (BitVec.ofNat 32 b) (IntOp.addi (BitVec.ofNat 32 a) (BitVec.ofNat 32 r)) = if b ≤ a + r then 1#1 else 0#1 := by
    show BitVec.ofBool ((BitVec.ofNat 32 b).sle (BitVec.ofNat 32 a + BitVec.ofNat 32 r)) = _
    have eb : (BitVec.ofNat 32 b).toNat = b := by rw [BitVec.toNat_ofNat]; omega
    have er : (BitVec.ofNat 32 a + BitVec.ofNat 32 r).toNat = a + r := by simp only [BitVec.toNat_add, BitVec.toNat_ofNat]; omega
    rw [BitVec.sle_eq_decide, BitVec.toInt_eq_toNat_of_lt (by omega), BitVec.toInt_eq_toNat_of_lt (by omega), eb, er]
    by_cases h : b ≤ a + r
    · rw [if_pos h, decide_eq_true (by exact_mod_cast h)]; rfl
    · rw [if_neg h, decide_eq_false (by exact_mod_cast h)]; rfl
  rw [e]
  by_cases h : b ≤ a + r
  · rw [if_pos h, if_pos h]; rfl
  · rw [if_neg h, if_neg h]; rfl

/-! ## Sums -/

theorem accB_step (f : ℕ → Fin 1024 → EReal) (X : S8192x128.Idx → EReal) (n : ℕ) (y : S1024x128.Idx) :
    accB f X (n + 256) y = accB f X n y + ∑ r : Fin 256, f (n + r.val) (y 0) * X (ix2 (row (n + r.val)) (y 1)) := by
  unfold accB
  rw [Finset.sum_range_add, Finset.sum_range (n := 256)]

theorem accA_step (f : ℕ → Fin 1024 → EReal) (X : S8192x256.Idx → EReal) (n : ℕ) (y : S1024x256.Idx) :
    accA f X (n + 256) y = accA f X n y + ∑ r : Fin 256, f (n + r.val) (y 0) * X (ix2 (row (n + r.val)) (y 1)) := by
  unfold accA
  rw [Finset.sum_range_add, Finset.sum_range (n := 256)]

/-- A sum over the block's key rows of terms that vanish from row `W` on. -/
theorem sum_prefix (W : ℕ) (hW : W ≤ 1024) (g : Fin 1024 → EReal) (h : ∀ c : Fin 1024, W ≤ c.val → g c = 0) :
    ∑ c : Fin 1024, g c = ∑ c : Fin W, g (Fin.castLE hW c) := by
  let G : ℕ → EReal := fun c => if hc : c < 1024 then g ⟨c, hc⟩ else 0
  have e1 : ∑ c : Fin 1024, g c = ∑ c ∈ Finset.range 1024, G c := by
    rw [Finset.sum_range]
    exact Finset.sum_congr rfl fun c _ => by simp only [G]; rw [dif_pos c.isLt]
  have e2 : ∑ c : Fin W, g (Fin.castLE hW c) = ∑ c ∈ Finset.range W, G c := by
    rw [Finset.sum_range]
    exact Finset.sum_congr rfl fun c _ => by simp only [G]; rw [dif_pos (lt_of_lt_of_le c.isLt hW)]; rfl
  rw [e1, e2]
  refine (Finset.sum_subset (Finset.range_mono hW) fun c hc hc' => ?_).symm
  rw [Finset.mem_range] at hc hc'
  exact (dif_pos hc).trans (h _ (by simpa using hc'))

/-! ## Windows and stores -/

theorem put_full {α : Type} {s : Shape} (x : s.Idx → α) (off : Fin s.rank → ℕ) (h : ∀ a, off a + s.size a ≤ s.size a) (w : ((a : Fin s.rank) → Fin (s.size a)) → α) :
    VecWindow.put x off s.size w = w := by
  funext y
  have e : ∀ a, off a ≤ (y a).val ∧ (y a).val < off a + s.size a := fun a => ⟨by have := h a; omega, by have := (y a).isLt; omega⟩
  refine (dif_pos e).trans (congrArg w (funext fun a => Fin.ext ?_))
  have := h a
  simp only [Rect.unitLocal]
  omega

theorem window_full {α : Type} {s : Shape} (x : s.Idx → α) (off : Fin s.rank → ℕ) (h : ∀ a, off a + s.size a ≤ s.size a) :
    VecWindow.window x off s.size h = x := by
  funext y
  exact congrArg x (Rect.emb_unit_full h y)

theorem window_k (x : S1024x256.Idx → EReal) (h) : VecWindow.window (s := S1024x256) x ![0, 0] ![1024, 256] h = x := window_full x _ h
theorem window_v (x : S1024x128.Idx → EReal) (h) : VecWindow.window (s := S1024x128) x ![0, 0] ![1024, 128] h = x := window_full x _ h
theorem put_k (x : S1024x256.Idx → EReal) (w) : VecWindow.put (s := S1024x256) x ![0, 0] ![1024, 256] w = w := put_full x _ (by decide) w
theorem put_v (x : S1024x128.Idx → EReal) (w) : VecWindow.put (s := S1024x128) x ![0, 0] ![1024, 128] w = w := put_full x _ (by decide) w
theorem put_q (x : S8192x256.Idx → EReal) (w) : VecWindow.put (s := S8192x256) x ![0, 0] ![8192, 256] w = w := put_full x _ (by decide) w

/-- A load of 256 rows of an array of 256 columns. -/
theorem window_rowsA (X : S8192x256.Idx → EReal) {off : Fin 2 → ℕ} {n : ℕ} (e : off = ![n, 0]) (h) :
    VecWindow.window (s := S8192x256) X off ![256, 256] h = rowsA X n := by
  subst e
  funext y
  have hn : n + (y 0).val < 8192 := by
    have h0 : n + 256 ≤ 8192 := h 0
    have : (y 0).val < 256 := (y 0).isLt
    omega
  refine congrArg X (funext fun a => Fin.ext ?_)
  match a with
  | ⟨0, _⟩ => exact (show n + 1 * (y 0).val = _ by rw [one_mul]; exact (row_val hn).symm)
  | ⟨1, _⟩ => exact (show 0 + 1 * (y 1).val = (y 1).val by omega)

/-- A load of 256 rows of an array of 128 columns. -/
theorem window_rowsB (X : S8192x128.Idx → EReal) {off : Fin 2 → ℕ} {n : ℕ} (e : off = ![n, 0]) (h) :
    VecWindow.window (s := S8192x128) X off ![256, 128] h = rowsB X n := by
  subst e
  funext y
  have hn : n + (y 0).val < 8192 := by
    have h0 : n + 256 ≤ 8192 := h 0
    have : (y 0).val < 256 := (y 0).isLt
    omega
  refine congrArg X (funext fun a => Fin.ext ?_)
  match a with
  | ⟨0, _⟩ => exact (show n + 1 * (y 0).val = _ by rw [one_mul]; exact (row_val hn).symm)
  | ⟨1, _⟩ => exact (show 0 + 1 * (y 1).val = (y 1).val by omega)

/-- The rows from row `n` on are not changed by what was added to earlier rows. -/
theorem rowsA_accQ (f : ℕ → Fin 1024 → EReal) (X : S1024x256.Idx → EReal) (D : S8192x256.Idx → EReal) (n m : ℕ) (h : n ≤ m) (hm : m + 256 ≤ 8192) :
    rowsA (accQ f X D n) m = rowsA D m := by
  funext y
  have hy : (y 0).val < 256 := (y 0).isLt
  exact if_neg (show ¬ (row (m + (y 0).val)).val < n by rw [row_val (by omega)]; omega)

/-- A store of 256 rows from row `n`. -/
theorem put_rows (X : S8192x256.Idx → EReal) (n : ℕ) (w : S256x256.Idx → EReal) (y : S8192x256.Idx) :
    VecWindow.put (s := S8192x256) X ![n, 0] ![256, 256] w y
      = if h : n ≤ (y 0).val ∧ (y 0).val < n + 256 then w (ix2 ⟨(y 0).val - n, by omega⟩ (y 1)) else X y := by
  by_cases h : n ≤ (y 0).val ∧ (y 0).val < n + 256
  · have e : ∀ a, ![n, 0] a ≤ (y a).val ∧ (y a).val < ![n, 0] a + ![256, 256] a := fun a => match a with
      | ⟨0, _⟩ => h
      | ⟨1, _⟩ => ⟨Nat.zero_le _, (show (y 1).val < 0 + 256 by have : (y 1).val < 256 := (y 1).isLt; omega)⟩
    rw [dif_pos h]
    refine (dif_pos e).trans (congrArg w (funext fun a => Fin.ext ?_))
    match a with
    | ⟨0, _⟩ => rfl
    | ⟨1, _⟩ => exact (show (y 1).val - 0 = (y 1).val by omega)
  · rw [dif_neg h]
    exact dif_neg fun e => h (e 0)

/-! ## Sub-blocks of 256 key rows -/

/-- The weights `f` of the 256 query rows from row `n` and the first 256 key rows of the block. -/
def blk256 (f : ℕ → Fin 1024 → EReal) (n : ℕ) : S256x256.Idx → EReal := fun y => f (n + (y 0).val) (Fin.castLE (by decide : 256 ≤ 1024) (y 1))

theorem window_v256 (X : S1024x128.Idx → EReal) (h) :
    VecWindow.window (s := S1024x128) X ![0, 0] ![256, 128] h = (fun y : S256x128.Idx => X (ix2 (Fin.castLE (by decide : 256 ≤ 1024) (y 0)) (y 1))) := by
  funext y
  refine congrArg X (funext fun a => Fin.ext ?_)
  match a with
  | ⟨0, _⟩ => exact (show 0 + 1 * (y 0).val = (y 0).val by omega)
  | ⟨1, _⟩ => exact (show 0 + 1 * (y 1).val = (y 1).val by omega)

theorem put_v256 (X : S1024x128.Idx → EReal) (w : S256x128.Idx → EReal) (y : S1024x128.Idx) :
    VecWindow.put (s := S1024x128) X ![0, 0] ![256, 128] w y = if h : (y 0).val < 256 then w (ix2 ⟨(y 0).val, h⟩ (y 1)) else X y := by
  by_cases h : (y 0).val < 256
  · have e : ∀ a, ![0, 0] a ≤ (y a).val ∧ (y a).val < ![0, 0] a + ![256, 128] a := fun a => match a with
      | ⟨0, _⟩ => ⟨Nat.zero_le _, (show (y 0).val < 0 + 256 by omega)⟩
      | ⟨1, _⟩ => ⟨Nat.zero_le _, (show (y 1).val < 0 + 128 by have : (y 1).val < 128 := (y 1).isLt; omega)⟩
    rw [dif_pos h]
    refine (dif_pos e).trans (congrArg w (funext fun a => Fin.ext ?_))
    match a with
    | ⟨0, _⟩ => exact (show (y 0).val - 0 = (y 0).val by omega)
    | ⟨1, _⟩ => exact (show (y 1).val - 0 = (y 1).val by omega)
  · rw [dif_neg h]
    refine dif_neg fun e => h ?_
    have := (e 0).2
    exact (show (y 0).val < 256 by simpa using this)

theorem window_k256 (X : S1024x256.Idx → EReal) (h) :
    VecWindow.window (s := S1024x256) X ![0, 0] ![256, 256] h = (fun y : S256x256.Idx => X (ix2 (Fin.castLE (by decide : 256 ≤ 1024) (y 0)) (y 1))) := by
  funext y
  refine congrArg X (funext fun a => Fin.ext ?_)
  match a with
  | ⟨0, _⟩ => exact (show 0 + 1 * (y 0).val = (y 0).val by omega)
  | ⟨1, _⟩ => exact (show 0 + 1 * (y 1).val = (y 1).val by omega)

theorem put_k256 (X : S1024x256.Idx → EReal) (w : S256x256.Idx → EReal) (y : S1024x256.Idx) :
    VecWindow.put (s := S1024x256) X ![0, 0] ![256, 256] w y = if h : (y 0).val < 256 then w (ix2 ⟨(y 0).val, h⟩ (y 1)) else X y := by
  by_cases h : (y 0).val < 256
  · have e : ∀ a, ![0, 0] a ≤ (y a).val ∧ (y a).val < ![0, 0] a + ![256, 256] a := fun a => match a with
      | ⟨0, _⟩ => ⟨Nat.zero_le _, (show (y 0).val < 0 + 256 by omega)⟩
      | ⟨1, _⟩ => ⟨Nat.zero_le _, (show (y 1).val < 0 + 256 by have : (y 1).val < 256 := (y 1).isLt; omega)⟩
    rw [dif_pos h]
    refine (dif_pos e).trans (congrArg w (funext fun a => Fin.ext ?_))
    match a with
    | ⟨0, _⟩ => exact (show (y 0).val - 0 = (y 0).val by omega)
    | ⟨1, _⟩ => exact (show (y 1).val - 0 = (y 1).val by omega)
  · rw [dif_neg h]
    refine dif_neg fun e => h ?_
    have := (e 0).2
    exact (show (y 0).val < 256 by simpa using this)

/-- The weights of a sub-block on the diagonal. -/
theorem diag256 (j : ℕ) (x0 : S8192x256.Idx → EReal) (x1 : S1024x256.Idx → EReal) (x4 : S8192x128.Idx → EReal) (h1) :
    (exp2 (subf (mulf (select (cmpi CmpIPredicate.sle (iota Kind.tc S256x256 32 [1] iota_S256x256_d1_w32) (addi (iota Kind.tc S256x256 32 [0] iota_S256x256_d0_w32) (broadcast S256x256 0#32)))
          (matmul (φ₁ := .bf16) (φ₂ := .bf16) dot_S256x256_S256x256_S256x256_1_1_0_0_n_n none (rowsA x0 (1024 * j + 0)) (VecWindow.window (s := S1024x256) x1 ![0, 0] ![256, 256] h1) (constant (F := Ideal) S256x256 FTy.f32 0#32)) (broadcast S256x256 (Named.named κ "mask" 4048155338#32))) (broadcast S256x256 (Named.named κ "scale2" 1037384597#32)))
        (broadcastTo S256x256 (extractStridedSlice S256x1 ![0, 0] (rowsB x4 (1024 * j + 0)) slices_S256x128_o0_0_S256x1) broadcasts_S256x1_S256x256)) : FVec Ideal S256x256 .f32)
      = blk256 (pr j x0 x1 x4) (1024 * j + 0) := by
  funext y
  idx_vars y
  pointwise [rowsA, rowsB, window_k256, blk256, pr, sc]
  rw [mask_sel _ _ _ y0.isLt (lt_of_lt_of_le y1.isLt (by decide)) (by decide), scale2_eq, mask_eq]
  exact congrArg (fun s => Ideal.exp2 (s * _ - _)) (if_congr (show y1.val ≤ y0.val + 0 ↔ 1024 * j + y1.val ≤ 1024 * j + 0 + y0.val by omega) rfl rfl)

/-- The score gradients of a sub-block. -/
theorem grad256 (j n : ℕ) (x0 : S8192x256.Idx → EReal) (x1 : S1024x256.Idx → EReal) (x2 : S1024x128.Idx → EReal) (x3 x4 : S8192x128.Idx → EReal) (h2) :
    (mulf (mulf (blk256 (pr j x0 x1 x4) n)
        (subf (matmul (φ₁ := .bf16) (φ₂ := .bf16) dot_S256x128_S256x128_S256x256_1_1_0_0_n_n none (rowsB x3 n) (VecWindow.window (s := S1024x128) x2 ![0, 0] ![256, 128] h2) (constant (F := Ideal) S256x256 FTy.f32 0#32))
          (broadcastTo S256x256 (extractStridedSlice S256x1 ![0, 64] (rowsB x4 n) slices_S256x128_o0_64_S256x1) broadcasts_S256x1_S256x256)))
      (broadcast S256x256 (Named.named κ "scale" 1033096506#32)) : FVec Ideal S256x256 .f32)
      = blk256 (ds j x0 x1 x2 x3 x4) n := by
  funext y
  idx_vars y
  pointwise [rowsB, window_v256, blk256, ds, dp]
  rw [scale_eq]

/-- The step of a sub-block's weighted rows of `X` (128 columns). -/
theorem step_v256 (f : ℕ → Fin 1024 → EReal) (X : S8192x128.Idx → EReal) (n : ℕ) (h) (h0 : ∀ q (c : Fin 1024), q < n + 256 → 256 ≤ c.val → f q c = 0) :
    VecWindow.put (s := S1024x128) (accB f X n) ![0, 0] ![256, 128]
      (addf (φ := .f32) (VecWindow.window (s := S1024x128) (accB f X n) ![0, 0] ![256, 128] h)
        (matmul (φ₁ := .bf16) (φ₂ := .bf16) dot_S256x256_S256x128_S256x128_0_0_1_1_n_n none (truncf FTy.bf16 (φ := .f32) (blk256 f n) bitsLt_bf16_f32) (rowsB X n) (constant (F := Ideal) S256x128 FTy.f32 0#32)))
      = accB f X (n + 256) := by
  funext y
  rw [put_v256, accB_step]
  by_cases hy : (y 0).val < 256
  · rw [dif_pos hy]
    idx_vars y
    pointwise [rowsB, blk256, window_v256]
    rfl
  · rw [dif_neg hy, Finset.sum_eq_zero fun r _ => (congrArg (· * _) (h0 _ _ (by have := r.isLt; omega) (Nat.le_of_not_lt hy))).trans (zero_mul _), add_zero]

/-- The step of a sub-block's weighted rows of `X` (256 columns). -/
theorem step_k256 (f : ℕ → Fin 1024 → EReal) (X : S8192x256.Idx → EReal) (n : ℕ) (h) (h0 : ∀ q (c : Fin 1024), q < n + 256 → 256 ≤ c.val → f q c = 0) :
    VecWindow.put (s := S1024x256) (accA f X n) ![0, 0] ![256, 256]
      (addf (φ := .f32) (VecWindow.window (s := S1024x256) (accA f X n) ![0, 0] ![256, 256] h)
        (matmul (φ₁ := .bf16) (φ₂ := .bf16) dot_S256x256_S256x256_S256x256_0_0_1_1_n_n none (truncf FTy.bf16 (φ := .f32) (blk256 f n) bitsLt_bf16_f32) (rowsA X n) (constant (F := Ideal) S256x256 FTy.f32 0#32)))
      = accA f X (n + 256) := by
  funext y
  rw [put_k256, accA_step]
  by_cases hy : (y 0).val < 256
  · rw [dif_pos hy]
    idx_vars y
    pointwise [rowsA, blk256, window_k256]
    rfl
  · rw [dif_neg hy, Finset.sum_eq_zero fun r _ => (congrArg (· * _) (h0 _ _ (by have := r.isLt; omega) (Nat.le_of_not_lt hy))).trans (zero_mul _), add_zero]

/-- The step of a sub-block's rows of the query gradient. -/
theorem step_q256 (f : ℕ → Fin 1024 → EReal) (X : S1024x256.Idx → EReal) (D : S8192x256.Idx → EReal) (n : ℕ) (hn : n + 256 ≤ 8192) (h) (h0 : ∀ q (c : Fin 1024), q < n + 256 → 256 ≤ c.val → f q c = 0) :
    VecWindow.put (s := S8192x256) (accQ f X D n) ![n, 0] ![256, 256]
      (addf (φ := .f32) (rowsA D n)
        (matmul (φ₁ := .bf16) (φ₂ := .bf16) dot_S256x256_S256x256_S256x256_1_0_0_1_n_n none (truncf FTy.bf16 (φ := .f32) (blk256 f n) bitsLt_bf16_f32) (VecWindow.window (s := S1024x256) X ![0, 0] ![256, 256] h) (constant (F := Ideal) S256x256 FTy.f32 0#32)))
      = accQ f X D (n + 256) := by
  funext y
  rw [put_rows]
  by_cases hy : n ≤ (y 0).val ∧ (y 0).val < n + 256
  · rw [dif_pos hy]
    have e : accQ f X D (n + 256) y = D y + ∑ c : Fin 1024, f (y 0).val c * X (ix2 c (y 1)) := if_pos hy.2
    rw [e]
    rw [sum_prefix 256 (by decide) _ fun c hc => by rw [h0 _ c hy.2 hc, zero_mul]]
    idx_vars y
    have hy' : n ≤ y0.val := hy.1
    pointwise [blk256, rowsA, window_k256]
    rw [show n + (y0.val - n) = y0.val from by omega, row_fin]
  · rw [dif_neg hy]
    unfold accQ
    by_cases h' : (y 0).val < n
    · rw [if_pos h', if_pos (by omega)]
    · rw [if_neg h', if_neg (by omega)]

/-! ## Sub-blocks of 512 key rows -/

/-- The weights `f` of the 256 query rows from row `n` and the first 512 key rows of the block. -/
def blk512 (f : ℕ → Fin 1024 → EReal) (n : ℕ) : S256x512.Idx → EReal := fun y => f (n + (y 0).val) (Fin.castLE (by decide : 512 ≤ 1024) (y 1))

theorem window_v512 (X : S1024x128.Idx → EReal) (h) :
    VecWindow.window (s := S1024x128) X ![0, 0] ![512, 128] h = (fun y : S512x128.Idx => X (ix2 (Fin.castLE (by decide : 512 ≤ 1024) (y 0)) (y 1))) := by
  funext y
  refine congrArg X (funext fun a => Fin.ext ?_)
  match a with
  | ⟨0, _⟩ => exact (show 0 + 1 * (y 0).val = (y 0).val by omega)
  | ⟨1, _⟩ => exact (show 0 + 1 * (y 1).val = (y 1).val by omega)

theorem put_v512 (X : S1024x128.Idx → EReal) (w : S512x128.Idx → EReal) (y : S1024x128.Idx) :
    VecWindow.put (s := S1024x128) X ![0, 0] ![512, 128] w y = if h : (y 0).val < 512 then w (ix2 ⟨(y 0).val, h⟩ (y 1)) else X y := by
  by_cases h : (y 0).val < 512
  · have e : ∀ a, ![0, 0] a ≤ (y a).val ∧ (y a).val < ![0, 0] a + ![512, 128] a := fun a => match a with
      | ⟨0, _⟩ => ⟨Nat.zero_le _, (show (y 0).val < 0 + 512 by omega)⟩
      | ⟨1, _⟩ => ⟨Nat.zero_le _, (show (y 1).val < 0 + 128 by have : (y 1).val < 128 := (y 1).isLt; omega)⟩
    rw [dif_pos h]
    refine (dif_pos e).trans (congrArg w (funext fun a => Fin.ext ?_))
    match a with
    | ⟨0, _⟩ => exact (show (y 0).val - 0 = (y 0).val by omega)
    | ⟨1, _⟩ => exact (show (y 1).val - 0 = (y 1).val by omega)
  · rw [dif_neg h]
    refine dif_neg fun e => h ?_
    have := (e 0).2
    exact (show (y 0).val < 512 by simpa using this)

theorem window_k512 (X : S1024x256.Idx → EReal) (h) :
    VecWindow.window (s := S1024x256) X ![0, 0] ![512, 256] h = (fun y : S512x256.Idx => X (ix2 (Fin.castLE (by decide : 512 ≤ 1024) (y 0)) (y 1))) := by
  funext y
  refine congrArg X (funext fun a => Fin.ext ?_)
  match a with
  | ⟨0, _⟩ => exact (show 0 + 1 * (y 0).val = (y 0).val by omega)
  | ⟨1, _⟩ => exact (show 0 + 1 * (y 1).val = (y 1).val by omega)

theorem put_k512 (X : S1024x256.Idx → EReal) (w : S512x256.Idx → EReal) (y : S1024x256.Idx) :
    VecWindow.put (s := S1024x256) X ![0, 0] ![512, 256] w y = if h : (y 0).val < 512 then w (ix2 ⟨(y 0).val, h⟩ (y 1)) else X y := by
  by_cases h : (y 0).val < 512
  · have e : ∀ a, ![0, 0] a ≤ (y a).val ∧ (y a).val < ![0, 0] a + ![512, 256] a := fun a => match a with
      | ⟨0, _⟩ => ⟨Nat.zero_le _, (show (y 0).val < 0 + 512 by omega)⟩
      | ⟨1, _⟩ => ⟨Nat.zero_le _, (show (y 1).val < 0 + 256 by have : (y 1).val < 256 := (y 1).isLt; omega)⟩
    rw [dif_pos h]
    refine (dif_pos e).trans (congrArg w (funext fun a => Fin.ext ?_))
    match a with
    | ⟨0, _⟩ => exact (show (y 0).val - 0 = (y 0).val by omega)
    | ⟨1, _⟩ => exact (show (y 1).val - 0 = (y 1).val by omega)
  · rw [dif_neg h]
    refine dif_neg fun e => h ?_
    have := (e 0).2
    exact (show (y 0).val < 512 by simpa using this)

/-- The weights of a sub-block on the diagonal. -/
theorem diag512 (j : ℕ) (x0 : S8192x256.Idx → EReal) (x1 : S1024x256.Idx → EReal) (x4 : S8192x128.Idx → EReal) (h1) :
    (exp2 (subf (mulf (select (cmpi CmpIPredicate.sle (iota Kind.tc S256x512 32 [1] iota_S256x512_d1_w32) (addi (iota Kind.tc S256x512 32 [0] iota_S256x512_d0_w32) (broadcast S256x512 256#32)))
          (matmul (φ₁ := .bf16) (φ₂ := .bf16) dot_S256x256_S512x256_S256x512_1_1_0_0_n_n none (rowsA x0 (1024 * j + 256)) (VecWindow.window (s := S1024x256) x1 ![0, 0] ![512, 256] h1) (constant (F := Ideal) S256x512 FTy.f32 0#32)) (broadcast S256x512 (Named.named κ "mask" 4048155338#32))) (broadcast S256x512 (Named.named κ "scale2" 1037384597#32)))
        (broadcastTo S256x512 (extractStridedSlice S256x1 ![0, 0] (rowsB x4 (1024 * j + 256)) slices_S256x128_o0_0_S256x1) broadcasts_S256x1_S256x512)) : FVec Ideal S256x512 .f32)
      = blk512 (pr j x0 x1 x4) (1024 * j + 256) := by
  funext y
  idx_vars y
  pointwise [rowsA, rowsB, window_k512, blk512, pr, sc]
  rw [mask_sel _ _ _ y0.isLt (lt_of_lt_of_le y1.isLt (by decide)) (by decide), scale2_eq, mask_eq]
  exact congrArg (fun s => Ideal.exp2 (s * _ - _)) (if_congr (show y1.val ≤ y0.val + 256 ↔ 1024 * j + y1.val ≤ 1024 * j + 256 + y0.val by omega) rfl rfl)

/-- The score gradients of a sub-block. -/
theorem grad512 (j n : ℕ) (x0 : S8192x256.Idx → EReal) (x1 : S1024x256.Idx → EReal) (x2 : S1024x128.Idx → EReal) (x3 x4 : S8192x128.Idx → EReal) (h2) :
    (mulf (mulf (blk512 (pr j x0 x1 x4) n)
        (subf (matmul (φ₁ := .bf16) (φ₂ := .bf16) dot_S256x128_S512x128_S256x512_1_1_0_0_n_n none (rowsB x3 n) (VecWindow.window (s := S1024x128) x2 ![0, 0] ![512, 128] h2) (constant (F := Ideal) S256x512 FTy.f32 0#32))
          (broadcastTo S256x512 (extractStridedSlice S256x1 ![0, 64] (rowsB x4 n) slices_S256x128_o0_64_S256x1) broadcasts_S256x1_S256x512)))
      (broadcast S256x512 (Named.named κ "scale" 1033096506#32)) : FVec Ideal S256x512 .f32)
      = blk512 (ds j x0 x1 x2 x3 x4) n := by
  funext y
  idx_vars y
  pointwise [rowsB, window_v512, blk512, ds, dp]
  rw [scale_eq]

/-- The step of a sub-block's weighted rows of `X` (128 columns). -/
theorem step_v512 (f : ℕ → Fin 1024 → EReal) (X : S8192x128.Idx → EReal) (n : ℕ) (h) (h0 : ∀ q (c : Fin 1024), q < n + 256 → 512 ≤ c.val → f q c = 0) :
    VecWindow.put (s := S1024x128) (accB f X n) ![0, 0] ![512, 128]
      (addf (φ := .f32) (VecWindow.window (s := S1024x128) (accB f X n) ![0, 0] ![512, 128] h)
        (matmul (φ₁ := .bf16) (φ₂ := .bf16) dot_S256x512_S256x128_S512x128_0_0_1_1_n_n none (truncf FTy.bf16 (φ := .f32) (blk512 f n) bitsLt_bf16_f32) (rowsB X n) (constant (F := Ideal) S512x128 FTy.f32 0#32)))
      = accB f X (n + 256) := by
  funext y
  rw [put_v512, accB_step]
  by_cases hy : (y 0).val < 512
  · rw [dif_pos hy]
    idx_vars y
    pointwise [rowsB, blk512, window_v512]
    rfl
  · rw [dif_neg hy, Finset.sum_eq_zero fun r _ => (congrArg (· * _) (h0 _ _ (by have := r.isLt; omega) (Nat.le_of_not_lt hy))).trans (zero_mul _), add_zero]

/-- The step of a sub-block's weighted rows of `X` (256 columns). -/
theorem step_k512 (f : ℕ → Fin 1024 → EReal) (X : S8192x256.Idx → EReal) (n : ℕ) (h) (h0 : ∀ q (c : Fin 1024), q < n + 256 → 512 ≤ c.val → f q c = 0) :
    VecWindow.put (s := S1024x256) (accA f X n) ![0, 0] ![512, 256]
      (addf (φ := .f32) (VecWindow.window (s := S1024x256) (accA f X n) ![0, 0] ![512, 256] h)
        (matmul (φ₁ := .bf16) (φ₂ := .bf16) dot_S256x512_S256x256_S512x256_0_0_1_1_n_n none (truncf FTy.bf16 (φ := .f32) (blk512 f n) bitsLt_bf16_f32) (rowsA X n) (constant (F := Ideal) S512x256 FTy.f32 0#32)))
      = accA f X (n + 256) := by
  funext y
  rw [put_k512, accA_step]
  by_cases hy : (y 0).val < 512
  · rw [dif_pos hy]
    idx_vars y
    pointwise [rowsA, blk512, window_k512]
    rfl
  · rw [dif_neg hy, Finset.sum_eq_zero fun r _ => (congrArg (· * _) (h0 _ _ (by have := r.isLt; omega) (Nat.le_of_not_lt hy))).trans (zero_mul _), add_zero]

/-- The step of a sub-block's rows of the query gradient. -/
theorem step_q512 (f : ℕ → Fin 1024 → EReal) (X : S1024x256.Idx → EReal) (D : S8192x256.Idx → EReal) (n : ℕ) (hn : n + 256 ≤ 8192) (h) (h0 : ∀ q (c : Fin 1024), q < n + 256 → 512 ≤ c.val → f q c = 0) :
    VecWindow.put (s := S8192x256) (accQ f X D n) ![n, 0] ![256, 256]
      (addf (φ := .f32) (rowsA D n)
        (matmul (φ₁ := .bf16) (φ₂ := .bf16) dot_S256x512_S512x256_S256x256_1_0_0_1_n_n none (truncf FTy.bf16 (φ := .f32) (blk512 f n) bitsLt_bf16_f32) (VecWindow.window (s := S1024x256) X ![0, 0] ![512, 256] h) (constant (F := Ideal) S256x256 FTy.f32 0#32)))
      = accQ f X D (n + 256) := by
  funext y
  rw [put_rows]
  by_cases hy : n ≤ (y 0).val ∧ (y 0).val < n + 256
  · rw [dif_pos hy]
    have e : accQ f X D (n + 256) y = D y + ∑ c : Fin 1024, f (y 0).val c * X (ix2 c (y 1)) := if_pos hy.2
    rw [e]
    rw [sum_prefix 512 (by decide) _ fun c hc => by rw [h0 _ c hy.2 hc, zero_mul]]
    idx_vars y
    have hy' : n ≤ y0.val := hy.1
    pointwise [blk512, rowsA, window_k512]
    rw [show n + (y0.val - n) = y0.val from by omega, row_fin]
  · rw [dif_neg hy]
    unfold accQ
    by_cases h' : (y 0).val < n
    · rw [if_pos h', if_pos (by omega)]
    · rw [if_neg h', if_neg (by omega)]

/-! ## Sub-blocks of 768 key rows -/

/-- The weights `f` of the 256 query rows from row `n` and the first 768 key rows of the block. -/
def blk768 (f : ℕ → Fin 1024 → EReal) (n : ℕ) : S256x768.Idx → EReal := fun y => f (n + (y 0).val) (Fin.castLE (by decide : 768 ≤ 1024) (y 1))

theorem window_v768 (X : S1024x128.Idx → EReal) (h) :
    VecWindow.window (s := S1024x128) X ![0, 0] ![768, 128] h = (fun y : S768x128.Idx => X (ix2 (Fin.castLE (by decide : 768 ≤ 1024) (y 0)) (y 1))) := by
  funext y
  refine congrArg X (funext fun a => Fin.ext ?_)
  match a with
  | ⟨0, _⟩ => exact (show 0 + 1 * (y 0).val = (y 0).val by omega)
  | ⟨1, _⟩ => exact (show 0 + 1 * (y 1).val = (y 1).val by omega)

theorem put_v768 (X : S1024x128.Idx → EReal) (w : S768x128.Idx → EReal) (y : S1024x128.Idx) :
    VecWindow.put (s := S1024x128) X ![0, 0] ![768, 128] w y = if h : (y 0).val < 768 then w (ix2 ⟨(y 0).val, h⟩ (y 1)) else X y := by
  by_cases h : (y 0).val < 768
  · have e : ∀ a, ![0, 0] a ≤ (y a).val ∧ (y a).val < ![0, 0] a + ![768, 128] a := fun a => match a with
      | ⟨0, _⟩ => ⟨Nat.zero_le _, (show (y 0).val < 0 + 768 by omega)⟩
      | ⟨1, _⟩ => ⟨Nat.zero_le _, (show (y 1).val < 0 + 128 by have : (y 1).val < 128 := (y 1).isLt; omega)⟩
    rw [dif_pos h]
    refine (dif_pos e).trans (congrArg w (funext fun a => Fin.ext ?_))
    match a with
    | ⟨0, _⟩ => exact (show (y 0).val - 0 = (y 0).val by omega)
    | ⟨1, _⟩ => exact (show (y 1).val - 0 = (y 1).val by omega)
  · rw [dif_neg h]
    refine dif_neg fun e => h ?_
    have := (e 0).2
    exact (show (y 0).val < 768 by simpa using this)

theorem window_k768 (X : S1024x256.Idx → EReal) (h) :
    VecWindow.window (s := S1024x256) X ![0, 0] ![768, 256] h = (fun y : S768x256.Idx => X (ix2 (Fin.castLE (by decide : 768 ≤ 1024) (y 0)) (y 1))) := by
  funext y
  refine congrArg X (funext fun a => Fin.ext ?_)
  match a with
  | ⟨0, _⟩ => exact (show 0 + 1 * (y 0).val = (y 0).val by omega)
  | ⟨1, _⟩ => exact (show 0 + 1 * (y 1).val = (y 1).val by omega)

theorem put_k768 (X : S1024x256.Idx → EReal) (w : S768x256.Idx → EReal) (y : S1024x256.Idx) :
    VecWindow.put (s := S1024x256) X ![0, 0] ![768, 256] w y = if h : (y 0).val < 768 then w (ix2 ⟨(y 0).val, h⟩ (y 1)) else X y := by
  by_cases h : (y 0).val < 768
  · have e : ∀ a, ![0, 0] a ≤ (y a).val ∧ (y a).val < ![0, 0] a + ![768, 256] a := fun a => match a with
      | ⟨0, _⟩ => ⟨Nat.zero_le _, (show (y 0).val < 0 + 768 by omega)⟩
      | ⟨1, _⟩ => ⟨Nat.zero_le _, (show (y 1).val < 0 + 256 by have : (y 1).val < 256 := (y 1).isLt; omega)⟩
    rw [dif_pos h]
    refine (dif_pos e).trans (congrArg w (funext fun a => Fin.ext ?_))
    match a with
    | ⟨0, _⟩ => exact (show (y 0).val - 0 = (y 0).val by omega)
    | ⟨1, _⟩ => exact (show (y 1).val - 0 = (y 1).val by omega)
  · rw [dif_neg h]
    refine dif_neg fun e => h ?_
    have := (e 0).2
    exact (show (y 0).val < 768 by simpa using this)

/-- The weights of a sub-block on the diagonal. -/
theorem diag768 (j : ℕ) (x0 : S8192x256.Idx → EReal) (x1 : S1024x256.Idx → EReal) (x4 : S8192x128.Idx → EReal) (h1) :
    (exp2 (subf (mulf (select (cmpi CmpIPredicate.sle (iota Kind.tc S256x768 32 [1] iota_S256x768_d1_w32) (addi (iota Kind.tc S256x768 32 [0] iota_S256x768_d0_w32) (broadcast S256x768 512#32)))
          (matmul (φ₁ := .bf16) (φ₂ := .bf16) dot_S256x256_S768x256_S256x768_1_1_0_0_n_n none (rowsA x0 (1024 * j + 512)) (VecWindow.window (s := S1024x256) x1 ![0, 0] ![768, 256] h1) (constant (F := Ideal) S256x768 FTy.f32 0#32)) (broadcast S256x768 (Named.named κ "mask" 4048155338#32))) (broadcast S256x768 (Named.named κ "scale2" 1037384597#32)))
        (broadcastTo S256x768 (extractStridedSlice S256x1 ![0, 0] (rowsB x4 (1024 * j + 512)) slices_S256x128_o0_0_S256x1) broadcasts_S256x1_S256x768)) : FVec Ideal S256x768 .f32)
      = blk768 (pr j x0 x1 x4) (1024 * j + 512) := by
  funext y
  idx_vars y
  pointwise [rowsA, rowsB, window_k768, blk768, pr, sc]
  rw [mask_sel _ _ _ y0.isLt (lt_of_lt_of_le y1.isLt (by decide)) (by decide), scale2_eq, mask_eq]
  exact congrArg (fun s => Ideal.exp2 (s * _ - _)) (if_congr (show y1.val ≤ y0.val + 512 ↔ 1024 * j + y1.val ≤ 1024 * j + 512 + y0.val by omega) rfl rfl)

/-- The score gradients of a sub-block. -/
theorem grad768 (j n : ℕ) (x0 : S8192x256.Idx → EReal) (x1 : S1024x256.Idx → EReal) (x2 : S1024x128.Idx → EReal) (x3 x4 : S8192x128.Idx → EReal) (h2) :
    (mulf (mulf (blk768 (pr j x0 x1 x4) n)
        (subf (matmul (φ₁ := .bf16) (φ₂ := .bf16) dot_S256x128_S768x128_S256x768_1_1_0_0_n_n none (rowsB x3 n) (VecWindow.window (s := S1024x128) x2 ![0, 0] ![768, 128] h2) (constant (F := Ideal) S256x768 FTy.f32 0#32))
          (broadcastTo S256x768 (extractStridedSlice S256x1 ![0, 64] (rowsB x4 n) slices_S256x128_o0_64_S256x1) broadcasts_S256x1_S256x768)))
      (broadcast S256x768 (Named.named κ "scale" 1033096506#32)) : FVec Ideal S256x768 .f32)
      = blk768 (ds j x0 x1 x2 x3 x4) n := by
  funext y
  idx_vars y
  pointwise [rowsB, window_v768, blk768, ds, dp]
  rw [scale_eq]

/-- The step of a sub-block's weighted rows of `X` (128 columns). -/
theorem step_v768 (f : ℕ → Fin 1024 → EReal) (X : S8192x128.Idx → EReal) (n : ℕ) (h) (h0 : ∀ q (c : Fin 1024), q < n + 256 → 768 ≤ c.val → f q c = 0) :
    VecWindow.put (s := S1024x128) (accB f X n) ![0, 0] ![768, 128]
      (addf (φ := .f32) (VecWindow.window (s := S1024x128) (accB f X n) ![0, 0] ![768, 128] h)
        (matmul (φ₁ := .bf16) (φ₂ := .bf16) dot_S256x768_S256x128_S768x128_0_0_1_1_n_n none (truncf FTy.bf16 (φ := .f32) (blk768 f n) bitsLt_bf16_f32) (rowsB X n) (constant (F := Ideal) S768x128 FTy.f32 0#32)))
      = accB f X (n + 256) := by
  funext y
  rw [put_v768, accB_step]
  by_cases hy : (y 0).val < 768
  · rw [dif_pos hy]
    idx_vars y
    pointwise [rowsB, blk768, window_v768]
    rfl
  · rw [dif_neg hy, Finset.sum_eq_zero fun r _ => (congrArg (· * _) (h0 _ _ (by have := r.isLt; omega) (Nat.le_of_not_lt hy))).trans (zero_mul _), add_zero]

/-- The step of a sub-block's weighted rows of `X` (256 columns). -/
theorem step_k768 (f : ℕ → Fin 1024 → EReal) (X : S8192x256.Idx → EReal) (n : ℕ) (h) (h0 : ∀ q (c : Fin 1024), q < n + 256 → 768 ≤ c.val → f q c = 0) :
    VecWindow.put (s := S1024x256) (accA f X n) ![0, 0] ![768, 256]
      (addf (φ := .f32) (VecWindow.window (s := S1024x256) (accA f X n) ![0, 0] ![768, 256] h)
        (matmul (φ₁ := .bf16) (φ₂ := .bf16) dot_S256x768_S256x256_S768x256_0_0_1_1_n_n none (truncf FTy.bf16 (φ := .f32) (blk768 f n) bitsLt_bf16_f32) (rowsA X n) (constant (F := Ideal) S768x256 FTy.f32 0#32)))
      = accA f X (n + 256) := by
  funext y
  rw [put_k768, accA_step]
  by_cases hy : (y 0).val < 768
  · rw [dif_pos hy]
    idx_vars y
    pointwise [rowsA, blk768, window_k768]
    rfl
  · rw [dif_neg hy, Finset.sum_eq_zero fun r _ => (congrArg (· * _) (h0 _ _ (by have := r.isLt; omega) (Nat.le_of_not_lt hy))).trans (zero_mul _), add_zero]

/-- The step of a sub-block's rows of the query gradient. -/
theorem step_q768 (f : ℕ → Fin 1024 → EReal) (X : S1024x256.Idx → EReal) (D : S8192x256.Idx → EReal) (n : ℕ) (hn : n + 256 ≤ 8192) (h) (h0 : ∀ q (c : Fin 1024), q < n + 256 → 768 ≤ c.val → f q c = 0) :
    VecWindow.put (s := S8192x256) (accQ f X D n) ![n, 0] ![256, 256]
      (addf (φ := .f32) (rowsA D n)
        (matmul (φ₁ := .bf16) (φ₂ := .bf16) dot_S256x768_S768x256_S256x256_1_0_0_1_n_n none (truncf FTy.bf16 (φ := .f32) (blk768 f n) bitsLt_bf16_f32) (VecWindow.window (s := S1024x256) X ![0, 0] ![768, 256] h) (constant (F := Ideal) S256x256 FTy.f32 0#32)))
      = accQ f X D (n + 256) := by
  funext y
  rw [put_rows]
  by_cases hy : n ≤ (y 0).val ∧ (y 0).val < n + 256
  · rw [dif_pos hy]
    have e : accQ f X D (n + 256) y = D y + ∑ c : Fin 1024, f (y 0).val c * X (ix2 c (y 1)) := if_pos hy.2
    rw [e]
    rw [sum_prefix 768 (by decide) _ fun c hc => by rw [h0 _ c hy.2 hc, zero_mul]]
    idx_vars y
    have hy' : n ≤ y0.val := hy.1
    pointwise [blk768, rowsA, window_k768]
    rw [show n + (y0.val - n) = y0.val from by omega, row_fin]
  · rw [dif_neg hy]
    unfold accQ
    by_cases h' : (y 0).val < n
    · rw [if_pos h', if_pos (by omega)]
    · rw [if_neg h', if_neg (by omega)]

/-! ## Sub-blocks of 1024 key rows -/

/-- The weights `f` of the 256 query rows from row `n` and the first 1024 key rows of the block. -/
def blk1024 (f : ℕ → Fin 1024 → EReal) (n : ℕ) : S256x1024.Idx → EReal := fun y => f (n + (y 0).val) (Fin.castLE (by decide : 1024 ≤ 1024) (y 1))

/-- The weights of a sub-block on the diagonal. -/
theorem diag1024 (j : ℕ) (x0 : S8192x256.Idx → EReal) (x1 : S1024x256.Idx → EReal) (x4 : S8192x128.Idx → EReal) :
    (exp2 (subf (mulf (select (cmpi CmpIPredicate.sle (iota Kind.tc S256x1024 32 [1] iota_S256x1024_d1_w32) (addi (iota Kind.tc S256x1024 32 [0] iota_S256x1024_d0_w32) (broadcast S256x1024 768#32)))
          (matmul (φ₁ := .bf16) (φ₂ := .bf16) dot_S256x256_S1024x256_S256x1024_1_1_0_0_n_n none (rowsA x0 (1024 * j + 768)) x1 (constant (F := Ideal) S256x1024 FTy.f32 0#32)) (broadcast S256x1024 (Named.named κ "mask" 4048155338#32))) (broadcast S256x1024 (Named.named κ "scale2" 1037384597#32)))
        (broadcastTo S256x1024 (extractStridedSlice S256x1 ![0, 0] (rowsB x4 (1024 * j + 768)) slices_S256x128_o0_0_S256x1) broadcasts_S256x1_S256x1024)) : FVec Ideal S256x1024 .f32)
      = blk1024 (pr j x0 x1 x4) (1024 * j + 768) := by
  funext y
  idx_vars y
  pointwise [rowsA, rowsB, blk1024, pr, sc]
  rw [mask_sel _ _ _ y0.isLt (lt_of_lt_of_le y1.isLt (by decide)) (by decide), scale2_eq, mask_eq]
  exact congrArg (fun s => Ideal.exp2 (s * _ - _)) (if_congr (show y1.val ≤ y0.val + 768 ↔ 1024 * j + y1.val ≤ 1024 * j + 768 + y0.val by omega) rfl rfl)

/-- The weights of a sub-block below the diagonal. -/
theorem full1024 (j n : ℕ) (hn : 1024 * (j + 1) ≤ n) (x0 : S8192x256.Idx → EReal) (x1 : S1024x256.Idx → EReal) (x4 : S8192x128.Idx → EReal) :
    (exp2 (subf (mulf (matmul (φ₁ := .bf16) (φ₂ := .bf16) dot_S256x256_S1024x256_S256x1024_1_1_0_0_n_n none (rowsA x0 n) x1 (constant (F := Ideal) S256x1024 FTy.f32 0#32)) (broadcast S256x1024 (Named.named κ "scale2" 1037384597#32)))
        (broadcastTo S256x1024 (extractStridedSlice S256x1 ![0, 0] (rowsB x4 n) slices_S256x128_o0_0_S256x1) broadcasts_S256x1_S256x1024)) : FVec Ideal S256x1024 .f32)
      = blk1024 (pr j x0 x1 x4) n := by
  funext y
  idx_vars y
  pointwise [rowsA, rowsB, blk1024, pr, sc]
  rw [scale2_eq]
  exact congrArg (fun s => Ideal.exp2 (s * _ - _)) (if_pos (show 1024 * j + y1.val ≤ n + y0.val by have := y1.isLt; omega)).symm

/-- The score gradients of a sub-block. -/
theorem grad1024 (j n : ℕ) (x0 : S8192x256.Idx → EReal) (x1 : S1024x256.Idx → EReal) (x2 : S1024x128.Idx → EReal) (x3 x4 : S8192x128.Idx → EReal) :
    (mulf (mulf (blk1024 (pr j x0 x1 x4) n)
        (subf (matmul (φ₁ := .bf16) (φ₂ := .bf16) dot_S256x128_S1024x128_S256x1024_1_1_0_0_n_n none (rowsB x3 n) x2 (constant (F := Ideal) S256x1024 FTy.f32 0#32))
          (broadcastTo S256x1024 (extractStridedSlice S256x1 ![0, 64] (rowsB x4 n) slices_S256x128_o0_64_S256x1) broadcasts_S256x1_S256x1024)))
      (broadcast S256x1024 (Named.named κ "scale" 1033096506#32)) : FVec Ideal S256x1024 .f32)
      = blk1024 (ds j x0 x1 x2 x3 x4) n := by
  funext y
  idx_vars y
  pointwise [rowsB, blk1024, ds, dp]
  rw [scale_eq]
  rfl

/-- The step of a sub-block's weighted rows of `X` (128 columns). -/
theorem step_v1024 (f : ℕ → Fin 1024 → EReal) (X : S8192x128.Idx → EReal) (n : ℕ) :
    (addf (φ := .f32) (accB f X n)
        (matmul (φ₁ := .bf16) (φ₂ := .bf16) dot_S256x1024_S256x128_S1024x128_0_0_1_1_n_n none (truncf FTy.bf16 (φ := .f32) (blk1024 f n) bitsLt_bf16_f32) (rowsB X n) (constant (F := Ideal) S1024x128 FTy.f32 0#32)))
      = accB f X (n + 256) := by
  funext y
  rw [accB_step]
  idx_vars y
  pointwise [rowsB, blk1024]
  rfl

/-- The step of a sub-block's weighted rows of `X` (256 columns). -/
theorem step_k1024 (f : ℕ → Fin 1024 → EReal) (X : S8192x256.Idx → EReal) (n : ℕ) :
    (addf (φ := .f32) (accA f X n)
        (matmul (φ₁ := .bf16) (φ₂ := .bf16) dot_S256x1024_S256x256_S1024x256_0_0_1_1_n_n none (truncf FTy.bf16 (φ := .f32) (blk1024 f n) bitsLt_bf16_f32) (rowsA X n) (constant (F := Ideal) S1024x256 FTy.f32 0#32)))
      = accA f X (n + 256) := by
  funext y
  rw [accA_step]
  idx_vars y
  pointwise [rowsA, blk1024]
  rfl

/-- The step of a sub-block's rows of the query gradient. -/
theorem step_q1024 (f : ℕ → Fin 1024 → EReal) (X : S1024x256.Idx → EReal) (D : S8192x256.Idx → EReal) (n : ℕ) (hn : n + 256 ≤ 8192) :
    VecWindow.put (s := S8192x256) (accQ f X D n) ![n, 0] ![256, 256]
      (addf (φ := .f32) (rowsA D n)
        (matmul (φ₁ := .bf16) (φ₂ := .bf16) dot_S256x1024_S1024x256_S256x256_1_0_0_1_n_n none (truncf FTy.bf16 (φ := .f32) (blk1024 f n) bitsLt_bf16_f32) X (constant (F := Ideal) S256x256 FTy.f32 0#32)))
      = accQ f X D (n + 256) := by
  funext y
  rw [put_rows]
  by_cases hy : n ≤ (y 0).val ∧ (y 0).val < n + 256
  · rw [dif_pos hy]
    have e : accQ f X D (n + 256) y = D y + ∑ c : Fin 1024, f (y 0).val c * X (ix2 c (y 1)) := if_pos hy.2
    rw [e]

    idx_vars y
    have hy' : n ≤ y0.val := hy.1
    pointwise [blk1024, rowsA]
    rw [show n + (y0.val - n) = y0.val from by omega, row_fin]
    rfl
  · rw [dif_neg hy]
    unfold accQ
    by_cases h' : (y 0).val < n
    · rw [if_pos h', if_pos (by omega)]
    · rw [if_neg h', if_neg (by omega)]

end Cert.KernelIdeal.Val
end
-- ==== Proof.Trip.lean ====
module

public import proofs.«01_k».proof.Proof.Block
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.LoopRemainder
public import Idealize.ShloMosaic.Lib.Tactic

/-! The loop over the later query blocks: each trip takes the three running sums over the next 1024 query rows. -/

@[expose] public section

set_option maxRecDepth 16384
noncomputable section

namespace Cert.KernelIdeal.Val

open Cert.KernelIdeal Cert.KernelIdeal.Gen
open Idealize.ShloMosaic Idealize.ShloMosaic.TcCoe Idealize.ShloMosaic.Tactic
open Idealize.SL.Sem

/-- The loop over the later query blocks runs once for each. -/
theorem t1_trips (i : grid0.Coords) : (k0_t1_loop i).trips = 7 - (i 1).val := by
  have h : ∀ j : Fin 8, Scf.trips (Scalar.addi (BitVec.ofNat 32 j.val) 1#32) (Scalar.addi (Scalar.addi (BitVec.ofNat 32 j.val) 1#32) (Scalar.muli (Scalar.divsi (Scalar.subi 8#32 (Scalar.addi (BitVec.ofNat 32 j.val) 1#32)) 1#32) 1#32)) 1#32 = 7 - j.val := by decide +kernel
  exact h (i 1)

/-- The first row of a sub-block on the diagonal. -/
theorem off1_eq (i : grid0.Coords) (r : ℕ) (hr : r < 1024) : k0_off1 i (BitVec.ofNat 32 r) = ![1024 * (i 1).val + r, 0] := by
  have hj : (i 1).val < 8 := (i 1).isLt
  have e : ((BitVec.ofNat 32 (i 1).val * 1024#32) + BitVec.ofNat 32 r).toNat = 1024 * (i 1).val + r := by
    simp only [BitVec.toNat_add, BitVec.toNat_mul, BitVec.toNat_ofNat]
    omega
  exact congrArg (fun n => ![n, 0]) e

theorem off2_eq (i : grid0.Coords) (r : ℕ) (hr : r < 1024) : k0_off2 i (BitVec.ofNat 32 r) = ![1024 * (i 1).val + r, 0] := off1_eq i r hr

/-- The first row of a sub-block of a later query block. -/
theorem off3_eq (i : grid0.Coords) (k : Fin (k0_t1_loop i).trips) (r : ℕ) (hr : r < 1024) :
    k0_off3 i k (BitVec.ofNat 32 r) = ![1024 * ((i 1).val + 1 + k.val) + r, 0] := by
  have hj : (i 1).val < 8 := (i 1).isLt
  have hk : k.val < 8 := by have := t1_trips i; have := k.isLt; omega
  have e : (((BitVec.ofNat 32 (i 1).val + 1#32) + BitVec.ofNat 32 k * 1#32) * 1024#32 + BitVec.ofNat 32 r).toNat = 1024 * ((i 1).val + 1 + k.val) + r := by
    simp only [BitVec.toNat_add, BitVec.toNat_mul, BitVec.toNat_ofNat]
    omega
  exact congrArg (fun n => ![n, 0]) e

theorem off4_eq (i : grid0.Coords) (k : Fin (k0_t1_loop i).trips) (r : ℕ) (hr : r < 1024) :
    k0_off4 i k (BitVec.ofNat 32 r) = ![1024 * ((i 1).val + 1 + k.val) + r, 0] := off3_eq i k r hr

/-- A load reads a window of what the view reads. -/
theorem rd {sig : RefSig} {κ : Kind} {sp : Space} {s : Shape} {e : EltTy} {Val : EltTy → Type} (v : View sig κ sp s e) (f : v.ty.Contents Val) {off size : Fin s.rank → ℕ} (inb : ∀ a, off a + size a ≤ s.size a) :
    v.readAt Val (Rect.unit off size inb).toLoadRect f = VecWindow.window (v.read Val f) off size inb := rfl

/-- A load stated over the stores before it reads a window of what they left. -/
theorem rdc {sig : RefSig} {κ : Kind} {sp : Space} {s : Shape} {e : EltTy} {Val : EltTy → Type} [∀ e, Nonempty (Val e)] (v : View sig κ sp s e) (L : List (View.Piece Val s e)) {off size : Fin s.rank → ℕ} (inb : ∀ a, off a + size a ≤ s.size a) :
    v.readCov L (Rect.unit off size inb).toLoadRect = VecWindow.window (v.read Val (v.writes Val v.junk L)) off size inb := rfl

/-- A store puts its payload over what the earlier stores left. -/
theorem wr {sig : RefSig} {κ : Kind} {sp : Space} {s : Shape} {e : EltTy} {Val : EltTy → Type} (v : View sig κ sp s e) (f : v.ty.Contents Val) {off size : Fin s.rank → ℕ}
    (inb : ∀ a, off a + size a ≤ s.size a) (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

/-- A trip's rows of the query gradient. -/
theorem trip_dq (c : Dev nD) (i : grid0.Coords) (arg2 : Memref sig .tc .vmem S8192x256 .bf16) (harg2 : arg2.IsWhole) (arg3 : Memref sig .tc .vmem S1024x256 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x256 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x256 .f32) (harg11 : arg11.IsWhole) (arg12 : Memref sig .tc .vmem S1024x128 .f32) (harg12 : arg12.IsWhole) (v273 : BitVec 32)
    (x0 : Vec Ideal S8192x256 .bf16) (x1 : Vec Ideal S1024x256 .bf16) (x2 : Vec Ideal S1024x128 .bf16) (x3 : Vec Ideal S8192x128 .bf16) (x4 : Vec Ideal S8192x128 .f32) (k : Fin (k0_t1_loop i).trips) (f7) (f11) (f12) (D : S8192x256.Idx → EReal)
    (hf : arg7.view.read (Elt Ideal) f7 = accQ (ds (i 1).val x0 x1 x2 x3 x4) x1 D (1024 * ((i 1).val + 1 + k.val))) :
    arg7.view.read (Elt Ideal) (arg7.view.writes (Elt Ideal) f7 ((tripL_k0_t1 (F := Ideal) Variants.none c none i arg2 harg2 arg3 harg3 arg4 harg4 arg5 harg5 arg6 harg6 arg7 harg7 arg8 harg8 arg9 harg9 arg10 harg10 arg11 harg11 arg12 harg12 v273 (harg2.unread x0) (harg3.unread x1) (harg4.unread x2) (harg5.unread x3) (harg6.unread x4) k f7 f11 f12).1))
      = accQ (ds (i 1).val x0 x1 x2 x3 x4) x1 D (1024 * ((i 1).val + 1 + (k.val + 1))) := by
  have ht : (i 1).val + 1 + k.val < 8 := by have := t1_trips i; have := k.isLt; omega
  unfold tripL_k0_t1 trip_k0_t1
  dsimp only
  sl_unfold_run_names
  simp only [rd, rdc, wr, View.writes_nil, harg2.read_unread, harg3.read_unread, harg4.read_unread, harg5.read_unread, harg6.read_unread]
  unfold_payloads
  simp only [shapeCast_self, put_k, put_v, window_k, window_v, off3_eq i k 0 (by omega), off4_eq i k 0 (by omega), off3_eq i k 256 (by omega), off4_eq i k 256 (by omega), off3_eq i k 512 (by omega), off4_eq i k 512 (by omega), off3_eq i k 768 (by omega), off4_eq i k 768 (by omega),
    window_rowsA _ (off3_eq i k 0 (by omega)), window_rowsB _ (off4_eq i k 0 (by omega)), window_rowsA _ (off3_eq i k 256 (by omega)), window_rowsB _ (off4_eq i k 256 (by omega)), window_rowsA _ (off3_eq i k 512 (by omega)), window_rowsB _ (off4_eq i k 512 (by omega)), window_rowsA _ (off3_eq i k 768 (by omega)), window_rowsB _ (off4_eq i k 768 (by omega))]
  simp only [full1024 (i 1).val (1024 * ((i 1).val + 1 + k.val) + 0) (by omega), full1024 (i 1).val (1024 * ((i 1).val + 1 + k.val) + 256) (by omega), full1024 (i 1).val (1024 * ((i 1).val + 1 + k.val) + 512) (by omega), full1024 (i 1).val (1024 * ((i 1).val + 1 + k.val) + 768) (by omega), grad1024]
  rw [hf]
  have e2 : 1024 * ((i 1).val + 1 + (k.val + 1)) = 1024 * ((i 1).val + 1 + k.val) + 768 + 256 := by omega
  have hN : 1024 * ((i 1).val + 1 + k.val) + 1024 ≤ 8192 := by omega
  rw [e2]
  generalize 1024 * ((i 1).val + 1 + k.val) = N at hN ⊢
  simp only [Nat.add_zero]
  rw [rowsA_accQ _ _ _ _ _ (Nat.le_refl N) (by omega), rowsA_accQ _ _ _ _ _ (show N ≤ N + 256 by omega) (by omega), rowsA_accQ _ _ _ _ _ (show N ≤ N + 512 by omega) (by omega), rowsA_accQ _ _ _ _ _ (show N ≤ N + 768 by omega) (by omega)]
  rw [step_q1024 _ _ _ _ (by omega), step_q1024 _ _ _ _ (by omega), show N + 256 + 256 = N + 512 from rfl, step_q1024 _ _ _ _ (by omega), show N + 512 + 256 = N + 768 from rfl, step_q1024 _ _ _ _ (by omega)]

/-- A trip's terms of the key gradient. -/
theorem trip_dk (c : Dev nD) (i : grid0.Coords) (arg2 : Memref sig .tc .vmem S8192x256 .bf16) (harg2 : arg2.IsWhole) (arg3 : Memref sig .tc .vmem S1024x256 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x256 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x256 .f32) (harg11 : arg11.IsWhole) (arg12 : Memref sig .tc .vmem S1024x128 .f32) (harg12 : arg12.IsWhole) (v273 : BitVec 32)
    (x0 : Vec Ideal S8192x256 .bf16) (x1 : Vec Ideal S1024x256 .bf16) (x2 : Vec Ideal S1024x128 .bf16) (x3 : Vec Ideal S8192x128 .bf16) (x4 : Vec Ideal S8192x128 .f32) (k : Fin (k0_t1_loop i).trips) (f7) (f11) (f12)
    (hf : arg11.view.read (Elt Ideal) f11 = accA (ds (i 1).val x0 x1 x2 x3 x4) x0 (1024 * ((i 1).val + 1 + k.val))) :
    arg11.view.read (Elt Ideal) (arg11.view.writes (Elt Ideal) f11 ((tripL_k0_t1 (F := Ideal) Variants.none c none i arg2 harg2 arg3 harg3 arg4 harg4 arg5 harg5 arg6 harg6 arg7 harg7 arg8 harg8 arg9 harg9 arg10 harg10 arg11 harg11 arg12 harg12 v273 (harg2.unread x0) (harg3.unread x1) (harg4.unread x2) (harg5.unread x3) (harg6.unread x4) k f7 f11 f12).2.1))
      = accA (ds (i 1).val x0 x1 x2 x3 x4) x0 (1024 * ((i 1).val + 1 + (k.val + 1))) := by
  have ht : (i 1).val + 1 + k.val < 8 := by have := t1_trips i; have := k.isLt; omega
  unfold tripL_k0_t1 trip_k0_t1
  dsimp only
  sl_unfold_run_names
  simp only [rd, rdc, wr, View.writes_nil, harg2.read_unread, harg3.read_unread, harg4.read_unread, harg5.read_unread, harg6.read_unread]
  unfold_payloads
  simp only [shapeCast_self, put_k, put_v, window_k, window_v, off3_eq i k 0 (by omega), off4_eq i k 0 (by omega), off3_eq i k 256 (by omega), off4_eq i k 256 (by omega), off3_eq i k 512 (by omega), off4_eq i k 512 (by omega), off3_eq i k 768 (by omega), off4_eq i k 768 (by omega),
    window_rowsA _ (off3_eq i k 0 (by omega)), window_rowsB _ (off4_eq i k 0 (by omega)), window_rowsA _ (off3_eq i k 256 (by omega)), window_rowsB _ (off4_eq i k 256 (by omega)), window_rowsA _ (off3_eq i k 512 (by omega)), window_rowsB _ (off4_eq i k 512 (by omega)), window_rowsA _ (off3_eq i k 768 (by omega)), window_rowsB _ (off4_eq i k 768 (by omega))]
  simp only [full1024 (i 1).val (1024 * ((i 1).val + 1 + k.val) + 0) (by omega), full1024 (i 1).val (1024 * ((i 1).val + 1 + k.val) + 256) (by omega), full1024 (i 1).val (1024 * ((i 1).val + 1 + k.val) + 512) (by omega), full1024 (i 1).val (1024 * ((i 1).val + 1 + k.val) + 768) (by omega), grad1024]
  rw [hf]
  have e2 : 1024 * ((i 1).val + 1 + (k.val + 1)) = 1024 * ((i 1).val + 1 + k.val) + 768 + 256 := by omega
  have hN : 1024 * ((i 1).val + 1 + k.val) + 1024 ≤ 8192 := by omega
  rw [e2]
  generalize 1024 * ((i 1).val + 1 + k.val) = N at hN ⊢
  simp only [Nat.add_zero]
  rw [step_k1024, step_k1024, show N + 256 + 256 = N + 512 from rfl, step_k1024, show N + 512 + 256 = N + 768 from rfl, step_k1024]

/-- A trip's terms of the value gradient. -/
theorem trip_dv (c : Dev nD) (i : grid0.Coords) (arg2 : Memref sig .tc .vmem S8192x256 .bf16) (harg2 : arg2.IsWhole) (arg3 : Memref sig .tc .vmem S1024x256 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x256 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x256 .f32) (harg11 : arg11.IsWhole) (arg12 : Memref sig .tc .vmem S1024x128 .f32) (harg12 : arg12.IsWhole) (v273 : BitVec 32)
    (x0 : Vec Ideal S8192x256 .bf16) (x1 : Vec Ideal S1024x256 .bf16) (x2 : Vec Ideal S1024x128 .bf16) (x3 : Vec Ideal S8192x128 .bf16) (x4 : Vec Ideal S8192x128 .f32) (k : Fin (k0_t1_loop i).trips) (f7) (f11) (f12)
    (hf : arg12.view.read (Elt Ideal) f12 = accB (pr (i 1).val x0 x1 x4) x3 (1024 * ((i 1).val + 1 + k.val))) :
    arg12.view.read (Elt Ideal) (arg12.view.writes (Elt Ideal) f12 ((tripL_k0_t1 (F := Ideal) Variants.none c none i arg2 harg2 arg3 harg3 arg4 harg4 arg5 harg5 arg6 harg6 arg7 harg7 arg8 harg8 arg9 harg9 arg10 harg10 arg11 harg11 arg12 harg12 v273 (harg2.unread x0) (harg3.unread x1) (harg4.unread x2) (harg5.unread x3) (harg6.unread x4) k f7 f11 f12).2.2))
      = accB (pr (i 1).val x0 x1 x4) x3 (1024 * ((i 1).val + 1 + (k.val + 1))) := by
  have ht : (i 1).val + 1 + k.val < 8 := by have := t1_trips i; have := k.isLt; omega
  unfold tripL_k0_t1 trip_k0_t1
  dsimp only
  sl_unfold_run_names
  simp only [rd, rdc, wr, View.writes_nil, harg2.read_unread, harg3.read_unread, harg4.read_unread, harg5.read_unread, harg6.read_unread]
  unfold_payloads
  simp only [shapeCast_self, put_k, put_v, window_k, window_v, off3_eq i k 0 (by omega), off4_eq i k 0 (by omega), off3_eq i k 256 (by omega), off4_eq i k 256 (by omega), off3_eq i k 512 (by omega), off4_eq i k 512 (by omega), off3_eq i k 768 (by omega), off4_eq i k 768 (by omega),
    window_rowsA _ (off3_eq i k 0 (by omega)), window_rowsB _ (off4_eq i k 0 (by omega)), window_rowsA _ (off3_eq i k 256 (by omega)), window_rowsB _ (off4_eq i k 256 (by omega)), window_rowsA _ (off3_eq i k 512 (by omega)), window_rowsB _ (off4_eq i k 512 (by omega)), window_rowsA _ (off3_eq i k 768 (by omega)), window_rowsB _ (off4_eq i k 768 (by omega))]
  simp only [full1024 (i 1).val (1024 * ((i 1).val + 1 + k.val) + 0) (by omega), full1024 (i 1).val (1024 * ((i 1).val + 1 + k.val) + 256) (by omega), full1024 (i 1).val (1024 * ((i 1).val + 1 + k.val) + 512) (by omega), full1024 (i 1).val (1024 * ((i 1).val + 1 + k.val) + 768) (by omega), grad1024]
  rw [hf]
  have e2 : 1024 * ((i 1).val + 1 + (k.val + 1)) = 1024 * ((i 1).val + 1 + k.val) + 768 + 256 := by omega
  have hN : 1024 * ((i 1).val + 1 + k.val) + 1024 ≤ 8192 := by omega
  rw [e2]
  generalize 1024 * ((i 1).val + 1 + k.val) = N at hN ⊢
  simp only [Nat.add_zero]
  rw [step_v1024, step_v1024, show N + 256 + 256 = N + 512 from rfl, step_v1024, show N + 512 + 256 = N + 768 from rfl, step_v1024]

/-- What the loop leaves in `arg7`, from what it found there. -/
theorem loop_dq (c : Dev nD) (i : grid0.Coords) (arg2 : Memref sig .tc .vmem S8192x256 .bf16) (harg2 : arg2.IsWhole) (arg3 : Memref sig .tc .vmem S1024x256 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x256 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x256 .f32) (harg11 : arg11.IsWhole) (arg12 : Memref sig .tc .vmem S1024x128 .f32) (harg12 : arg12.IsWhole) (v273 : BitVec 32)
    (x0 : Vec Ideal S8192x256 .bf16) (x1 : Vec Ideal S1024x256 .bf16) (x2 : Vec Ideal S1024x128 .bf16) (x3 : Vec Ideal S8192x128 .bf16) (x4 : Vec Ideal S8192x128 .f32) (D : S8192x256.Idx → EReal) (G7) (G11) (G12) (h : arg7.view.read (Elt Ideal) G7 = accQ (ds (i 1).val x0 x1 x2 x3 x4) x1 D (1024 * ((i 1).val + 1))) :
    arg7.view.read (Elt Ideal) (arg7.view.writes (Elt Ideal) G7 (pb_k0_t1 (F := Ideal) Variants.none c none i arg2 harg2 arg3 harg3 arg4 harg4 arg5 harg5 arg6 harg6 arg7 harg7 arg8 harg8 arg9 harg9 arg10 harg10 arg11 harg11 arg12 harg12 v273 (harg2.unread x0) (harg3.unread x1) (harg4.unread x2) (harg5.unread x3) (harg6.unread x4) G7 G11 G12 (k0_t1_loop i).trips).1) = accQ (ds (i 1).val x0 x1 x2 x3 x4) x1 D 8192 := by
  have key : ∀ k, k ≤ (k0_t1_loop i).trips →
      arg7.view.read (Elt Ideal) (arg7.view.writes (Elt Ideal) G7 (pb_k0_t1 (F := Ideal) Variants.none c none i arg2 harg2 arg3 harg3 arg4 harg4 arg5 harg5 arg6 harg6 arg7 harg7 arg8 harg8 arg9 harg9 arg10 harg10 arg11 harg11 arg12 harg12 v273 (harg2.unread x0) (harg3.unread x1) (harg4.unread x2) (harg5.unread x3) (harg6.unread x4) G7 G11 G12 k).1) = accQ (ds (i 1).val x0 x1 x2 x3 x4) x1 D (1024 * ((i 1).val + 1 + k)) := by
    intro k
    induction k with
    | zero => intro _; exact h
    | succ k ih =>
      intro hk
      rw [pb_k0_t1_succ _ _ _ _ _ _ _ _ _ _ _ _ _ _ _ _ _ _ _ _ _ _ _ _ _ _ _ _ _ _ _ _ _ _ _ ⟨k, hk⟩]
      dsimp only
      rw [View.writes_append]
      exact trip_dq c i arg2 harg2 arg3 harg3 arg4 harg4 arg5 harg5 arg6 harg6 arg7 harg7 arg8 harg8 arg9 harg9 arg10 harg10 arg11 harg11 arg12 harg12 v273 x0 x1 x2 x3 x4 ⟨k, hk⟩ _ _ _ D (ih (Nat.le_of_succ_le hk))
  have hj : (i 1).val < 8 := (i 1).isLt
  have e := key _ le_rfl
  rwa [show 1024 * ((i 1).val + 1 + (k0_t1_loop i).trips) = 8192 by rw [t1_trips]; omega] at e

/-- What the loop leaves in `arg11`, from what it found there. -/
theorem loop_dk (c : Dev nD) (i : grid0.Coords) (arg2 : Memref sig .tc .vmem S8192x256 .bf16) (harg2 : arg2.IsWhole) (arg3 : Memref sig .tc .vmem S1024x256 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x256 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x256 .f32) (harg11 : arg11.IsWhole) (arg12 : Memref sig .tc .vmem S1024x128 .f32) (harg12 : arg12.IsWhole) (v273 : BitVec 32)
    (x0 : Vec Ideal S8192x256 .bf16) (x1 : Vec Ideal S1024x256 .bf16) (x2 : Vec Ideal S1024x128 .bf16) (x3 : Vec Ideal S8192x128 .bf16) (x4 : Vec Ideal S8192x128 .f32) (G7) (G11) (G12) (h : arg11.view.read (Elt Ideal) G11 = accA (ds (i 1).val x0 x1 x2 x3 x4) x0 (1024 * ((i 1).val + 1))) :
    arg11.view.read (Elt Ideal) (arg11.view.writes (Elt Ideal) G11 (pb_k0_t1 (F := Ideal) Variants.none c none i arg2 harg2 arg3 harg3 arg4 harg4 arg5 harg5 arg6 harg6 arg7 harg7 arg8 harg8 arg9 harg9 arg10 harg10 arg11 harg11 arg12 harg12 v273 (harg2.unread x0) (harg3.unread x1) (harg4.unread x2) (harg5.unread x3) (harg6.unread x4) G7 G11 G12 (k0_t1_loop i).trips).2.1) = accA (ds (i 1).val x0 x1 x2 x3 x4) x0 8192 := by
  have key : ∀ k, k ≤ (k0_t1_loop i).trips →
      arg11.view.read (Elt Ideal) (arg11.view.writes (Elt Ideal) G11 (pb_k0_t1 (F := Ideal) Variants.none c none i arg2 harg2 arg3 harg3 arg4 harg4 arg5 harg5 arg6 harg6 arg7 harg7 arg8 harg8 arg9 harg9 arg10 harg10 arg11 harg11 arg12 harg12 v273 (harg2.unread x0) (harg3.unread x1) (harg4.unread x2) (harg5.unread x3) (harg6.unread x4) G7 G11 G12 k).2.1) = accA (ds (i 1).val x0 x1 x2 x3 x4) x0 (1024 * ((i 1).val + 1 + k)) := by
    intro k
    induction k with
    | zero => intro _; exact h
    | succ k ih =>
      intro hk
      rw [pb_k0_t1_succ _ _ _ _ _ _ _ _ _ _ _ _ _ _ _ _ _ _ _ _ _ _ _ _ _ _ _ _ _ _ _ _ _ _ _ ⟨k, hk⟩]
      dsimp only
      rw [View.writes_append]
      exact trip_dk c i arg2 harg2 arg3 harg3 arg4 harg4 arg5 harg5 arg6 harg6 arg7 harg7 arg8 harg8 arg9 harg9 arg10 harg10 arg11 harg11 arg12 harg12 v273 x0 x1 x2 x3 x4 ⟨k, hk⟩ _ _ _ (ih (Nat.le_of_succ_le hk))
  have hj : (i 1).val < 8 := (i 1).isLt
  have e := key _ le_rfl
  rwa [show 1024 * ((i 1).val + 1 + (k0_t1_loop i).trips) = 8192 by rw [t1_trips]; omega] at e

/-- What the loop leaves in `arg12`, from what it found there. -/
theorem loop_dv (c : Dev nD) (i : grid0.Coords) (arg2 : Memref sig .tc .vmem S8192x256 .bf16) (harg2 : arg2.IsWhole) (arg3 : Memref sig .tc .vmem S1024x256 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x256 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x256 .f32) (harg11 : arg11.IsWhole) (arg12 : Memref sig .tc .vmem S1024x128 .f32) (harg12 : arg12.IsWhole) (v273 : BitVec 32)
    (x0 : Vec Ideal S8192x256 .bf16) (x1 : Vec Ideal S1024x256 .bf16) (x2 : Vec Ideal S1024x128 .bf16) (x3 : Vec Ideal S8192x128 .bf16) (x4 : Vec Ideal S8192x128 .f32) (G7) (G11) (G12) (h : arg12.view.read (Elt Ideal) G12 = accB (pr (i 1).val x0 x1 x4) x3 (1024 * ((i 1).val + 1))) :
    arg12.view.read (Elt Ideal) (arg12.view.writes (Elt Ideal) G12 (pb_k0_t1 (F := Ideal) Variants.none c none i arg2 harg2 arg3 harg3 arg4 harg4 arg5 harg5 arg6 harg6 arg7 harg7 arg8 harg8 arg9 harg9 arg10 harg10 arg11 harg11 arg12 harg12 v273 (harg2.unread x0) (harg3.unread x1) (harg4.unread x2) (harg5.unread x3) (harg6.unread x4) G7 G11 G12 (k0_t1_loop i).trips).2.2) = accB (pr (i 1).val x0 x1 x4) x3 8192 := by
  have key : ∀ k, k ≤ (k0_t1_loop i).trips →
      arg12.view.read (Elt Ideal) (arg12.view.writes (Elt Ideal) G12 (pb_k0_t1 (F := Ideal) Variants.none c none i arg2 harg2 arg3 harg3 arg4 harg4 arg5 harg5 arg6 harg6 arg7 harg7 arg8 harg8 arg9 harg9 arg10 harg10 arg11 harg11 arg12 harg12 v273 (harg2.unread x0) (harg3.unread x1) (harg4.unread x2) (harg5.unread x3) (harg6.unread x4) G7 G11 G12 k).2.2) = accB (pr (i 1).val x0 x1 x4) x3 (1024 * ((i 1).val + 1 + k)) := by
    intro k
    induction k with
    | zero => intro _; exact h
    | succ k ih =>
      intro hk
      rw [pb_k0_t1_succ _ _ _ _ _ _ _ _ _ _ _ _ _ _ _ _ _ _ _ _ _ _ _ _ _ _ _ _ _ _ _ _ _ _ _ ⟨k, hk⟩]
      dsimp only
      rw [View.writes_append]
      exact trip_dv c i arg2 harg2 arg3 harg3 arg4 harg4 arg5 harg5 arg6 harg6 arg7 harg7 arg8 harg8 arg9 harg9 arg10 harg10 arg11 harg11 arg12 harg12 v273 x0 x1 x2 x3 x4 ⟨k, hk⟩ _ _ _ (ih (Nat.le_of_succ_le hk))
  have hj : (i 1).val < 8 := (i 1).isLt
  have e := key _ le_rfl
  rwa [show 1024 * ((i 1).val + 1 + (k0_t1_loop i).trips) = 8192 by rw [t1_trips]; omega] at e

end Cert.KernelIdeal.Val
end
-- ==== Proof.Body.lean ====
module

public import proofs.«01_k».proof.Proof.Trip
public import Idealize.ShloMosaic.Lib.WordCmp

/-! The kernel's body at one grid point: what it leaves in the four result blocks, from the five operand blocks and, where
the key block is not the first, from what the query gradient's block held. -/

@[expose] public section

set_option maxRecDepth 16384
noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The grid point's key block is the first. -/
abbrev isFirst (i : grid0.Coords) : Prop := (Scalar.cmpi .ne (Scalar.extui (Scalar.cmpi .eq (BitVec.ofNat 32 (i 1).val) 0#32)) 0#32) = 1#1

/-- The first 128 columns of the key gradient's block. -/
def colsLo (X : S1024x256.Idx → EReal) : S1024x128.Idx → EReal := fun y => X (ix2 (y 0) (Fin.castLE (by decide : 128 ≤ 256) (y 1)))

/-- The last 128 columns of the key gradient's block. -/
def colsHi (X : S1024x256.Idx → EReal) : S1024x128.Idx → EReal := fun y => X (ix2 (y 0) (Fin.natAdd 128 (y 1)))

theorem window_lo (X : S1024x256.Idx → EReal) (h) : VecWindow.window (s := S1024x256) X ![0, 0] ![1024, 128] h = colsLo X := by
  funext y
  refine congrArg X (funext fun a => Fin.ext ?_)
  match a with
  | ⟨0, _⟩ => exact (show 0 + 1 * (y 0).val = (y 0).val by omega)
  | ⟨1, _⟩ => exact (show 0 + 1 * (y 1).val = (y 1).val by omega)

theorem window_hi (X : S1024x256.Idx → EReal) (h) : VecWindow.window (s := S1024x256) X ![0, 128] ![1024, 128] h = colsHi X := by
  funext y
  refine congrArg X (funext fun a => Fin.ext ?_)
  match a with
  | ⟨0, _⟩ => exact (show 0 + 1 * (y 0).val = (y 0).val by omega)
  | ⟨1, _⟩ => exact (show 128 + 1 * (y 1).val = 128 + (y 1).val by omega)

theorem zero_word : (Scalar.ofBits .f32 0#32 : Ideal .f32) = (0 : EReal) := by norm_num [Scalar.ofBits, FloatOps.ofBits]

/-- Before the diagonal every term is masked. -/
theorem start_v (j : ℕ) (x0 : S8192x256.Idx → EReal) (x1 : S1024x256.Idx → EReal) (x3 x4 : S8192x128.Idx → EReal) :
    (broadcast S1024x128 (Scalar.ofBits .f32 0#32 : Ideal .f32) : FVec Ideal S1024x128 .f32) = accB (pr j x0 x1 x4) x3 (1024 * j) := by
  funext y
  refine zero_word.trans (Finset.sum_eq_zero fun q hq => ?_).symm
  exact (congrArg (· * x3 (ix2 (row q) (y 1))) (pr_masked j x0 x1 x4 q (y 0) (by have := Finset.mem_range.mp hq; omega))).trans (zero_mul _)

theorem start_k (j : ℕ) (x0 : S8192x256.Idx → EReal) (x1 : S1024x256.Idx → EReal) (x2 : S1024x128.Idx → EReal) (x3 x4 : S8192x128.Idx → EReal) :
    (broadcast S1024x256 (Scalar.ofBits .f32 0#32 : Ideal .f32) : FVec Ideal S1024x256 .f32) = accA (ds j x0 x1 x2 x3 x4) x0 (1024 * j) := by
  funext y
  refine zero_word.trans (Finset.sum_eq_zero fun q hq => ?_).symm
  exact (congrArg (· * x0 (ix2 (row q) (y 1))) (ds_masked j x0 x1 x2 x3 x4 q (y 0) (by have := Finset.mem_range.mp hq; omega))).trans (zero_mul _)

theorem start_q (j : ℕ) (x0 : S8192x256.Idx → EReal) (x1 : S1024x256.Idx → EReal) (x2 : S1024x128.Idx → EReal) (x3 x4 : S8192x128.Idx → EReal) (D : S8192x256.Idx → EReal) :
    D = accQ (ds j x0 x1 x2 x3 x4) x1 D (1024 * j) := by
  funext y
  unfold accQ
  by_cases h : (y 0).val < 1024 * j
  · rw [if_pos h, Finset.sum_eq_zero fun c _ => by rw [ds_masked _ _ _ _ _ _ _ _ (by omega), zero_mul], add_zero]
  · rw [if_neg h]

theorem zero_q : (broadcast S8192x256 (Scalar.ofBits .f32 0#32 : Ideal .f32) : FVec Ideal S8192x256 .f32) = (fun _ => (0 : EReal)) := funext fun _ => zero_word

set_option maxHeartbeats 4000000 in
/-- The body where the key block is the first: the query gradient starts from zero. -/
theorem run_A (c : Dev nD) (i : grid0.Coords) (arg2 : Memref sig .tc .vmem S8192x256 .bf16) (harg2 : arg2.IsWhole) (arg3 : Memref sig .tc .vmem S1024x256 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x256 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x256 .f32) (harg11 : arg11.IsWhole) (arg12 : Memref sig .tc .vmem S1024x128 .f32) (harg12 : arg12.IsWhole) (hc0 : isFirst i)
    (x0 : Vec Ideal S8192x256 .bf16) (x1 : Vec Ideal S1024x256 .bf16) (x2 : Vec Ideal S1024x128 .bf16) (x3 : Vec Ideal S8192x128 .bf16) (x4 : Vec Ideal S8192x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (accQ (ds (i 1).val x0 x1 x2 x3 x4) x1 (fun _ => (0 : EReal)) 8192) ∗ owns (c : Thread nD τ) arg8 fullShare (colsLo (accA (ds (i 1).val x0 x1 x2 x3 x4) x0 8192)) ∗ owns (c : Thread nD τ) arg9 fullShare (accB (pr (i 1).val x0 x1 x4) x3 8192) ∗ owns (c : Thread nD τ) arg10 fullShare (colsHi (accA (ds (i 1).val x0 x1 x2 x3 x4) x0 8192)) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_attn_bwd i arg2 harg2 arg3 harg3 arg4 harg4 arg5 harg5 arg6 harg6 arg7 harg7 arg8 harg8 arg9 harg9 arg10 harg10 arg11 harg11 arg12 harg12) K := by
    intro E K
    simp only [cc0_attn_bwd_eq_skeleton]; unfold cc0_attn_bwd_skel
    simp only [k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4;
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      simp only [View.writes_append]
      refine loop_dq c i arg2 harg2 arg3 harg3 arg4 harg4 arg5 harg5 arg6 harg6 arg7 harg7 arg8 harg8 arg9 harg9 arg10 harg10 arg11 harg11 arg12 harg12 _ x0 x1 x2 x3 x4 (fun _ => (0 : EReal)) _ _ _ ?_
      sl_unfold_run_names
      simp only [rd, rdc, wr, View.writes_nil, harg2.read_unread, harg3.read_unread, harg4.read_unread, harg5.read_unread, harg6.read_unread]
      unfold_payloads
      simp only [shapeCast_self, put_k, put_v, put_q, window_k, window_v, zero_q, off1_eq i 0 (by omega), off2_eq i 0 (by omega), off1_eq i 256 (by omega), off2_eq i 256 (by omega), off1_eq i 512 (by omega), off2_eq i 512 (by omega), off1_eq i 768 (by omega), off2_eq i 768 (by omega), window_rowsA _ (off1_eq i 0 (by omega)), window_rowsB _ (off2_eq i 0 (by omega)), window_rowsA _ (off1_eq i 256 (by omega)), window_rowsB _ (off2_eq i 256 (by omega)), window_rowsA _ (off1_eq i 512 (by omega)), window_rowsB _ (off2_eq i 512 (by omega)), window_rowsA _ (off1_eq i 768 (by omega)), window_rowsB _ (off2_eq i 768 (by omega))]
      simp only [diag256 (i 1).val, diag512 (i 1).val, diag768 (i 1).val, diag1024 (i 1).val, grad256, grad512, grad768, grad1024]
      have hm := ds_masked (i 1).val x0 x1 x2 x3 x4
      have hs := start_q (i 1).val x0 x1 x2 x3 x4 (fun _ => (0 : EReal))
      generalize ds (i 1).val x0 x1 x2 x3 x4 = p at hm hs ⊢
      have h1 : ∀ q (c : Fin 1024), q < 1024 * (i 1).val + 0 + 256 → 256 ≤ c.val → p q c = 0 := fun q c h h' => hm q c (by omega)
      have h2 : ∀ q (c : Fin 1024), q < 1024 * (i 1).val + 256 + 256 → 512 ≤ c.val → p q c = 0 := fun q c h h' => hm q c (by omega)
      have h3 : ∀ q (c : Fin 1024), q < 1024 * (i 1).val + 512 + 256 → 768 ≤ c.val → p q c = 0 := fun q c h h' => hm q c (by omega)
      rw [show 1024 * ((i 1).val + 1) = 1024 * (i 1).val + 768 + 256 by omega]
      have hN : 1024 * (i 1).val + 1024 ≤ 8192 := by have : (i 1).val < 8 := (i 1).isLt; omega
      generalize 1024 * (i 1).val = N at hN h1 h2 h3 hs ⊢
      simp only [Nat.add_zero] at h1 ⊢
      have s0 := step_q256 p x1 (fun _ => (0 : EReal)) N (by omega) inb_S1024x256_S256x256_0_0 h1
      rw [← hs] at s0
      rw [s0, rowsA_accQ _ _ _ _ _ (Nat.le_refl (N + 256)) (by omega), step_q512 _ _ _ _ (by omega) _ h2, show N + 256 + 256 = N + 512 from rfl,
        rowsA_accQ _ _ _ _ _ (Nat.le_refl (N + 512)) (by omega), step_q768 _ _ _ _ (by omega) _ h3, show N + 512 + 256 = N + 768 from rfl,
        rowsA_accQ _ _ _ _ _ (Nat.le_refl (N + 768)) (by omega), step_q1024 _ _ _ _ (by omega)]
    isplitl [H6]
    · iexists _; isplitr; swap; · iexact H6
      ipureintro
      sl_unfold_run_names
      simp only [rdc, wr, View.writes_append, View.writes_nil, put_v]
      rw [loop_dk c i arg2 harg2 arg3 harg3 arg4 harg4 arg5 harg5 arg6 harg6 arg7 harg7 arg8 harg8 arg9 harg9 arg10 harg10 arg11 harg11 arg12 harg12 _ x0 x1 x2 x3 x4 _ _ _ ?_]
      · rw [window_lo]; rfl
      sl_unfold_run_names
      simp only [rd, rdc, wr, View.writes_nil, harg2.read_unread, harg3.read_unread, harg4.read_unread, harg5.read_unread, harg6.read_unread]
      unfold_payloads
      simp only [shapeCast_self, put_k, put_v, put_q, window_k, window_v, zero_q, off1_eq i 0 (by omega), off2_eq i 0 (by omega), off1_eq i 256 (by omega), off2_eq i 256 (by omega), off1_eq i 512 (by omega), off2_eq i 512 (by omega), off1_eq i 768 (by omega), off2_eq i 768 (by omega), window_rowsA _ (off1_eq i 0 (by omega)), window_rowsB _ (off2_eq i 0 (by omega)), window_rowsA _ (off1_eq i 256 (by omega)), window_rowsB _ (off2_eq i 256 (by omega)), window_rowsA _ (off1_eq i 512 (by omega)), window_rowsB _ (off2_eq i 512 (by omega)), window_rowsA _ (off1_eq i 768 (by omega)), window_rowsB _ (off2_eq i 768 (by omega))]
      simp only [diag256 (i 1).val, diag512 (i 1).val, diag768 (i 1).val, diag1024 (i 1).val, grad256, grad512, grad768, grad1024]
      have hm := ds_masked (i 1).val x0 x1 x2 x3 x4
      rw [start_k (i 1).val x0 x1 x2 x3 x4]
      generalize ds (i 1).val x0 x1 x2 x3 x4 = p at hm ⊢
      have h1 : ∀ q (c : Fin 1024), q < 1024 * (i 1).val + 0 + 256 → 256 ≤ c.val → p q c = 0 := fun q c h h' => hm q c (by omega)
      have h2 : ∀ q (c : Fin 1024), q < 1024 * (i 1).val + 256 + 256 → 512 ≤ c.val → p q c = 0 := fun q c h h' => hm q c (by omega)
      have h3 : ∀ q (c : Fin 1024), q < 1024 * (i 1).val + 512 + 256 → 768 ≤ c.val → p q c = 0 := fun q c h h' => hm q c (by omega)
      rw [show 1024 * ((i 1).val + 1) = 1024 * (i 1).val + 768 + 256 by omega]
      have hN : 1024 * (i 1).val + 1024 ≤ 8192 := by have : (i 1).val < 8 := (i 1).isLt; omega
      generalize 1024 * (i 1).val = N at hN h1 h2 h3 ⊢
      simp only [Nat.add_zero] at h1 ⊢
      rw [step_k256 _ _ _ _ h1, step_k512 _ _ _ _ h2, show N + 256 + 256 = N + 512 from rfl, step_k768 _ _ _ _ h3, show N + 512 + 256 = N + 768 from rfl, step_k1024]
    isplitl [H7]
    · iexists _; isplitr; swap; · iexact H7
      ipureintro
      sl_unfold_run_names
      simp only [rdc, wr, View.writes_append, View.writes_nil, put_v]
      rw [loop_dv c i arg2 harg2 arg3 harg3 arg4 harg4 arg5 harg5 arg6 harg6 arg7 harg7 arg8 harg8 arg9 harg9 arg10 harg10 arg11 harg11 arg12 harg12 _ x0 x1 x2 x3 x4 _ _ _ ?_]
      · rw [window_v]; rfl
      sl_unfold_run_names
      simp only [rd, rdc, wr, View.writes_nil, harg2.read_unread, harg3.read_unread, harg4.read_unread, harg5.read_unread, harg6.read_unread]
      unfold_payloads
      simp only [shapeCast_self, put_k, put_v, put_q, window_k, window_v, zero_q, off1_eq i 0 (by omega), off2_eq i 0 (by omega), off1_eq i 256 (by omega), off2_eq i 256 (by omega), off1_eq i 512 (by omega), off2_eq i 512 (by omega), off1_eq i 768 (by omega), off2_eq i 768 (by omega), window_rowsA _ (off1_eq i 0 (by omega)), window_rowsB _ (off2_eq i 0 (by omega)), window_rowsA _ (off1_eq i 256 (by omega)), window_rowsB _ (off2_eq i 256 (by omega)), window_rowsA _ (off1_eq i 512 (by omega)), window_rowsB _ (off2_eq i 512 (by omega)), window_rowsA _ (off1_eq i 768 (by omega)), window_rowsB _ (off2_eq i 768 (by omega))]
      simp only [diag256 (i 1).val, diag512 (i 1).val, diag768 (i 1).val, diag1024 (i 1).val, grad256, grad512, grad768, grad1024]
      have hm := pr_masked (i 1).val x0 x1 x4
      rw [start_v (i 1).val x0 x1 x3 x4]
      generalize pr (i 1).val x0 x1 x4 = p at hm ⊢
      have h1 : ∀ q (c : Fin 1024), q < 1024 * (i 1).val + 0 + 256 → 256 ≤ c.val → p q c = 0 := fun q c h h' => hm q c (by omega)
      have h2 : ∀ q (c : Fin 1024), q < 1024 * (i 1).val + 256 + 256 → 512 ≤ c.val → p q c = 0 := fun q c h h' => hm q c (by omega)
      have h3 : ∀ q (c : Fin 1024), q < 1024 * (i 1).val + 512 + 256 → 768 ≤ c.val → p q c = 0 := fun q c h h' => hm q c (by omega)
      rw [show 1024 * ((i 1).val + 1) = 1024 * (i 1).val + 768 + 256 by omega]
      have hN : 1024 * (i 1).val + 1024 ≤ 8192 := by have : (i 1).val < 8 := (i 1).isLt; omega
      generalize 1024 * (i 1).val = N at hN h1 h2 h3 ⊢
      simp only [Nat.add_zero] at h1 ⊢
      rw [step_v256 _ _ _ _ h1, step_v512 _ _ _ _ h2, show N + 256 + 256 = N + 512 from rfl, step_v768 _ _ _ _ h3, show N + 512 + 256 = N + 768 from rfl, step_v1024]
    isplitl [H8]
    · iexists _; isplitr; swap; · iexact H8
      ipureintro
      sl_unfold_run_names
      simp only [rdc, wr, View.writes_append, View.writes_nil, put_v]
      rw [loop_dk c i arg2 harg2 arg3 harg3 arg4 harg4 arg5 harg5 arg6 harg6 arg7 harg7 arg8 harg8 arg9 harg9 arg10 harg10 arg11 harg11 arg12 harg12 _ x0 x1 x2 x3 x4 _ _ _ ?_]
      · rw [window_hi]
      sl_unfold_run_names
      simp only [rd, rdc, wr, View.writes_nil, harg2.read_unread, harg3.read_unread, harg4.read_unread, harg5.read_unread, harg6.read_unread]
      unfold_payloads
      simp only [shapeCast_self, put_k, put_v, put_q, window_k, window_v, zero_q, off1_eq i 0 (by omega), off2_eq i 0 (by omega), off1_eq i 256 (by omega), off2_eq i 256 (by omega), off1_eq i 512 (by omega), off2_eq i 512 (by omega), off1_eq i 768 (by omega), off2_eq i 768 (by omega), window_rowsA _ (off1_eq i 0 (by omega)), window_rowsB _ (off2_eq i 0 (by omega)), window_rowsA _ (off1_eq i 256 (by omega)), window_rowsB _ (off2_eq i 256 (by omega)), window_rowsA _ (off1_eq i 512 (by omega)), window_rowsB _ (off2_eq i 512 (by omega)), window_rowsA _ (off1_eq i 768 (by omega)), window_rowsB _ (off2_eq i 768 (by omega))]
      simp only [diag256 (i 1).val, diag512 (i 1).val, diag768 (i 1).val, diag1024 (i 1).val, grad256, grad512, grad768, grad1024]
      have hm := ds_masked (i 1).val x0 x1 x2 x3 x4
      rw [start_k (i 1).val x0 x1 x2 x3 x4]
      generalize ds (i 1).val x0 x1 x2 x3 x4 = p at hm ⊢
      have h1 : ∀ q (c : Fin 1024), q < 1024 * (i 1).val + 0 + 256 → 256 ≤ c.val → p q c = 0 := fun q c h h' => hm q c (by omega)
      have h2 : ∀ q (c : Fin 1024), q < 1024 * (i 1).val + 256 + 256 → 512 ≤ c.val → p q c = 0 := fun q c h h' => hm q c (by omega)
      have h3 : ∀ q (c : Fin 1024), q < 1024 * (i 1).val + 512 + 256 → 768 ≤ c.val → p q c = 0 := fun q c h h' => hm q c (by omega)
      rw [show 1024 * ((i 1).val + 1) = 1024 * (i 1).val + 768 + 256 by omega]
      have hN : 1024 * (i 1).val + 1024 ≤ 8192 := by have : (i 1).val < 8 := (i 1).isLt; omega
      generalize 1024 * (i 1).val = N at hN h1 h2 h3 ⊢
      simp only [Nat.add_zero] at h1 ⊢
      rw [step_k256 _ _ _ _ h1, step_k512 _ _ _ _ h2, show N + 256 + 256 = N + 512 from rfl, step_k768 _ _ _ _ h3, show N + 512 + 256 = N + 768 from rfl, step_k1024]
    isplitl [HS0]
    · iexists _, _; isplitr; swap; · iexact HS0
      ipureintro; rfl
    iexists _, _; isplitr; swap; · iexact HS1
    ipureintro; rfl

set_option maxHeartbeats 4000000 in
/-- The body where the key block is not the first: the query gradient goes on from what the block held. -/
theorem run_B (c : Dev nD) (i : grid0.Coords) (arg2 : Memref sig .tc .vmem S8192x256 .bf16) (harg2 : arg2.IsWhole) (arg3 : Memref sig .tc .vmem S1024x256 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x256 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x256 .f32) (harg11 : arg11.IsWhole) (arg12 : Memref sig .tc .vmem S1024x128 .f32) (harg12 : arg12.IsWhole) (hc0 : ¬ isFirst i)
    (x0 : Vec Ideal S8192x256 .bf16) (x1 : Vec Ideal S1024x256 .bf16) (x2 : Vec Ideal S1024x128 .bf16) (x3 : Vec Ideal S8192x128 .bf16) (x4 : Vec Ideal S8192x128 .f32) (D : Vec Ideal S8192x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare D ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (accQ (ds (i 1).val x0 x1 x2 x3 x4) x1 D 8192) ∗ owns (c : Thread nD τ) arg8 fullShare (colsLo (accA (ds (i 1).val x0 x1 x2 x3 x4) x0 8192)) ∗ owns (c : Thread nD τ) arg9 fullShare (accB (pr (i 1).val x0 x1 x4) x3 8192) ∗ owns (c : Thread nD τ) arg10 fullShare (colsHi (accA (ds (i 1).val x0 x1 x2 x3 x4) x0 8192)) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_attn_bwd i arg2 harg2 arg3 harg3 arg4 harg4 arg5 harg5 arg6 harg6 arg7 harg7 arg8 harg8 arg9 harg9 arg10 harg10 arg11 harg11 arg12 harg12) K := by
    intro E K
    simp only [cc0_attn_bwd_eq_skeleton]; unfold cc0_attn_bwd_skel
    simp only [k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      simp only [View.writes_append]
      refine loop_dq c i arg2 harg2 arg3 harg3 arg4 harg4 arg5 harg5 arg6 harg6 arg7 harg7 arg8 harg8 arg9 harg9 arg10 harg10 arg11 harg11 arg12 harg12 _ x0 x1 x2 x3 x4 D _ _ _ ?_
      sl_unfold_run_names
      simp only [rd, rdc, wr, View.writes_nil, harg2.read_unread, harg3.read_unread, harg4.read_unread, harg5.read_unread, harg6.read_unread, harg7.read_unread]
      unfold_payloads
      simp only [shapeCast_self, put_k, put_v, put_q, window_k, window_v, zero_q, off1_eq i 0 (by omega), off2_eq i 0 (by omega), off1_eq i 256 (by omega), off2_eq i 256 (by omega), off1_eq i 512 (by omega), off2_eq i 512 (by omega), off1_eq i 768 (by omega), off2_eq i 768 (by omega), window_rowsA _ (off1_eq i 0 (by omega)), window_rowsB _ (off2_eq i 0 (by omega)), window_rowsA _ (off1_eq i 256 (by omega)), window_rowsB _ (off2_eq i 256 (by omega)), window_rowsA _ (off1_eq i 512 (by omega)), window_rowsB _ (off2_eq i 512 (by omega)), window_rowsA _ (off1_eq i 768 (by omega)), window_rowsB _ (off2_eq i 768 (by omega))]
      simp only [diag256 (i 1).val, diag512 (i 1).val, diag768 (i 1).val, diag1024 (i 1).val, grad256, grad512, grad768, grad1024]
      have hm := ds_masked (i 1).val x0 x1 x2 x3 x4
      have hs := start_q (i 1).val x0 x1 x2 x3 x4 D
      generalize ds (i 1).val x0 x1 x2 x3 x4 = p at hm hs ⊢
      have h1 : ∀ q (c : Fin 1024), q < 1024 * (i 1).val + 0 + 256 → 256 ≤ c.val → p q c = 0 := fun q c h h' => hm q c (by omega)
      have h2 : ∀ q (c : Fin 1024), q < 1024 * (i 1).val + 256 + 256 → 512 ≤ c.val → p q c = 0 := fun q c h h' => hm q c (by omega)
      have h3 : ∀ q (c : Fin 1024), q < 1024 * (i 1).val + 512 + 256 → 768 ≤ c.val → p q c = 0 := fun q c h h' => hm q c (by omega)
      rw [show 1024 * ((i 1).val + 1) = 1024 * (i 1).val + 768 + 256 by omega]
      have hN : 1024 * (i 1).val + 1024 ≤ 8192 := by have : (i 1).val < 8 := (i 1).isLt; omega
      generalize 1024 * (i 1).val = N at hN h1 h2 h3 hs ⊢
      simp only [Nat.add_zero] at h1 ⊢
      have s0 := step_q256 p x1 D N (by omega) inb_S1024x256_S256x256_0_0 h1
      rw [← hs] at s0
      rw [s0, step_q512 _ _ _ _ (by omega) _ h2, show N + 256 + 256 = N + 512 from rfl,
        step_q768 _ _ _ _ (by omega) _ h3, show N + 512 + 256 = N + 768 from rfl,
        step_q1024 _ _ _ _ (by omega)]
    isplitl [H6]
    · iexists _; isplitr; swap; · iexact H6
      ipureintro
      sl_unfold_run_names
      simp only [rdc, wr, View.writes_append, View.writes_nil, put_v]
      rw [loop_dk c i arg2 harg2 arg3 harg3 arg4 harg4 arg5 harg5 arg6 harg6 arg7 harg7 arg8 harg8 arg9 harg9 arg10 harg10 arg11 harg11 arg12 harg12 _ x0 x1 x2 x3 x4 _ _ _ ?_]
      · rw [window_lo]; rfl
      sl_unfold_run_names
      simp only [rd, rdc, wr, View.writes_nil, harg2.read_unread, harg3.read_unread, harg4.read_unread, harg5.read_unread, harg6.read_unread, harg7.read_unread]
      unfold_payloads
      simp only [shapeCast_self, put_k, put_v, put_q, window_k, window_v, zero_q, off1_eq i 0 (by omega), off2_eq i 0 (by omega), off1_eq i 256 (by omega), off2_eq i 256 (by omega), off1_eq i 512 (by omega), off2_eq i 512 (by omega), off1_eq i 768 (by omega), off2_eq i 768 (by omega), window_rowsA _ (off1_eq i 0 (by omega)), window_rowsB _ (off2_eq i 0 (by omega)), window_rowsA _ (off1_eq i 256 (by omega)), window_rowsB _ (off2_eq i 256 (by omega)), window_rowsA _ (off1_eq i 512 (by omega)), window_rowsB _ (off2_eq i 512 (by omega)), window_rowsA _ (off1_eq i 768 (by omega)), window_rowsB _ (off2_eq i 768 (by omega))]
      simp only [diag256 (i 1).val, diag512 (i 1).val, diag768 (i 1).val, diag1024 (i 1).val, grad256, grad512, grad768, grad1024]
      have hm := ds_masked (i 1).val x0 x1 x2 x3 x4
      rw [start_k (i 1).val x0 x1 x2 x3 x4]
      generalize ds (i 1).val x0 x1 x2 x3 x4 = p at hm ⊢
      have h1 : ∀ q (c : Fin 1024), q < 1024 * (i 1).val + 0 + 256 → 256 ≤ c.val → p q c = 0 := fun q c h h' => hm q c (by omega)
      have h2 : ∀ q (c : Fin 1024), q < 1024 * (i 1).val + 256 + 256 → 512 ≤ c.val → p q c = 0 := fun q c h h' => hm q c (by omega)
      have h3 : ∀ q (c : Fin 1024), q < 1024 * (i 1).val + 512 + 256 → 768 ≤ c.val → p q c = 0 := fun q c h h' => hm q c (by omega)
      rw [show 1024 * ((i 1).val + 1) = 1024 * (i 1).val + 768 + 256 by omega]
      have hN : 1024 * (i 1).val + 1024 ≤ 8192 := by have : (i 1).val < 8 := (i 1).isLt; omega
      generalize 1024 * (i 1).val = N at hN h1 h2 h3 ⊢
      simp only [Nat.add_zero] at h1 ⊢
      rw [step_k256 _ _ _ _ h1, step_k512 _ _ _ _ h2, show N + 256 + 256 = N + 512 from rfl, step_k768 _ _ _ _ h3, show N + 512 + 256 = N + 768 from rfl, step_k1024]
    isplitl [H7]
    · iexists _; isplitr; swap; · iexact H7
      ipureintro
      sl_unfold_run_names
      simp only [rdc, wr, View.writes_append, View.writes_nil, put_v]
      rw [loop_dv c i arg2 harg2 arg3 harg3 arg4 harg4 arg5 harg5 arg6 harg6 arg7 harg7 arg8 harg8 arg9 harg9 arg10 harg10 arg11 harg11 arg12 harg12 _ x0 x1 x2 x3 x4 _ _ _ ?_]
      · rw [window_v]; rfl
      sl_unfold_run_names
      simp only [rd, rdc, wr, View.writes_nil, harg2.read_unread, harg3.read_unread, harg4.read_unread, harg5.read_unread, harg6.read_unread, harg7.read_unread]
      unfold_payloads
      simp only [shapeCast_self, put_k, put_v, put_q, window_k, window_v, zero_q, off1_eq i 0 (by omega), off2_eq i 0 (by omega), off1_eq i 256 (by omega), off2_eq i 256 (by omega), off1_eq i 512 (by omega), off2_eq i 512 (by omega), off1_eq i 768 (by omega), off2_eq i 768 (by omega), window_rowsA _ (off1_eq i 0 (by omega)), window_rowsB _ (off2_eq i 0 (by omega)), window_rowsA _ (off1_eq i 256 (by omega)), window_rowsB _ (off2_eq i 256 (by omega)), window_rowsA _ (off1_eq i 512 (by omega)), window_rowsB _ (off2_eq i 512 (by omega)), window_rowsA _ (off1_eq i 768 (by omega)), window_rowsB _ (off2_eq i 768 (by omega))]
      simp only [diag256 (i 1).val, diag512 (i 1).val, diag768 (i 1).val, diag1024 (i 1).val, grad256, grad512, grad768, grad1024]
      have hm := pr_masked (i 1).val x0 x1 x4
      rw [start_v (i 1).val x0 x1 x3 x4]
      generalize pr (i 1).val x0 x1 x4 = p at hm ⊢
      have h1 : ∀ q (c : Fin 1024), q < 1024 * (i 1).val + 0 + 256 → 256 ≤ c.val → p q c = 0 := fun q c h h' => hm q c (by omega)
      have h2 : ∀ q (c : Fin 1024), q < 1024 * (i 1).val + 256 + 256 → 512 ≤ c.val → p q c = 0 := fun q c h h' => hm q c (by omega)
      have h3 : ∀ q (c : Fin 1024), q < 1024 * (i 1).val + 512 + 256 → 768 ≤ c.val → p q c = 0 := fun q c h h' => hm q c (by omega)
      rw [show 1024 * ((i 1).val + 1) = 1024 * (i 1).val + 768 + 256 by omega]
      have hN : 1024 * (i 1).val + 1024 ≤ 8192 := by have : (i 1).val < 8 := (i 1).isLt; omega
      generalize 1024 * (i 1).val = N at hN h1 h2 h3 ⊢
      simp only [Nat.add_zero] at h1 ⊢
      rw [step_v256 _ _ _ _ h1, step_v512 _ _ _ _ h2, show N + 256 + 256 = N + 512 from rfl, step_v768 _ _ _ _ h3, show N + 512 + 256 = N + 768 from rfl, step_v1024]
    isplitl [H8]
    · iexists _; isplitr; swap; · iexact H8
      ipureintro
      sl_unfold_run_names
      simp only [rdc, wr, View.writes_append, View.writes_nil, put_v]
      rw [loop_dk c i arg2 harg2 arg3 harg3 arg4 harg4 arg5 harg5 arg6 harg6 arg7 harg7 arg8 harg8 arg9 harg9 arg10 harg10 arg11 harg11 arg12 harg12 _ x0 x1 x2 x3 x4 _ _ _ ?_]
      · rw [window_hi]
      sl_unfold_run_names
      simp only [rd, rdc, wr, View.writes_nil, harg2.read_unread, harg3.read_unread, harg4.read_unread, harg5.read_unread, harg6.read_unread, harg7.read_unread]
      unfold_payloads
      simp only [shapeCast_self, put_k, put_v, put_q, window_k, window_v, zero_q, off1_eq i 0 (by omega), off2_eq i 0 (by omega), off1_eq i 256 (by omega), off2_eq i 256 (by omega), off1_eq i 512 (by omega), off2_eq i 512 (by omega), off1_eq i 768 (by omega), off2_eq i 768 (by omega), window_rowsA _ (off1_eq i 0 (by omega)), window_rowsB _ (off2_eq i 0 (by omega)), window_rowsA _ (off1_eq i 256 (by omega)), window_rowsB _ (off2_eq i 256 (by omega)), window_rowsA _ (off1_eq i 512 (by omega)), window_rowsB _ (off2_eq i 512 (by omega)), window_rowsA _ (off1_eq i 768 (by omega)), window_rowsB _ (off2_eq i 768 (by omega))]
      simp only [diag256 (i 1).val, diag512 (i 1).val, diag768 (i 1).val, diag1024 (i 1).val, grad256, grad512, grad768, grad1024]
      have hm := ds_masked (i 1).val x0 x1 x2 x3 x4
      rw [start_k (i 1).val x0 x1 x2 x3 x4]
      generalize ds (i 1).val x0 x1 x2 x3 x4 = p at hm ⊢
      have h1 : ∀ q (c : Fin 1024), q < 1024 * (i 1).val + 0 + 256 → 256 ≤ c.val → p q c = 0 := fun q c h h' => hm q c (by omega)
      have h2 : ∀ q (c : Fin 1024), q < 1024 * (i 1).val + 256 + 256 → 512 ≤ c.val → p q c = 0 := fun q c h h' => hm q c (by omega)
      have h3 : ∀ q (c : Fin 1024), q < 1024 * (i 1).val + 512 + 256 → 768 ≤ c.val → p q c = 0 := fun q c h h' => hm q c (by omega)
      rw [show 1024 * ((i 1).val + 1) = 1024 * (i 1).val + 768 + 256 by omega]
      have hN : 1024 * (i 1).val + 1024 ≤ 8192 := by have : (i 1).val < 8 := (i 1).isLt; omega
      generalize 1024 * (i 1).val = N at hN h1 h2 h3 ⊢
      simp only [Nat.add_zero] at h1 ⊢
      rw [step_k256 _ _ _ _ h1, step_k512 _ _ _ _ h2, show N + 256 + 256 = N + 512 from rfl, step_k768 _ _ _ _ h3, show N + 512 + 256 = N + 768 from rfl, step_k1024]
    isplitl [HS0]
    · iexists _, _; isplitr; swap; · iexact HS0
      ipureintro; rfl
    iexists _, _; isplitr; swap; · iexact HS1
    ipureintro; rfl

end Cert.KernelIdeal.Val
end
-- ==== Proof.Run.lean ====
module

public import proofs.«01_k».proof.Proof.Body
public import Idealize.ShloMosaic.Lib.Claim

/-! The whole run at the reals: what each result block holds at each grid point, the body's triple there, and the launch. -/

@[expose] public section

set_option maxRecDepth 16384
noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The key block of a grid point is its number modulo eight. -/
theorem coords1 (t : Fin cfg0.N) : (grid0.coords t 1).val = t.val % 8 := by
  have e1 : (grid0.coords t 1).val = t.val / 1 % 8 := Pipeline.Grid.coords_val t 1 (by decide) rfl
  rw [e1, Nat.div_one]

/-- The key block is the first at the points whose number is a multiple of eight. -/
theorem isFirst_iff (t : Fin cfg0.N) : isFirst (grid0.coords t) ↔ t.val % 8 = 0 := by
  have ht : t.val < 64 := Nat.lt_of_lt_of_eq t.isLt N_0
  have e1 : (grid0.coords t 1).val = t.val % 8 := coords1 t
  simp only [isFirst, e1]
  word_cmp

/-- The weights at a grid point. -/
def prAt (c : Dev nD) (t : Fin cfg0.N) : ℕ → Fin 1024 → EReal := pr (grid0.coords t 1).val (iblk m c 0 t) (iblk m c 1 t) (iblk m c 4 t)

/-- The score gradients at a grid point. -/
def dsAt (c : Dev nD) (t : Fin cfg0.N) : ℕ → Fin 1024 → EReal := ds (grid0.coords t 1).val (iblk m c 0 t) (iblk m c 1 t) (iblk m c 2 t) (iblk m c 3 t) (iblk m c 4 t)

/-- One point's addition to the query gradient's block. -/
def dqStep (c : Dev nD) (n : ℕ) (D : S8192x256.Idx → EReal) : S8192x256.Idx → EReal :=
  if h : n < cfg0.N then accQ (dsAt m c ⟨n, h⟩) (iblk m c 1 ⟨n, h⟩) D 8192 else D

/-- The query gradient's block after each grid point: it starts from zero at a head's first key block. -/
def dqN (c : Dev nD) : ℕ → S8192x256.Idx → EReal
  | 0 => dqStep m c 0 (fun _ => (0 : EReal))
  | n + 1 => dqStep m c (n + 1) (if (n + 1) % 8 = 0 then (fun _ => (0 : EReal)) else dqN c n)

/-- At a head's first key block. -/
theorem dqN_first (c : Dev nD) (t : Fin cfg0.N) (h : t.val % 8 = 0) : dqN m c t.val = accQ (dsAt m c t) (iblk m c 1 t) (fun _ => (0 : EReal)) 8192 := by
  obtain ⟨n, hn⟩ := t
  cases n with
  | zero => exact (congrArg (dqStep m c 0) rfl).trans (dif_pos hn)
  | succ n => exact (congrArg (dqStep m c (n + 1)) (if_pos h)).trans (dif_pos hn)

/-- At a later key block. -/
theorem dqN_next (c : Dev nD) (t : Fin cfg0.N) (h : t.val % 8 ≠ 0) : dqN m c t.val = accQ (dsAt m c t) (iblk m c 1 t) (dqN m c (t.val - 1)) 8192 := by
  obtain ⟨n, hn⟩ := t
  cases n with
  | zero => exact absurd rfl h
  | succ n => exact (congrArg (dqStep m c (n + 1)) (if_neg h)).trans (dif_pos hn)

/-- The proof data: the inputs' blocks as fetched, the results' blocks as computed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqN m c t.val
    | ⟨6, _⟩ => colsLo (accA (dsAt m c t) (iblk m c 0 t) 8192)
    | ⟨7, _⟩ => accB (prAt m c t) (iblk m c 3 t) 8192
    | ⟨8, _⟩ => colsHi (accA (dsAt m c t) (iblk m c 0 t) 8192)
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by dsimp only [dats]

/-- What the body leaves in window 0. -/
theorem after_0 (c : Dev nD) (t : Fin cfg0.N) : (dats m 0 c).after 0 t = iblk m c 0 t := by dsimp only [dats]
/-- What the body leaves in window 1. -/
theorem after_1 (c : Dev nD) (t : Fin cfg0.N) : (dats m 0 c).after 1 t = iblk m c 1 t := by dsimp only [dats]
/-- What the body leaves in window 2. -/
theorem after_2 (c : Dev nD) (t : Fin cfg0.N) : (dats m 0 c).after 2 t = iblk m c 2 t := by dsimp only [dats]
/-- What the body leaves in window 3. -/
theorem after_3 (c : Dev nD) (t : Fin cfg0.N) : (dats m 0 c).after 3 t = iblk m c 3 t := by dsimp only [dats]
/-- What the body leaves in window 4. -/
theorem after_4 (c : Dev nD) (t : Fin cfg0.N) : (dats m 0 c).after 4 t = iblk m c 4 t := by dsimp only [dats]
/-- What the body leaves in window 5. -/
theorem after_5 (c : Dev nD) (t : Fin cfg0.N) : (dats m 0 c).after 5 t = dqN m c t.val := by dsimp only [dats]
/-- What the body leaves in window 6. -/
theorem after_6 (c : Dev nD) (t : Fin cfg0.N) : (dats m 0 c).after 6 t = colsLo (accA (dsAt m c t) (iblk m c 0 t) 8192) := by dsimp only [dats]
/-- What the body leaves in window 7. -/
theorem after_7 (c : Dev nD) (t : Fin cfg0.N) : (dats m 0 c).after 7 t = accB (prAt m c t) (iblk m c 3 t) 8192 := by dsimp only [dats]
/-- What the body leaves in window 8. -/
theorem after_8 (c : Dev nD) (t : Fin cfg0.N) : (dats m 0 c).after 8 t = colsHi (accA (dsAt m c t) (iblk m c 0 t) 8192) := by dsimp only [dats]
/-- What the body finds in window 0. -/
theorem before_0 (c : Dev nD) (t : Fin cfg0.N) (d) : (dats m 0 c).before 0 t d = iblk m c 0 t := before0_0_of m (dats m 0 c) (A_eq m c 0) (after_0 m c) t d
/-- What the body finds in window 1. -/
theorem before_1 (c : Dev nD) (t : Fin cfg0.N) (d) : (dats m 0 c).before 1 t d = iblk m c 1 t := before0_1_of m (dats m 0 c) (A_eq m c 1) (after_1 m c) t d
/-- What the body finds in window 2. -/
theorem before_2 (c : Dev nD) (t : Fin cfg0.N) (d) : (dats m 0 c).before 2 t d = iblk m c 2 t := before0_2_of m (dats m 0 c) (A_eq m c 2) (after_2 m c) t d
/-- What the body finds in window 3. -/
theorem before_3 (c : Dev nD) (t : Fin cfg0.N) (d) : (dats m 0 c).before 3 t d = iblk m c 3 t := before0_3_of m (dats m 0 c) (A_eq m c 3) (after_3 m c) t d
/-- What the body finds in window 4. -/
theorem before_4 (c : Dev nD) (t : Fin cfg0.N) (d) : (dats m 0 c).before 4 t d = iblk m c 4 t := before0_4_of m (dats m 0 c) (A_eq m c 4) (after_4 m c) t d
/-- Away from a head's first key block the query gradient's buffer holds what the point before left. -/
theorem before_5 (c : Dev nD) (t : Fin cfg0.N) (h : t.val % 8 ≠ 0) (d) : (dats m 0 c).before 5 t d = dqN m c (t.val - 1) := by
  have ht : t.val ≠ 0 := fun e => h (by rw [e])
  have hf : (cfg0.win 5).flush ⟨t.val - 1, Nat.lt_of_le_of_lt (Nat.sub_le _ _) t.isLt⟩ = false := by
    rw [Bool.eq_false_iff]
    intro hh
    have := (flush0_5 _).mp hh
    simp only at this
    omega
  rw [(dats m 0 c).before_out_kept 5 rfl t ht hf (fun _ => rfl) (fun _ _ => rfl) d, after_5]

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The two scratch operands. -/
abbrev scr0 : Memref sig .tc .vmem S1024x256 .f32 := Memref.whole cc0_scratch0
/-- The second. -/
abbrev scr1 : Memref sig .tc .vmem S1024x128 .f32 := Memref.whole cc0_scratch1

/-- The invariant as the scratch operands at some contents. -/
theorem inv_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, inv_eq]
  by_cases h0 : t.val % 8 = 0
  · rw [dqN_first m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_A c (grid0.coords t) _ _ _ _ _ _ _ _ _ _ _ _ _ _ _ _ _ _ _ _ _ _ ((isFirst_iff t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [dqN_next m c t h0]
    simp only [before_5 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_B c (grid0.coords t) _ _ _ _ _ _ _ _ _ _ _ _ _ _ _ _ _ _ _ _ _ _ (fun h => h0 ((isFirst_iff t).mp h)) (iblk m c 0 t) (iblk m c 1 t) (iblk m c 2 t) (iblk m c 3 t) (iblk m c 4 t) (dqN m c (t.val - 1))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at a point's slots. -/
theorem row_eq (t : Fin cfg0.N) : defs₀ (F := Ideal) .tc cfg0.body (cfg0.bodyArgs t (cfg0.slots t)) = bodyAt0 t := by
  unfold defs₀; rw [Defs.onTc_tc]

/-- The body's triple at every point, as the launch takes it. -/
theorem body_ok (c : Dev nD) : BodyObligation (dats m 0 c) (defs₀ (F := Ideal)) Variants.none () Set.univ := fun t => by
  rw [bigSep_W0, bigSep_W0, row_eq]
  exact triple_restated (sound_body m c t) rfl .rfl fun _ => .rfl

set_option backward.isDefEq.respectTransparency.types false in
/-- The launch: every execution ends with the result arrays as written back block by block, and no semaphore held. -/
theorem run_all : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hΦ := fun _ _ => rfl)

end Cert.KernelIdeal.Val
end
-- ==== Proof.Array.lean ====
module

public import proofs.«01_k».proof.Proof.Run
public import Idealize.ShloMosaic.Lib.Pipeline.ValueKit.Point

/-! What the four result arrays hold after the run, as sums over all the keys or all the queries of a head. -/

@[expose] public section

set_option maxRecDepth 16384
noncomputable section

namespace Cert.KernelIdeal.Val

open Cert.KernelIdeal Cert.KernelIdeal.Gen
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-! ## The operands, by head -/

/-- Column `d` of a head among its 256. -/
def col256 (h : Fin 8) (d : Fin 256) : Fin 2048 := ⟨256 * h.val + d.val, by omega⟩

/-- Column `d` of a head among its 128. -/
def col128 (h : Fin 8) (d : Fin 128) : Fin 1024 := ⟨128 * h.val + d.val, by omega⟩

/-- Column `d` of a head's values, which follow the 1024 columns of the keys. -/
def colV (h : Fin 8) (d : Fin 128) : Fin 2048 := ⟨1024 + 128 * h.val + d.val, by omega⟩

/-- The queries. -/
def QC (q : Fin 8192) (h : Fin 8) (d : Fin 256) : EReal := V m c main_v37 (ix2 q (col256 h d))
/-- The keys. -/
def KC (k : Fin 8192) (h : Fin 8) (d : Fin 256) : EReal := V m c main_v41 (ix2 k (col256 h d))
/-- The values. -/
def VC (k : Fin 8192) (h : Fin 8) (d : Fin 128) : EReal := V m c main_v45 (ix2 k (colV h d))
/-- The incoming gradient. -/
def DO (q : Fin 8192) (h : Fin 8) (d : Fin 128) : EReal := V m c main_v54 (ix2 q (col128 h d))
/-- What the forward pass saved of each row. -/
def ST (q : Fin 8192) (h : Fin 8) (d : Fin 128) : EReal := V m c main_v52 (ix2 q (col128 h d))

/-- The softmax weight of a query and a key. -/
def PR (h : Fin 8) (q k : Fin 8192) : EReal :=
  Ideal.exp2 ((if k.val ≤ q.val then ∑ d : Fin 256, QC m c q h d * KC m c k h d else ⊥)
    * (((Real.sqrt 192)⁻¹ * (Real.log 2)⁻¹ : ℝ) : EReal) - ST m c q h 0)

/-- The gradient of the score of a query and a key. -/
def DS (h : Fin 8) (q k : Fin 8192) : EReal :=
  PR m c h q k * ((∑ d : Fin 128, DO m c q h d * VC m c k h d) - ST m c q h 64) * (((Real.sqrt 192)⁻¹ : ℝ) : EReal)

/-! ## The blocks of a grid point -/

/-- The head of a grid point. -/
def headOf (t : Fin cfg0.N) : Fin 8 := ⟨t.val / 8, by have := Nat.lt_of_lt_of_eq t.isLt N_0; omega⟩

/-- The key of a row of a grid point's block. -/
def keyOf (t : Fin cfg0.N) (k : Fin 1024) : Fin 8192 := row (1024 * (t.val % 8) + k.val)

theorem keyOf_val (t : Fin cfg0.N) (k : Fin 1024) : (keyOf t k).val = 1024 * (t.val % 8) + k.val := row_val (by omega)

theorem idx_0 : ∀ t : Fin cfg0.N, win0_0.index t = ![0, t.val / 8] := (by decide +kernel : ∀ t : Fin grid0.N, win0_0.index t = ![0, t.val / 8])
theorem idx_1 : ∀ t : Fin cfg0.N, win0_1.index t = ![t.val % 8, t.val / 8] := (by decide +kernel : ∀ t : Fin grid0.N, win0_1.index t = ![t.val % 8, t.val / 8])
theorem idx_2 : ∀ t : Fin cfg0.N, win0_2.index t = ![t.val % 8, 8 + t.val / 8] := (by decide +kernel : ∀ t : Fin grid0.N, win0_2.index t = ![t.val % 8, 8 + t.val / 8])
theorem idx_3 : ∀ t : Fin cfg0.N, win0_3.index t = ![0, t.val / 8] := (by decide +kernel : ∀ t : Fin grid0.N, win0_3.index t = ![0, t.val / 8])
theorem idx_4 : ∀ t : Fin cfg0.N, win0_4.index t = ![0, t.val / 8] := (by decide +kernel : ∀ t : Fin grid0.N, win0_4.index t = ![0, t.val / 8])
theorem idx_5 : ∀ t : Fin cfg0.N, win0_5.index t = ![0, t.val / 8] := (by decide +kernel : ∀ t : Fin grid0.N, win0_5.index t = ![0, t.val / 8])
theorem idx_6 : ∀ t : Fin cfg0.N, win0_6.index t = ![t.val % 8, t.val / 8] := (by decide +kernel : ∀ t : Fin grid0.N, win0_6.index t = ![t.val % 8, t.val / 8])
theorem idx_7 : ∀ t : Fin cfg0.N, win0_7.index t = ![t.val % 8, t.val / 8] := (by decide +kernel : ∀ t : Fin grid0.N, win0_7.index t = ![t.val % 8, t.val / 8])
theorem idx_8 : ∀ t : Fin cfg0.N, win0_8.index t = ![t.val % 8, t.val / 8] := (by decide +kernel : ∀ t : Fin grid0.N, win0_8.index t = ![t.val % 8, t.val / 8])

theorem blk_0 (t : Fin cfg0.N) (q : Fin 8192) (d : Fin 256) : iblk m c 0 t (ix2 q d) = QC m c q (headOf t) d := by
  unfold QC
  blk_simp [iblk]
  refine congrArg _ ?_
  blk_ext [col256, headOf, idx_0 t]

theorem blk_1 (t : Fin cfg0.N) (k : Fin 1024) (d : Fin 256) : iblk m c 1 t (ix2 k d) = KC m c (keyOf t k) (headOf t) d := by
  unfold KC
  blk_simp [iblk]
  refine congrArg _ ?_
  blk_ext [col256, headOf, idx_1 t, keyOf_val]

theorem blk_2 (t : Fin cfg0.N) (k : Fin 1024) (d : Fin 128) : iblk m c 2 t (ix2 k d) = VC m c (keyOf t k) (headOf t) d := by
  unfold VC
  blk_simp [iblk]
  refine congrArg _ ?_
  blk_ext [colV, headOf, idx_2 t, keyOf_val]

theorem blk_3 (t : Fin cfg0.N) (q : Fin 8192) (d : Fin 128) : iblk m c 3 t (ix2 q d) = DO m c q (headOf t) d := by
  unfold DO
  blk_simp [iblk]
  refine congrArg _ ?_
  blk_ext [col128, headOf, idx_3 t]

theorem blk_4 (t : Fin cfg0.N) (q : Fin 8192) (d : Fin 128) : iblk m c 4 t (ix2 q d) = ST m c q (headOf t) d := by
  unfold ST
  blk_simp [iblk]
  refine congrArg _ ?_
  blk_ext [col128, headOf, idx_4 t]

/-- The weights of a grid point's block. -/
theorem prAt_eq (t : Fin cfg0.N) (q : ℕ) (hq : q < 8192) (k : Fin 1024) :
    prAt m c t q k = PR m c (headOf t) (row q) (keyOf t k) := by
  unfold prAt pr sc PR
  simp only [blk_0, blk_1, blk_4, coords1, keyOf_val, row_val hq]

/-- The score gradients of a grid point's block. -/
theorem dsAt_eq (t : Fin cfg0.N) (q : ℕ) (hq : q < 8192) (k : Fin 1024) :
    dsAt m c t q k = DS m c (headOf t) (row q) (keyOf t k) := by
  have hp := prAt_eq m c t q hq k
  unfold prAt at hp
  unfold dsAt ds DS dp
  rw [hp]
  simp only [blk_2, blk_3, blk_4]

/-! ## The sums of a grid point -/

/-- The rows' sum of the score gradients. -/
theorem accA_eq (t : Fin cfg0.N) (a : Fin 1024) (b : Fin 256) :
    accA (dsAt m c t) (iblk m c 0 t) 8192 (ix2 a b) = ∑ q : Fin 8192, DS m c (headOf t) q (keyOf t a) * QC m c q (headOf t) b := by
  show ∑ q ∈ Finset.range 8192, dsAt m c t q a * iblk m c 0 t (ix2 (row q) b) = _
  rw [Finset.sum_range]
  refine Finset.sum_congr rfl fun q _ => ?_
  rw [dsAt_eq m c t q.val q.isLt, blk_0, row_fin]

/-- The rows' sum of the weights. -/
theorem accB_eq (t : Fin cfg0.N) (a : Fin 1024) (b : Fin 128) :
    accB (prAt m c t) (iblk m c 3 t) 8192 (ix2 a b) = ∑ q : Fin 8192, PR m c (headOf t) q (keyOf t a) * DO m c q (headOf t) b := by
  show ∑ q ∈ Finset.range 8192, prAt m c t q a * iblk m c 3 t (ix2 (row q) b) = _
  rw [Finset.sum_range]
  refine Finset.sum_congr rfl fun q _ => ?_
  rw [prAt_eq m c t q.val q.isLt, blk_3, row_fin]

/-- What one grid point adds to the query gradient. -/
theorem accQ_eq (t : Fin cfg0.N) (D : S8192x256.Idx → EReal) (a : Fin 8192) (b : Fin 256) :
    accQ (dsAt m c t) (iblk m c 1 t) D 8192 (ix2 a b)
      = D (ix2 a b) + ∑ k ∈ Finset.range 1024, DS m c (headOf t) a (row (1024 * (t.val % 8) + k)) * KC m c (row (1024 * (t.val % 8) + k)) (headOf t) b := by
  refine (if_pos a.isLt).trans (congrArg (D (ix2 a b) + ·) ?_)
  show ∑ k : Fin 1024, dsAt m c t a.val k * iblk m c 1 t (ix2 k b) = _
  rw [Finset.sum_range]
  refine Finset.sum_congr rfl fun k _ => ?_
  rw [dsAt_eq m c t a.val a.isLt, blk_1, row_fin]
  rfl

/-- The query gradient after a grid point: the sum over the head's keys so far. -/
theorem dqN_eq (a : Fin 8192) (b : Fin 256) : ∀ (n : ℕ) (hn : n < cfg0.N), dqN m c n (ix2 a b)
    = ∑ k ∈ Finset.range (1024 * (n % 8 + 1)), DS m c (headOf ⟨n, hn⟩) a (row k) * KC m c (row k) (headOf ⟨n, hn⟩) b := by
  intro n
  induction n with
  | zero =>
    intro hn
    rw [dqN_first m c ⟨0, hn⟩ rfl, accQ_eq, zero_add]
    simp only [Nat.zero_mod, Nat.mul_zero, Nat.zero_add, Nat.mul_one]
  | succ n ih =>
    intro hn
    by_cases h : (n + 1) % 8 = 0
    · rw [dqN_first m c ⟨n + 1, hn⟩ h, accQ_eq, zero_add]
      simp only [h, Nat.mul_zero, Nat.zero_add, Nat.mul_one]
    · have hh : headOf ⟨n, Nat.lt_of_succ_lt hn⟩ = headOf ⟨n + 1, hn⟩ := Fin.ext (show n / 8 = (n + 1) / 8 by omega)
      have hm : (n + 1) % 8 = n % 8 + 1 := by omega
      rw [dqN_next m c ⟨n + 1, hn⟩ h, accQ_eq]
      simp only [Nat.add_sub_cancel]
      rw [ih (Nat.lt_of_succ_lt hn), hh, hm, Nat.mul_add 1024 (n % 8 + 1) 1, Finset.sum_range_add]

/-! ## The result arrays -/

/-- The head of a column of 256 per head. -/
def hd256 (x : Fin 2048) : Fin 8 := ⟨x.val / 256, by omega⟩
/-- The position of a column in its head. -/
def ln256 (x : Fin 2048) : Fin 256 := ⟨x.val % 256, by omega⟩
/-- The head of a column of 128 per head. -/
def hd128 (x : Fin 1024) : Fin 8 := ⟨x.val / 128, by omega⟩
/-- The position of a column in its head. -/
def ln128 (x : Fin 1024) : Fin 128 := ⟨x.val % 128, by omega⟩

/-- The query gradient. -/
def outQ : S8192x2048.Idx → EReal := fun i =>
  ∑ k : Fin 8192, DS m c (hd256 (i 1)) (i 0) k * KC m c k (hd256 (i 1)) (ln256 (i 1))
/-- The key gradient's first half. -/
def outK : S8192x1024.Idx → EReal := fun i =>
  ∑ q : Fin 8192, DS m c (hd128 (i 1)) q (i 0) * QC m c q (hd128 (i 1)) (Fin.castLE (by decide : 128 ≤ 256) (ln128 (i 1)))
/-- The value gradient. -/
def outV : S8192x1024.Idx → EReal := fun i =>
  ∑ q : Fin 8192, PR m c (hd128 (i 1)) q (i 0) * DO m c q (hd128 (i 1)) (ln128 (i 1))
/-- The key gradient's second half. -/
def outR : S8192x1024.Idx → EReal := fun i =>
  ∑ q : Fin 8192, DS m c (hd128 (i 1)) q (i 0) * QC m c q (hd128 (i 1)) (Fin.natAdd 128 (ln128 (i 1)))

theorem hd256_col (h : Fin 8) (d : Fin 256) : hd256 (col256 h d) = h := Fin.ext (show (256 * h.val + d.val) / 256 = h.val by omega)
theorem ln256_col (h : Fin 8) (d : Fin 256) : ln256 (col256 h d) = d := Fin.ext (show (256 * h.val + d.val) % 256 = d.val by omega)
theorem hd128_col (h : Fin 8) (d : Fin 128) : hd128 (col128 h d) = h := Fin.ext (show (128 * h.val + d.val) / 128 = h.val by omega)
theorem ln128_col (h : Fin 8) (d : Fin 128) : ln128 (col128 h d) = d := Fin.ext (show (128 * h.val + d.val) % 128 = d.val by omega)

/-- The query gradient's array after the run. -/
theorem final_5 : (dats m 0 c).arrAt 5 cfg0.N = outQ m c := by
  refine (dats m 0 c).arrAt_eq_of_covers 5 _ (by decide +kernel) fun t hf y => ?_
  have h7 : t.val % 8 = 7 := (flush0_5 t).mp hf
  have hN : t.val < 64 := Nat.lt_of_lt_of_eq t.isLt N_0
  blk_simp
  rw [after_5]
  obtain ⟨a, b, rfl⟩ : ∃ (a : Fin 8192) (b : Fin 256), y = ix2 a b := ⟨y 0, y 1, (ix2_eta y).symm⟩
  have he : (win0_5.blk t).view.emb (ix2 a b) = ix2 a (col256 (headOf t) b) := by
    blk_ext [idx_5 t, col256, headOf]
  rw [he]
  refine (dqN_eq m c a b t.val t.isLt).trans ?_
  show _ = ∑ k : Fin 8192, DS m c (hd256 (col256 (headOf t) b)) a k * KC m c k (hd256 (col256 (headOf t) b)) (ln256 (col256 (headOf t) b))
  rw [hd256_col, ln256_col, h7, Finset.sum_range]
  refine Finset.sum_congr rfl fun k _ => ?_
  rw [row_fin]

/-- The array of the key gradient's first half after the run. -/
theorem final_6 : (dats m 0 c).arrAt 6 cfg0.N = outK m c := by
  refine (dats m 0 c).arrAt_eq_of_covers 6 _ (by decide +kernel) fun t hf y => ?_
  have hN : t.val < 64 := Nat.lt_of_lt_of_eq t.isLt N_0
  blk_simp
  rw [after_6]
  obtain ⟨a, b, rfl⟩ : ∃ (a : Fin 1024) (b : Fin 128), y = ix2 a b := ⟨y 0, y 1, (ix2_eta y).symm⟩
  have he : (win0_6.blk t).view.emb (ix2 a b) = ix2 (keyOf t a) (col128 (headOf t) b) := by
    blk_ext [idx_6 t, col128, headOf, keyOf_val]
  rw [he]
  refine (accA_eq m c t a (Fin.castLE (by decide : 128 ≤ 256) b)).trans ?_
  show _ = ∑ q : Fin 8192, DS m c (hd128 (col128 (headOf t) b)) q (keyOf t a) * QC m c q (hd128 (col128 (headOf t) b)) (Fin.castLE (by decide : 128 ≤ 256) (ln128 (col128 (headOf t) b)))
  rw [hd128_col, ln128_col]

/-- The value gradient's array after the run. -/
theorem final_7 : (dats m 0 c).arrAt 7 cfg0.N = outV m c := by
  refine (dats m 0 c).arrAt_eq_of_covers 7 _ (by decide +kernel) fun t hf y => ?_
  have hN : t.val < 64 := Nat.lt_of_lt_of_eq t.isLt N_0
  blk_simp
  rw [after_7]
  obtain ⟨a, b, rfl⟩ : ∃ (a : Fin 1024) (b : Fin 128), y = ix2 a b := ⟨y 0, y 1, (ix2_eta y).symm⟩
  have he : (win0_7.blk t).view.emb (ix2 a b) = ix2 (keyOf t a) (col128 (headOf t) b) := by
    blk_ext [idx_7 t, col128, headOf, keyOf_val]
  rw [he]
  refine (accB_eq m c t a b).trans ?_
  show _ = ∑ q : Fin 8192, PR m c (hd128 (col128 (headOf t) b)) q (keyOf t a) * DO m c q (hd128 (col128 (headOf t) b)) (ln128 (col128 (headOf t) b))
  rw [hd128_col, ln128_col]

/-- The array of the key gradient's second half after the run. -/
theorem final_8 : (dats m 0 c).arrAt 8 cfg0.N = outR m c := by
  refine (dats m 0 c).arrAt_eq_of_covers 8 _ (by decide +kernel) fun t hf y => ?_
  have hN : t.val < 64 := Nat.lt_of_lt_of_eq t.isLt N_0
  blk_simp
  rw [after_8]
  obtain ⟨a, b, rfl⟩ : ∃ (a : Fin 1024) (b : Fin 128), y = ix2 a b := ⟨y 0, y 1, (ix2_eta y).symm⟩
  have he : (win0_8.blk t).view.emb (ix2 a b) = ix2 (keyOf t a) (col128 (headOf t) b) := by
    blk_ext [idx_8 t, col128, headOf, keyOf_val]
  rw [he]
  refine (accA_eq m c t a (Fin.natAdd 128 b)).trans ?_
  show _ = ∑ q : Fin 8192, DS m c (hd128 (col128 (headOf t) b)) q (keyOf t a) * QC m c q (hd128 (col128 (headOf t) b)) (Fin.natAdd 128 (ln128 (col128 (headOf t) b)))
  rw [hd128_col, ln128_col]

end Cert.KernelIdeal.Val
-- ==== Proof.Spec.lean ====
module

public import Idealize.ShloMosaic.PureOps.Ideal.Laws
public import Idealize.ShloMosaic.Lib.Pointwise

/-! The attention of one head and its saved values, written over plain indices: the scores, the softmax, the output and
the two numbers the backward pass is given for each row. -/

@[expose] public section

noncomputable section

namespace Cert.Spec

open Idealize.ShloMosaic

/-- The arguments: queries, keys, values and the incoming gradient, by position, head and column. -/
structure Args where
  qn : Fin 8192 → Fin 8 → Fin 128 → EReal
  qr : Fin 8192 → Fin 8 → Fin 64 → EReal
  kn : Fin 8192 → Fin 8 → Fin 128 → EReal
  kr : Fin 8192 → Fin 64 → EReal
  v : Fin 8192 → Fin 8 → Fin 128 → EReal
  g : Fin 8192 → Fin 8 → Fin 128 → EReal

/-- The root of the width of a query. -/
def root : EReal := ((Real.sqrt 192 : ℝ) : EReal)

variable (A : Args) (h : Fin 8) (q k : Fin 8192)

/-- The product of a query and a key. -/
def raw : EReal := (∑ d : Fin 128, A.qn q h d * A.kn k h d) + ∑ d : Fin 64, A.qr q h d * A.kr k d

/-- The masked score: minus infinity after the query. -/
def sc : EReal := if k.val ≤ q.val then Ideal.div (raw A h q k) root else ⊥

/-- The greatest score of a row. -/
def mx : EReal := Finset.univ.fold max (⊥ : EReal) fun k : Fin 8192 => sc A h q k

/-- The weight before it is normalised. -/
def ex : EReal := Ideal.exp (sc A h q k - mx A h q)

/-- The sum of a row's weights. -/
def sm : EReal := ∑ k : Fin 8192, ex A h q k

/-- The softmax. -/
def p : EReal := Ideal.div (ex A h q k) (sm A h q)

/-- The output of a row. -/
def o (d : Fin 128) : EReal := ∑ k : Fin 8192, p A h q k * A.v k h d

/-- The logarithm, in base two, of the sum of the exponentials of a row's scores. -/
def lse2 : EReal := Ideal.div (mx A h q + Ideal.log (sm A h q)) (Ideal.log ((2 : ℝ) : EReal))

/-- The product of the incoming gradient and the output. -/
def dsum : EReal := ∑ d : Fin 128, A.g q h d * o A h q d

/-- The gradient of a weight: the incoming gradient times the value. -/
def dp : EReal := ∑ d : Fin 128, A.g q h d * A.v k h d

/-- What a row's softmax takes off the gradients of its weights, as the reference computes it. -/
def back : EReal := ∑ k : Fin 8192, dp A h q k * Ideal.div 1 (sm A h q * sm A h q) * ex A h q k

/-- The gradient of a score, as the reference computes it. -/
def ds : EReal :=
  Ideal.div (if k.val ≤ q.val then (Ideal.div (dp A h q k) (sm A h q) + -back A h q) * ex A h q k else 0) root

/-- A query's 256 columns: the two parts, then zeros. -/
def qc (d : Fin 256) : EReal :=
  if hd : d.val < 128 then A.qn q h ⟨d.val, hd⟩ else if hr : d.val - 128 < 64 then A.qr q h ⟨d.val - 128, hr⟩ else 0

/-- A key's 256 columns: the two parts, then zeros. -/
def kc (d : Fin 256) : EReal :=
  if hd : d.val < 128 then A.kn k h ⟨d.val, hd⟩ else if hr : d.val - 128 < 64 then A.kr k ⟨d.val - 128, hr⟩ else 0

/-! ## Constants -/

theorem root_eq : Ideal.sqrt (Ideal.ofBits FTy.f32 1128267776#32) = root := by
  have e : Ideal.ofBits FTy.f32 1128267776#32 = ((192 : ℝ) : EReal) := by
    simp [Ideal.ofBits, Ideal.ieee, -EReal.coe_mul]; norm_num
  rw [e]
  simp only [Ideal.sqrt_coe, show ¬((192 : ℝ) < 0) from by norm_num, if_false]
  rfl

theorem neg_inf_eq : Ideal.ofBits FTy.f32 4286578688#32 = (⊥ : EReal) := by
  simp [Ideal.ofBits, Ideal.ieee]

/-- The mask of the forward pass, a comparison of positions. -/
theorem sel_le (a b : ℕ) (ha : a < 8192) (hb : b < 8192) (x y : EReal) :
    Scalar.select (IntOp.cmpi CmpIPredicate.sle (BitVec.ofNat 32 a) (BitVec.ofNat 32 b)) x y = if a ≤ b then x else y := by
  have e : IntOp.cmpi CmpIPredicate.sle (BitVec.ofNat 32 a) (BitVec.ofNat 32 b) = if a ≤ b then 1#1 else 0#1 := by
    show BitVec.ofBool ((BitVec.ofNat 32 a).sle (BitVec.ofNat 32 b)) = _
    have ea : (BitVec.ofNat 32 a).toNat = a := by rw [BitVec.toNat_ofNat]; omega
    have eb : (BitVec.ofNat 32 b).toNat = b := by rw [BitVec.toNat_ofNat]; omega
    rw [BitVec.sle_eq_decide, BitVec.toInt_eq_toNat_of_lt (by omega), BitVec.toInt_eq_toNat_of_lt (by omega), ea, eb]
    by_cases h : a ≤ b
    · rw [if_pos h, decide_eq_true (by omega)]; rfl
    · rw [if_neg h, decide_eq_false (by omega)]; rfl
  rw [e]
  by_cases h : a ≤ b
  · rw [if_pos h, if_pos h]; rfl
  · rw [if_neg h, if_neg h]; rfl

theorem zero_eq : (FloatOps.sitofp FTy.f32 0#32 : Ideal .f32) = (0 : EReal) := by
  show ((((0#32 : BitVec 32).toInt : ℝ)) : EReal) = 0
  simp

end Cert.Spec
-- ==== Proof.Host.lean ====
module

public import proofs.«01_k».proof.Proof.Array
public import proofs.«01_k».proof.Proof.Spec
public import Idealize.ShloMosaic.Lib.StableHlo.ReadAt

/-! What the launch is given: each operand at a position, from the arguments. -/

@[expose] public section

set_option maxRecDepth 16384
noncomputable section

namespace Cert.KernelIdeal.Val

open Cert.KernelIdeal Cert.KernelIdeal.Gen
open Idealize.ShloMosaic Idealize.ShloMosaic.TcCoe Idealize.ShloMosaic.Tactic
open Idealize.SL Idealize.SL.RA

variable (m : (ℓ : Loc nD τ sig) → Buf (Elt Ideal) ℓ) (c : Dev nD)

/-- The arguments of a run. -/
def args : Spec.Args where
  qn q h d := m (c.tc.loc main_arg0) (ix3 q h d)
  qr q h d := m (c.tc.loc main_arg1) (ix3 q h d)
  kn q h d := m (c.tc.loc main_arg2) (ix3 q h d)
  kr q d := m (c.tc.loc main_arg3) (ix2 q d)
  v q h d := m (c.tc.loc main_arg4) (ix3 q h d)
  g q h d := m (c.tc.loc main_arg5) (ix3 q h d)

/-- The host operations before the launch, as one list. -/
abbrev line : List (HloOp τ sig (Elt Ideal)) :=
  hostOps0 ++ (hostOps0_1 ++ (hostOps0_2 ++ (hostOps0_3 ++ (hostOps0_4 ++ (hostOps0_5 ++ hostOps0_6)))))

theorem V_line (b : Ref sig .tc) : V m c b = StableHlo.after line (fun b => m (c, b)) (Proc.devRef .tc b) := by
  unfold V line
  simp only [List.flatten_cons, List.flatten_nil, List.append_nil]

/-! ## Constants -/

theorem two_eq : Ideal.ofBits FTy.f32 0x40000000#32 = ((2 : ℝ) : EReal) := by
  simp [Ideal.ofBits, Ideal.ieee, -EReal.coe_mul]; norm_num

/-! ## The forward pass on the host -/

/-- The masked scores. -/
def W15 (h : Fin 8) (q k : Fin 8192) : EReal := V m c main_v15 (ix3 h q k)
/-- The rows' greatest scores. -/
def W16 (h : Fin 8) (q : Fin 8192) : EReal := V m c main_v16 (ix2 h q)
/-- The weights before they are normalised. -/
def W20 (h : Fin 8) (q k : Fin 8192) : EReal := V m c main_v20 (ix3 h q k)
/-- The rows' sums. -/
def W21 (h : Fin 8) (q : Fin 8192) : EReal := V m c main_v21 (ix2 h q)
/-- The softmax. -/
def W24 (h : Fin 8) (q k : Fin 8192) : EReal := V m c main_v24 (ix3 h q k)
/-- The rows' log-sums. -/
def W31 (h : Fin 8) (q : Fin 8192) : EReal := V m c main_v31 (ix2 h q)
/-- The output. -/
def W26 (h : Fin 8) (q : Fin 8192) (d : Fin 128) : EReal := V m c main_v26 (ix3 q h d)
/-- The products of the incoming gradient and the output. -/
def W33 (h : Fin 8) (q : Fin 8192) : EReal := V m c main_v33 (ix2 q h)

theorem W15_eq (h : Fin 8) (q k : Fin 8192) : W15 m c h q k = Spec.sc (args m c) h q k := by
  unfold W15
  rw [V_line]
  after_reads_at
  rw [Spec.root_eq]
  refine (Spec.sel_le k.val q.val k.isLt q.isLt _ _).trans ?_
  show (if _ then _ else Ideal.ofBits FTy.f32 4286578688#32) = _
  rw [Spec.neg_inf_eq]
  rfl

theorem W16_eq (h : Fin 8) (q : Fin 8192) : W16 m c h q = Spec.mx (args m c) h q := by
  have e : W16 m c h q = Finset.univ.fold max (Ideal.ofBits FTy.f32 4286578688#32) (fun k : Fin 8192 => W15 m c h q k) := by
    unfold W16 W15
    rw [V_line, V_line]
    after_reads_at
  rw [e, Spec.neg_inf_eq]
  simp only [W15_eq]
  rfl

theorem W20_eq (h : Fin 8) (q k : Fin 8192) : W20 m c h q k = Spec.ex (args m c) h q k := by
  have e : W20 m c h q k = Ideal.exp (W15 m c h q k - W16 m c h q) := by
    unfold W20 W15 W16
    rw [V_line, V_line, V_line]
    after_reads_at
  rw [e, W15_eq, W16_eq]
  rfl

theorem W21_eq (h : Fin 8) (q : Fin 8192) : W21 m c h q = Spec.sm (args m c) h q := by
  have e : W21 m c h q = ∑ k : Fin 8192, W20 m c h q k := by
    unfold W21 W20
    rw [V_line, V_line]
    after_reads_at
  rw [e]
  simp only [W20_eq]
  rfl

theorem W24_eq (h : Fin 8) (q k : Fin 8192) : W24 m c h q k = Spec.p (args m c) h q k := by
  have e : W24 m c h q k = Ideal.div (W20 m c h q k) (W21 m c h q) := by
    unfold W24 W20 W21
    rw [V_line, V_line, V_line]
    after_reads_at
  rw [e, W20_eq, W21_eq]
  rfl

theorem W26_eq (h : Fin 8) (q : Fin 8192) (d : Fin 128) : W26 m c h q d = Spec.o (args m c) h q d := by
  have e : W26 m c h q d = ∑ k : Fin 8192, (args m c).v k h d * W24 m c h q k := by
    unfold W26 W24 args
    rw [V_line, V_line]
    after_reads_at
  rw [e]
  simp only [W24_eq, mul_comm ((args m c).v _ h d)]
  rfl

/-- The log-sum's arithmetic at a position. -/
theorem lse_at (x y : FVec Ideal S8x8192 .f32) (i : S8x8192.Idx) :
    Host.divf (addf x (Host.log y)) (broadcastInDim S8x8192 ![] bcast_S_S8x8192 (Host.log (constant S_ .f32 0x40000000#32))) i
      = Ideal.div (x i + Ideal.log (y i)) (Ideal.log (Ideal.ofBits FTy.f32 0x40000000#32)) := by
  pointwise

theorem W31_eq (h : Fin 8) (q : Fin 8192) : W31 m c h q = Spec.lse2 (args m c) h q := by
  have e : W31 m c h q = Ideal.div (W16 m c h q + Ideal.log (W21 m c h q)) (Ideal.log (Ideal.ofBits FTy.f32 0x40000000#32)) := by
    unfold W31 W16 W21
    rw [V_line, V_line, V_line]
    after_reads_simp
    exact lse_at _ _ _
  rw [e, W16_eq, W21_eq, two_eq]
  rfl

/-- The row products' arithmetic at a position. -/
theorem dsum_at (x y : FVec Ideal S8192x8x128 .f32) (q : Fin 8192) (h : Fin 8) :
    Host.reduceAdd (mulf x y) (constant S_ .f32 0x00000000#32) reducesTo_S8192x8x128_S8192x8_d2 h_S_ (ix2 q h)
      = ∑ d : Fin 128, x (ix3 q h d) * y (ix3 q h d) := by
  pointwise

theorem W33_eq (h : Fin 8) (q : Fin 8192) : W33 m c h q = Spec.dsum (args m c) h q := by
  have e : W33 m c h q = ∑ d : Fin 128, (args m c).g q h d * W26 m c h q d := by
    unfold W33 W26 args
    rw [V_line, V_line]
    after_reads_simp
    exact dsum_at _ _ _ _
  rw [e]
  simp only [W26_eq]
  rfl

/-! ## The operands -/

theorem col256_div (h : Fin 8) (d : Fin 256) : (col256 h d).val / 256 = h.val := by show (256 * h.val + d.val) / 256 = _; omega
theorem col256_mod (h : Fin 8) (d : Fin 256) : (col256 h d).val % 256 = d.val := by show (256 * h.val + d.val) % 256 = _; omega
theorem col128_div (h : Fin 8) (d : Fin 128) : (col128 h d).val / 128 = h.val := by show (128 * h.val + d.val) / 128 = _; omega
theorem col128_mod (h : Fin 8) (d : Fin 128) : (col128 h d).val % 128 = d.val := by show (128 * h.val + d.val) % 128 = _; omega

/-- The queries' columns. -/
theorem QC_eq (q : Fin 8192) (h : Fin 8) (d : Fin 256) : QC m c q h d = Spec.qc (args m c) h q d := by
  unfold QC
  rw [V_line]
  after_reads_at
  after_reads_at
  have h8 := h.isLt
  unfold Spec.qc
  simp only [col256_div, col256_mod, Spec.zero_eq, h8, true_and]
  rfl

/-- The keys' columns. -/
theorem KC_eq (k : Fin 8192) (h : Fin 8) (d : Fin 256) : KC m c k h d = Spec.kc (args m c) h k d := by
  unfold KC
  rw [V_line]
  after_reads_at
  after_reads_at
  have h8 := h.isLt
  unfold Spec.kc
  simp only [col256_div, col256_mod, Spec.zero_eq, h8, true_and]
  rfl

/-- The values. -/
theorem VC_eq (k : Fin 8192) (h : Fin 8) (d : Fin 128) : VC m c k h d = (args m c).v k h d := by
  unfold VC
  rw [V_line]
  after_reads_at
  after_reads_at
  have e : (colV h d).val = 1024 + 128 * h.val + d.val := rfl
  refine (dif_neg (by omega)).trans ?_
  refine congrArg (m (c.tc.loc main_arg4)) (funext fun a => Fin.ext ?_)
  match a with
  | ⟨0, _⟩ => rfl
  | ⟨1, _⟩ => show ((colV h d).val - 1024) / 128 = h.val; omega
  | ⟨2, _⟩ => show ((colV h d).val - 1024) % 128 = d.val; omega

/-- The incoming gradient. -/
theorem DO_eq (q : Fin 8192) (h : Fin 8) (d : Fin 128) : DO m c q h d = (args m c).g q h d := by
  unfold DO
  rw [V_line]
  after_reads_at
  simp only [col128_div, col128_mod]
  rfl

/-- The layout of the saved numbers, read at a position. -/
theorem stats_at (x : S8x8192.Idx → EReal) (y : S8192x8.Idx → EReal) (q : Fin 8192) (h : Fin 8) (d : Fin 128) :
    shapeCast (α := EReal) S8192x1024 (concatenate S8192x8x128 2
        [⟨S8192x8x64, broadcastInDim S8192x8x64 ![0, 1, 2] bcast_S8192x8x1_S8192x8x64_0_1_2 (broadcastInDim S8192x8x1 ![0, 1] bcast_S8192x8_S8192x8x1_0_1 (transpose S8192x8 [1, 0] x transposes_S8x8192_S8192x8_1_0))⟩,
          ⟨S8192x8x64, broadcastInDim S8192x8x64 ![0, 1, 2] bcast_S8192x8x1_S8192x8x64_0_1_2 (broadcastInDim S8192x8x1 ![0, 1] bcast_S8192x8_S8192x8x1_0_1 y)⟩]
        concatenates_S8192x8x64_S8192x8x64_S8192x8x128_d2) shapeCasts_S8192x8x128_S8192x1024 (ix2 q (col128 h d))
      = if d.val < 64 then x (ix2 h q) else y (ix2 q h) := by
  pointwise
  simp only [col128_div, col128_mod]
  rfl

/-- The saved numbers: the log-sum in the first half of a head's columns, the row product in the second. -/
theorem ST_eq (q : Fin 8192) (h : Fin 8) (d : Fin 128) :
    ST m c q h d = if d.val < 64 then Spec.lse2 (args m c) h q else Spec.dsum (args m c) h q := by
  have e1 : StableHlo.upto line (fun b => m (c, b)) 64 (Proc.devRef .tc main_v48)
      = broadcastInDim S8192x8x64 ![0, 1, 2] bcast_S8192x8x1_S8192x8x64_0_1_2 (broadcastInDim S8192x8x1 ![0, 1] bcast_S8192x8_S8192x8x1_0_1 (transpose S8192x8 [1, 0] (V m c main_v31) transposes_S8x8192_S8192x8_1_0)) := by
    rw [V_line]
    after_reads_simp
  have e2 : StableHlo.upto line (fun b => m (c, b)) 64 (Proc.devRef .tc main_v50)
      = broadcastInDim S8192x8x64 ![0, 1, 2] bcast_S8192x8x1_S8192x8x64_0_1_2 (broadcastInDim S8192x8x1 ![0, 1] bcast_S8192x8_S8192x8x1_0_1 (V m c main_v33)) := by
    rw [V_line]
    after_reads_simp
  rw [← W31_eq, ← W33_eq]
  show V m c main_v52 (ix2 q (col128 h d)) = _
  have e : V m c main_v52 = shapeCast (α := EReal) S8192x1024 (concatenate S8192x8x128 2
        [⟨S8192x8x64, StableHlo.upto line (fun b => m (c, b)) 64 (Proc.devRef .tc main_v48)⟩, ⟨S8192x8x64, StableHlo.upto line (fun b => m (c, b)) 64 (Proc.devRef .tc main_v50)⟩]
        concatenates_S8192x8x64_S8192x8x64_S8192x8x128_d2) shapeCasts_S8192x8x128_S8192x1024 := by
    rw [V_line]
    after_reads_simp
    rfl
  refine (congrFun e _).trans ?_
  generalize StableHlo.upto line (fun b => m (c, b)) 64 (Proc.devRef .tc main_v48) = x at e1 ⊢
  generalize StableHlo.upto line (fun b => m (c, b)) 64 (Proc.devRef .tc main_v50) = y at e2 ⊢
  subst e1 e2
  exact stats_at (V m c main_v31) (V m c main_v33) q h d

end Cert.KernelIdeal.Val
-- ==== Proof.Algebra.lean ====
module

public import proofs.«01_k».proof.Proof.Spec

/-! The equation, at a position: over finite arguments the exponential in base two of a score less the saved
logarithm is the softmax, and the kernel's gradient of a score is the reference's. -/

@[expose] public section

noncomputable section

namespace Cert.Spec

open Idealize.ShloMosaic

/-- The arguments are real numbers. -/
structure Args.Real (A : Args) : Prop where
  qn : ∀ q h d, ∃ r : ℝ, A.qn q h d = r
  qr : ∀ q h d, ∃ r : ℝ, A.qr q h d = r
  kn : ∀ q h d, ∃ r : ℝ, A.kn q h d = r
  kr : ∀ q d, ∃ r : ℝ, A.kr q d = r
  v : ∀ q h d, ∃ r : ℝ, A.v q h d = r
  g : ∀ q h d, ∃ r : ℝ, A.g q h d = r

/-- A sum of reals is real. -/
theorem coe_sum {n : ℕ} (f : Fin n → ℝ) : (∑ i, (f i : EReal)) = ((∑ i, f i : ℝ) : EReal) := by
  induction (Finset.univ : Finset (Fin n)) using Finset.induction_on with
  | empty => simp
  | insert a s ha ih => rw [Finset.sum_insert ha, Finset.sum_insert ha, ih, EReal.coe_add]

/-- A sum of products of reals is real. -/
theorem dot_real {n : ℕ} {f g : Fin n → EReal} (hf : ∀ i, ∃ r : ℝ, f i = r) (hg : ∀ i, ∃ r : ℝ, g i = r) :
    ∃ r : ℝ, (∑ i, f i * g i) = r := by
  choose a ha using hf
  choose b hb using hg
  refine ⟨∑ i, a i * b i, ?_⟩
  simp only [ha, hb, ← EReal.coe_mul, coe_sum]

/-- The product of the 256 columns is the product of the two parts: the padding adds zeros. -/
theorem raw_eq (A : Args) (h : Fin 8) (q k : Fin 8192) : (∑ d : Fin 256, qc A h q d * kc A h k d) = raw A h q k := by
  have e : (∑ d : Fin 256, qc A h q d * kc A h k d) = ∑ d : Fin (128 + (64 + 64)), qc A h q d * kc A h k d := rfl
  rw [e, Fin.sum_univ_add, Fin.sum_univ_add]
  unfold raw
  refine congrArg₂ (· + ·) ?_ ?_
  · refine Finset.sum_congr rfl fun d _ => ?_
    unfold qc kc
    have hd : (Fin.castAdd (64 + 64) d).val < 128 := d.isLt
    rw [dif_pos hd, dif_pos hd]
    rfl
  · have z : (∑ d : Fin 64, qc A h q (Fin.natAdd 128 (Fin.natAdd 64 d)) * kc A h k (Fin.natAdd 128 (Fin.natAdd 64 d))) = 0 := by
      refine Finset.sum_eq_zero fun d _ => ?_
      have e : (Fin.natAdd 128 (Fin.natAdd 64 d)).val = 128 + (64 + d.val) := rfl
      unfold qc
      rw [dif_neg (by omega), dif_neg (by omega), zero_mul]
    rw [z, add_zero]
    refine Finset.sum_congr rfl fun d _ => ?_
    have e : (Fin.natAdd 128 (Fin.castAdd 64 d)).val = 128 + d.val := rfl
    have n : ¬(Fin.natAdd 128 (Fin.castAdd 64 d)).val < 128 := by omega
    have l : (Fin.natAdd 128 (Fin.castAdd 64 d)).val - 128 < 64 := by have := d.isLt; omega
    have i : (⟨(Fin.natAdd 128 (Fin.castAdd 64 d)).val - 128, l⟩ : Fin 64) = d := Fin.ext (by simp [e])
    unfold qc kc
    rw [dif_neg n, dif_neg n, dif_pos l, dif_pos l, i]

theorem root_pos : 0 < Real.sqrt 192 := Real.sqrt_pos.mpr (by norm_num)

section
variable {A : Args} (hA : A.Real) (h : Fin 8) (q : Fin 8192)
include hA

theorem raw_real (k : Fin 8192) : ∃ r : ℝ, raw A h q k = r := by
  obtain ⟨a, ha⟩ := dot_real (fun d => hA.qn q h d) (fun d => hA.kn k h d)
  obtain ⟨b, hb⟩ := dot_real (fun d => hA.qr q h d) (fun d => hA.kr k d)
  exact ⟨a + b, by rw [raw, ha, hb, EReal.coe_add]⟩

theorem dp_real (k : Fin 8192) : ∃ r : ℝ, dp A h q k = r :=
  dot_real (fun d => hA.g q h d) (fun d => hA.v k h d)

/-- A row in real numbers: scores, greatest score, weights and their sum. -/
theorem row : ∃ (r E : Fin 8192 → ℝ) (M L : ℝ), 0 < L ∧ (∑ k, E k) = L
    ∧ (∀ k, raw A h q k = r k) ∧ mx A h q = M ∧ (∀ k, ex A h q k = E k) ∧ sm A h q = L
    ∧ ∀ k, E k = if k.val ≤ q.val then Real.exp (r k * (Real.sqrt 192)⁻¹ - M) else 0 := by
  choose r hr using raw_real hA h q
  have hsc : ∀ k, sc A h q k = if k.val ≤ q.val then ((r k * (Real.sqrt 192)⁻¹ : ℝ) : EReal) else ⊥ := by
    intro k
    unfold sc root
    rw [hr, Ideal.div_coe root_pos.ne', ← EReal.coe_mul, one_div]
  have hbot : mx A h q ≠ ⊥ := by
    refine ne_of_gt ?_
    unfold mx
    rw [Finset.lt_fold_max]
    exact Or.inr ⟨q, Finset.mem_univ _, by rw [hsc, if_pos le_rfl]; exact EReal.bot_lt_coe _⟩
  have htop : mx A h q ≠ ⊤ := by
    refine ne_of_lt ?_
    unfold mx
    rw [Finset.fold_max_lt]
    refine ⟨bot_lt_top, fun k _ => ?_⟩
    rw [hsc]
    by_cases hk : k.val ≤ q.val
    · rw [if_pos hk]; exact EReal.coe_lt_top _
    · rw [if_neg hk]; exact bot_lt_top
  obtain ⟨M, hM⟩ : ∃ M : ℝ, mx A h q = M := ⟨_, (EReal.coe_toReal htop hbot).symm⟩
  have hex : ∀ k, ex A h q k = ((if k.val ≤ q.val then Real.exp (r k * (Real.sqrt 192)⁻¹ - M) else 0 : ℝ) : EReal) := by
    intro k
    unfold ex
    rw [hsc, hM]
    by_cases hk : k.val ≤ q.val
    · rw [if_pos hk, if_pos hk, ← EReal.coe_sub, Ideal.exp_coe]
    · rw [if_neg hk, if_neg hk, EReal.bot_sub]
      rfl
  refine ⟨r, _, M, _, ?_, rfl, hr, hM, hex, ?_, fun k => rfl⟩
  · refine Finset.sum_pos' (fun k _ => ?_) ⟨q, Finset.mem_univ _, ?_⟩
    · split
      · exact (Real.exp_pos _).le
      · exact le_rfl
    · rw [if_pos le_rfl]; exact Real.exp_pos _
  · unfold sm
    simp only [hex]
    exact coe_sum _

/-- The kernel's exponential is the softmax. -/
theorem p_eq (k : Fin 8192) :
    Ideal.exp2 ((if k.val ≤ q.val then raw A h q k else ⊥) * (((Real.sqrt 192)⁻¹ * (Real.log 2)⁻¹ : ℝ) : EReal) - lse2 A h q)
      = p A h q k := by
  obtain ⟨r, E, M, L, hL, hs, hr, hM, hE, hsm, hEk⟩ := row hA h q
  have h2 : 0 < Real.log 2 := Real.log_pos (by norm_num)
  have hl : lse2 A h q = (((M + Real.log L) * (1 / Real.log 2) : ℝ) : EReal) := by
    unfold lse2
    rw [hM, hsm, Ideal.log_coe, if_neg hL.not_ge, Ideal.log_coe, if_neg (by norm_num), ← EReal.coe_add,
      Ideal.div_coe h2.ne', ← EReal.coe_mul]
  have hp : p A h q k = ((E k * (1 / L) : ℝ) : EReal) := by
    unfold p
    rw [hE, hsm, Ideal.div_coe hL.ne', ← EReal.coe_mul]
  rw [hl, hp, hEk]
  by_cases hk : k.val ≤ q.val
  · rw [if_pos hk, if_pos hk, hr, ← EReal.coe_mul, ← EReal.coe_sub, Ideal.exp2_coe]
    refine congrArg _ ?_
    rw [Real.rpow_eq_pow, Real.rpow_def_of_pos (by norm_num)]
    have e : Real.log 2 * (r k * ((Real.sqrt 192)⁻¹ * (Real.log 2)⁻¹) - (M + Real.log L) * (1 / Real.log 2))
        = (r k * (Real.sqrt 192)⁻¹ - M) - Real.log L := by
      field_simp
      ring
    rw [e, Real.exp_sub, Real.exp_log hL, div_eq_mul_one_div]
  · rw [if_neg hk, if_neg hk, EReal.bot_mul_coe_of_pos (mul_pos (inv_pos.mpr root_pos) (inv_pos.mpr h2)), EReal.bot_sub,
      zero_mul]
    rfl

/-- The kernel's gradient of a score is the reference's. -/
theorem ds_eq (k : Fin 8192) : p A h q k * (dp A h q k - dsum A h q) * (((Real.sqrt 192)⁻¹ : ℝ) : EReal) = ds A h q k := by
  obtain ⟨r, E, M, L, hL, hs, hr, hM, hE, hsm, hEk⟩ := row hA h q
  choose D hD using dp_real hA h q
  choose g hg using hA.g q h
  choose v hv using fun k => hA.v k h
  have hp : ∀ k, p A h q k = ((E k * (1 / L) : ℝ) : EReal) := by
    intro k
    unfold p
    rw [hE, hsm, Ideal.div_coe hL.ne', ← EReal.coe_mul]
  have hDk : ∀ k, D k = ∑ d, g d * v k d := by
    intro k
    have e := hD k
    unfold dp at e
    simp only [hg, hv, ← EReal.coe_mul, coe_sum] at e
    exact (EReal.coe_eq_coe_iff.mp e).symm
  have hsum : dsum A h q = ((∑ k, D k * (E k * (1 / L)) : ℝ) : EReal) := by
    unfold dsum o
    simp only [hg, hv, hp, ← EReal.coe_mul, coe_sum]
    refine congrArg _ ?_
    simp only [hDk, Finset.mul_sum, Finset.sum_mul]
    rw [Finset.sum_comm]
    exact Finset.sum_congr rfl fun k _ => Finset.sum_congr rfl fun d _ => by ring
  have hback : back A h q = ((∑ k, D k * (1 / (L * L)) * E k : ℝ) : EReal) := by
    unfold back
    rw [hsm, ← EReal.coe_mul, Ideal.div_coe (mul_pos hL hL).ne', one_mul]
    simp only [hD, hE, ← EReal.coe_mul, coe_sum]
  have hb : (∑ k, D k * (1 / (L * L)) * E k) = (∑ k, D k * (E k * (1 / L))) * (1 / L) := by
    rw [Finset.sum_mul]
    exact Finset.sum_congr rfl fun k _ => by field_simp
  unfold ds root
  rw [hp, hD, hsum, hback, hE, hsm, hb]
  generalize (∑ k, D k * (E k * (1 / L))) = S
  rw [Ideal.div_coe root_pos.ne', Ideal.div_coe hL.ne', ← EReal.coe_mul, ← EReal.coe_neg, ← EReal.coe_add, ← EReal.coe_mul,
    ← EReal.coe_sub, ← EReal.coe_mul, ← EReal.coe_mul]
  by_cases hk : k.val ≤ q.val
  · rw [if_pos hk, ← EReal.coe_mul]
    refine congrArg _ ?_
    field_simp
    ring
  · rw [if_neg hk, zero_mul, hEk, if_neg hk]
    simp

end

end Cert.Spec
-- ==== Proof.Finite.lean ====
module

public import proofs.«01_k».proof.Proof.Host
public import proofs.«01_k».proof.Proof.Algebra
public import proofs.«01_k».proof.Defs

/-! The arguments are real numbers wherever the precondition holds. -/

@[expose] public section

set_option maxRecDepth 16384
noncomputable section

namespace Cert.KernelIdeal.Val

open Idealize.ShloMosaic Idealize.ShloMosaic.TcCoe
open Idealize.SL Idealize.SL.RA

/-- The shapes of the precondition's operations agree. -/
theorem finite_facts : Cert.Pre_finite.Facts where
  bcast_S_S8192x8x128 := by decide
  bcast_S_S8192x8x64 := by decide
  bcast_S_S8192x64 := by decide
  bcast_S8192x64_S8192x1x64_0_2 := by decide
  bcast_S8192x1x64_S8192x8x64_0_1_2 := by decide

/-- Two bits whose conjunction is one are both one. -/
theorem and_one {a b : BitVec 1} (h : a &&& b = 1#1) : a = 1#1 ∧ b = 1#1 := by
  revert h; revert a b; decide

/-- The word of infinity. -/
theorem top_eq : Ideal.ofBits FTy.f32 0x7F800000#32 = (⊤ : EReal) := by
  simp [Ideal.ofBits, Ideal.ieee]

/-- Whether the absolute value of a number is below infinity, as a bit. -/
def fin (x : EReal) : BitVec 1 := Ideal.cmp .olt (max x (-x)) (Ideal.ofBits FTy.f32 0x7F800000#32)

/-- A number whose absolute value lies below infinity is real. -/
theorem real_of_fin {x : EReal} (h : fin x = 1#1) : ∃ r : ℝ, x = r := by
  unfold fin Ideal.cmp at h
  rw [top_eq] at h
  induction x with
  | bot => simp at h
  | top => simp at h
  | coe r => exact ⟨r, rfl⟩

attribute [local instance] finite_facts in
/-- Under the precondition every argument is real. -/
theorem real_of_finite (m : (ℓ : Loc Cert.KernelIdeal.nD Cert.KernelIdeal.τ Cert.KernelIdeal.sig) → Buf (Elt Ideal) ℓ)
    (h : Cert.Pre_KernelIdeal_finite m) (c : Dev Cert.KernelIdeal.nD) : (args m c).Real := by
  obtain ⟨h1, h2⟩ := h c
  have a : ∀ q h d, ((fin ((args m c).qn q h d) &&& fin ((args m c).kn q h d)) &&& fin ((args m c).v q h d)) &&& fin ((args m c).g q h d) = 1#1 :=
    fun q h d => congrFun h1 (ix3 q h d)
  have b : ∀ q h d, fin ((args m c).qr q h d) &&& fin ((args m c).kr q d) = 1#1 := by
    intro q h d
    have e := congrFun h2 (ix3 q h d)
    unfold Cert.Pre_finite.fn Cert.Pre_finite.fn_part1 at e
    pointwise at e
    exact e
  exact ⟨fun q h d => real_of_fin (and_one (and_one (and_one (a q h d)).1).1).1, fun q h d => real_of_fin (and_one (b q h d)).1,
    fun q h d => real_of_fin (and_one (and_one (and_one (a q h d)).1).1).2, fun q d => real_of_fin (and_one (b q 0 d)).2,
    fun q h d => real_of_fin (and_one (and_one (a q h d)).1).2, fun q h d => real_of_fin (and_one (a q h d)).2⟩

end Cert.KernelIdeal.Val
end
-- ==== Proof.Ref.lean ====
module

public import proofs.«01_k».proof.Proof.Gen.ReferenceIdeal.Read
public import proofs.«01_k».proof.Proof.Spec
public import proofs.«01_k».proof.Proof.Array

/-! What the reference computes, at a position: the softmax of the forward pass and the five gradients. -/

@[expose] public section

set_option maxRecDepth 16384
noncomputable section

namespace Cert.ReferenceIdeal.Val

open Cert.ReferenceIdeal Cert.ReferenceIdeal.Gen Cert.ReferenceIdeal.Read
open Cert.KernelIdeal.Val (hd256 ln256 hd128 ln128)
open Idealize.ShloMosaic Idealize.ShloMosaic.TcCoe Idealize.ShloMosaic.Tactic

variable (x0 : (⟨S8192x8x128, .f32⟩ : BufTy).Contents (Elt Ideal)) (x1 : (⟨S8192x8x64, .f32⟩ : BufTy).Contents (Elt Ideal))
  (x2 : (⟨S8192x8x128, .f32⟩ : BufTy).Contents (Elt Ideal)) (x3 : (⟨S8192x64, .f32⟩ : BufTy).Contents (Elt Ideal))
  (x4 x5 : (⟨S8192x8x128, .f32⟩ : BufTy).Contents (Elt Ideal))

/-- The arguments. -/
def args : Spec.Args where
  qn q h d := x0 (ix3 q h d)
  qr q h d := x1 (ix3 q h d)
  kn q h d := x2 (ix3 q h d)
  kr q d := x3 (ix2 q d)
  v q h d := x4 (ix3 q h d)
  g q h d := x5 (ix3 q h d)

/-- The masked scores. -/
theorem v15 (h : Fin 8) (q k : Fin 8192) : (val_main_v15_0 (F := Ideal) x0 x1 x2 x3 (ix3 h q k) : EReal) = Spec.sc (args x0 x1 x2 x3 x4 x5) h q k := by
  unfold val_main_v15_0 val_main_v15_1 val_main_v14 val_main_v13 val_main_v12 val_main_v11 val_main_v10 val_main_v9 val_main_v8 val_main_v7 val_main_v6 val_main_v5 val_main_v4 val_main_v3 val_main_v2 val_main_cst val_main_v1 val_main_v0 val_main_call0_v2 val_main_call0_v0 val_main_cst_0
  pointwise
  rw [Spec.root_eq]
  refine (Spec.sel_le k.val q.val k.isLt q.isLt _ _).trans ?_
  show (if _ then _ else Ideal.ofBits FTy.f32 4286578688#32) = _
  rw [Spec.neg_inf_eq]
  rfl

/-- A row's greatest entry. -/
theorem max_at (x : FVec Ideal S8x8192x8192 .f32) (c : FVec Ideal S_ .f32) (h : Fin 8) (q : Fin 8192) :
    ((Host.reduce FloatOps.maximumf x c reducesTo_S8x8192x8192_S8x8192_d2 h_S_ : FVec Ideal S8x8192 .f32) (ix2 h q) : EReal)
      = Finset.univ.fold max (c (Shape.Idx.first h_S_) : EReal) fun k : Fin 8192 => (x (ix3 h q k) : EReal) := by
  pointwise

/-- The rows' greatest scores. -/
theorem v23 (h : Fin 8) (q : Fin 8192) : (val_main_v23 (F := Ideal) x0 x1 x2 x3 (ix2 h q) : EReal) = Spec.mx (args x0 x1 x2 x3 x4 x5) h q := by
  have e : (val_main_v16 (F := Ideal) x0 x1 x2 x3 (ix2 h q) : EReal) = Spec.mx (args x0 x1 x2 x3 x4 x5) h q := by
    refine (max_at (val_main_v15_0 (F := Ideal) x0 x1 x2 x3) (val_main_cst_1 (F := Ideal)) h q).trans ?_
    have b : (val_main_cst_1 (F := Ideal) (Shape.Idx.first h_S_) : EReal) = ⊥ := Spec.neg_inf_eq
    rw [b]
    simp only [v15 x0 x1 x2 x3 x4 x5]
    rfl
  rw [val_main_v23_apply]
  have b : (val_main_v22 (F := Ideal) (ix2 h q) : EReal) = ⊥ := Spec.neg_inf_eq
  rw [b, e]
  exact max_eq_right bot_le

/-- The weights before they are normalised. -/
theorem v36 (h : Fin 8) (q k : Fin 8192) : (val_main_v36 (F := Ideal) x0 x1 x2 x3 (ix3 h q k) : EReal) = Spec.ex (args x0 x1 x2 x3 x4 x5) h q k := by
  unfold val_main_v36 val_main_v35 val_main_v34 val_main_v33
  pointwise
  rw [v15 x0 x1 x2 x3 x4 x5, v23 x0 x1 x2 x3 x4 x5]
  rfl

/-- The rows' sums. -/
theorem v37 (h : Fin 8) (q : Fin 8192) : (val_main_v37 (F := Ideal) x0 x1 x2 x3 (ix2 h q) : EReal) = Spec.sm (args x0 x1 x2 x3 x4 x5) h q := by
  unfold val_main_v37 val_main_cst_9
  pointwise
  simp only [v36 x0 x1 x2 x3 x4 x5]
  rfl

/-- The softmax. -/
theorem v40 (h : Fin 8) (q k : Fin 8192) : (val_main_v40 (F := Ideal) x0 x1 x2 x3 (ix3 h q k) : EReal) = Spec.p (args x0 x1 x2 x3 x4 x5) h q k := by
  unfold val_main_v40 val_main_v39 val_main_v38
  pointwise
  rw [v36 x0 x1 x2 x3 x4 x5, v37 x0 x1 x2 x3 x4 x5]
  rfl

/-- The gradients of the weights. -/
theorem v47 (h : Fin 8) (q k : Fin 8192) : (val_main_v47 (F := Ideal) x4 x5 (ix3 h q k) : EReal) = Spec.dp (args x0 x1 x2 x3 x4 x5) h q k := by
  unfold val_main_v47 val_main_v46
  pointwise
  rfl

/-- What each row takes off. -/
theorem v59 (h : Fin 8) (q k : Fin 8192) : (val_main_v59 (F := Ideal) x0 x1 x2 x3 x4 x5 (ix3 h q k) : EReal) = -Spec.back (args x0 x1 x2 x3 x4 x5) h q := by
  unfold val_main_v59 val_main_v58 val_main_v55 val_main_v54 val_main_v53 val_main_v52 val_main_v51 val_main_v50 val_main_v43 val_main_v42 val_main_v41 val_main_v38 val_main_cst_10 val_main_cst_11 val_main_cst_12
  pointwise
  rw [Fin.sum_univ_one]
  simp only [v36 x0 x1 x2 x3 x4 x5, v37 x0 x1 x2 x3 x4 x5, v47 x0 x1 x2 x3 x4 x5]
  rfl

/-- The gradients of the scores. -/
theorem v64 (h : Fin 8) (q k : Fin 8192) : (val_main_v64 (F := Ideal) x0 x1 x2 x3 x4 x5 (ix3 h q k) : EReal) = Spec.ds (args x0 x1 x2 x3 x4 x5) h q k := by
  unfold val_main_v64 val_main_v63 val_main_v62 val_main_v61 val_main_v60 val_main_v57 val_main_v56 val_main_v38 val_main_v2 val_main_cst val_main_call1_v0 val_main_call1_cst val_main_v15_1 val_main_v14 val_main_v13 val_main_v12 val_main_v11 val_main_v10 val_main_v9 val_main_v8
  pointwise
  rw [Spec.root_eq, v36 x0 x1 x2 x3 x4 x5, v37 x0 x1 x2 x3 x4 x5, v47 x0 x1 x2 x3 x4 x5, v59 x0 x1 x2 x3 x4 x5]
  exact congrArg (Ideal.div · Spec.root) (Spec.sel_le k.val q.val k.isLt q.isLt _ _)

/-- The gradient of a value. -/
theorem v49 (k : Fin 8192) (h : Fin 8) (d : Fin 128) :
    (val_main_v49 (F := Ideal) x0 x1 x2 x3 x5 (ix3 k h d) : EReal) = ∑ q, (args x0 x1 x2 x3 x4 x5).g q h d * Spec.p (args x0 x1 x2 x3 x4 x5) h q k := by
  unfold val_main_v49 val_main_v48 val_main_v46
  pointwise
  simp only [v40 x0 x1 x2 x3 x4 x5]
  rfl

/-- The gradient of a key's rotary part, in each head. -/
theorem v66 (k : Fin 8192) (h : Fin 8) (d : Fin 64) :
    (val_main_v66 (F := Ideal) x0 x1 x2 x3 x4 x5 (ix3 k h d) : EReal) = ∑ q, Spec.ds (args x0 x1 x2 x3 x4 x5) h q k * (args x0 x1 x2 x3 x4 x5).qr q h d := by
  unfold val_main_v66 val_main_v65
  pointwise
  simp only [v64 x0 x1 x2 x3 x4 x5]
  rfl

/-- The gradient of a query's rotary part. -/
theorem v68 (q : Fin 8192) (h : Fin 8) (d : Fin 64) :
    (val_main_v68 (F := Ideal) x0 x1 x2 x3 x4 x5 (ix3 q h d) : EReal) = ∑ k, Spec.ds (args x0 x1 x2 x3 x4 x5) h q k * (args x0 x1 x2 x3 x4 x5).kr k d := by
  unfold val_main_v68 val_main_v67 val_main_v1 val_main_v0
  pointwise
  simp only [v64 x0 x1 x2 x3 x4 x5]
  rfl

/-- The gradient of a key's other part. -/
theorem v70 (k : Fin 8192) (h : Fin 8) (d : Fin 128) :
    (val_main_v70 (F := Ideal) x0 x1 x2 x3 x4 x5 (ix3 k h d) : EReal) = ∑ q, Spec.ds (args x0 x1 x2 x3 x4 x5) h q k * (args x0 x1 x2 x3 x4 x5).qn q h d := by
  unfold val_main_v70 val_main_v69
  pointwise
  simp only [v64 x0 x1 x2 x3 x4 x5]
  rfl

/-- The gradient of a query's other part. -/
theorem v72 (q : Fin 8192) (h : Fin 8) (d : Fin 128) :
    (val_main_v72 (F := Ideal) x0 x1 x2 x3 x4 x5 (ix3 q h d) : EReal) = ∑ k, Spec.ds (args x0 x1 x2 x3 x4 x5) h q k * (args x0 x1 x2 x3 x4 x5).kn k h d := by
  unfold val_main_v72 val_main_v71
  pointwise
  simp only [v64 x0 x1 x2 x3 x4 x5]
  rfl

set_option maxHeartbeats 2000000 in
/-- The first result, the gradient of the queries: two parts and zeros. -/
theorem v75 (q : Fin 8192) (x : Fin 2048) : (val_main_v75 (F := Ideal) x0 x1 x2 x3 x4 x5 (ix2 q x) : EReal)
    = ∑ k, Spec.ds (args x0 x1 x2 x3 x4 x5) (hd256 x) q k * Spec.kc (args x0 x1 x2 x3 x4 x5) (hd256 x) k (ln256 x) := by
  unfold val_main_v75 val_main_v74 val_main_v73 val_main_call2_v0
  pointwise
  have z : (FloatOps.sitofp FTy.f32 (val_main_c (F := Ideal) (Shape.Idx.first h_S_)) : Ideal .f32) = (0 : EReal) := Spec.zero_eq
  have l : x.val / 256 < 8 := by omega
  rw [z]
  unfold Spec.kc
  by_cases h1 : x.val % 256 < 128
  · rw [dif_pos h1]
    refine (v72 x0 x1 x2 x3 x4 x5 _ _ _).trans (Finset.sum_congr rfl fun k _ => ?_)
    rw [dif_pos (show (ln256 x).val < 128 from h1)]
    rfl
  · rw [dif_neg h1]
    by_cases h2 : x.val % 256 - 128 < 64
    · rw [dif_pos ⟨l, h2⟩]
      refine (v68 x0 x1 x2 x3 x4 x5 _ _ _).trans (Finset.sum_congr rfl fun k _ => ?_)
      rw [dif_neg (show ¬(ln256 x).val < 128 from h1), dif_pos (show (ln256 x).val - 128 < 64 from h2)]
      rfl
    · rw [dif_neg (fun h => h2 h.2)]
      refine (Finset.sum_eq_zero fun k _ => ?_).symm
      rw [dif_neg (show ¬(ln256 x).val < 128 from h1), dif_neg (show ¬(ln256 x).val - 128 < 64 from h2), mul_zero]

/-- The second result, the gradient of the keys' first part. -/
theorem v77 (k : Fin 8192) (x : Fin 1024) : (val_main_v77 (F := Ideal) x0 x1 x2 x3 x4 x5 (ix2 k x) : EReal)
    = ∑ q, Spec.ds (args x0 x1 x2 x3 x4 x5) (hd128 x) q k * (args x0 x1 x2 x3 x4 x5).qn q (hd128 x) (ln128 x) := by
  unfold val_main_v77 val_main_v76
  pointwise
  exact v70 x0 x1 x2 x3 x4 x5 _ _ _

/-- The third result, the gradient of the values. -/
theorem v79 (k : Fin 8192) (x : Fin 1024) : (val_main_v79 (F := Ideal) x0 x1 x2 x3 x5 (ix2 k x) : EReal)
    = ∑ q, (args x0 x1 x2 x3 x4 x5).g q (hd128 x) (ln128 x) * Spec.p (args x0 x1 x2 x3 x4 x5) (hd128 x) q k := by
  unfold val_main_v79 val_main_v78
  pointwise
  exact v49 x0 x1 x2 x3 x4 x5 _ _ _

/-- The fourth result, the gradient of the keys' rotary part in each head, and zeros. -/
theorem v81 (k : Fin 8192) (x : Fin 1024) : (val_main_v81 (F := Ideal) x0 x1 x2 x3 x4 x5 (ix2 k x) : EReal)
    = ∑ q, Spec.ds (args x0 x1 x2 x3 x4 x5) (hd128 x) q k * if h : (ln128 x).val < 64 then (args x0 x1 x2 x3 x4 x5).qr q (hd128 x) ⟨(ln128 x).val, h⟩ else 0 := by
  unfold val_main_v81 val_main_v80 val_main_call3_v0
  pointwise
  have z : (FloatOps.sitofp FTy.f32 (val_main_c_13 (F := Ideal) (Shape.Idx.first h_S_)) : Ideal .f32) = (0 : EReal) := Spec.zero_eq
  have l : x.val / 128 < 8 := by omega
  rw [z]
  by_cases h2 : x.val % 128 < 64
  · rw [dif_pos ⟨l, h2⟩]
    refine (v66 x0 x1 x2 x3 x4 x5 _ _ _).trans (Finset.sum_congr rfl fun k _ => ?_)
    rw [dif_pos (show (ln128 x).val < 64 from h2)]
    rfl
  · rw [dif_neg (fun h => h2 h.2)]
    refine (Finset.sum_eq_zero fun k _ => ?_).symm
    rw [dif_neg (show ¬(ln128 x).val < 64 from h2), mul_zero]

end Cert.ReferenceIdeal.Val
-- ==== Proof.Equal.lean ====
module

public import proofs.«01_k».proof.Proof.Host
public import proofs.«01_k».proof.Proof.Algebra
public import proofs.«01_k».proof.Proof.Ref

/-! The kernel's results are the reference's, where the arguments are real numbers. -/

@[expose] public section

set_option maxRecDepth 16384
noncomputable section

namespace Cert.KernelIdeal.Val

open Cert.KernelIdeal Cert.KernelIdeal.Gen
open Idealize.ShloMosaic Idealize.ShloMosaic.TcCoe
open Idealize.SL Idealize.SL.RA Idealize.SL.Sem
open Cert.ReferenceIdeal.Read (val_main_v75 val_main_v77 val_main_v79 val_main_v81)

variable (m : (ℓ : Loc nD τ sig) → Buf (Elt Ideal) ℓ) (c : Dev nD)

/-- The kernel's weight is the softmax. -/
theorem PR_eq (hA : (args m c).Real) (h : Fin 8) (q k : Fin 8192) : PR m c h q k = Spec.p (args m c) h q k := by
  have e : ∑ d : Fin 256, QC m c q h d * KC m c k h d = Spec.raw (args m c) h q k := by
    rw [← Spec.raw_eq]; exact Finset.sum_congr rfl fun d _ => by rw [QC_eq, KC_eq]
  unfold PR
  rw [e, ST_eq, if_pos (by decide : ((0 : Fin 128).val < 64)), Spec.p_eq hA]

/-- Its gradient of a score is the reference's. -/
theorem DS_eq (hA : (args m c).Real) (h : Fin 8) (q k : Fin 8192) : DS m c h q k = Spec.ds (args m c) h q k := by
  have e : ∑ d : Fin 128, DO m c q h d * VC m c k h d = Spec.dp (args m c) h q k :=
    Finset.sum_congr rfl fun d _ => by rw [DO_eq, VC_eq]
  unfold DS
  rw [e, PR_eq m c hA, ST_eq, if_neg (by decide : ¬ ((64 : Fin 128).val < 64)), Spec.ds_eq hA]

/-- The query gradient at a position. -/
theorem outQ_at (q : Fin 8192) (x : Fin 2048) : outQ m c (ix2 q x) = ∑ k : Fin 8192, DS m c (hd256 x) q k * KC m c k (hd256 x) (ln256 x) := rfl
/-- The key gradient's first half at a position. -/
theorem outK_at (k : Fin 8192) (x : Fin 1024) :
    outK m c (ix2 k x) = ∑ q : Fin 8192, DS m c (hd128 x) q k * QC m c q (hd128 x) (Fin.castLE (by decide : 128 ≤ 256) (ln128 x)) := rfl
/-- The value gradient at a position. -/
theorem outV_at (k : Fin 8192) (x : Fin 1024) : outV m c (ix2 k x) = ∑ q : Fin 8192, PR m c (hd128 x) q k * DO m c q (hd128 x) (ln128 x) := rfl
/-- The key gradient's second half at a position. -/
theorem outR_at (k : Fin 8192) (x : Fin 1024) :
    outR m c (ix2 k x) = ∑ q : Fin 8192, DS m c (hd128 x) q k * QC m c q (hd128 x) (Fin.natAdd 128 (ln128 x)) := rfl

/-- The query gradient. -/
theorem outQ_eq (hA : (args m c).Real) :
    outQ m c = val_main_v75 (F := Ideal) (m (c.tc.loc main_arg0)) (m (c.tc.loc main_arg1)) (m (c.tc.loc main_arg2)) (m (c.tc.loc main_arg3)) (m (c.tc.loc main_arg4)) (m (c.tc.loc main_arg5)) := by
  funext i
  obtain ⟨q, x, rfl⟩ : ∃ q x, i = ix2 q x := ⟨i 0, i 1, by funext a; fin_cases a <;> rfl⟩
  refine (outQ_at m c q x).trans (Eq.trans ?_ (Cert.ReferenceIdeal.Val.v75 _ _ _ _ _ _ q x).symm)
  exact Finset.sum_congr rfl fun k _ => by rw [DS_eq m c hA, KC_eq]; rfl

/-- The key gradient's first half. -/
theorem outK_eq (hA : (args m c).Real) :
    outK m c = val_main_v77 (F := Ideal) (m (c.tc.loc main_arg0)) (m (c.tc.loc main_arg1)) (m (c.tc.loc main_arg2)) (m (c.tc.loc main_arg3)) (m (c.tc.loc main_arg4)) (m (c.tc.loc main_arg5)) := by
  funext i
  obtain ⟨k, x, rfl⟩ : ∃ q x, i = ix2 q x := ⟨i 0, i 1, by funext a; fin_cases a <;> rfl⟩
  refine (outK_at m c k x).trans (Eq.trans ?_ (Cert.ReferenceIdeal.Val.v77 _ _ _ _ _ _ k x).symm)
  refine Finset.sum_congr rfl fun q _ => ?_
  rw [DS_eq m c hA, QC_eq]
  unfold Spec.qc
  rw [dif_pos (show (Fin.castLE (by decide : 128 ≤ 256) (ln128 x)).val < 128 from (ln128 x).isLt)]
  rfl

/-- The value gradient. -/
theorem outV_eq (hA : (args m c).Real) :
    outV m c = val_main_v79 (F := Ideal) (m (c.tc.loc main_arg0)) (m (c.tc.loc main_arg1)) (m (c.tc.loc main_arg2)) (m (c.tc.loc main_arg3)) (m (c.tc.loc main_arg5)) := by
  funext i
  obtain ⟨k, x, rfl⟩ : ∃ q x, i = ix2 q x := ⟨i 0, i 1, by funext a; fin_cases a <;> rfl⟩
  refine (outV_at m c k x).trans (Eq.trans ?_ (Cert.ReferenceIdeal.Val.v79 _ _ _ _ (m (c.tc.loc main_arg4)) _ k x).symm)
  exact Finset.sum_congr rfl fun q _ => by rw [PR_eq m c hA, DO_eq]; exact mul_comm _ _

/-- The key gradient's second half. -/
theorem outR_eq (hA : (args m c).Real) :
    outR m c = val_main_v81 (F := Ideal) (m (c.tc.loc main_arg0)) (m (c.tc.loc main_arg1)) (m (c.tc.loc main_arg2)) (m (c.tc.loc main_arg3)) (m (c.tc.loc main_arg4)) (m (c.tc.loc main_arg5)) := by
  funext i
  obtain ⟨k, x, rfl⟩ : ∃ q x, i = ix2 q x := ⟨i 0, i 1, by funext a; fin_cases a <;> rfl⟩
  refine (outR_at m c k x).trans (Eq.trans ?_ (Cert.ReferenceIdeal.Val.v81 _ _ _ _ _ _ k x).symm)
  refine Finset.sum_congr rfl fun q _ => ?_
  rw [DS_eq m c hA, QC_eq]
  unfold Spec.qc
  have e : (Fin.natAdd 128 (ln128 x)).val - 128 = (ln128 x).val := Nat.add_sub_cancel_left 128 (ln128 x).val
  rw [dif_neg (show ¬ (Fin.natAdd 128 (ln128 x)).val < 128 from Nat.not_lt.mpr (Nat.le_add_right 128 _))]
  simp only [e]
  rfl

/-- The run: what the result arrays hold at its end, with the arguments as they were and no semaphore held. -/
theorem run (ρ : Dev nD → PrngReg) : θ_run defs (onTc (τ := τ) (main (F := Ideal))) ⟨m, fun _ => 0, ρ⟩ (fun r => (∀ c : Dev nD,
      r.2.mem ((c.tc : Thread nD τ).loc main_v55_0) = outQ m c
      ∧ r.2.mem ((c.tc : Thread nD τ).loc main_v55_1) = outK m c
      ∧ r.2.mem ((c.tc : Thread nD τ).loc main_v55_2) = outV m c
      ∧ r.2.mem ((c.tc : Thread nD τ).loc main_v55_3) = outR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  (θ_run defs _ _).mono (fun _ h => ⟨fun c => ⟨((h.1 c).1 5).trans (final_5 m c), ((h.1 c).1 6).trans (final_6 m c),
      ((h.1 c).1 7).trans (final_7 m c), ((h.1 c).1 8).trans (final_8 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_all m ρ)

end Cert.KernelIdeal.Val
end
-- ==== Proof.FwdRow.lean ====
module

public import proofs.«01_k».proof.Proof.Algebra

/-! The forward pass over one row, block of keys by block of keys: the greatest score so far, the sum of the weights and
the weighted sum of the values, each taken relative to the greatest score so far. One block takes the three from the
keys before it to the keys through it, and at the end they give the softmax's output and the row's log-sum. -/

@[expose] public section

set_option maxRecDepth 16384
noncomputable section

namespace Cert.Spec

open Idealize.ShloMosaic

/-- The factor of the scores in base two. -/
def C2 : EReal := (((Real.sqrt 192)⁻¹ * (Real.log 2)⁻¹ : ℝ) : EReal)

section
variable {n : ℕ} (m l a : EReal) (s : Fin n → EReal) (v : Fin n → EReal)

/-- The greatest score after a block with scores `s`. -/
def mS : EReal := max m (Finset.univ.fold max (⊥ : EReal) s)

/-- The factor that takes a sum relative to `m` to one relative to `m'`. -/
def aS (m' : EReal) : EReal := Ideal.exp2 ((m - m') * C2)

/-- A weight relative to `m'`. -/
def wS (m' x : EReal) : EReal := Ideal.exp2 ((x - m') * C2)

/-- The sum of the weights after the block. -/
def lS : EReal := aS m (mS m s) * l + ∑ j, wS (mS m s) (s j)

/-- A column of the weighted sum of the values after the block. -/
def accS : EReal := aS m (mS m s) * a + ∑ j, wS (mS m s) (s j) * v j

end

/-- A weight in real numbers. -/
def wt (M x : ℝ) : ℝ := Real.exp ((x - M) * (Real.sqrt 192)⁻¹)

theorem wt_pos (M x : ℝ) : 0 < wt M x := Real.exp_pos _

theorem wt_shift (M M' x : ℝ) : wt M' M * wt M x = wt M' x := by
  unfold wt
  rw [← Real.exp_add]
  congr 1
  ring

/-- The exponential in base two of a scaled real difference. -/
theorem wS_coe (M x : ℝ) : wS M x = ((wt M x : ℝ) : EReal) := by
  have h2 : 0 < Real.log 2 := Real.log_pos (by norm_num)
  unfold wS C2 wt
  rw [← EReal.coe_sub, ← EReal.coe_mul, Ideal.exp2_coe, Real.rpow_eq_pow, Real.rpow_def_of_pos (by norm_num)]
  refine congrArg (fun x : ℝ => ((Real.exp x : ℝ) : EReal)) ?_
  field_simp

theorem wS_bot (M : ℝ) : wS M ⊥ = 0 := by
  have h2 : 0 < Real.log 2 := Real.log_pos (by norm_num)
  unfold wS C2
  rw [EReal.bot_sub, EReal.bot_mul_coe_of_pos (mul_pos (inv_pos.mpr root_pos) (inv_pos.mpr h2))]
  rfl

/-- A nonnegative real number distributes over a sum. -/
theorem coe_mul_sum {ι : Type} [DecidableEq ι] {a : ℝ} (ha : 0 ≤ a) (S : Finset ι) (f : ι → EReal) :
    (a : EReal) * ∑ i ∈ S, f i = ∑ i ∈ S, (a : EReal) * f i := by
  induction S using Finset.induction_on with
  | empty => simp
  | insert x S hx ih =>
    rw [Finset.sum_insert hx, Finset.sum_insert hx,
      EReal.left_distrib_of_nonneg_of_ne_top (by exact_mod_cast ha) (EReal.coe_ne_top a), ih]

theorem coe_sum_range (n : ℕ) (f : ℕ → ℝ) : (∑ i ∈ Finset.range n, (f i : EReal)) = ((∑ i ∈ Finset.range n, f i : ℝ) : EReal) := by
  induction n with
  | zero => simp
  | succ n ih => rw [Finset.sum_range_succ, Finset.sum_range_succ, ih, EReal.coe_add]

/-- What the three numbers are after the first `n` keys: relative to some real number, the sums over those keys. -/
def Upto (r : ℕ → ℝ) (v : ℕ → Fin 128 → EReal) (n : ℕ) (m l : EReal) (a : Fin 128 → EReal) : Prop :=
  ∃ M : ℝ, m = M ∧ l = ((∑ k ∈ Finset.range n, wt M (r k) : ℝ) : EReal)
    ∧ ∀ d, a d = ∑ k ∈ Finset.range n, ((wt M (r k) : ℝ) : EReal) * v k d

/-- What the three numbers are before any key. -/
def Start (m l : EReal) (a : Fin 128 → EReal) : Prop := m = ⊥ ∧ l = 0 ∧ ∀ d, a d = 0

/-- The three numbers after the first `n` keys, none or some. -/
def After (r : ℕ → ℝ) (v : ℕ → Fin 128 → EReal) (n : ℕ) (m l : EReal) (a : Fin 128 → EReal) : Prop :=
  (n = 0 ∧ Start m l a) ∨ Upto r v n m l a

/-- A sum over a block whose entries after the `t`-th are zero. -/
theorem sum_block {n t : ℕ} (ht : t < n) (f : ℕ → EReal) :
    (∑ j : Fin n, if j.val ≤ t then f j.val else 0) = ∑ k ∈ Finset.range (t + 1), f k := by
  rw [Fin.sum_univ_eq_sum_range (fun k => if k ≤ t then f k else 0) n]
  refine (Finset.sum_subset (Finset.range_mono (show t + 1 ≤ n by omega)) fun k _ hk => ?_).symm.trans
    (Finset.sum_congr rfl fun k hk => ?_)
  · rw [if_neg (by rw [Finset.mem_range] at hk; omega)]
  · rw [if_pos (by rw [Finset.mem_range] at hk; omega)]

/-- One block: its first `t + 1` keys are seen, the others masked. -/
theorem After.step {r : ℕ → ℝ} {v : ℕ → Fin 128 → EReal} {N n t : ℕ} (ht : t < n) {m l : EReal} {a : Fin 128 → EReal}
    (h : After r v N m l a) (s : Fin n → EReal) (hs : ∀ j, s j = if j.val ≤ t then ((r (N + j.val) : ℝ) : EReal) else ⊥) :
    Upto r v (N + (t + 1)) (mS m s) (lS m l s) (fun d => accS m (a d) s fun j => v (N + j.val) d) := by
  have hmtop : m ≠ ⊤ := by
    rcases h with ⟨_, h, _⟩ | ⟨M, h, _⟩
    · rw [h]; exact bot_ne_top
    · rw [h]; exact EReal.coe_ne_top _
  have hbot : mS m s ≠ ⊥ := by
    refine ne_of_gt ?_
    unfold mS
    rw [lt_max_iff, Finset.lt_fold_max]
    exact Or.inr (Or.inr ⟨⟨0, by omega⟩, Finset.mem_univ _, by rw [hs, if_pos (Nat.zero_le _)]; exact EReal.bot_lt_coe _⟩)
  have htop : mS m s ≠ ⊤ := by
    refine ne_of_lt ?_
    unfold mS
    rw [max_lt_iff, Finset.fold_max_lt]
    refine ⟨lt_top_iff_ne_top.mpr hmtop, bot_lt_top, fun k _ => ?_⟩
    rw [hs]
    by_cases hk : k.val ≤ t
    · rw [if_pos hk]; exact EReal.coe_lt_top _
    · rw [if_neg hk]; exact bot_lt_top
  obtain ⟨M, hM⟩ : ∃ M : ℝ, mS m s = M := ⟨_, (EReal.coe_toReal htop hbot).symm⟩
  have hw : ∀ j : Fin n, wS M (s j) = if j.val ≤ t then ((wt M (r (N + j.val)) : ℝ) : EReal) else 0 := by
    intro j
    rw [hs]
    by_cases hj : j.val ≤ t
    · rw [if_pos hj, if_pos hj, wS_coe]
    · rw [if_neg hj, if_neg hj, wS_bot]
  have hl : (∑ j, wS M (s j)) = ((∑ k ∈ Finset.range (t + 1), wt M (r (N + k)) : ℝ) : EReal) := by
    simp only [hw]
    rw [sum_block ht fun k => ((wt M (r (N + k)) : ℝ) : EReal), coe_sum_range]
  have ha : ∀ d, (∑ j : Fin n, wS M (s j) * v (N + j.val) d) = ∑ k ∈ Finset.range (t + 1), ((wt M (r (N + k)) : ℝ) : EReal) * v (N + k) d := by
    intro d
    rw [← sum_block ht fun k => ((wt M (r (N + k)) : ℝ) : EReal) * v (N + k) d]
    refine Finset.sum_congr rfl fun j _ => ?_
    rw [hw]
    by_cases hj : j.val ≤ t
    · rw [if_pos hj, if_pos hj]
    · rw [if_neg hj, if_neg hj, zero_mul]
  refine ⟨M, hM, ?_, fun d => ?_⟩
  · unfold lS
    rw [hM, hl]
    rcases h with ⟨hN, hm, h0, _⟩ | ⟨M₀, hm, h0, _⟩
    · subst hN
      rw [hm, h0, mul_zero, zero_add]
      simp only [Nat.zero_add]
    · rw [hm, h0, show aS (M₀ : EReal) M = wS M M₀ from rfl, wS_coe, ← EReal.coe_mul, ← EReal.coe_add, Finset.sum_range_add _ N (t + 1)]
      refine congrArg (fun x : ℝ => (x : EReal)) (congrArg₂ (· + ·) ?_ rfl)
      rw [Finset.mul_sum]
      exact Finset.sum_congr rfl fun k _ => wt_shift _ _ _
  · show accS m (a d) s (fun j => v (N + j.val) d) = _
    unfold accS
    rw [hM, ha]
    rcases h with ⟨hN, hm, _, h0⟩ | ⟨M₀, hm, _, h0⟩
    · subst hN
      rw [hm, h0, mul_zero, zero_add]
      simp only [Nat.zero_add]
    · rw [hm, h0, show aS (M₀ : EReal) M = wS M M₀ from rfl, wS_coe, coe_mul_sum (wt_pos _ _).le, Finset.sum_range_add _ N (t + 1)]
      refine congrArg₂ (· + ·) (Finset.sum_congr rfl fun k _ => ?_) rfl
      rw [← mul_assoc, ← EReal.coe_mul, wt_shift]

/-- The queries and keys are real numbers; the other arguments are anything. -/
structure Args.RealQK (A : Args) : Prop where
  qn : ∀ q h d, ∃ r : ℝ, A.qn q h d = r
  qr : ∀ q h d, ∃ r : ℝ, A.qr q h d = r
  kn : ∀ q h d, ∃ r : ℝ, A.kn q h d = r
  kr : ∀ q d, ∃ r : ℝ, A.kr q d = r

/-- The arguments with the values and the incoming gradient put to zero: the scores and the softmax are the same. -/
def Args.scores (A : Args) : Args := { A with v := fun _ _ _ => 0, g := fun _ _ _ => 0 }

theorem Args.RealQK.scores {A : Args} (hA : A.RealQK) : A.scores.Real :=
  ⟨hA.qn, hA.qr, hA.kn, hA.kr, fun _ _ _ => ⟨0, rfl⟩, fun _ _ _ => ⟨0, rfl⟩⟩

section
variable {A : Args} (hA : A.RealQK) (h : Fin 8) (q : Fin 8192)
include hA

/-- The three numbers after the keys through the query are the softmax's output and log-sum. -/
theorem upto_eq (r : ℕ → ℝ) (hr : ∀ k : Fin 8192, raw A h q k = r k.val) (v : ℕ → Fin 128 → EReal) (hv : ∀ (k : Fin 8192) d, v k.val d = A.v k h d)
    {m l : EReal} {a : Fin 128 → EReal} (H : Upto r v (q.val + 1) m l a) :
    (∀ d, Ideal.div (a d) l = o A h q d) ∧ m * C2 + Ideal.log l * (((Real.log 2)⁻¹ : ℝ) : EReal) = lse2 A h q := by
  obtain ⟨M, hm, hl, ha⟩ := H
  obtain ⟨r', E, M', L, hL, hs, hr', hM', hE, hsm, hEk⟩ := row hA.scores h q
  have hrr : ∀ k : Fin 8192, r' k = r k.val := fun k => EReal.coe_eq_coe_iff.mp ((hr' k).symm.trans (hr k))
  have h2 : 0 < Real.log 2 := Real.log_pos (by norm_num)
  set z : ℝ := Real.exp (M' - M * (Real.sqrt 192)⁻¹) with hz
  have hzpos : 0 < z := Real.exp_pos _
  have hw : ∀ k : Fin 8192, (if k.val ≤ q.val then wt M (r k.val) else 0) = z * E k := by
    intro k
    rw [hEk, hrr]
    by_cases hk : k.val ≤ q.val
    · rw [if_pos hk, if_pos hk, hz, ← Real.exp_add]
      unfold wt
      congr 1
      ring
    · rw [if_neg hk, if_neg hk, mul_zero]
  have hlz : l = ((z * L : ℝ) : EReal) := by
    have e : z * L = ∑ k, z * E k := by rw [← hs, Finset.mul_sum]
    rw [hl, e, ← coe_sum, ← coe_sum_range]
    refine (sum_block q.isLt fun k => ((wt M (r k) : ℝ) : EReal)).symm.trans (Finset.sum_congr rfl fun k _ => ?_)
    rw [← hw]
    by_cases hk : k.val ≤ q.val
    · rw [if_pos hk, if_pos hk]
    · rw [if_neg hk, if_neg hk]; rfl
  have hzL : 0 < z * L := mul_pos hzpos hL
  constructor
  · intro d
    have hp : ∀ k, p A h q k = ((E k * (1 / L) : ℝ) : EReal) := by
      intro k
      show Ideal.div (ex A.scores h q k) (sm A.scores h q) = _
      rw [hE, hsm, Ideal.div_coe hL.ne', ← EReal.coe_mul]
    unfold o
    rw [hlz, Ideal.div_coe hzL.ne', ha, mul_comm, coe_mul_sum (by positivity)]
    refine (sum_block q.isLt fun k => ((1 / (z * L) : ℝ) : EReal) * (((wt M (r k) : ℝ) : EReal) * v k d)).symm.trans
      (Finset.sum_congr rfl fun k _ => ?_)
    rw [hp]
    have e : E k * (1 / L) = 1 / (z * L) * (if k.val ≤ q.val then wt M (r k.val) else 0) := by
      rw [hw]; field_simp
    rw [e]
    by_cases hk : k.val ≤ q.val
    · rw [if_pos hk, if_pos hk, ← mul_assoc, ← EReal.coe_mul, hv]
    · rw [if_neg hk, if_neg hk, mul_zero, EReal.coe_zero, zero_mul]
  · show _ = Ideal.div (mx A.scores h q + Ideal.log (sm A.scores h q)) (Ideal.log ((2 : ℝ) : EReal))
    rw [hm, hlz, hM', hsm, Ideal.log_coe, if_neg hzL.not_ge, Ideal.log_coe, if_neg hL.not_ge, Ideal.log_coe, if_neg (by norm_num),
      ← EReal.coe_add, Ideal.div_coe h2.ne', C2, ← EReal.coe_mul, ← EReal.coe_mul, ← EReal.coe_mul, ← EReal.coe_add,
      Real.log_mul hzpos.ne' hL.ne', hz, Real.log_exp]
    refine congrArg (fun x : ℝ => (x : EReal)) ?_
    field_simp
    ring

end

end Cert.Spec
end
-- ==== Proof.FwdBlock.lean ====
module

public import proofs.«01_k».proof.Proof.Gen.FwdIdeal.Skeleton
public import proofs.«01_k».proof.Proof.FwdRow
public import proofs.«01_k».proof.Proof.Block
public import Idealize.ShloMosaic.Lib.Pipeline.ValueKit
public import Idealize.ShloMosaic.Lib.Pointwise
public import Idealize.ShloMosaic.Lib.VecWindow
public import Idealize.ShloMosaic.Lib.WordCmp

/-! The vector operations of one sub-block of 256 query rows of the forward attention, read at a position. -/

@[expose] public section

set_option maxRecDepth 16384
noncomputable section

namespace Cert.FwdIdeal.Val

open Cert.FwdIdeal Cert.FwdIdeal.Gen
open Cert.KernelIdeal.Val (row row_val row_fin window_full put_full)
open Idealize.ShloMosaic Idealize.ShloMosaic.TcCoe Idealize.ShloMosaic.Tactic

/-- The scores of 256 query rows and `n` keys. -/
abbrev Sq (n : ℕ) : Shape := ⟨2, ![256, n]⟩

theorem scale2_eq : (Named.named κ "scale2" 0x3DD53B95#32 : Ideal .f32) = Spec.C2 := rfl

section
variable {n : ℕ} (hr : (Sq n).Reduces [1] S256) (hb : S256x1.Broadcasts (Sq n)) (m l : FVec Ideal S256x1 .f32)
  (s : FVec Ideal (Sq n) .f32)

/-- The rows' greatest scores after the sub-block. -/
def newM : FVec Ideal S256x1 .f32 :=
  maximumf m (shapeCast S256x1 (multiReduction .maximumf [1] S256 s 0xFF800000#32 hr (.inl rfl) rfl) shapeCasts_S256_S256x1)

/-- The rows' factors. -/
def fac : FVec Ideal S256x1 .f32 :=
  exp2 (mulf (subf m (newM hr m s)) (broadcast S256x1 (Named.named κ "scale2" 0x3DD53B95#32)))

/-- The weights. -/
def wts : FVec Ideal (Sq n) .f32 :=
  exp2 (mulf (subf s (broadcastTo (Sq n) (newM hr m s) hb)) (broadcast (Sq n) (Named.named κ "scale2" 0x3DD53B95#32)))

/-- The rows' sums after the sub-block. -/
def newL : FVec Ideal S256x1 .f32 :=
  addf (mulf (fac hr m s) l) (shapeCast S256x1 (multiReduction .add [1] S256 (wts hr hb m s) 0x00000000#32 hr (.inl rfl) rfl) shapeCasts_S256_S256x1)

/-- The rows' weighted sums after the sub-block. -/
def newA (acc pv : FVec Ideal S256x128 .f32) : FVec Ideal S256x128 .f32 :=
  addf (mulf (broadcastTo S256x128 (fac hr m s) broadcasts_S256x1_S256x128) acc) pv

/-- The row's entries along the reduced dimension. -/
theorem lift_eq (a : Fin 256) (j : Fin n) : hr.lift (ix1 a) j = ix2 a j := by
  funext d
  match d with
  | ⟨0, _⟩ => rfl
  | ⟨1, _⟩ => rfl

theorem newM_at (a : Fin 256) : (newM hr m s (ix2 a 0) : EReal) = Spec.mS (m (ix2 a 0)) fun j => s (ix2 a j) := by
  unfold newM
  pointwise
  rw [Spec.neg_inf_eq]
  rfl

theorem fac_at (a : Fin 256) : (fac hr m s (ix2 a 0) : EReal) = Spec.aS (m (ix2 a 0)) (Spec.mS (m (ix2 a 0)) fun j => s (ix2 a j)) := by
  rw [← newM_at hr m s a]
  rfl

theorem wts_at (a : Fin 256) (j : Fin n) : (wts hr hb m s (ix2 a j) : EReal) = Spec.wS (Spec.mS (m (ix2 a 0)) fun j => s (ix2 a j)) (s (ix2 a j)) := by
  rw [← newM_at hr m s a]
  unfold wts
  generalize newM hr m s = M
  pointwise
  rfl

theorem newL_at (a : Fin 256) : (newL hr hb m l s (ix2 a 0) : EReal) = Spec.lS (m (ix2 a 0)) (l (ix2 a 0)) fun j => s (ix2 a j) := by
  unfold Spec.lS
  rw [← fac_at hr m s a]
  simp only [← wts_at hr hb m s a]
  unfold newL
  generalize fac hr m s = x
  generalize wts hr hb m s = y
  pointwise

theorem newA_at (acc pv : FVec Ideal S256x128 .f32) (a : Fin 256) (d : Fin 128) :
    (newA hr m s acc pv (ix2 a d) : EReal)
      = Spec.aS (m (ix2 a 0)) (Spec.mS (m (ix2 a 0)) fun j => s (ix2 a j)) * acc (ix2 a d) + pv (ix2 a d) := by
  rw [← fac_at hr m s a]
  unfold newA
  generalize fac hr m s = x
  pointwise

/-- The scores with those after the row's own position masked. -/
theorem msk_at (i0 : _) (i1 : _) (r0 : ℕ) (hr0 : r0 + 256 ≤ 2048) (hn : n ≤ 2048) (a : Fin 256) (j : Fin n) :
    (select (cmpi .sle (iota .tc (Sq n) 32 [1] i1) (addi (iota .tc (Sq n) 32 [0] i0) (broadcast (Sq n) (BitVec.ofNat 32 r0)))) s
      (broadcast (Sq n) (Named.named κ "mask" 0xF149F2CA#32 : Ideal .f32)) (ix2 a j) : EReal) = if j.val ≤ r0 + a.val then s (ix2 a j) else ⊥ := by
  pointwise
  have e : IntOp.addi (BitVec.ofNat 32 a.val) (BitVec.ofNat 32 r0) = BitVec.ofNat 32 (r0 + a.val) := by
    show BitVec.ofNat 32 a.val + BitVec.ofNat 32 r0 = _
    rw [← BitVec.ofNat_add, Nat.add_comm]
  rw [e]
  exact Spec.sel_le j.val (r0 + a.val) (by omega) (by omega) _ _

end

/-! ## Rows of the operands -/

/-- Row `r` of a query block, for any natural number. -/
def r2 (r : ℕ) : Fin 2048 := ⟨r % 2048, Nat.mod_lt _ (by decide)⟩

theorem r2_val {r : ℕ} (h : r < 2048) : (r2 r).val = r := Nat.mod_eq_of_lt h

theorem r2_fin (r : Fin 2048) : r2 r.val = r := Fin.ext (r2_val r.isLt)

/-- A load of 256 rows of the query block. -/
theorem window_q (X : S2048x256.Idx → EReal) (r0 : ℕ) (h) (a d : Fin 256) :
    VecWindow.window (s := S2048x256) X ![r0, 0] ![256, 256] h (ix2 a d) = X (ix2 (r2 (r0 + a.val)) d) := by
  have hn : r0 + a.val < 2048 := by
    have h0 : r0 + 256 ≤ 2048 := h 0
    omega
  refine congrArg X (funext fun b => Fin.ext ?_)
  match b with
  | ⟨0, _⟩ => exact (show r0 + 1 * a.val = _ by rw [one_mul]; exact (r2_val hn).symm)
  | ⟨1, _⟩ => exact (show 0 + 1 * d.val = d.val by omega)

/-- A load of `n` rows of the keys. -/
theorem window_keys {n : ℕ} (X : S8192x256.Idx → EReal) {off : Fin 2 → ℕ} {N : ℕ} (e : off = ![N, 0]) (h) (j : Fin n) (d : Fin 256) :
    VecWindow.window (s := S8192x256) X off ![n, 256] h (ix2 j d) = X (ix2 (row (N + j.val)) d) := by
  subst e
  have hn : N + j.val < 8192 := by
    have h0 : N + n ≤ 8192 := h 0
    omega
  refine congrArg X (funext fun b => Fin.ext ?_)
  match b with
  | ⟨0, _⟩ => exact (show N + 1 * j.val = _ by rw [one_mul]; exact (row_val hn).symm)
  | ⟨1, _⟩ => exact (show 0 + 1 * d.val = d.val by omega)

/-- A load of `n` rows of the values. -/
theorem window_vals {n : ℕ} (X : S8192x128.Idx → EReal) {off : Fin 2 → ℕ} {N : ℕ} (e : off = ![N, 0]) (h) (j : Fin n) (d : Fin 128) :
    VecWindow.window (s := S8192x128) X off ![n, 128] h (ix2 j d) = X (ix2 (row (N + j.val)) d) := by
  subst e
  have hn : N + j.val < 8192 := by
    have h0 : N + n ≤ 8192 := h 0
    omega
  refine congrArg X (funext fun b => Fin.ext ?_)
  match b with
  | ⟨0, _⟩ => exact (show N + 1 * j.val = _ by rw [one_mul]; exact (row_val hn).symm)
  | ⟨1, _⟩ => exact (show 0 + 1 * d.val = d.val by omega)

/-- 256 rows of a column. -/
theorem slice_col (X : S2048x1.Idx → EReal) (r0 : ℕ) (h : S2048x1.Slices ![r0, 0] S256x1) (a : Fin 256) :
    extractStridedSlice S256x1 ![r0, 0] X h (ix2 a 0) = X (ix2 (r2 (r0 + a.val)) 0) := by
  have hn : r0 + a.val < 2048 := by
    have h0 : r0 + 256 ≤ 2048 := h.2 0
    omega
  refine congrArg X (funext fun b => Fin.ext ?_)
  match b with
  | ⟨0, _⟩ => exact (show r0 + a.val = _ from (r2_val hn).symm)
  | ⟨1, _⟩ => exact (show 0 + _ = _ from Nat.zero_add _)

/-- 256 rows of 128 columns. -/
theorem slice_rows (X : S2048x128.Idx → EReal) (r0 : ℕ) (h : S2048x128.Slices ![r0, 0] S256x128) (a : Fin 256) (d : Fin 128) :
    extractStridedSlice S256x128 ![r0, 0] X h (ix2 a d) = X (ix2 (r2 (r0 + a.val)) d) := by
  have hn : r0 + a.val < 2048 := by
    have h0 : r0 + 256 ≤ 2048 := h.2 0
    omega
  refine congrArg X (funext fun b => Fin.ext ?_)
  match b with
  | ⟨0, _⟩ => exact (show r0 + a.val = _ from (r2_val hn).symm)
  | ⟨1, _⟩ => exact (show 0 + _ = _ from Nat.zero_add _)

theorem window_col (x : S2048x1.Idx → EReal) (h) : VecWindow.window (s := S2048x1) x ![0, 0] ![2048, 1] h = x := window_full x _ h
theorem window_acc (x : S2048x128.Idx → EReal) (h) : VecWindow.window (s := S2048x128) x ![0, 0] ![2048, 128] h = x := window_full x _ h
theorem put_col (x : S2048x1.Idx → EReal) (w) : VecWindow.put (s := S2048x1) x ![0, 0] ![2048, 1] w = w := put_full x _ (by decide) w
theorem put_acc (x : S2048x128.Idx → EReal) (w) : VecWindow.put (s := S2048x128) x ![0, 0] ![2048, 128] w = w := put_full x _ (by decide) w

/-! ## The two products -/

/-- The product of query row `r` of the block and key `k`. -/
def sc (x0 : S2048x256.Idx → EReal) (x1 : S8192x256.Idx → EReal) (r k : ℕ) : EReal :=
  ∑ d : Fin 256, x0 (ix2 (r2 r) d) * x1 (ix2 (row k) d)

theorem qk256 (q : FVec Ideal S256x256 .bf16) (k : FVec Ideal S256x256 .bf16) (a : Fin 256) (j : Fin 256) :
    (matmul dot_S256x256_S256x256_S256x256_1_1_0_0_n_n none q k (constant (F := Ideal) S256x256 .f32 0x00000000#32) (ix2 a j) : EReal)
      = ∑ d : Fin 256, q (ix2 a d) * k (ix2 j d) := by
  pointwise

theorem pv256 (w : FVec Ideal S256x256 .f32) (v : FVec Ideal S256x128 .bf16) (a : Fin 256) (d : Fin 128) :
    (matmul dot_S256x256_S256x128_S256x128_1_0_0_1_n_n none (truncf .bf16 w bitsLt_bf16_f32) v (constant (F := Ideal) S256x128 .f32 0x00000000#32) (ix2 a d) : EReal)
      = ∑ j : Fin 256, w (ix2 a j) * v (ix2 j d) := by
  pointwise

theorem qk512 (q : FVec Ideal S256x256 .bf16) (k : FVec Ideal S512x256 .bf16) (a : Fin 256) (j : Fin 512) :
    (matmul dot_S256x256_S512x256_S256x512_1_1_0_0_n_n none q k (constant (F := Ideal) S256x512 .f32 0x00000000#32) (ix2 a j) : EReal)
      = ∑ d : Fin 256, q (ix2 a d) * k (ix2 j d) := by
  pointwise

theorem pv512 (w : FVec Ideal S256x512 .f32) (v : FVec Ideal S512x128 .bf16) (a : Fin 256) (d : Fin 128) :
    (matmul dot_S256x512_S512x128_S256x128_1_0_0_1_n_n none (truncf .bf16 w bitsLt_bf16_f32) v (constant (F := Ideal) S256x128 .f32 0x00000000#32) (ix2 a d) : EReal)
      = ∑ j : Fin 512, w (ix2 a j) * v (ix2 j d) := by
  pointwise

theorem qk768 (q : FVec Ideal S256x256 .bf16) (k : FVec Ideal S768x256 .bf16) (a : Fin 256) (j : Fin 768) :
    (matmul dot_S256x256_S768x256_S256x768_1_1_0_0_n_n none q k (constant (F := Ideal) S256x768 .f32 0x00000000#32) (ix2 a j) : EReal)
      = ∑ d : Fin 256, q (ix2 a d) * k (ix2 j d) := by
  pointwise

theorem pv768 (w : FVec Ideal S256x768 .f32) (v : FVec Ideal S768x128 .bf16) (a : Fin 256) (d : Fin 128) :
    (matmul dot_S256x768_S768x128_S256x128_1_0_0_1_n_n none (truncf .bf16 w bitsLt_bf16_f32) v (constant (F := Ideal) S256x128 .f32 0x00000000#32) (ix2 a d) : EReal)
      = ∑ j : Fin 768, w (ix2 a j) * v (ix2 j d) := by
  pointwise

theorem qk1024 (q : FVec Ideal S256x256 .bf16) (k : FVec Ideal S1024x256 .bf16) (a : Fin 256) (j : Fin 1024) :
    (matmul dot_S256x256_S1024x256_S256x1024_1_1_0_0_n_n none q k (constant (F := Ideal) S256x1024 .f32 0x00000000#32) (ix2 a j) : EReal)
      = ∑ d : Fin 256, q (ix2 a d) * k (ix2 j d) := by
  pointwise

theorem pv1024 (w : FVec Ideal S256x1024 .f32) (v : FVec Ideal S1024x128 .bf16) (a : Fin 256) (d : Fin 128) :
    (matmul dot_S256x1024_S1024x128_S256x128_1_0_0_1_n_n none (truncf .bf16 w bitsLt_bf16_f32) v (constant (F := Ideal) S256x128 .f32 0x00000000#32) (ix2 a d) : EReal)
      = ∑ j : Fin 1024, w (ix2 a j) * v (ix2 j d) := by
  pointwise

theorem qk1280 (q : FVec Ideal S256x256 .bf16) (k : FVec Ideal S1280x256 .bf16) (a : Fin 256) (j : Fin 1280) :
    (matmul dot_S256x256_S1280x256_S256x1280_1_1_0_0_n_n none q k (constant (F := Ideal) S256x1280 .f32 0x00000000#32) (ix2 a j) : EReal)
      = ∑ d : Fin 256, q (ix2 a d) * k (ix2 j d) := by
  pointwise

theorem pv1280 (w : FVec Ideal S256x1280 .f32) (v : FVec Ideal S1280x128 .bf16) (a : Fin 256) (d : Fin 128) :
    (matmul dot_S256x1280_S1280x128_S256x128_1_0_0_1_n_n none (truncf .bf16 w bitsLt_bf16_f32) v (constant (F := Ideal) S256x128 .f32 0x00000000#32) (ix2 a d) : EReal)
      = ∑ j : Fin 1280, w (ix2 a j) * v (ix2 j d) := by
  pointwise

theorem qk1536 (q : FVec Ideal S256x256 .bf16) (k : FVec Ideal S1536x256 .bf16) (a : Fin 256) (j : Fin 1536) :
    (matmul dot_S256x256_S1536x256_S256x1536_1_1_0_0_n_n none q k (constant (F := Ideal) S256x1536 .f32 0x00000000#32) (ix2 a j) : EReal)
      = ∑ d : Fin 256, q (ix2 a d) * k (ix2 j d) := by
  pointwise

theorem pv1536 (w : FVec Ideal S256x1536 .f32) (v : FVec Ideal S1536x128 .bf16) (a : Fin 256) (d : Fin 128) :
    (matmul dot_S256x1536_S1536x128_S256x128_1_0_0_1_n_n none (truncf .bf16 w bitsLt_bf16_f32) v (constant (F := Ideal) S256x128 .f32 0x00000000#32) (ix2 a d) : EReal)
      = ∑ j : Fin 1536, w (ix2 a j) * v (ix2 j d) := by
  pointwise

theorem qk1792 (q : FVec Ideal S256x256 .bf16) (k : FVec Ideal S1792x256 .bf16) (a : Fin 256) (j : Fin 1792) :
    (matmul dot_S256x256_S1792x256_S256x1792_1_1_0_0_n_n none q k (constant (F := Ideal) S256x1792 .f32 0x00000000#32) (ix2 a j) : EReal)
      = ∑ d : Fin 256, q (ix2 a d) * k (ix2 j d) := by
  pointwise

theorem pv1792 (w : FVec Ideal S256x1792 .f32) (v : FVec Ideal S1792x128 .bf16) (a : Fin 256) (d : Fin 128) :
    (matmul dot_S256x1792_S1792x128_S256x128_1_0_0_1_n_n none (truncf .bf16 w bitsLt_bf16_f32) v (constant (F := Ideal) S256x128 .f32 0x00000000#32) (ix2 a d) : EReal)
      = ∑ j : Fin 1792, w (ix2 a j) * v (ix2 j d) := by
  pointwise

theorem qk2048 (q : FVec Ideal S256x256 .bf16) (k : FVec Ideal S2048x256 .bf16) (a : Fin 256) (j : Fin 2048) :
    (matmul dot_S256x256_S2048x256_S256x2048_1_1_0_0_n_n none q k (constant (F := Ideal) S256x2048 .f32 0x00000000#32) (ix2 a j) : EReal)
      = ∑ d : Fin 256, q (ix2 a d) * k (ix2 j d) := by
  pointwise

theorem pv2048 (w : FVec Ideal S256x2048 .f32) (v : FVec Ideal S2048x128 .bf16) (a : Fin 256) (d : Fin 128) :
    (matmul dot_S256x2048_S2048x128_S256x128_1_0_0_1_n_n none (truncf .bf16 w bitsLt_bf16_f32) v (constant (F := Ideal) S256x128 .f32 0x00000000#32) (ix2 a d) : EReal)
      = ∑ j : Fin 2048, w (ix2 a j) * v (ix2 j d) := by
  pointwise

/-- Eight pieces of 256 rows and one column, read by row. -/
theorem cat_col (x0 x1 x2 x3 x4 x5 x6 x7 : S256x1.Idx → EReal) (h) (W : ℕ → EReal)
    (h0 : ∀ a : Fin 256, x0 (ix2 a 0) = W (0 + a.val)) (h1 : ∀ a : Fin 256, x1 (ix2 a 0) = W (256 + a.val))
    (h2 : ∀ a : Fin 256, x2 (ix2 a 0) = W (512 + a.val)) (h3 : ∀ a : Fin 256, x3 (ix2 a 0) = W (768 + a.val))
    (h4 : ∀ a : Fin 256, x4 (ix2 a 0) = W (1024 + a.val)) (h5 : ∀ a : Fin 256, x5 (ix2 a 0) = W (1280 + a.val))
    (h6 : ∀ a : Fin 256, x6 (ix2 a 0) = W (1536 + a.val)) (h7 : ∀ a : Fin 256, x7 (ix2 a 0) = W (1792 + a.val)) (r : Fin 2048) :
    concatenate S2048x1 0 [⟨S256x1, x0⟩, ⟨S256x1, x1⟩, ⟨S256x1, x2⟩, ⟨S256x1, x3⟩, ⟨S256x1, x4⟩, ⟨S256x1, x5⟩, ⟨S256x1, x6⟩, ⟨S256x1, x7⟩] h (ix2 r 0) = W r.val := by
  pointwise
  split
  · rw [h0]; exact congrArg W (by simp)
  split
  · rw [h1]; exact congrArg W (by simp only []; omega)
  split
  · rw [h2]; exact congrArg W (by simp only []; omega)
  split
  · rw [h3]; exact congrArg W (by simp only []; omega)
  split
  · rw [h4]; exact congrArg W (by simp only []; omega)
  split
  · rw [h5]; exact congrArg W (by simp only []; omega)
  split
  · rw [h6]; exact congrArg W (by simp only []; omega)
  rw [h7]; exact congrArg W (by simp only []; have := r.isLt; omega)

/-- Eight pieces of 256 rows and 128 columns, read by row. -/
theorem cat_acc (x0 x1 x2 x3 x4 x5 x6 x7 : S256x128.Idx → EReal) (h) (W : ℕ → EReal) (d : Fin 128)
    (h0 : ∀ a : Fin 256, x0 (ix2 a d) = W (0 + a.val)) (h1 : ∀ a : Fin 256, x1 (ix2 a d) = W (256 + a.val))
    (h2 : ∀ a : Fin 256, x2 (ix2 a d) = W (512 + a.val)) (h3 : ∀ a : Fin 256, x3 (ix2 a d) = W (768 + a.val))
    (h4 : ∀ a : Fin 256, x4 (ix2 a d) = W (1024 + a.val)) (h5 : ∀ a : Fin 256, x5 (ix2 a d) = W (1280 + a.val))
    (h6 : ∀ a : Fin 256, x6 (ix2 a d) = W (1536 + a.val)) (h7 : ∀ a : Fin 256, x7 (ix2 a d) = W (1792 + a.val)) (r : Fin 2048) :
    concatenate S2048x128 0 [⟨S256x128, x0⟩, ⟨S256x128, x1⟩, ⟨S256x128, x2⟩, ⟨S256x128, x3⟩, ⟨S256x128, x4⟩, ⟨S256x128, x5⟩, ⟨S256x128, x6⟩, ⟨S256x128, x7⟩] h (ix2 r d) = W r.val := by
  pointwise
  split
  · rw [h0]; exact congrArg W (by simp)
  split
  · rw [h1]; exact congrArg W (by simp only []; omega)
  split
  · rw [h2]; exact congrArg W (by simp only []; omega)
  split
  · rw [h3]; exact congrArg W (by simp only []; omega)
  split
  · rw [h4]; exact congrArg W (by simp only []; omega)
  split
  · rw [h5]; exact congrArg W (by simp only []; omega)
  split
  · rw [h6]; exact congrArg W (by simp only []; omega)
  rw [h7]; exact congrArg W (by simp only []; have := r.isLt; omega)

end Cert.FwdIdeal.Val
end
-- ==== Proof.FwdTrip.lean ====
module

public import proofs.«01_k».proof.Proof.FwdBlock
public import proofs.«01_k».proof.Proof.Trip
public import proofs.«01_k».proof.Proof.Gen.FwdIdeal.Frame
public import Idealize.ShloMosaic.Lib.Pipeline.FrameBody
public import Idealize.ShloMosaic.Lib.LoopRemainder
public import Idealize.ShloMosaic.Lib.Tactic

/-! What the forward attention's body computes on one block of 2048 query rows: each trip of its loop takes a block of
2048 earlier keys, and the block on the diagonal comes last. -/

@[expose] public section

set_option maxRecDepth 16384
noncomputable section

namespace Cert.FwdIdeal.Val

open Cert.FwdIdeal Cert.FwdIdeal.Gen
open Cert.KernelIdeal.Val (row row_val row_fin rd rdc wr)
open Idealize.ShloMosaic Idealize.ShloMosaic.TcCoe Idealize.ShloMosaic.Tactic
open Idealize.SL.Sem

/-! ## The three numbers of a row after a block -/

section
variable (x0 : S2048x256.Idx → EReal) (x1 : S8192x256.Idx → EReal) (x2 : S8192x128.Idx → EReal) (N : ℕ)
  (M L : S2048x1.Idx → EReal) (A : S2048x128.Idx → EReal)

/-- The greatest score of row `r` after the 2048 keys from key `N`. -/
def fullM (r : ℕ) : EReal := Spec.mS (M (ix2 (r2 r) 0)) fun j : Fin 2048 => sc x0 x1 r (N + j.val)

/-- Its sum of weights. -/
def fullL (r : ℕ) : EReal := Spec.lS (M (ix2 (r2 r) 0)) (L (ix2 (r2 r) 0)) fun j : Fin 2048 => sc x0 x1 r (N + j.val)

/-- Its weighted sum of values. -/
def fullA (r : ℕ) (d : Fin 128) : EReal :=
  Spec.accS (M (ix2 (r2 r) 0)) (A (ix2 (r2 r) d)) (fun j : Fin 2048 => sc x0 x1 r (N + j.val)) fun j : Fin 2048 => x2 (ix2 (row (N + j.val)) d)

end

/-! ## A sub-block's rows -/

section
variable (x0 : S2048x256.Idx → EReal) (x1 : S8192x256.Idx → EReal) (x2 : S8192x128.Idx → EReal) {N : ℕ}
  (M L : S2048x1.Idx → EReal) (A : S2048x128.Idx → EReal) {off offv : Fin 2 → ℕ} (e : off = ![N, 0]) (ev : offv = ![N, 0])
  (r0 : ℕ) (hq) (hk) (hv) (hs : S2048x1.Slices ![r0, 0] S256x1) (hs' : S2048x128.Slices ![r0, 0] S256x128) (a : Fin 256)

include e in
theorem fullS (j : Fin 2048) :
    (matmul (φ₁ := .bf16) (φ₂ := .bf16) dot_S256x256_S2048x256_S256x2048_1_1_0_0_n_n none (VecWindow.window (s := S2048x256) x0 ![r0, 0] ![256, 256] hq)
        (VecWindow.window (s := S8192x256) x1 off ![2048, 256] hk) (constant (F := Ideal) S256x2048 .f32 0x00000000#32) (ix2 a j) : EReal) = sc x0 x1 (r0 + a.val) (N + j.val) := by
  refine (qk2048 _ _ a j).trans (Finset.sum_congr rfl fun d _ => ?_)
  exact congrArg₂ (· * ·) (window_q x0 r0 hq a d) (window_keys x1 e hk j d)

include e in
theorem subM :
    (newM reduces_S256x2048_S256 (extractStridedSlice S256x1 ![r0, 0] M hs)
      (matmul (φ₁ := .bf16) (φ₂ := .bf16) dot_S256x256_S2048x256_S256x2048_1_1_0_0_n_n none (VecWindow.window (s := S2048x256) x0 ![r0, 0] ![256, 256] hq)
        (VecWindow.window (s := S8192x256) x1 off ![2048, 256] hk) (constant (F := Ideal) S256x2048 .f32 0x00000000#32)) (ix2 a 0) : EReal)
      = fullM x0 x1 N M (r0 + a.val) := by
  refine (newM_at _ _ _ a).trans ?_
  simp only [fullS x0 x1 e r0 hq hk a, slice_col M r0 hs a]
  rfl

include e in
theorem subL :
    (newL reduces_S256x2048_S256 broadcasts_S256x1_S256x2048 (extractStridedSlice S256x1 ![r0, 0] M hs) (extractStridedSlice S256x1 ![r0, 0] L hs)
      (matmul (φ₁ := .bf16) (φ₂ := .bf16) dot_S256x256_S2048x256_S256x2048_1_1_0_0_n_n none (VecWindow.window (s := S2048x256) x0 ![r0, 0] ![256, 256] hq)
        (VecWindow.window (s := S8192x256) x1 off ![2048, 256] hk) (constant (F := Ideal) S256x2048 .f32 0x00000000#32)) (ix2 a 0) : EReal)
      = fullL x0 x1 N M L (r0 + a.val) := by
  refine (newL_at _ _ _ _ _ a).trans ?_
  simp only [fullS x0 x1 e r0 hq hk a, slice_col _ r0 hs a]
  rfl

include e ev in
theorem subA (d : Fin 128) (s : FVec Ideal S256x2048 .f32)
    (h : s = matmul (φ₁ := .bf16) (φ₂ := .bf16) dot_S256x256_S2048x256_S256x2048_1_1_0_0_n_n none (VecWindow.window (s := S2048x256) x0 ![r0, 0] ![256, 256] hq)
        (VecWindow.window (s := S8192x256) x1 off ![2048, 256] hk) (constant (F := Ideal) S256x2048 .f32 0x00000000#32)) :
    (newA reduces_S256x2048_S256 (extractStridedSlice S256x1 ![r0, 0] M hs) s (extractStridedSlice S256x128 ![r0, 0] A hs')
      (matmul (φ₁ := .bf16) (φ₂ := .bf16) dot_S256x2048_S2048x128_S256x128_1_0_0_1_n_n none
        (truncf .bf16 (wts reduces_S256x2048_S256 broadcasts_S256x1_S256x2048 (extractStridedSlice S256x1 ![r0, 0] M hs) s) bitsLt_bf16_f32)
        (VecWindow.window (s := S8192x128) x2 offv ![2048, 128] hv) (constant (F := Ideal) S256x128 .f32 0x00000000#32)) (ix2 a d) : EReal)
      = fullA x0 x1 x2 N M A (r0 + a.val) d := by
  refine (newA_at _ _ _ _ _ a d).trans ?_
  rw [pv2048]
  simp only [wts_at, h, fullS x0 x1 e r0 hq hk a, slice_col _ r0 hs a, slice_rows _ r0 hs' a, window_vals x2 ev hv]
  rfl

end

/-- The loop over the earlier blocks runs once for each. -/
theorem t1_trips (i : grid0.Coords) : (k0_t1_loop i).trips = (i 1).val := by
  have h : ∀ j : Fin 4, Scf.trips 0#32 (Scalar.addi 0#32 (Scalar.muli (Scalar.divsi (Scalar.subi (BitVec.ofNat 32 j.val) 0#32) 1#32) 1#32)) 1#32 = j.val := by decide
  exact h (i 1)

/-- The second loop, over what the first leaves of them, never runs. -/
theorem t2_trips (i : grid0.Coords) : (k0_t2_loop i).trips = 0 := by
  have h : ∀ j : Fin 4, Scf.trips (Scalar.addi 0#32 (Scalar.muli (Scalar.divsi (Scalar.subi (BitVec.ofNat 32 j.val) 0#32) 1#32) 1#32)) (Scalar.addi 0#32 (Scalar.subi (BitVec.ofNat 32 j.val) 0#32)) 1#32 = 0 := by decide
  exact h (i 1)

/-- The first key of a trip. -/
theorem off1_eq (i : grid0.Coords) (k : Fin (k0_t1_loop i).trips) : k0_off1 i k = ![2048 * k.val, 0] := by
  have hj : (i 1).val < 4 := (i 1).isLt
  have hk : k.val < 4 := by have := t1_trips i; have := k.isLt; omega
  have e : ((0#32 + BitVec.ofNat 32 k * 1#32) * 2048#32).toNat = 2048 * k.val := by
    simp only [BitVec.toNat_add, BitVec.toNat_mul, BitVec.toNat_ofNat]
    omega
  exact congrArg (fun n => ![n, 0]) e

theorem off2_eq (i : grid0.Coords) (k : Fin (k0_t1_loop i).trips) : k0_off2 i k = ![2048 * k.val, 0] := off1_eq i k

/-- A trip's greatest scores. -/
theorem trip_m (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (x0 : Vec Ideal S2048x256 .bf16) (x1 : Vec Ideal S8192x256 .bf16) (x2 : Vec Ideal S8192x128 .bf16) (k : Fin (k0_t1_loop i).trips) (f7) (f8) (f9) (r : Fin 2048) :
    arg7.view.read (Elt Ideal) (arg7.view.writes (Elt Ideal) f7 ((tripL_k0_t1 (F := Ideal) Variants.none c none i arg2 harg2 arg3 harg3 arg4 harg4 arg5 harg5 arg6 harg6 arg7 harg7 arg8 harg8 arg9 harg9 (harg2.unread x0) (harg3.unread x1) (harg4.unread x2) k f7 f8 f9).1)) (ix2 r 0)
      = fullM x0 x1 (2048 * k.val) (arg7.view.read (Elt Ideal) f7) r.val := by
  unfold tripL_k0_t1 trip_k0_t1
  dsimp only
  sl_unfold_run_names
  simp only [rd, rdc, wr, View.writes_nil, harg2.read_unread, harg3.read_unread, harg4.read_unread]
  unfold_payloads
  simp only [shapeCast_self, put_col, put_acc, window_col, window_acc]
  refine cat_col _ _ _ _ _ _ _ _ _ (fullM x0 x1 (2048 * k.val) (arg7.view.read (Elt Ideal) f7)) ?_ ?_ ?_ ?_ ?_ ?_ ?_ ?_ r <;> intro a
  all_goals exact subM x0 x1 _ (off1_eq i k) _ _ _ _ a

/-- A trip's sums of weights. -/
theorem trip_l (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (x0 : Vec Ideal S2048x256 .bf16) (x1 : Vec Ideal S8192x256 .bf16) (x2 : Vec Ideal S8192x128 .bf16) (k : Fin (k0_t1_loop i).trips) (f7) (f8) (f9) (r : Fin 2048) :
    arg8.view.read (Elt Ideal) (arg8.view.writes (Elt Ideal) f8 ((tripL_k0_t1 (F := Ideal) Variants.none c none i arg2 harg2 arg3 harg3 arg4 harg4 arg5 harg5 arg6 harg6 arg7 harg7 arg8 harg8 arg9 harg9 (harg2.unread x0) (harg3.unread x1) (harg4.unread x2) k f7 f8 f9).2.1)) (ix2 r 0)
      = fullL x0 x1 (2048 * k.val) (arg7.view.read (Elt Ideal) f7) (arg8.view.read (Elt Ideal) f8) r.val := by
  unfold tripL_k0_t1 trip_k0_t1
  dsimp only
  sl_unfold_run_names
  simp only [rd, rdc, wr, View.writes_nil, harg2.read_unread, harg3.read_unread, harg4.read_unread]
  unfold_payloads
  simp only [shapeCast_self, put_col, put_acc, window_col, window_acc]
  refine cat_col _ _ _ _ _ _ _ _ _ (fullL x0 x1 (2048 * k.val) (arg7.view.read (Elt Ideal) f7) (arg8.view.read (Elt Ideal) f8)) ?_ ?_ ?_ ?_ ?_ ?_ ?_ ?_ r <;> intro a
  all_goals exact subL x0 x1 _ _ (off1_eq i k) _ _ _ _ a

/-- A trip's weighted sums of values. -/
theorem trip_a (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (x0 : Vec Ideal S2048x256 .bf16) (x1 : Vec Ideal S8192x256 .bf16) (x2 : Vec Ideal S8192x128 .bf16) (k : Fin (k0_t1_loop i).trips) (f7) (f8) (f9) (r : Fin 2048) (d : Fin 128) :
    arg9.view.read (Elt Ideal) (arg9.view.writes (Elt Ideal) f9 ((tripL_k0_t1 (F := Ideal) Variants.none c none i arg2 harg2 arg3 harg3 arg4 harg4 arg5 harg5 arg6 harg6 arg7 harg7 arg8 harg8 arg9 harg9 (harg2.unread x0) (harg3.unread x1) (harg4.unread x2) k f7 f8 f9).2.2)) (ix2 r d)
      = fullA x0 x1 x2 (2048 * k.val) (arg7.view.read (Elt Ideal) f7) (arg9.view.read (Elt Ideal) f9) r.val d := by
  unfold tripL_k0_t1 trip_k0_t1
  dsimp only
  sl_unfold_run_names
  simp only [rd, rdc, wr, View.writes_nil, harg2.read_unread, harg3.read_unread, harg4.read_unread]
  unfold_payloads
  simp only [shapeCast_self, put_col, put_acc, window_col, window_acc]
  refine cat_acc _ _ _ _ _ _ _ _ _ (fun r => fullA x0 x1 x2 (2048 * k.val) (arg7.view.read (Elt Ideal) f7) (arg9.view.read (Elt Ideal) f9) r d) d ?_ ?_ ?_ ?_ ?_ ?_ ?_ ?_ r <;> intro a
  all_goals exact subA x0 x1 x2 _ _ (off1_eq i k) (off2_eq i k) _ _ _ _ _ _ a d _ rfl

/-- Every row's three numbers are those of its first `N` keys. -/
def Rows (R : ℕ → ℕ → ℝ) (x2 : S8192x128.Idx → EReal) (N : ℕ) (M L : S2048x1.Idx → EReal) (A : S2048x128.Idx → EReal) : Prop :=
  ∀ r : Fin 2048, Spec.After (R r.val) (fun n d => x2 (ix2 (row n) d)) N (M (ix2 r 0)) (L (ix2 r 0)) fun d => A (ix2 r d)

/-- What the loop leaves in the three scratch buffers, from what it found there. -/
theorem loop_rows (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (x0 : Vec Ideal S2048x256 .bf16) (x1 : Vec Ideal S8192x256 .bf16) (x2 : Vec Ideal S8192x128 .bf16) (R : ℕ → ℕ → ℝ) (hR : ∀ r k, sc x0 x1 r k = ((R r k : ℝ) : EReal)) (G7) (G8) (G9)
    (h : Rows R x2 0 (arg7.view.read (Elt Ideal) G7) (arg8.view.read (Elt Ideal) G8) (arg9.view.read (Elt Ideal) G9)) :
    Rows R x2 (2048 * (i 1).val)
        (arg7.view.read (Elt Ideal) (arg7.view.writes (Elt Ideal) G7 (pb_k0_t1 (F := Ideal) Variants.none c none i arg2 harg2 arg3 harg3 arg4 harg4 arg5 harg5 arg6 harg6 arg7 harg7 arg8 harg8 arg9 harg9 (harg2.unread x0) (harg3.unread x1) (harg4.unread x2) G7 G8 G9 (k0_t1_loop i).trips).1))
        (arg8.view.read (Elt Ideal) (arg8.view.writes (Elt Ideal) G8 (pb_k0_t1 (F := Ideal) Variants.none c none i arg2 harg2 arg3 harg3 arg4 harg4 arg5 harg5 arg6 harg6 arg7 harg7 arg8 harg8 arg9 harg9 (harg2.unread x0) (harg3.unread x1) (harg4.unread x2) G7 G8 G9 (k0_t1_loop i).trips).2.1))
        (arg9.view.read (Elt Ideal) (arg9.view.writes (Elt Ideal) G9 (pb_k0_t1 (F := Ideal) Variants.none c none i arg2 harg2 arg3 harg3 arg4 harg4 arg5 harg5 arg6 harg6 arg7 harg7 arg8 harg8 arg9 harg9 (harg2.unread x0) (harg3.unread x1) (harg4.unread x2) G7 G8 G9 (k0_t1_loop i).trips).2.2)) := by
  have key : ∀ k, k ≤ (k0_t1_loop i).trips →
      Rows R x2 (2048 * k)
        (arg7.view.read (Elt Ideal) (arg7.view.writes (Elt Ideal) G7 (pb_k0_t1 (F := Ideal) Variants.none c none i arg2 harg2 arg3 harg3 arg4 harg4 arg5 harg5 arg6 harg6 arg7 harg7 arg8 harg8 arg9 harg9 (harg2.unread x0) (harg3.unread x1) (harg4.unread x2) G7 G8 G9 k).1))
        (arg8.view.read (Elt Ideal) (arg8.view.writes (Elt Ideal) G8 (pb_k0_t1 (F := Ideal) Variants.none c none i arg2 harg2 arg3 harg3 arg4 harg4 arg5 harg5 arg6 harg6 arg7 harg7 arg8 harg8 arg9 harg9 (harg2.unread x0) (harg3.unread x1) (harg4.unread x2) G7 G8 G9 k).2.1))
        (arg9.view.read (Elt Ideal) (arg9.view.writes (Elt Ideal) G9 (pb_k0_t1 (F := Ideal) Variants.none c none i arg2 harg2 arg3 harg3 arg4 harg4 arg5 harg5 arg6 harg6 arg7 harg7 arg8 harg8 arg9 harg9 (harg2.unread x0) (harg3.unread x1) (harg4.unread x2) G7 G8 G9 k).2.2)) := by
    intro k
    induction k with
    | zero => intro _; exact h
    | succ k ih =>
      intro hk
      rw [pb_k0_t1_succ _ _ _ _ _ _ _ _ _ _ _ _ _ _ _ _ _ _ _ _ _ _ _ _ _ _ ⟨k, hk⟩]
      dsimp only
      rw [View.writes_append, View.writes_append, View.writes_append]
      intro r
      have e := (ih (Nat.le_of_succ_le hk) r).step (t := 2047) (n := 2048) (by decide) (fun j : Fin 2048 => sc x0 x1 r.val (2048 * k + j.val))
        fun j => (hR _ _).trans (if_pos (by have := j.isLt; omega)).symm
      rw [trip_m c i arg2 harg2 arg3 harg3 arg4 harg4 arg5 harg5 arg6 harg6 arg7 harg7 arg8 harg8 arg9 harg9 x0 x1 x2 ⟨k, hk⟩, trip_l c i arg2 harg2 arg3 harg3 arg4 harg4 arg5 harg5 arg6 harg6 arg7 harg7 arg8 harg8 arg9 harg9 x0 x1 x2 ⟨k, hk⟩]
      simp only [trip_a c i arg2 harg2 arg3 harg3 arg4 harg4 arg5 harg5 arg6 harg6 arg7 harg7 arg8 harg8 arg9 harg9 x0 x1 x2 ⟨k, hk⟩]
      unfold fullM fullL fullA
      rw [r2_fin]
      exact .inr e
  have e := key _ le_rfl
  rwa [show 2048 * (k0_t1_loop i).trips = 2048 * (i 1).val by rw [t1_trips]] at e

end Cert.FwdIdeal.Val
end
-- ==== Proof.FwdBody.lean ====
module

public import proofs.«01_k».proof.Proof.FwdTrip
public import proofs.«01_k».proof.Proof.Trip
public import proofs.«01_k».proof.Proof.Gen.FwdIdeal.Frame
public import Idealize.ShloMosaic.Lib.Pipeline.FrameBody
public import Idealize.ShloMosaic.Lib.LoopRemainder
public import Idealize.ShloMosaic.Lib.Tactic

/-! What the forward attention's body leaves in its two result blocks: after the loop over the earlier keys, the block of
keys on the diagonal is taken in eight pieces of 256 query rows, each with the keys up to its last row. -/

@[expose] public section

set_option maxRecDepth 16384
noncomputable section

namespace Cert.FwdIdeal.Val

open Cert.FwdIdeal Cert.FwdIdeal.Gen
open Cert.KernelIdeal.Val (row row_val row_fin rd rdc wr)
open Idealize.ShloMosaic Idealize.ShloMosaic.TcCoe Idealize.ShloMosaic.Tactic
open Idealize.SL.Sem

/-! ## The diagonal -/

section
variable (x0 : S2048x256.Idx → EReal) (x1 : S8192x256.Idx → EReal) (x2 : S8192x128.Idx → EReal) (N : ℕ)
  (M L : S2048x1.Idx → EReal) (A : S2048x128.Idx → EReal)

/-- The scores of row `r` against the keys of piece `b`, those after the row's position masked. -/
def diagS (b r : ℕ) (j : Fin (256 * (b + 1))) : EReal := if j.val ≤ r then sc x0 x1 r (N + j.val) else ⊥

/-- The greatest score of row `r` of piece `b` at the end. -/
def diagM (b r : ℕ) : EReal := Spec.mS (M (ix2 (r2 r) 0)) (diagS x0 x1 N b r)

/-- Its sum of weights. -/
def diagL (b r : ℕ) : EReal := Spec.lS (M (ix2 (r2 r) 0)) (L (ix2 (r2 r) 0)) (diagS x0 x1 N b r)

/-- Its weighted sum of values. -/
def diagA (b r : ℕ) (d : Fin 128) : EReal :=
  Spec.accS (M (ix2 (r2 r) 0)) (A (ix2 (r2 r) d)) (diagS x0 x1 N b r) fun j => x2 (ix2 (row (N + j.val)) d)

/-- After the diagonal a row has taken the keys up to its own position. -/
theorem Rows.diag {R : ℕ → ℕ → ℝ} (hR : ∀ r k, sc x0 x1 r k = ((R r k : ℝ) : EReal)) (H : Rows R x2 N M L A) (r : Fin 2048) :
    Spec.Upto (R r.val) (fun n d => x2 (ix2 (row n) d)) (N + (r.val + 1)) (diagM x0 x1 N M (r.val / 256) r.val)
      (diagL x0 x1 N M L (r.val / 256) r.val) (diagA x0 x1 x2 N M A (r.val / 256) r.val) := by
  have e := (H r).step (t := r.val) (n := 256 * (r.val / 256 + 1)) (by omega) (diagS x0 x1 N (r.val / 256) r.val) fun j => by
    unfold diagS
    rw [hR]
  unfold diagM diagL diagA
  rw [r2_fin]
  exact e

variable {n : ℕ} (hr : (Sq n).Reduces [1] S256) (hb : S256x1.Broadcasts (Sq n)) (r0 : ℕ) (hs : S2048x1.Slices ![r0, 0] S256x1)
  (hs' : S2048x128.Slices ![r0, 0] S256x128) (a : Fin 256) (s : FVec Ideal (Sq n) .f32) (T : Fin n → EReal) (hT : ∀ j, s (ix2 a j) = T j)

include hT in
theorem pieceM : (newM hr (extractStridedSlice S256x1 ![r0, 0] M hs) s (ix2 a 0) : EReal) = Spec.mS (M (ix2 (r2 (r0 + a.val)) 0)) T := by
  refine (newM_at _ _ _ a).trans ?_
  simp only [hT, slice_col _ r0 hs a]

include hT in
theorem pieceL : (newL hr hb (extractStridedSlice S256x1 ![r0, 0] M hs) (extractStridedSlice S256x1 ![r0, 0] L hs) s (ix2 a 0) : EReal)
    = Spec.lS (M (ix2 (r2 (r0 + a.val)) 0)) (L (ix2 (r2 (r0 + a.val)) 0)) T := by
  refine (newL_at _ _ _ _ _ a).trans ?_
  simp only [hT, slice_col _ r0 hs a]

include hT in
theorem pieceA (d : Fin 128) (pv : FVec Ideal S256x128 .f32) (vv : (⟨2, ![n, 128]⟩ : Shape).Idx → EReal)
    (hpv : (pv (ix2 a d) : EReal) = ∑ j : Fin n, wts hr hb (extractStridedSlice S256x1 ![r0, 0] M hs) s (ix2 a j) * vv (ix2 j d))
    (hv : ∀ j : Fin n, vv (ix2 j d) = x2 (ix2 (row (N + j.val)) d)) :
    (newA hr (extractStridedSlice S256x1 ![r0, 0] M hs) s (extractStridedSlice S256x128 ![r0, 0] A hs') pv (ix2 a d) : EReal)
      = Spec.accS (M (ix2 (r2 (r0 + a.val)) 0)) (A (ix2 (r2 (r0 + a.val)) d)) T fun j => x2 (ix2 (row (N + j.val)) d) := by
  refine (newA_at _ _ _ _ _ a d).trans ?_
  rw [hpv]
  simp only [wts_at, hT, hv, slice_col _ r0 hs a, slice_rows _ r0 hs' a]
  rfl

/-- The sum over the two loads' columns is the product of the row and the key. -/
theorem sum_sc {off : Fin 2 → ℕ} {N : ℕ} (e : off = ![N, 0]) (hq) (hk) (j : Fin n) :
    (∑ d : Fin 256, VecWindow.window (s := S2048x256) x0 ![r0, 0] ![256, 256] hq (ix2 a d) * VecWindow.window (s := S8192x256) x1 off ![n, 256] hk (ix2 j d))
      = sc x0 x1 (r0 + a.val) (N + j.val) :=
  Finset.sum_congr rfl fun d _ => congrArg₂ (· * ·) (window_q x0 r0 hq a d) (window_keys x1 e hk j d)

theorem masked {p : Prop} [Decidable p] {x y : EReal} (h : x = y) : (if p then x else ⊥) = if p then y else ⊥ := by rw [h]

end

/-- The first key of the diagonal block. -/
theorem offD_eq (i : grid0.Coords) : k0_off5 i = ![2048 * (i 1).val, 0] := by
  have hj : (i 1).val < 4 := (i 1).isLt
  have e : (BitVec.ofNat 32 (i 1).val * 2048#32).toNat = 2048 * (i 1).val := by
    simp only [BitVec.toNat_mul, BitVec.toNat_ofNat]
    omega
  exact congrArg (fun n => ![n, 0]) e

/-- Before any key the three numbers are those the buffers are filled with. -/
theorem start_rows (R : ℕ → ℕ → ℝ) (x2 : S8192x128.Idx → EReal) : Rows R x2 0 (k0_pay128 (F := Ideal)) (k0_pay129 (F := Ideal)) (k0_pay130 (F := Ideal)) := by
  intro r
  refine .inl ⟨rfl, rfl, ?_, fun d => ?_⟩ <;> norm_num [k0_pay129, k0_pay130, shapeCast_self, broadcast, Scalar.ofBits, FloatOps.ofBits]

theorem out_div (x : FVec Ideal S2048x1 .f32) (y : FVec Ideal S2048x128 .f32) (r : Fin 2048) (d : Fin 128) :
    (truncf .bf16 (divf y (broadcastTo S2048x128 x broadcasts_S2048x1_S2048x128)) bitsLt_bf16_f32 (ix2 r d) : EReal) = Ideal.div (y (ix2 r d)) (x (ix2 r 0)) := by
  pointwise

theorem out_log (x y : FVec Ideal S2048x1 .f32) (r : Fin 2048) (d : Fin 128) :
    (broadcastTo S2048x128 (addf (mulf y (broadcast S2048x1 (Named.named κ "scale2" 0x3DD53B95#32))) (mulf (log x) (broadcast S2048x1 (Named.named κ "log2e" 0x3FB8AA3B#32)))) broadcasts_S2048x1_S2048x128 (ix2 r d) : EReal)
      = y (ix2 r 0) * Spec.C2 + Ideal.log (x (ix2 r 0)) * (((Real.log 2)⁻¹ : ℝ) : EReal) := by
  pointwise
  rfl

/-- The first result: every row's weighted sum of values over its sum of weights. -/
theorem out_o (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (x0 : Vec Ideal S2048x256 .bf16) (x1 : Vec Ideal S8192x256 .bf16) (x2 : Vec Ideal S8192x128 .bf16) (R : ℕ → ℕ → ℝ) (hR : ∀ r k, sc x0 x1 r k = ((R r k : ℝ) : EReal)) :
    ∃ M L A, Rows R x2 (2048 * (i 1).val) M L A ∧ ∀ (r : Fin 2048) (d : Fin 128),
      (out0_A_3 (F := Ideal) c i arg2 harg2 arg3 harg3 arg4 harg4 arg5 harg5 arg6 harg6 arg7 harg7 arg8 harg8 arg9 harg9 x0 x1 x2 (ix2 r d) : EReal)
        = Ideal.div (diagA x0 x1 x2 (2048 * (i 1).val) M A (r.val / 256) r.val d) (diagL x0 x1 (2048 * (i 1).val) M L (r.val / 256) r.val) := by
  have H := loop_rows c i arg2 harg2 arg3 harg3 arg4 harg4 arg5 harg5 arg6 harg6 arg7 harg7 arg8 harg8 arg9 harg9 x0 x1 x2 R hR (arg7.view.writes (Elt Ideal) arg7.view.junk [⟨Rect.unit ![0, 0] ![2048, 1] inb_S2048x1_S2048x1_0_0, k0_pay128 (F := Ideal)⟩]) (arg8.view.writes (Elt Ideal) arg8.view.junk [⟨Rect.unit ![0, 0] ![2048, 1] inb_S2048x1_S2048x1_0_0, k0_pay129 (F := Ideal)⟩]) (arg9.view.writes (Elt Ideal) arg9.view.junk [⟨Rect.unit ![0, 0] ![2048, 128] inb_S2048x128_S2048x128_0_0, k0_pay130 (F := Ideal)⟩]) (by
    simp only [wr, View.writes_nil, put_col, put_acc]
    exact start_rows R x2)
  unfold out0_A_3 kernelRun0_A
  dsimp only
  sl_unfold_run_names
  simp only [show Scf.trips 0#32 (Scalar.addi 0#32 (Scalar.muli (Scalar.divsi (Scalar.subi (BitVec.ofNat 32 (i 1).val) 0#32) 1#32) 1#32)) 1#32 = (k0_t1_loop i).trips from rfl, show Scf.trips (Scalar.addi 0#32 (Scalar.muli (Scalar.divsi (Scalar.subi (BitVec.ofNat 32 (i 1).val) 0#32) 1#32) 1#32)) (Scalar.addi 0#32 (Scalar.subi (BitVec.ofNat 32 (i 1).val) 0#32)) 1#32 = 0 from t2_trips i, pb_k0_t2.eq_1]
  simp only [rd, rdc, wr, View.writes_append, View.writes_nil, harg2.read_unread, harg3.read_unread, harg4.read_unread, List.nil_append]
  generalize arg7.view.read (Elt Ideal) (arg7.view.writes (Elt Ideal) _ (pb_k0_t1 (F := Ideal) Variants.none c none i arg2 harg2 arg3 harg3 arg4 harg4 arg5 harg5 arg6 harg6 arg7 harg7 arg8 harg8 arg9 harg9 (harg2.unread x0) (harg3.unread x1) (harg4.unread x2) _ _ _ (k0_t1_loop i).trips).1) = M at H ⊢
  generalize arg8.view.read (Elt Ideal) (arg8.view.writes (Elt Ideal) _ (pb_k0_t1 (F := Ideal) Variants.none c none i arg2 harg2 arg3 harg3 arg4 harg4 arg5 harg5 arg6 harg6 arg7 harg7 arg8 harg8 arg9 harg9 (harg2.unread x0) (harg3.unread x1) (harg4.unread x2) _ _ _ (k0_t1_loop i).trips).2.1) = L at H ⊢
  generalize arg9.view.read (Elt Ideal) (arg9.view.writes (Elt Ideal) _ (pb_k0_t1 (F := Ideal) Variants.none c none i arg2 harg2 arg3 harg3 arg4 harg4 arg5 harg5 arg6 harg6 arg7 harg7 arg8 harg8 arg9 harg9 (harg2.unread x0) (harg3.unread x1) (harg4.unread x2) _ _ _ (k0_t1_loop i).trips).2.2) = A at H ⊢
  refine ⟨M, L, A, H, fun r d => ?_⟩
  unfold_payloads
  simp only [shapeCast_self, put_col, put_acc, window_col, window_acc]
  refine (out_div _ _ r d).trans (congrArg₂ Ideal.div ?_ ?_)
  · refine cat_acc _ _ _ _ _ _ _ _ _ (fun r => diagA x0 x1 x2 (2048 * (i 1).val) M A (r / 256) r d) d ?_ ?_ ?_ ?_ ?_ ?_ ?_ ?_ r <;> intro a <;> simp only [shapeCast_self, window_col, window_acc]
    · show _ = diagA x0 x1 x2 (2048 * (i 1).val) M A ((0 + a.val) / 256) (0 + a.val) d
      rw [show (0 + a.val) / 256 = 0 by omega]
      exact pieceA x2 _ M A _ _ 0 _ _ a _ _ (fun j => (msk_at _ _ _ 0 (by decide) (by decide) a j).trans (masked ((qk256 _ _ a j).trans (sum_sc x0 x1 0 a (show k0_off5 i = _ from offD_eq i) _ _ j)))) d _ _ (pv256 _ _ a d) fun j => window_vals x2 (show k0_off7 i = _ from offD_eq i) _ j d
    · show _ = diagA x0 x1 x2 (2048 * (i 1).val) M A ((256 + a.val) / 256) (256 + a.val) d
      rw [show (256 + a.val) / 256 = 1 by omega]
      exact pieceA x2 _ M A _ _ 256 _ _ a _ _ (fun j => (msk_at _ _ _ 256 (by decide) (by decide) a j).trans (masked ((qk512 _ _ a j).trans (sum_sc x0 x1 256 a (show k0_off6 i = _ from offD_eq i) _ _ j)))) d _ _ (pv512 _ _ a d) fun j => window_vals x2 (show k0_off9 i = _ from offD_eq i) _ j d
    · show _ = diagA x0 x1 x2 (2048 * (i 1).val) M A ((512 + a.val) / 256) (512 + a.val) d
      rw [show (512 + a.val) / 256 = 2 by omega]
      exact pieceA x2 _ M A _ _ 512 _ _ a _ _ (fun j => (msk_at _ _ _ 512 (by decide) (by decide) a j).trans (masked ((qk768 _ _ a j).trans (sum_sc x0 x1 512 a (show k0_off8 i = _ from offD_eq i) _ _ j)))) d _ _ (pv768 _ _ a d) fun j => window_vals x2 (show k0_off11 i = _ from offD_eq i) _ j d
    · show _ = diagA x0 x1 x2 (2048 * (i 1).val) M A ((768 + a.val) / 256) (768 + a.val) d
      rw [show (768 + a.val) / 256 = 3 by omega]
      exact pieceA x2 _ M A _ _ 768 _ _ a _ _ (fun j => (msk_at _ _ _ 768 (by decide) (by decide) a j).trans (masked ((qk1024 _ _ a j).trans (sum_sc x0 x1 768 a (show k0_off10 i = _ from offD_eq i) _ _ j)))) d _ _ (pv1024 _ _ a d) fun j => window_vals x2 (show k0_off13 i = _ from offD_eq i) _ j d
    · show _ = diagA x0 x1 x2 (2048 * (i 1).val) M A ((1024 + a.val) / 256) (1024 + a.val) d
      rw [show (1024 + a.val) / 256 = 4 by omega]
      exact pieceA x2 _ M A _ _ 1024 _ _ a _ _ (fun j => (msk_at _ _ _ 1024 (by decide) (by decide) a j).trans (masked ((qk1280 _ _ a j).trans (sum_sc x0 x1 1024 a (show k0_off12 i = _ from offD_eq i) _ _ j)))) d _ _ (pv1280 _ _ a d) fun j => window_vals x2 (show k0_off15 i = _ from offD_eq i) _ j d
    · show _ = diagA x0 x1 x2 (2048 * (i 1).val) M A ((1280 + a.val) / 256) (1280 + a.val) d
      rw [show (1280 + a.val) / 256 = 5 by omega]
      exact pieceA x2 _ M A _ _ 1280 _ _ a _ _ (fun j => (msk_at _ _ _ 1280 (by decide) (by decide) a j).trans (masked ((qk1536 _ _ a j).trans (sum_sc x0 x1 1280 a (show k0_off14 i = _ from offD_eq i) _ _ j)))) d _ _ (pv1536 _ _ a d) fun j => window_vals x2 (show k0_off17 i = _ from offD_eq i) _ j d
    · show _ = diagA x0 x1 x2 (2048 * (i 1).val) M A ((1536 + a.val) / 256) (1536 + a.val) d
      rw [show (1536 + a.val) / 256 = 6 by omega]
      exact pieceA x2 _ M A _ _ 1536 _ _ a _ _ (fun j => (msk_at _ _ _ 1536 (by decide) (by decide) a j).trans (masked ((qk1792 _ _ a j).trans (sum_sc x0 x1 1536 a (show k0_off16 i = _ from offD_eq i) _ _ j)))) d _ _ (pv1792 _ _ a d) fun j => window_vals x2 (show k0_off19 i = _ from offD_eq i) _ j d
    · show _ = diagA x0 x1 x2 (2048 * (i 1).val) M A ((1792 + a.val) / 256) (1792 + a.val) d
      rw [show (1792 + a.val) / 256 = 7 by omega]
      exact pieceA x2 _ M A _ _ 1792 _ _ a _ _ (fun j => (msk_at _ _ _ 1792 (by decide) (by decide) a j).trans (masked ((qk2048 _ _ a j).trans (sum_sc x0 x1 1792 a (show k0_off18 i = _ from offD_eq i) _ _ j)))) d _ _ (pv2048 _ _ a d) fun j => window_vals x2 (show k0_off20 i = _ from offD_eq i) _ j d
  · refine cat_col _ _ _ _ _ _ _ _ _ (fun r => diagL x0 x1 (2048 * (i 1).val) M L (r / 256) r) ?_ ?_ ?_ ?_ ?_ ?_ ?_ ?_ r <;> intro a <;> simp only [shapeCast_self, window_col, window_acc]
    · show _ = diagL x0 x1 (2048 * (i 1).val) M L ((0 + a.val) / 256) (0 + a.val)
      rw [show (0 + a.val) / 256 = 0 by omega]
      exact pieceL M L _ _ 0 _ a _ _ (fun j => (msk_at _ _ _ 0 (by decide) (by decide) a j).trans (masked ((qk256 _ _ a j).trans (sum_sc x0 x1 0 a (show k0_off5 i = _ from offD_eq i) _ _ j))))
    · show _ = diagL x0 x1 (2048 * (i 1).val) M L ((256 + a.val) / 256) (256 + a.val)
      rw [show (256 + a.val) / 256 = 1 by omega]
      exact pieceL M L _ _ 256 _ a _ _ (fun j => (msk_at _ _ _ 256 (by decide) (by decide) a j).trans (masked ((qk512 _ _ a j).trans (sum_sc x0 x1 256 a (show k0_off6 i = _ from offD_eq i) _ _ j))))
    · show _ = diagL x0 x1 (2048 * (i 1).val) M L ((512 + a.val) / 256) (512 + a.val)
      rw [show (512 + a.val) / 256 = 2 by omega]
      exact pieceL M L _ _ 512 _ a _ _ (fun j => (msk_at _ _ _ 512 (by decide) (by decide) a j).trans (masked ((qk768 _ _ a j).trans (sum_sc x0 x1 512 a (show k0_off8 i = _ from offD_eq i) _ _ j))))
    · show _ = diagL x0 x1 (2048 * (i 1).val) M L ((768 + a.val) / 256) (768 + a.val)
      rw [show (768 + a.val) / 256 = 3 by omega]
      exact pieceL M L _ _ 768 _ a _ _ (fun j => (msk_at _ _ _ 768 (by decide) (by decide) a j).trans (masked ((qk1024 _ _ a j).trans (sum_sc x0 x1 768 a (show k0_off10 i = _ from offD_eq i) _ _ j))))
    · show _ = diagL x0 x1 (2048 * (i 1).val) M L ((1024 + a.val) / 256) (1024 + a.val)
      rw [show (1024 + a.val) / 256 = 4 by omega]
      exact pieceL M L _ _ 1024 _ a _ _ (fun j => (msk_at _ _ _ 1024 (by decide) (by decide) a j).trans (masked ((qk1280 _ _ a j).trans (sum_sc x0 x1 1024 a (show k0_off12 i = _ from offD_eq i) _ _ j))))
    · show _ = diagL x0 x1 (2048 * (i 1).val) M L ((1280 + a.val) / 256) (1280 + a.val)
      rw [show (1280 + a.val) / 256 = 5 by omega]
      exact pieceL M L _ _ 1280 _ a _ _ (fun j => (msk_at _ _ _ 1280 (by decide) (by decide) a j).trans (masked ((qk1536 _ _ a j).trans (sum_sc x0 x1 1280 a (show k0_off14 i = _ from offD_eq i) _ _ j))))
    · show _ = diagL x0 x1 (2048 * (i 1).val) M L ((1536 + a.val) / 256) (1536 + a.val)
      rw [show (1536 + a.val) / 256 = 6 by omega]
      exact pieceL M L _ _ 1536 _ a _ _ (fun j => (msk_at _ _ _ 1536 (by decide) (by decide) a j).trans (masked ((qk1792 _ _ a j).trans (sum_sc x0 x1 1536 a (show k0_off16 i = _ from offD_eq i) _ _ j))))
    · show _ = diagL x0 x1 (2048 * (i 1).val) M L ((1792 + a.val) / 256) (1792 + a.val)
      rw [show (1792 + a.val) / 256 = 7 by omega]
      exact pieceL M L _ _ 1792 _ a _ _ (fun j => (msk_at _ _ _ 1792 (by decide) (by decide) a j).trans (masked ((qk2048 _ _ a j).trans (sum_sc x0 x1 1792 a (show k0_off18 i = _ from offD_eq i) _ _ j))))

/-- The second result: every row's base-2 log-sum-exp. -/
theorem out_lse (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (x0 : Vec Ideal S2048x256 .bf16) (x1 : Vec Ideal S8192x256 .bf16) (x2 : Vec Ideal S8192x128 .bf16) (R : ℕ → ℕ → ℝ) (hR : ∀ r k, sc x0 x1 r k = ((R r k : ℝ) : EReal)) :
    ∃ M L A, Rows R x2 (2048 * (i 1).val) M L A ∧ ∀ (r : Fin 2048) (d : Fin 128),
      (out0_A_4 (F := Ideal) c i arg2 harg2 arg3 harg3 arg4 harg4 arg5 harg5 arg6 harg6 arg7 harg7 arg8 harg8 arg9 harg9 x0 x1 x2 (ix2 r d) : EReal)
        = diagM x0 x1 (2048 * (i 1).val) M (r.val / 256) r.val * Spec.C2 + Ideal.log (diagL x0 x1 (2048 * (i 1).val) M L (r.val / 256) r.val) * (((Real.log 2)⁻¹ : ℝ) : EReal) := by
  have H := loop_rows c i arg2 harg2 arg3 harg3 arg4 harg4 arg5 harg5 arg6 harg6 arg7 harg7 arg8 harg8 arg9 harg9 x0 x1 x2 R hR (arg7.view.writes (Elt Ideal) arg7.view.junk [⟨Rect.unit ![0, 0] ![2048, 1] inb_S2048x1_S2048x1_0_0, k0_pay128 (F := Ideal)⟩]) (arg8.view.writes (Elt Ideal) arg8.view.junk [⟨Rect.unit ![0, 0] ![2048, 1] inb_S2048x1_S2048x1_0_0, k0_pay129 (F := Ideal)⟩]) (arg9.view.writes (Elt Ideal) arg9.view.junk [⟨Rect.unit ![0, 0] ![2048, 128] inb_S2048x128_S2048x128_0_0, k0_pay130 (F := Ideal)⟩]) (by
    simp only [wr, View.writes_nil, put_col, put_acc]
    exact start_rows R x2)
  unfold out0_A_4 kernelRun0_A
  dsimp only
  sl_unfold_run_names
  simp only [show Scf.trips 0#32 (Scalar.addi 0#32 (Scalar.muli (Scalar.divsi (Scalar.subi (BitVec.ofNat 32 (i 1).val) 0#32) 1#32) 1#32)) 1#32 = (k0_t1_loop i).trips from rfl, show Scf.trips (Scalar.addi 0#32 (Scalar.muli (Scalar.divsi (Scalar.subi (BitVec.ofNat 32 (i 1).val) 0#32) 1#32) 1#32)) (Scalar.addi 0#32 (Scalar.subi (BitVec.ofNat 32 (i 1).val) 0#32)) 1#32 = 0 from t2_trips i, pb_k0_t2.eq_1]
  simp only [rd, rdc, wr, View.writes_append, View.writes_nil, harg2.read_unread, harg3.read_unread, harg4.read_unread, List.nil_append]
  generalize arg7.view.read (Elt Ideal) (arg7.view.writes (Elt Ideal) _ (pb_k0_t1 (F := Ideal) Variants.none c none i arg2 harg2 arg3 harg3 arg4 harg4 arg5 harg5 arg6 harg6 arg7 harg7 arg8 harg8 arg9 harg9 (harg2.unread x0) (harg3.unread x1) (harg4.unread x2) _ _ _ (k0_t1_loop i).trips).1) = M at H ⊢
  generalize arg8.view.read (Elt Ideal) (arg8.view.writes (Elt Ideal) _ (pb_k0_t1 (F := Ideal) Variants.none c none i arg2 harg2 arg3 harg3 arg4 harg4 arg5 harg5 arg6 harg6 arg7 harg7 arg8 harg8 arg9 harg9 (harg2.unread x0) (harg3.unread x1) (harg4.unread x2) _ _ _ (k0_t1_loop i).trips).2.1) = L at H ⊢
  generalize arg9.view.read (Elt Ideal) (arg9.view.writes (Elt Ideal) _ (pb_k0_t1 (F := Ideal) Variants.none c none i arg2 harg2 arg3 harg3 arg4 harg4 arg5 harg5 arg6 harg6 arg7 harg7 arg8 harg8 arg9 harg9 (harg2.unread x0) (harg3.unread x1) (harg4.unread x2) _ _ _ (k0_t1_loop i).trips).2.2) = A at H ⊢
  refine ⟨M, L, A, H, fun r d => ?_⟩
  unfold_payloads
  simp only [shapeCast_self, put_col, put_acc, window_col, window_acc]
  refine (out_log _ _ r d).trans (congrArg₂ (fun x y : EReal => x * Spec.C2 + Ideal.log y * (((Real.log 2)⁻¹ : ℝ) : EReal)) ?_ ?_)
  · refine cat_col _ _ _ _ _ _ _ _ _ (fun r => diagM x0 x1 (2048 * (i 1).val) M (r / 256) r) ?_ ?_ ?_ ?_ ?_ ?_ ?_ ?_ r <;> intro a <;> simp only [shapeCast_self, window_col, window_acc]
    · show _ = diagM x0 x1 (2048 * (i 1).val) M ((0 + a.val) / 256) (0 + a.val)
      rw [show (0 + a.val) / 256 = 0 by omega]
      exact pieceM M _ 0 _ a _ _ (fun j => (msk_at _ _ _ 0 (by decide) (by decide) a j).trans (masked ((qk256 _ _ a j).trans (sum_sc x0 x1 0 a (show k0_off5 i = _ from offD_eq i) _ _ j))))
    · show _ = diagM x0 x1 (2048 * (i 1).val) M ((256 + a.val) / 256) (256 + a.val)
      rw [show (256 + a.val) / 256 = 1 by omega]
      exact pieceM M _ 256 _ a _ _ (fun j => (msk_at _ _ _ 256 (by decide) (by decide) a j).trans (masked ((qk512 _ _ a j).trans (sum_sc x0 x1 256 a (show k0_off6 i = _ from offD_eq i) _ _ j))))
    · show _ = diagM x0 x1 (2048 * (i 1).val) M ((512 + a.val) / 256) (512 + a.val)
      rw [show (512 + a.val) / 256 = 2 by omega]
      exact pieceM M _ 512 _ a _ _ (fun j => (msk_at _ _ _ 512 (by decide) (by decide) a j).trans (masked ((qk768 _ _ a j).trans (sum_sc x0 x1 512 a (show k0_off8 i = _ from offD_eq i) _ _ j))))
    · show _ = diagM x0 x1 (2048 * (i 1).val) M ((768 + a.val) / 256) (768 + a.val)
      rw [show (768 + a.val) / 256 = 3 by omega]
      exact pieceM M _ 768 _ a _ _ (fun j => (msk_at _ _ _ 768 (by decide) (by decide) a j).trans (masked ((qk1024 _ _ a j).trans (sum_sc x0 x1 768 a (show k0_off10 i = _ from offD_eq i) _ _ j))))
    · show _ = diagM x0 x1 (2048 * (i 1).val) M ((1024 + a.val) / 256) (1024 + a.val)
      rw [show (1024 + a.val) / 256 = 4 by omega]
      exact pieceM M _ 1024 _ a _ _ (fun j => (msk_at _ _ _ 1024 (by decide) (by decide) a j).trans (masked ((qk1280 _ _ a j).trans (sum_sc x0 x1 1024 a (show k0_off12 i = _ from offD_eq i) _ _ j))))
    · show _ = diagM x0 x1 (2048 * (i 1).val) M ((1280 + a.val) / 256) (1280 + a.val)
      rw [show (1280 + a.val) / 256 = 5 by omega]
      exact pieceM M _ 1280 _ a _ _ (fun j => (msk_at _ _ _ 1280 (by decide) (by decide) a j).trans (masked ((qk1536 _ _ a j).trans (sum_sc x0 x1 1280 a (show k0_off14 i = _ from offD_eq i) _ _ j))))
    · show _ = diagM x0 x1 (2048 * (i 1).val) M ((1536 + a.val) / 256) (1536 + a.val)
      rw [show (1536 + a.val) / 256 = 6 by omega]
      exact pieceM M _ 1536 _ a _ _ (fun j => (msk_at _ _ _ 1536 (by decide) (by decide) a j).trans (masked ((qk1792 _ _ a j).trans (sum_sc x0 x1 1536 a (show k0_off16 i = _ from offD_eq i) _ _ j))))
    · show _ = diagM x0 x1 (2048 * (i 1).val) M ((1792 + a.val) / 256) (1792 + a.val)
      rw [show (1792 + a.val) / 256 = 7 by omega]
      exact pieceM M _ 1792 _ a _ _ (fun j => (msk_at _ _ _ 1792 (by decide) (by decide) a j).trans (masked ((qk2048 _ _ a j).trans (sum_sc x0 x1 1792 a (show k0_off18 i = _ from offD_eq i) _ _ j))))
  · refine cat_col _ _ _ _ _ _ _ _ _ (fun r => diagL x0 x1 (2048 * (i 1).val) M L (r / 256) r) ?_ ?_ ?_ ?_ ?_ ?_ ?_ ?_ r <;> intro a <;> simp only [shapeCast_self, window_col, window_acc]
    · show _ = diagL x0 x1 (2048 * (i 1).val) M L ((0 + a.val) / 256) (0 + a.val)
      rw [show (0 + a.val) / 256 = 0 by omega]
      exact pieceL M L _ _ 0 _ a _ _ (fun j => (msk_at _ _ _ 0 (by decide) (by decide) a j).trans (masked ((qk256 _ _ a j).trans (sum_sc x0 x1 0 a (show k0_off5 i = _ from offD_eq i) _ _ j))))
    · show _ = diagL x0 x1 (2048 * (i 1).val) M L ((256 + a.val) / 256) (256 + a.val)
      rw [show (256 + a.val) / 256 = 1 by omega]
      exact pieceL M L _ _ 256 _ a _ _ (fun j => (msk_at _ _ _ 256 (by decide) (by decide) a j).trans (masked ((qk512 _ _ a j).trans (sum_sc x0 x1 256 a (show k0_off6 i = _ from offD_eq i) _ _ j))))
    · show _ = diagL x0 x1 (2048 * (i 1).val) M L ((512 + a.val) / 256) (512 + a.val)
      rw [show (512 + a.val) / 256 = 2 by omega]
      exact pieceL M L _ _ 512 _ a _ _ (fun j => (msk_at _ _ _ 512 (by decide) (by decide) a j).trans (masked ((qk768 _ _ a j).trans (sum_sc x0 x1 512 a (show k0_off8 i = _ from offD_eq i) _ _ j))))
    · show _ = diagL x0 x1 (2048 * (i 1).val) M L ((768 + a.val) / 256) (768 + a.val)
      rw [show (768 + a.val) / 256 = 3 by omega]
      exact pieceL M L _ _ 768 _ a _ _ (fun j => (msk_at _ _ _ 768 (by decide) (by decide) a j).trans (masked ((qk1024 _ _ a j).trans (sum_sc x0 x1 768 a (show k0_off10 i = _ from offD_eq i) _ _ j))))
    · show _ = diagL x0 x1 (2048 * (i 1).val) M L ((1024 + a.val) / 256) (1024 + a.val)
      rw [show (1024 + a.val) / 256 = 4 by omega]
      exact pieceL M L _ _ 1024 _ a _ _ (fun j => (msk_at _ _ _ 1024 (by decide) (by decide) a j).trans (masked ((qk1280 _ _ a j).trans (sum_sc x0 x1 1024 a (show k0_off12 i = _ from offD_eq i) _ _ j))))
    · show _ = diagL x0 x1 (2048 * (i 1).val) M L ((1280 + a.val) / 256) (1280 + a.val)
      rw [show (1280 + a.val) / 256 = 5 by omega]
      exact pieceL M L _ _ 1280 _ a _ _ (fun j => (msk_at _ _ _ 1280 (by decide) (by decide) a j).trans (masked ((qk1536 _ _ a j).trans (sum_sc x0 x1 1280 a (show k0_off14 i = _ from offD_eq i) _ _ j))))
    · show _ = diagL x0 x1 (2048 * (i 1).val) M L ((1536 + a.val) / 256) (1536 + a.val)
      rw [show (1536 + a.val) / 256 = 6 by omega]
      exact pieceL M L _ _ 1536 _ a _ _ (fun j => (msk_at _ _ _ 1536 (by decide) (by decide) a j).trans (masked ((qk1792 _ _ a j).trans (sum_sc x0 x1 1536 a (show k0_off16 i = _ from offD_eq i) _ _ j))))
    · show _ = diagL x0 x1 (2048 * (i 1).val) M L ((1792 + a.val) / 256) (1792 + a.val)
      rw [show (1792 + a.val) / 256 = 7 by omega]
      exact pieceL M L _ _ 1792 _ a _ _ (fun j => (msk_at _ _ _ 1792 (by decide) (by decide) a j).trans (masked ((qk2048 _ _ a j).trans (sum_sc x0 x1 1792 a (show k0_off18 i = _ from offD_eq i) _ _ j))))

end Cert.FwdIdeal.Val
end
-- ==== Proof.FwdHost.lean ====
module

public import proofs.«01_k».proof.Proof.FwdBody
public import proofs.«01_k».proof.Proof.Host
public import proofs.«01_k».proof.Proof.Algebra
public import Idealize.ShloMosaic.Lib.Pipeline.ValueKit.Point
public import Idealize.ShloMosaic.Lib.StableHlo.ReadAt

/-! What the forward attention's launch is given, and what each row of a grid point comes to. -/

@[expose] public section

set_option maxRecDepth 16384
noncomputable section

namespace Cert.FwdIdeal.Val

open Cert.FwdIdeal Cert.FwdIdeal.Gen
open Cert.KernelIdeal.Val (row row_val row_fin col256 col128 colV hd128 ln128 hd128_col ln128_col col256_div col256_mod)
open Idealize.ShloMosaic Idealize.ShloMosaic.TcCoe Idealize.ShloMosaic.Tactic
open Idealize.SL Idealize.SL.RA Idealize.SL.Sem
open Idealize.ShloMosaic.Pipeline (Dat Cfg Window)

variable (m : (ℓ : Loc nD τ sig) → Buf (Elt Ideal) ℓ) (c : Dev nD)

/-- The arguments of a run; there is no incoming gradient. -/
def args : Spec.Args where
  qn q h d := m (c.tc.loc main_arg0) (ix3 q h d)
  qr q h d := m (c.tc.loc main_arg1) (ix3 q h d)
  kn q h d := m (c.tc.loc main_arg2) (ix3 q h d)
  kr q d := m (c.tc.loc main_arg3) (ix2 q d)
  v q h d := m (c.tc.loc main_arg4) (ix3 q h d)
  g _ _ _ := 0

/-- The host operations before the launch, as one list. -/
abbrev line : List (HloOp τ sig (Elt Ideal)) :=
  hostOps0 ++ (hostOps0_1 ++ (hostOps0_2 ++ (hostOps0_3 ++ hostOps0_4)))

theorem V_line (b : Ref sig .tc) : V m c b = StableHlo.after line (fun b => m (c, b)) (Proc.devRef .tc b) := by
  unfold V line
  simp only [List.flatten_cons, List.flatten_nil, List.append_nil]

/-! ## The operands -/

/-- The queries. -/
def QC (q : Fin 8192) (h : Fin 8) (d : Fin 256) : EReal := V m c main_v5 (ix2 q (col256 h d))
/-- The keys. -/
def KC (k : Fin 8192) (h : Fin 8) (d : Fin 256) : EReal := V m c main_v9 (ix2 k (col256 h d))
/-- The values. -/
def VC (k : Fin 8192) (h : Fin 8) (d : Fin 128) : EReal := V m c main_v13 (ix2 k (colV h d))

theorem QC_eq (q : Fin 8192) (h : Fin 8) (d : Fin 256) : QC m c q h d = Spec.qc (args m c) h q d := by
  unfold QC
  rw [V_line]
  after_reads_at
  after_reads_at
  have h8 := h.isLt
  unfold Spec.qc
  simp only [col256_div, col256_mod, Spec.zero_eq, h8, true_and]
  rfl

theorem KC_eq (k : Fin 8192) (h : Fin 8) (d : Fin 256) : KC m c k h d = Spec.kc (args m c) h k d := by
  unfold KC
  rw [V_line]
  after_reads_at
  after_reads_at
  have h8 := h.isLt
  unfold Spec.kc
  simp only [col256_div, col256_mod, Spec.zero_eq, h8, true_and]
  rfl

theorem VC_eq (k : Fin 8192) (h : Fin 8) (d : Fin 128) : VC m c k h d = (args m c).v k h d := by
  unfold VC
  rw [V_line]
  after_reads_at
  after_reads_at
  have e : (colV h d).val = 1024 + 128 * h.val + d.val := rfl
  refine (dif_neg (by omega)).trans ?_
  refine congrArg (m (c.tc.loc main_arg4)) (funext fun a => Fin.ext ?_)
  match a with
  | ⟨0, _⟩ => rfl
  | ⟨1, _⟩ => show ((colV h d).val - 1024) / 128 = h.val; omega
  | ⟨2, _⟩ => show ((colV h d).val - 1024) % 128 = d.val; omega

/-! ## The blocks of a grid point -/

/-- The head of a grid point. -/
def headOf (t : Fin cfg0.N) : Fin 8 := ⟨t.val / 4, by have := Nat.lt_of_lt_of_eq t.isLt N_0; omega⟩

/-- The query of a row of a grid point's block. -/
def qryOf (t : Fin cfg0.N) (r : Fin 2048) : Fin 8192 := row (2048 * (t.val % 4) + r.val)

theorem qryOf_val (t : Fin cfg0.N) (r : Fin 2048) : (qryOf t r).val = 2048 * (t.val % 4) + r.val := row_val (by omega)

/-- The query block of a grid point is its number modulo four. -/
theorem coords1 (t : Fin cfg0.N) : (grid0.coords t 1).val = t.val % 4 := by
  have e1 : (grid0.coords t 1).val = t.val / 1 % 4 := Pipeline.Grid.coords_val t 1 (by decide) rfl
  rw [e1, Nat.div_one]

theorem idx_0 : ∀ t : Fin cfg0.N, win0_0.index t = ![t.val % 4, t.val / 4] := (by decide +kernel : ∀ t : Fin grid0.N, win0_0.index t = ![t.val % 4, t.val / 4])
theorem idx_1 : ∀ t : Fin cfg0.N, win0_1.index t = ![0, t.val / 4] := (by decide +kernel : ∀ t : Fin grid0.N, win0_1.index t = ![0, t.val / 4])
theorem idx_2 : ∀ t : Fin cfg0.N, win0_2.index t = ![0, 8 + t.val / 4] := (by decide +kernel : ∀ t : Fin grid0.N, win0_2.index t = ![0, 8 + t.val / 4])
theorem idx_3 : ∀ t : Fin cfg0.N, win0_3.index t = ![t.val % 4, t.val / 4] := (by decide +kernel : ∀ t : Fin grid0.N, win0_3.index t = ![t.val % 4, t.val / 4])
theorem idx_4 : ∀ t : Fin cfg0.N, win0_4.index t = ![t.val % 4, t.val / 4] := (by decide +kernel : ∀ t : Fin grid0.N, win0_4.index t = ![t.val % 4, t.val / 4])

theorem blk_0 (t : Fin cfg0.N) (r : Fin 2048) (d : Fin 256) : iblk m c 0 t (ix2 r d) = QC m c (qryOf t r) (headOf t) d := by
  unfold QC
  blk_simp [iblk]
  refine congrArg _ ?_
  blk_ext [col256, headOf, idx_0 t, qryOf_val]

theorem blk_1 (t : Fin cfg0.N) (k : Fin 8192) (d : Fin 256) : iblk m c 1 t (ix2 k d) = KC m c k (headOf t) d := by
  unfold KC
  blk_simp [iblk]
  refine congrArg _ ?_
  blk_ext [col256, headOf, idx_1 t]

theorem blk_2 (t : Fin cfg0.N) (k : Fin 8192) (d : Fin 128) : iblk m c 2 t (ix2 k d) = VC m c k (headOf t) d := by
  unfold VC
  blk_simp [iblk]
  refine congrArg _ ?_
  blk_ext [colV, headOf, idx_2 t]

/-- The products of a grid point's queries and keys. -/
theorem sc_eq (t : Fin cfg0.N) (r k : ℕ) : sc (iblk m c 0 t) (iblk m c 1 t) r k = Spec.raw (args m c) (headOf t) (qryOf t (r2 r)) (row k) := by
  unfold sc
  rw [← Spec.raw_eq]
  refine Finset.sum_congr rfl fun d _ => ?_
  rw [blk_0, blk_1, QC_eq, KC_eq]

/-- They are real. -/
theorem sc_real (hA : (args m c).RealQK) (t : Fin cfg0.N) :
    ∃ R : ℕ → ℕ → ℝ, ∀ r k, sc (iblk m c 0 t) (iblk m c 1 t) r k = ((R r k : ℝ) : EReal) := by
  have e : ∀ r k, ∃ x : ℝ, sc (iblk m c 0 t) (iblk m c 1 t) r k = (x : EReal) := fun r k => by
    obtain ⟨x, hx⟩ := Spec.raw_real hA.scores (headOf t) (qryOf t (r2 r)) (row k)
    exact ⟨x, (sc_eq m c t r k).trans hx⟩
  choose R hR using e
  exact ⟨R, hR⟩

/-- After the diagonal a row's three numbers are those of all the keys through its query. -/
theorem row_eq (hA : (args m c).RealQK) (t : Fin cfg0.N) {R : ℕ → ℕ → ℝ} (hR : ∀ r k, sc (iblk m c 0 t) (iblk m c 1 t) r k = ((R r k : ℝ) : EReal))
    {M L : S2048x1.Idx → EReal} {A : S2048x128.Idx → EReal} (H : Rows R (iblk m c 2 t) (2048 * (grid0.coords t 1).val) M L A) (r : Fin 2048) :
    (∀ d, Ideal.div (diagA (iblk m c 0 t) (iblk m c 1 t) (iblk m c 2 t) (2048 * (grid0.coords t 1).val) M A (r.val / 256) r.val d)
        (diagL (iblk m c 0 t) (iblk m c 1 t) (2048 * (grid0.coords t 1).val) M L (r.val / 256) r.val) = Spec.o (args m c) (headOf t) (qryOf t r) d)
    ∧ diagM (iblk m c 0 t) (iblk m c 1 t) (2048 * (grid0.coords t 1).val) M (r.val / 256) r.val * Spec.C2
        + Ideal.log (diagL (iblk m c 0 t) (iblk m c 1 t) (2048 * (grid0.coords t 1).val) M L (r.val / 256) r.val) * (((Real.log 2)⁻¹ : ℝ) : EReal)
      = Spec.lse2 (args m c) (headOf t) (qryOf t r) := by
  have D := Rows.diag (iblk m c 0 t) (iblk m c 1 t) (iblk m c 2 t) (2048 * (grid0.coords t 1).val) M L A hR H r
  have n : 2048 * (grid0.coords t 1).val + (r.val + 1) = (qryOf t r).val + 1 := by rw [coords1, qryOf_val]; omega
  rw [n] at D
  refine Spec.upto_eq hA (headOf t) (qryOf t r) (R r.val) (fun k => ?_) (fun n d => iblk m c 2 t (ix2 (row n) d)) (fun k d => ?_) D
  · have e := (sc_eq m c t r.val k.val).symm.trans (hR r.val k.val)
    rwa [r2_fin, row_fin] at e
  · show iblk m c 2 t (ix2 (row k.val) d) = _
    rw [row_fin, blk_2, VC_eq]

end Cert.FwdIdeal.Val
end
-- ==== Proof.FwdArray.lean ====
module

public import proofs.«01_k».proof.Proof.FwdHost

/-! What the forward attention's two result arrays hold after the run. -/

@[expose] public section

set_option maxRecDepth 16384
noncomputable section

namespace Cert.FwdIdeal.Val

open Cert.FwdIdeal Cert.FwdIdeal.Gen
open Cert.KernelIdeal.Val (row col128 hd128 ln128 hd128_col ln128_col)
open Idealize.ShloMosaic Idealize.ShloMosaic.TcCoe Idealize.ShloMosaic.Tactic
open Idealize.SL Idealize.SL.RA Idealize.SL.Sem
open Idealize.ShloMosaic.Pipeline (Dat Cfg Window)

variable (m : (ℓ : Loc nD τ sig) → Buf (Elt Ideal) ℓ) (c : Dev nD)

/-- What the body leaves of the output, at a position of a grid point's block. -/
theorem left_o (hA : (args m c).RealQK) (t : Fin cfg0.N) (a : Fin 2048) (b : Fin 128) :
    ((outsAt0 m c t).1 (ix2 a b) : EReal) = Spec.o (args m c) (headOf t) (qryOf t a) b := by
  obtain ⟨R, hR⟩ := sc_real m c hA t
  obtain ⟨M, L, A, H, e⟩ := out_o c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) (iblk m c 0 t) (iblk m c 1 t) (iblk m c 2 t) R hR
  unfold outsAt0
  dsimp only
  rw [e a b]
  exact (row_eq m c hA t hR H a).1 b

/-- What it leaves of the log-sums. -/
theorem left_lse (hA : (args m c).RealQK) (t : Fin cfg0.N) (a : Fin 2048) (b : Fin 128) :
    ((outsAt0 m c t).2 (ix2 a b) : EReal) = Spec.lse2 (args m c) (headOf t) (qryOf t a) := by
  obtain ⟨R, hR⟩ := sc_real m c hA t
  obtain ⟨M, L, A, H, e⟩ := out_lse c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) (iblk m c 0 t) (iblk m c 1 t) (iblk m c 2 t) R hR
  unfold outsAt0
  dsimp only
  rw [e a b]
  exact (row_eq m c hA t hR H a).2

/-- The attention's output. -/
def outO : S8192x1024.Idx → EReal := fun i => Spec.o (args m c) (hd128 (i 1)) (i 0) (ln128 (i 1))
/-- The rows' log-sums, each on the columns of its head. -/
def outL : S8192x1024.Idx → EReal := fun i => Spec.lse2 (args m c) (hd128 (i 1)) (i 0)

/-- The output's array after the run. -/
theorem final_3 (hA : (args m c).RealQK) : (dats m 0 c).arrAt 3 cfg0.N = outO m c := by
  refine (dats m 0 c).arrAt_eq_of_covers 3 _ (by decide +kernel) fun t hf y => ?_
  have hN : t.val < 32 := Nat.lt_of_lt_of_eq t.isLt N_0
  blk_simp
  rw [after0_3]
  obtain ⟨a, b, rfl⟩ : ∃ (a : Fin 2048) (b : Fin 128), y = ix2 a b := ⟨y 0, y 1, (ix2_eta y).symm⟩
  have he : (win0_3.blk t).view.emb (ix2 a b) = ix2 (qryOf t a) (col128 (headOf t) b) := by
    blk_ext [idx_3 t, col128, headOf, qryOf_val]
  rw [he]
  refine (left_o m c hA t a b).trans ?_
  show _ = Spec.o (args m c) (hd128 (col128 (headOf t) b)) (qryOf t a) (ln128 (col128 (headOf t) b))
  rw [hd128_col, ln128_col]

/-- The log-sums' array after the run. -/
theorem final_4 (hA : (args m c).RealQK) : (dats m 0 c).arrAt 4 cfg0.N = outL m c := by
  refine (dats m 0 c).arrAt_eq_of_covers 4 _ (by decide +kernel) fun t hf y => ?_
  have hN : t.val < 32 := Nat.lt_of_lt_of_eq t.isLt N_0
  blk_simp
  rw [after0_4]
  obtain ⟨a, b, rfl⟩ : ∃ (a : Fin 2048) (b : Fin 128), y = ix2 a b := ⟨y 0, y 1, (ix2_eta y).symm⟩
  have he : (win0_4.blk t).view.emb (ix2 a b) = ix2 (qryOf t a) (col128 (headOf t) b) := by
    blk_ext [idx_4 t, col128, headOf, qryOf_val]
  rw [he]
  refine (left_lse m c hA t a b).trans ?_
  show _ = Spec.lse2 (args m c) (hd128 (col128 (headOf t) b)) (qryOf t a)
  rw [hd128_col]

end Cert.FwdIdeal.Val
end
-- ==== Proof.FwdRef.lean ====
module

public import proofs.«01_k».proof.Proof.Gen.FwdReferenceIdeal.Read
public import proofs.«01_k».proof.Proof.Spec
public import proofs.«01_k».proof.Proof.Host

/-! What the forward attention's reference computes, at a position: the softmax's output and the rows' log-sums. -/

@[expose] public section

set_option maxRecDepth 16384
noncomputable section

namespace Cert.FwdReferenceIdeal.Val

open Cert.FwdReferenceIdeal Cert.FwdReferenceIdeal.Gen Cert.FwdReferenceIdeal.Read
open Cert.KernelIdeal.Val (hd128 ln128 two_eq)
open Idealize.ShloMosaic Idealize.ShloMosaic.TcCoe Idealize.ShloMosaic.Tactic

variable (x0 : (⟨S8192x8x128, .f32⟩ : BufTy).Contents (Elt Ideal)) (x1 : (⟨S8192x8x64, .f32⟩ : BufTy).Contents (Elt Ideal))
  (x2 : (⟨S8192x8x128, .f32⟩ : BufTy).Contents (Elt Ideal)) (x3 : (⟨S8192x64, .f32⟩ : BufTy).Contents (Elt Ideal))
  (x4 : (⟨S8192x8x128, .f32⟩ : BufTy).Contents (Elt Ideal))

/-- The arguments; there is no incoming gradient. -/
def args : Spec.Args where
  qn q h d := x0 (ix3 q h d)
  qr q h d := x1 (ix3 q h d)
  kn q h d := x2 (ix3 q h d)
  kr q d := x3 (ix2 q d)
  v q h d := x4 (ix3 q h d)
  g _ _ _ := 0

/-- The masked scores. -/
theorem v15 (h : Fin 8) (q k : Fin 8192) : (val_main_v15 (F := Ideal) x0 x1 x2 x3 (ix3 h q k) : EReal) = Spec.sc (args x0 x1 x2 x3 x4) h q k := by
  unfold val_main_v15 val_main_call0_v2 val_main_call0_v1 val_main_call0_v0 val_main_cst_0 val_main_v14 val_main_v13 val_main_v12 val_main_v11 val_main_v10 val_main_v9 val_main_v8 val_main_v7 val_main_v6 val_main_v5 val_main_v4 val_main_v3 val_main_v2 val_main_cst val_main_v1 val_main_v0
  pointwise
  rw [Spec.root_eq]
  refine (Spec.sel_le k.val q.val k.isLt q.isLt _ _).trans ?_
  show (if _ then _ else Ideal.ofBits FTy.f32 4286578688#32) = _
  rw [Spec.neg_inf_eq]
  rfl

/-- The log-sums start from the same scores. -/
theorem v42_v15 : val_main_v42 (F := Ideal) x0 x1 x2 x3 = val_main_v15 (F := Ideal) x0 x1 x2 x3 := rfl

/-- A row's greatest entry. -/
theorem max_at (x : FVec Ideal S8x8192x8192 .f32) (c : FVec Ideal S_ .f32) (h : Fin 8) (q : Fin 8192) :
    ((Host.reduce FloatOps.maximumf x c reducesTo_S8x8192x8192_S8x8192_d2 h_S_ : FVec Ideal S8x8192 .f32) (ix2 h q) : EReal)
      = Finset.univ.fold max (c (Shape.Idx.first h_S_) : EReal) fun k : Fin 8192 => (x (ix3 h q k) : EReal) := by
  pointwise

theorem v16 (h : Fin 8) (q : Fin 8192) : (val_main_v16 (F := Ideal) x0 x1 x2 x3 (ix2 h q) : EReal) = Spec.mx (args x0 x1 x2 x3 x4) h q := by
  refine (max_at (val_main_v15 (F := Ideal) x0 x1 x2 x3) (val_main_cst_1 (F := Ideal)) h q).trans ?_
  have b : (val_main_cst_1 (F := Ideal) (Shape.Idx.first h_S_) : EReal) = ⊥ := Spec.neg_inf_eq
  rw [b]
  simp only [v15 x0 x1 x2 x3 x4]
  rfl

/-- The rows' greatest scores. -/
theorem v18 (h : Fin 8) (q : Fin 8192) : (val_main_v18 (F := Ideal) x0 x1 x2 x3 (ix2 h q) : EReal) = Spec.mx (args x0 x1 x2 x3 x4) h q := by
  rw [val_main_v18_apply]
  have b : (val_main_v17 (F := Ideal) (ix2 h q) : EReal) = ⊥ := Spec.neg_inf_eq
  rw [b, v16 x0 x1 x2 x3 x4]
  exact max_eq_right bot_le

/-- The same, for the log-sums. -/
theorem v43 (h : Fin 8) (q : Fin 8192) : (val_main_v43 (F := Ideal) x0 x1 x2 x3 (ix2 h q) : EReal) = Spec.mx (args x0 x1 x2 x3 x4) h q := by
  refine (max_at (val_main_v42 (F := Ideal) x0 x1 x2 x3) (val_main_cst_6 (F := Ideal)) h q).trans ?_
  have b : (val_main_cst_6 (F := Ideal) (Shape.Idx.first h_S_) : EReal) = ⊥ := Spec.neg_inf_eq
  rw [b, v42_v15]
  simp only [v15 x0 x1 x2 x3 x4]
  rfl

/-- The weights before they are normalised. -/
theorem v22 (h : Fin 8) (q k : Fin 8192) : (val_main_v22 (F := Ideal) x0 x1 x2 x3 (ix3 h q k) : EReal) = Spec.ex (args x0 x1 x2 x3 x4) h q k := by
  unfold val_main_v22 val_main_v21 val_main_v20 val_main_v19
  pointwise
  rw [v15 x0 x1 x2 x3 x4, v18 x0 x1 x2 x3 x4]
  rfl

/-- The same, for the log-sums. -/
theorem v47 (h : Fin 8) (q k : Fin 8192) : (val_main_v47 (F := Ideal) x0 x1 x2 x3 (ix3 h q k) : EReal) = Spec.ex (args x0 x1 x2 x3 x4) h q k := by
  unfold val_main_v47 val_main_v46 val_main_v45 val_main_v44
  rw [v42_v15]
  pointwise
  rw [v15 x0 x1 x2 x3 x4, v43 x0 x1 x2 x3 x4]
  rfl

/-- The rows' sums. -/
theorem v23 (h : Fin 8) (q : Fin 8192) : (val_main_v23 (F := Ideal) x0 x1 x2 x3 (ix2 h q) : EReal) = Spec.sm (args x0 x1 x2 x3 x4) h q := by
  unfold val_main_v23 val_main_cst_3
  pointwise
  simp only [v22 x0 x1 x2 x3 x4]
  rfl

/-- The same, for the log-sums. -/
theorem v48 (h : Fin 8) (q : Fin 8192) : (val_main_v48 (F := Ideal) x0 x1 x2 x3 (ix2 h q) : EReal) = Spec.sm (args x0 x1 x2 x3 x4) h q := by
  unfold val_main_v48 val_main_cst_7
  pointwise
  simp only [v47 x0 x1 x2 x3 x4]
  rfl

/-- The softmax. -/
theorem v26 (h : Fin 8) (q k : Fin 8192) : (val_main_v26 (F := Ideal) x0 x1 x2 x3 (ix3 h q k) : EReal) = Spec.p (args x0 x1 x2 x3 x4) h q k := by
  unfold val_main_v26 val_main_v25 val_main_v24
  pointwise
  rw [v22 x0 x1 x2 x3 x4, v23 x0 x1 x2 x3 x4]
  rfl

/-- The softmax's output. -/
theorem v28 (q : Fin 8192) (h : Fin 8) (d : Fin 128) : (val_main_v28 (F := Ideal) x0 x1 x2 x3 x4 (ix3 q h d) : EReal) = Spec.o (args x0 x1 x2 x3 x4) h q d := by
  have e : (val_main_v28 (F := Ideal) x0 x1 x2 x3 x4 (ix3 q h d) : EReal)
      = ∑ k : Fin 8192, (args x0 x1 x2 x3 x4).v k h d * (val_main_v26 (F := Ideal) x0 x1 x2 x3 (ix3 h q k) : EReal) := by
    unfold val_main_v28 val_main_v27
    pointwise
    rfl
  rw [e]
  simp only [v26 x0 x1 x2 x3 x4, mul_comm ((args x0 x1 x2 x3 x4).v _ h d)]
  rfl

/-- The log-sum's arithmetic at a position. -/
theorem lse_at (x y : FVec Ideal S8x8192 .f32) (i : S8x8192.Idx) :
    (Host.divf (addf x (Host.log y)) (broadcastInDim S8x8192 ![] bcast_S_S8x8192 (Host.log (constant S_ .f32 0x40000000#32))) i : EReal)
      = Ideal.div (x i + Ideal.log (y i)) (Ideal.log (Ideal.ofBits FTy.f32 0x40000000#32)) := by
  pointwise

/-- The rows' log-sums. -/
theorem v53 (h : Fin 8) (q : Fin 8192) : (val_main_v53 (F := Ideal) x0 x1 x2 x3 (ix2 h q) : EReal) = Spec.lse2 (args x0 x1 x2 x3 x4) h q := by
  unfold val_main_v53 val_main_v52 val_main_v51 val_main_v50 val_main_v49 val_main_cst_8
  refine (lse_at _ _ _).trans ?_
  rw [v43 x0 x1 x2 x3 x4, v48 x0 x1 x2 x3 x4, two_eq]
  rfl

/-- The first result: the output, its heads side by side. -/
theorem v55 (q : Fin 8192) (x : Fin 1024) : (val_main_v55 (F := Ideal) x0 x1 x2 x3 x4 (ix2 q x) : EReal)
    = Spec.o (args x0 x1 x2 x3 x4) (hd128 x) q (ln128 x) := by
  unfold val_main_v55 val_main_v54
  pointwise
  exact v28 x0 x1 x2 x3 x4 q (hd128 x) (ln128 x)

/-- The second result: each row's log-sum on the columns of its head. -/
theorem v59 (q : Fin 8192) (x : Fin 1024) : (val_main_v59 (F := Ideal) x0 x1 x2 x3 (ix2 q x) : EReal)
    = Spec.lse2 (args x0 x1 x2 x3 x4) (hd128 x) q := by
  unfold val_main_v59 val_main_v58 val_main_v57 val_main_v56
  pointwise
  exact v53 x0 x1 x2 x3 x4 (hd128 x) q

end Cert.FwdReferenceIdeal.Val
end
-- ==== Proof.FwdEqual.lean ====
module

public import proofs.«01_k».proof.Proof.FwdArray
public import proofs.«01_k».proof.Proof.FwdRef
public import proofs.«01_k».proof.Proof.Finite

/-! The forward attention's results are its reference's, where the queries and the keys are real numbers. -/

@[expose] public section

set_option maxRecDepth 16384
noncomputable section

namespace Cert.FwdIdeal.Val

open Cert.FwdIdeal Cert.FwdIdeal.Gen
open Cert.KernelIdeal.Val (fin and_one real_of_fin hd128 ln128)
open Idealize.ShloMosaic Idealize.ShloMosaic.TcCoe
open Idealize.SL Idealize.SL.RA Idealize.SL.Sem
open Cert.FwdReferenceIdeal.Read (val_main_v55 val_main_v59)

variable (m : (ℓ : Loc nD τ sig) → Buf (Elt Ideal) ℓ) (c : Dev nD)

/-- The shapes of the precondition's operations agree. -/
theorem finite_facts : Cert.Pre_finite_scores.Facts where
  bcast_S_S8192x8x128 := by decide
  bcast_S_S8192x8x64 := by decide
  bcast_S_S8192x64 := by decide
  bcast_S8192x64_S8192x1x64_0_2 := by decide
  bcast_S8192x1x64_S8192x8x64_0_1_2 := by decide

attribute [local instance] finite_facts in
/-- Under the precondition the queries and the keys are real. -/
theorem real_of_finite (h : Cert.Pre_FwdIdeal_finite_scores m) (c : Dev nD) : (args m c).RealQK := by
  obtain ⟨h1, h2⟩ := h c
  have a : ∀ q h d, fin ((args m c).qn q h d) &&& fin ((args m c).kn q h d) = 1#1 := fun q h d => congrFun h1 (ix3 q h d)
  have b : ∀ q h d, fin ((args m c).qr q h d) &&& fin ((args m c).kr q d) = 1#1 := by
    intro q h d
    have e := congrFun h2 (ix3 q h d)
    unfold Cert.Pre_finite_scores.fn at e
    pointwise at e
    exact e
  exact ⟨fun q h d => real_of_fin (and_one (a q h d)).1, fun q h d => real_of_fin (and_one (b q h d)).1,
    fun q h d => real_of_fin (and_one (a q h d)).2, fun q d => real_of_fin (and_one (b q 0 d)).2⟩

/-- The output. -/
theorem outO_eq : outO m c = val_main_v55 (F := Ideal) (m (c.tc.loc main_arg0)) (m (c.tc.loc main_arg1)) (m (c.tc.loc main_arg2)) (m (c.tc.loc main_arg3)) (m (c.tc.loc main_arg4)) := by
  funext i
  obtain ⟨q, x, rfl⟩ : ∃ q x, i = ix2 q x := ⟨i 0, i 1, by funext a; fin_cases a <;> rfl⟩
  exact (Cert.FwdReferenceIdeal.Val.v55 _ _ _ _ _ q x).symm

/-- The log-sums. -/
theorem outL_eq : outL m c = val_main_v59 (F := Ideal) (m (c.tc.loc main_arg0)) (m (c.tc.loc main_arg1)) (m (c.tc.loc main_arg2)) (m (c.tc.loc main_arg3)) := by
  funext i
  obtain ⟨q, x, rfl⟩ : ∃ q x, i = ix2 q x := ⟨i 0, i 1, by funext a; fin_cases a <;> rfl⟩
  exact (Cert.FwdReferenceIdeal.Val.v59 _ _ _ _ (m (c.tc.loc main_arg4)) q x).symm

/-- The run: what the result arrays hold at its end, with the arguments as they were. -/
theorem run (hA : ∀ c, (args m c).RealQK) (ρ : Dev nD → PrngReg) : θ_run defs (onTc (τ := τ) (main (F := Ideal))) ⟨m, fun _ => 0, ρ⟩ (fun r => ∀ c : Dev nD,
      r.2.mem ((c.tc : Thread nD τ).loc main_v14_0) = outO m c
      ∧ r.2.mem ((c.tc : Thread nD τ).loc main_v14_1) = outL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 3).trans (final_3 m c (hA c)), ((h.1 c).1 4).trans (final_4 m c (hA c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩)
    (run_main_quiescent m ρ)

end Cert.FwdIdeal.Val
end
-- ==== Proof.Proj.lean ====
module

public import proofs.«01_k».proof.Proof.Gen.ProjIdeal.Value
public import proofs.«01_k».proof.Proof.Gen.ProjReferenceIdeal
public import Idealize.ShloMosaic.Lib.Pipeline.ValueKit
public import Idealize.ShloMosaic.Lib.Pipeline.ValueKit.Point
public import Idealize.ShloMosaic.Lib.Pointwise
public import Idealize.ShloMosaic.Lib.StableHlo.ReadAt

/-! What the call leaves in its result array, the product with w_in, and that the reference's product is the same. -/

@[expose] public section

set_option maxRecDepth 16384
noncomputable section

namespace Cert.ProjIdeal.Val

open Cert.ProjIdeal Cert.ProjIdeal.Gen
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The product's array. -/
def left : S8192x2048.Idx → EReal := m (c.tc.loc main_arg0)
/-- The weight. -/
def right : S2048x4608.Idx → EReal := m (c.tc.loc main_arg1)

/-- The sum over the weight's rows. -/
def prod (x : S8192x2048.Idx → EReal) (y : S2048x4608.Idx → EReal) : S8192x4608.Idx → EReal := fun i => ∑ k : Fin 2048, x (ix2 (i 0) k) * y (ix2 k (i 1))

/-- The launch is given the operands. -/
theorem left_eq : V m c main_v0 = left m c := by
  funext i
  after_reads_at
  rfl
theorem right_eq : V m c main_v1 = right m c := by
  funext i
  after_reads_at
  rfl

theorem idx_0 : ∀ t : Fin cfg0.N, win0_0.index t = ![t.val % 8, 0] := (by decide +kernel : ∀ t : Fin grid0.N, win0_0.index t = ![t.val % 8, 0])
theorem idx_1 : ∀ t : Fin cfg0.N, win0_1.index t = ![0, t.val / 8] := (by decide +kernel : ∀ t : Fin grid0.N, win0_1.index t = ![0, t.val / 8])
theorem idx_2 : ∀ t : Fin cfg0.N, win0_2.index t = ![t.val % 8, t.val / 8] := (by decide +kernel : ∀ t : Fin grid0.N, win0_2.index t = ![t.val % 8, t.val / 8])

/-- The result's row at a row of a grid point's result block. -/
def rowOf (t : Fin cfg0.N) (a : Fin 1024) : Fin 8192 := ⟨1024 * (t.val % 8) + a.val, by have := Nat.lt_of_lt_of_eq t.isLt N_0; omega⟩
/-- The result's column at a column of a grid point's result block. -/
def colOf (t : Fin cfg0.N) (b : Fin 768) : Fin 4608 := ⟨768 * (t.val / 8) + b.val, by have := Nat.lt_of_lt_of_eq t.isLt N_0; omega⟩

theorem blk_0 (t : Fin cfg0.N) (a : Fin 1024) (k : Fin 2048) : iblk m c 0 t (ix2 a k) = left m c (ix2 (rowOf t a) k) := by
  rw [← left_eq]
  blk_simp [iblk]
  refine congrArg _ ?_
  blk_ext [rowOf, idx_0 t]

theorem blk_1 (t : Fin cfg0.N) (b : Fin 768) (k : Fin 2048) : iblk m c 1 t (ix2 k b) = right m c (ix2 k (colOf t b)) := by
  rw [← right_eq]
  blk_simp [iblk]
  refine congrArg _ ?_
  blk_ext [colOf, idx_1 t]

/-- What the body makes of two blocks. -/
theorem out_at (x : S1024x2048.Idx → EReal) (y : S2048x768.Idx → EReal) (a : Fin 1024) (b : Fin 768) :
    out0_2 (F := Ideal) x y (ix2 a b) = ∑ k : Fin 2048, x (ix2 a k) * y (ix2 k b) := by
  unfold out0_2
  rw [View.canon_cons_unit_lit _ _ _ (by decide), View.ld_unit_lit _ _ (by decide), View.ld_unit_lit _ _ (by decide)]
  unfold k0_pay1
  pointwise

/-- The result array after the run. -/
theorem final : (dats m 0 c).arrAt 2 cfg0.N = prod (left m c) (right m c) := by
  refine (dats m 0 c).arrAt_eq_of_covers 2 _ (by decide +kernel) fun t hf y => ?_
  have hN := Nat.lt_of_lt_of_eq t.isLt N_0
  blk_simp
  rw [after0_2]
  obtain ⟨a, b, rfl⟩ : ∃ (a : Fin 1024) (b : Fin 768), y = ix2 a b := ⟨y 0, y 1, (ix2_eta y).symm⟩
  have he : (win0_2.blk t).view.emb (ix2 a b) = ix2 (rowOf t a) (colOf t b) := by
    blk_ext [idx_2 t, rowOf, colOf]
  rw [he]
  refine (out_at _ _ a b).trans (Finset.sum_congr rfl fun k _ => ?_)
  rw [blk_0, blk_1]
  rfl

end Cert.ProjIdeal.Val

namespace Cert.ProjReferenceIdeal.Val

open Cert.ProjReferenceIdeal Cert.ProjReferenceIdeal.Gen
open Idealize.ShloMosaic Idealize.ShloMosaic.TcCoe Idealize.ShloMosaic.Tactic

/-- The reference's result. -/
theorem prod_eq (x : S8192x2048.Idx → EReal) (y : S2048x4608.Idx → EReal) :
    Host.dotGeneral (F := Ideal) (φ₁ := .f32) (φ₂ := .f32) dot_S8192x2048_S2048x4608_S8192x4608_1_0_0_1_n_n none x y = Cert.ProjIdeal.Val.prod x y := by
  funext i
  pointwise
  rfl

end Cert.ProjReferenceIdeal.Val
-- ==== Proof.Q.lean ====
module

public import proofs.«01_k».proof.Proof.Gen.QIdeal.Value
public import proofs.«01_k».proof.Proof.Gen.QReferenceIdeal
public import Idealize.ShloMosaic.Lib.Pipeline.ValueKit
public import Idealize.ShloMosaic.Lib.Pipeline.ValueKit.Point
public import Idealize.ShloMosaic.Lib.Pointwise
public import Idealize.ShloMosaic.Lib.StableHlo.ReadAt

/-! What the call leaves in its result array, the product with w_uq, and that the reference's product is the same. -/

@[expose] public section

set_option maxRecDepth 16384
noncomputable section

namespace Cert.QIdeal.Val

open Cert.QIdeal Cert.QIdeal.Gen
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The product's array. -/
def left : S8192x768.Idx → EReal := m (c.tc.loc main_arg0)
/-- The weight. -/
def right : S768x2048.Idx → EReal := m (c.tc.loc main_arg1)

/-- The sum over the weight's rows. -/
def prod (x : S8192x768.Idx → EReal) (y : S768x2048.Idx → EReal) : S8192x2048.Idx → EReal := fun i => ∑ k : Fin 768, x (ix2 (i 0) k) * y (ix2 k (i 1))

/-- The launch is given the operands. -/
theorem left_eq : V m c main_v0 = left m c := by
  funext i
  after_reads_at
  rfl
theorem right_eq : V m c main_v1 = right m c := by
  funext i
  after_reads_at
  rfl

theorem idx_0 : ∀ t : Fin cfg0.N, win0_0.index t = ![t.val / 2, 0] := (by decide +kernel : ∀ t : Fin grid0.N, win0_0.index t = ![t.val / 2, 0])
theorem idx_1 : ∀ t : Fin cfg0.N, win0_1.index t = ![0, t.val % 2] := (by decide +kernel : ∀ t : Fin grid0.N, win0_1.index t = ![0, t.val % 2])
theorem idx_2 : ∀ t : Fin cfg0.N, win0_2.index t = ![t.val / 2, t.val % 2] := (by decide +kernel : ∀ t : Fin grid0.N, win0_2.index t = ![t.val / 2, t.val % 2])

/-- The result's row at a row of a grid point's result block. -/
def rowOf (t : Fin cfg0.N) (a : Fin 1024) : Fin 8192 := ⟨1024 * (t.val / 2) + a.val, by have := Nat.lt_of_lt_of_eq t.isLt N_0; omega⟩
/-- The result's column at a column of a grid point's result block. -/
def colOf (t : Fin cfg0.N) (b : Fin 1024) : Fin 2048 := ⟨1024 * (t.val % 2) + b.val, by have := Nat.lt_of_lt_of_eq t.isLt N_0; omega⟩

theorem blk_0 (t : Fin cfg0.N) (a : Fin 1024) (k : Fin 768) : iblk m c 0 t (ix2 a k) = left m c (ix2 (rowOf t a) k) := by
  rw [← left_eq]
  blk_simp [iblk]
  refine congrArg _ ?_
  blk_ext [rowOf, idx_0 t]

theorem blk_1 (t : Fin cfg0.N) (b : Fin 1024) (k : Fin 768) : iblk m c 1 t (ix2 k b) = right m c (ix2 k (colOf t b)) := by
  rw [← right_eq]
  blk_simp [iblk]
  refine congrArg _ ?_
  blk_ext [colOf, idx_1 t]

/-- What the body makes of two blocks. -/
theorem out_at (x : S1024x768.Idx → EReal) (y : S768x1024.Idx → EReal) (a : Fin 1024) (b : Fin 1024) :
    out0_2 (F := Ideal) x y (ix2 a b) = ∑ k : Fin 768, x (ix2 a k) * y (ix2 k b) := by
  unfold out0_2
  rw [View.canon_cons_unit_lit _ _ _ (by decide), View.ld_unit_lit _ _ (by decide), View.ld_unit_lit _ _ (by decide)]
  unfold k0_pay1
  pointwise

/-- The result array after the run. -/
theorem final : (dats m 0 c).arrAt 2 cfg0.N = prod (left m c) (right m c) := by
  refine (dats m 0 c).arrAt_eq_of_covers 2 _ (by decide +kernel) fun t hf y => ?_
  have hN := Nat.lt_of_lt_of_eq t.isLt N_0
  blk_simp
  rw [after0_2]
  obtain ⟨a, b, rfl⟩ : ∃ (a : Fin 1024) (b : Fin 1024), y = ix2 a b := ⟨y 0, y 1, (ix2_eta y).symm⟩
  have he : (win0_2.blk t).view.emb (ix2 a b) = ix2 (rowOf t a) (colOf t b) := by
    blk_ext [idx_2 t, rowOf, colOf]
  rw [he]
  refine (out_at _ _ a b).trans (Finset.sum_congr rfl fun k _ => ?_)
  rw [blk_0, blk_1]
  rfl

end Cert.QIdeal.Val

namespace Cert.QReferenceIdeal.Val

open Cert.QReferenceIdeal Cert.QReferenceIdeal.Gen
open Idealize.ShloMosaic Idealize.ShloMosaic.TcCoe Idealize.ShloMosaic.Tactic

/-- The reference's result. -/
theorem prod_eq (x : S8192x768.Idx → EReal) (y : S768x2048.Idx → EReal) :
    Host.dotGeneral (F := Ideal) (φ₁ := .f32) (φ₂ := .f32) dot_S8192x768_S768x2048_S8192x2048_1_0_0_1_n_n none x y = Cert.QIdeal.Val.prod x y := by
  funext i
  pointwise
  rfl

end Cert.QReferenceIdeal.Val
-- ==== Proof.Kv.lean ====
module

public import proofs.«01_k».proof.Proof.Gen.KvIdeal.Value
public import proofs.«01_k».proof.Proof.Gen.KvReferenceIdeal
public import Idealize.ShloMosaic.Lib.Pipeline.ValueKit
public import Idealize.ShloMosaic.Lib.Pipeline.ValueKit.Point
public import Idealize.ShloMosaic.Lib.Pointwise
public import Idealize.ShloMosaic.Lib.StableHlo.ReadAt

/-! What the call leaves in its result array, the product with w_ukv, and that the reference's product is the same. -/

@[expose] public section

set_option maxRecDepth 16384
noncomputable section

namespace Cert.KvIdeal.Val

open Cert.KvIdeal Cert.KvIdeal.Gen
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The product's array. -/
def left : S8192x512.Idx → EReal := m (c.tc.loc main_arg0)
/-- The weight. -/
def right : S512x2048.Idx → EReal := m (c.tc.loc main_arg1)

/-- The sum over the weight's rows. -/
def prod (x : S8192x512.Idx → EReal) (y : S512x2048.Idx → EReal) : S8192x2048.Idx → EReal := fun i => ∑ k : Fin 512, x (ix2 (i 0) k) * y (ix2 k (i 1))

/-- The launch is given the operands. -/
theorem left_eq : V m c main_v0 = left m c := by
  funext i
  after_reads_at
  rfl
theorem right_eq : V m c main_v1 = right m c := by
  funext i
  after_reads_at
  rfl

theorem idx_0 : ∀ t : Fin cfg0.N, win0_0.index t = ![t.val / 2, 0] := (by decide +kernel : ∀ t : Fin grid0.N, win0_0.index t = ![t.val / 2, 0])
theorem idx_1 : ∀ t : Fin cfg0.N, win0_1.index t = ![0, t.val % 2] := (by decide +kernel : ∀ t : Fin grid0.N, win0_1.index t = ![0, t.val % 2])
theorem idx_2 : ∀ t : Fin cfg0.N, win0_2.index t = ![t.val / 2, t.val % 2] := (by decide +kernel : ∀ t : Fin grid0.N, win0_2.index t = ![t.val / 2, t.val % 2])

/-- The result's row at a row of a grid point's result block. -/
def rowOf (t : Fin cfg0.N) (a : Fin 1024) : Fin 8192 := ⟨1024 * (t.val / 2) + a.val, by have := Nat.lt_of_lt_of_eq t.isLt N_0; omega⟩
/-- The result's column at a column of a grid point's result block. -/
def colOf (t : Fin cfg0.N) (b : Fin 1024) : Fin 2048 := ⟨1024 * (t.val % 2) + b.val, by have := Nat.lt_of_lt_of_eq t.isLt N_0; omega⟩

theorem blk_0 (t : Fin cfg0.N) (a : Fin 1024) (k : Fin 512) : iblk m c 0 t (ix2 a k) = left m c (ix2 (rowOf t a) k) := by
  rw [← left_eq]
  blk_simp [iblk]
  refine congrArg _ ?_
  blk_ext [rowOf, idx_0 t]

theorem blk_1 (t : Fin cfg0.N) (b : Fin 1024) (k : Fin 512) : iblk m c 1 t (ix2 k b) = right m c (ix2 k (colOf t b)) := by
  rw [← right_eq]
  blk_simp [iblk]
  refine congrArg _ ?_
  blk_ext [colOf, idx_1 t]

/-- What the body makes of two blocks. -/
theorem out_at (x : S1024x512.Idx → EReal) (y : S512x1024.Idx → EReal) (a : Fin 1024) (b : Fin 1024) :
    out0_2 (F := Ideal) x y (ix2 a b) = ∑ k : Fin 512, x (ix2 a k) * y (ix2 k b) := by
  unfold out0_2
  rw [View.canon_cons_unit_lit _ _ _ (by decide), View.ld_unit_lit _ _ (by decide), View.ld_unit_lit _ _ (by decide)]
  unfold k0_pay1
  pointwise

/-- The result array after the run. -/
theorem final : (dats m 0 c).arrAt 2 cfg0.N = prod (left m c) (right m c) := by
  refine (dats m 0 c).arrAt_eq_of_covers 2 _ (by decide +kernel) fun t hf y => ?_
  have hN := Nat.lt_of_lt_of_eq t.isLt N_0
  blk_simp
  rw [after0_2]
  obtain ⟨a, b, rfl⟩ : ∃ (a : Fin 1024) (b : Fin 1024), y = ix2 a b := ⟨y 0, y 1, (ix2_eta y).symm⟩
  have he : (win0_2.blk t).view.emb (ix2 a b) = ix2 (rowOf t a) (colOf t b) := by
    blk_ext [idx_2 t, rowOf, colOf]
  rw [he]
  refine (out_at _ _ a b).trans (Finset.sum_congr rfl fun k _ => ?_)
  rw [blk_0, blk_1]
  rfl

end Cert.KvIdeal.Val

namespace Cert.KvReferenceIdeal.Val

open Cert.KvReferenceIdeal Cert.KvReferenceIdeal.Gen
open Idealize.ShloMosaic Idealize.ShloMosaic.TcCoe Idealize.ShloMosaic.Tactic

/-- The reference's result. -/
theorem prod_eq (x : S8192x512.Idx → EReal) (y : S512x2048.Idx → EReal) :
    truncf (F := Ideal) .bf16 (Host.dotGeneral (F := Ideal) (φ₁ := .f32) (φ₂ := .f32) dot_S8192x512_S512x2048_S8192x2048_1_0_0_1_n_n none x y) bitsLt_bf16_f32 = Cert.KvIdeal.Val.prod x y := by
  funext i
  pointwise
  rfl

end Cert.KvReferenceIdeal.Val
-- ==== Proof.Mix.lean ====
module

public import proofs.«01_k».proof.Proof.Gen.MixIdeal.Value
public import proofs.«01_k».proof.Proof.Gen.MixReferenceIdeal
public import Idealize.ShloMosaic.Lib.Pipeline.ValueKit
public import Idealize.ShloMosaic.Lib.Pipeline.ValueKit.Point
public import Idealize.ShloMosaic.Lib.Pointwise
public import Idealize.ShloMosaic.Lib.StableHlo.ReadAt

/-! What the call leaves in its result array, the product with w_o, and that the reference's product is the same. -/

@[expose] public section

set_option maxRecDepth 16384
noncomputable section

namespace Cert.MixIdeal.Val

open Cert.MixIdeal Cert.MixIdeal.Gen
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The product's array. -/
def left : S8192x2048.Idx → EReal := m (c.tc.loc main_arg0)
/-- The weight. -/
def right : S2048x2048.Idx → EReal := m (c.tc.loc main_arg1)

/-- The sum over the weight's rows. -/
def prod (x : S8192x2048.Idx → EReal) (y : S2048x2048.Idx → EReal) : S8192x2048.Idx → EReal := fun i => ∑ k : Fin 2048, x (ix2 (i 0) k) * y (ix2 k (i 1))

/-- The launch is given the operands. -/
theorem left_eq : V m c main_v0 = left m c := by
  funext i
  after_reads_at
  rfl
theorem right_eq : V m c main_v1 = right m c := by
  funext i
  after_reads_at
  rfl

theorem idx_0 : ∀ t : Fin cfg0.N, win0_0.index t = ![t.val / 2, 0] := (by decide +kernel : ∀ t : Fin grid0.N, win0_0.index t = ![t.val / 2, 0])
theorem idx_1 : ∀ t : Fin cfg0.N, win0_1.index t = ![0, t.val % 2] := (by decide +kernel : ∀ t : Fin grid0.N, win0_1.index t = ![0, t.val % 2])
theorem idx_2 : ∀ t : Fin cfg0.N, win0_2.index t = ![t.val / 2, t.val % 2] := (by decide +kernel : ∀ t : Fin grid0.N, win0_2.index t = ![t.val / 2, t.val % 2])

/-- The result's row at a row of a grid point's result block. -/
def rowOf (t : Fin cfg0.N) (a : Fin 1024) : Fin 8192 := ⟨1024 * (t.val / 2) + a.val, by have := Nat.lt_of_lt_of_eq t.isLt N_0; omega⟩
/-- The result's column at a column of a grid point's result block. -/
def colOf (t : Fin cfg0.N) (b : Fin 1024) : Fin 2048 := ⟨1024 * (t.val % 2) + b.val, by have := Nat.lt_of_lt_of_eq t.isLt N_0; omega⟩

theorem blk_0 (t : Fin cfg0.N) (a : Fin 1024) (k : Fin 2048) : iblk m c 0 t (ix2 a k) = left m c (ix2 (rowOf t a) k) := by
  rw [← left_eq]
  blk_simp [iblk]
  refine congrArg _ ?_
  blk_ext [rowOf, idx_0 t]

theorem blk_1 (t : Fin cfg0.N) (b : Fin 1024) (k : Fin 2048) : iblk m c 1 t (ix2 k b) = right m c (ix2 k (colOf t b)) := by
  rw [← right_eq]
  blk_simp [iblk]
  refine congrArg _ ?_
  blk_ext [colOf, idx_1 t]

/-- What the body makes of two blocks. -/
theorem out_at (x : S1024x2048.Idx → EReal) (y : S2048x1024.Idx → EReal) (a : Fin 1024) (b : Fin 1024) :
    out0_2 (F := Ideal) x y (ix2 a b) = ∑ k : Fin 2048, x (ix2 a k) * y (ix2 k b) := by
  unfold out0_2
  rw [View.canon_cons_unit_lit _ _ _ (by decide), View.ld_unit_lit _ _ (by decide), View.ld_unit_lit _ _ (by decide)]
  unfold k0_pay1
  pointwise

/-- The result array after the run. -/
theorem final : (dats m 0 c).arrAt 2 cfg0.N = prod (left m c) (right m c) := by
  refine (dats m 0 c).arrAt_eq_of_covers 2 _ (by decide +kernel) fun t hf y => ?_
  have hN := Nat.lt_of_lt_of_eq t.isLt N_0
  blk_simp
  rw [after0_2]
  obtain ⟨a, b, rfl⟩ : ∃ (a : Fin 1024) (b : Fin 1024), y = ix2 a b := ⟨y 0, y 1, (ix2_eta y).symm⟩
  have he : (win0_2.blk t).view.emb (ix2 a b) = ix2 (rowOf t a) (colOf t b) := by
    blk_ext [idx_2 t, rowOf, colOf]
  rw [he]
  refine (out_at _ _ a b).trans (Finset.sum_congr rfl fun k _ => ?_)
  rw [blk_0, blk_1]
  rfl

end Cert.MixIdeal.Val

namespace Cert.MixReferenceIdeal.Val

open Cert.MixReferenceIdeal Cert.MixReferenceIdeal.Gen
open Idealize.ShloMosaic Idealize.ShloMosaic.TcCoe Idealize.ShloMosaic.Tactic

/-- The reference's result. -/
theorem prod_eq (x : S8192x2048.Idx → EReal) (y : S2048x2048.Idx → EReal) :
    Host.dotGeneral (F := Ideal) (φ₁ := .f32) (φ₂ := .f32) dot_S8192x2048_S2048x2048_S8192x2048_1_0_0_1_n_n none x y = Cert.MixIdeal.Val.prod x y := by
  funext i
  pointwise
  rfl

end Cert.MixReferenceIdeal.Val
-- ==== Proof.Up.lean ====
module

public import proofs.«01_k».proof.Proof.Gen.UpIdeal.Value
public import proofs.«01_k».proof.Proof.Gen.UpReferenceIdeal
public import Idealize.ShloMosaic.Lib.Pipeline.ValueKit
public import Idealize.ShloMosaic.Lib.Pipeline.ValueKit.Point
public import Idealize.ShloMosaic.Lib.Pointwise
public import Idealize.ShloMosaic.Lib.StableHlo.ReadAt

/-! What the call leaves in its result array, the product with w_up, and that the reference's product is the same. -/

@[expose] public section

set_option maxRecDepth 16384
noncomputable section

namespace Cert.UpIdeal.Val

open Cert.UpIdeal Cert.UpIdeal.Gen
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The product's array. -/
def left : S8192x2048.Idx → EReal := m (c.tc.loc main_arg0)
/-- The weight. -/
def right : S2048x11264.Idx → EReal := m (c.tc.loc main_arg1)

/-- The column of the product at a column of the call's result: the blocks of the two halves take turns. -/
def source (j : Fin 11264) : Fin 11264 := ⟨5632 * (j.val / 1408 % 2) + 1408 * (j.val / 2816) + j.val % 1408, by omega⟩

/-- The sum over the weight's rows. -/
def prod (x : S8192x2048.Idx → EReal) (y : S2048x11264.Idx → EReal) : S8192x11264.Idx → EReal := fun i => ∑ k : Fin 2048, x (ix2 (i 0) k) * y (ix2 k (source (i 1)))

/-- The place of a column among a chip's. -/
def joined (s : Fin 4) (u : Fin 2816) : Fin 11264 := ⟨2816 * s.val + u.val, by omega⟩

/-- The launch is given the operands. -/
theorem left_eq : V m c main_v0 = left m c := by
  funext i
  after_reads_at
  rfl
theorem right_at (s : Fin 4) (k : Fin 2048) (u : Fin 2816) : V m c main_v3 (ix3 s k u) = right m c (ix2 k (joined s u)) := by
  after_reads_at
  refine congrArg (fun z => right m c (ix2 k z)) (Fin.ext ?_)
  show s.val * 2816 + u.val = 2816 * s.val + u.val
  omega

theorem idx_0 : ∀ t : Fin cfg0.N, win0_0.index t = ![t.val % 8, 0] := (by decide +kernel : ∀ t : Fin grid0.N, win0_0.index t = ![t.val % 8, 0])
theorem idx_1 : ∀ t : Fin cfg0.N, win0_1.index t = ![(t.val / 8 % 2 * 4 + t.val / 8 / 2) / 2, 0, (t.val / 8 % 2 * 4 + t.val / 8 / 2) % 2] := (by decide +kernel : ∀ t : Fin grid0.N, win0_1.index t = ![(t.val / 8 % 2 * 4 + t.val / 8 / 2) / 2, 0, (t.val / 8 % 2 * 4 + t.val / 8 / 2) % 2])
theorem idx_2 : ∀ t : Fin cfg0.N, win0_2.index t = ![t.val % 8, t.val / 8] := (by decide +kernel : ∀ t : Fin grid0.N, win0_2.index t = ![t.val % 8, t.val / 8])

/-- The result's row at a row of a grid point's result block. -/
def rowOf (t : Fin cfg0.N) (a : Fin 1024) : Fin 8192 := ⟨1024 * (t.val % 8) + a.val, by have := Nat.lt_of_lt_of_eq t.isLt N_0; omega⟩
/-- The result's column at a column of a grid point's result block. -/
def colOf (t : Fin cfg0.N) (b : Fin 1408) : Fin 11264 := ⟨1408 * (t.val / 8) + b.val, by have := Nat.lt_of_lt_of_eq t.isLt N_0; omega⟩

theorem blk_0 (t : Fin cfg0.N) (a : Fin 1024) (k : Fin 2048) : iblk m c 0 t (ix2 a k) = left m c (ix2 (rowOf t a) k) := by
  rw [← left_eq]
  blk_simp [iblk]
  refine congrArg _ ?_
  blk_ext [rowOf, idx_0 t]

theorem blk_1 (t : Fin cfg0.N) (b : Fin 1408) (k : Fin 2048) : iblk m c 1 t (ix3 0 k b) = right m c (ix2 k (source (colOf t b))) := by
  have hN := Nat.lt_of_lt_of_eq t.isLt N_0
  have hj : joined ⟨(t.val / 8 % 2 * 4 + t.val / 8 / 2) / 2, by omega⟩ ⟨1408 * ((t.val / 8 % 2 * 4 + t.val / 8 / 2) % 2) + b.val, by omega⟩ = source (colOf t b) := by
    refine Fin.ext ?_
    show 2816 * ((t.val / 8 % 2 * 4 + t.val / 8 / 2) / 2) + (1408 * ((t.val / 8 % 2 * 4 + t.val / 8 / 2) % 2) + b.val) = 5632 * ((1408 * (t.val / 8) + b.val) / 1408 % 2) + 1408 * ((1408 * (t.val / 8) + b.val) / 2816) + (1408 * (t.val / 8) + b.val) % 1408
    have hq : t.val / 8 < 8 := by omega
    generalize t.val / 8 = q at hq ⊢
    rw [show (1408 * q + b.val) / 1408 = q by omega, show (1408 * q + b.val) / 2816 = q / 2 by omega, show (1408 * q + b.val) % 1408 = b.val by omega]
    omega
  rw [← hj, ← right_at]
  blk_simp [iblk]
  refine congrArg _ ?_
  blk_ext [idx_1 t]

/-- What the body makes of two blocks. -/
theorem out_at (x : S1024x2048.Idx → EReal) (y : S1x2048x1408.Idx → EReal) (a : Fin 1024) (b : Fin 1408) :
    out0_2 (F := Ideal) x y (ix2 a b) = ∑ k : Fin 2048, x (ix2 a k) * y (ix3 0 k b) := by
  unfold out0_2
  rw [View.canon_cons_unit_lit _ _ _ (by decide), View.ld_unit_lit _ _ (by decide), View.ld_unit_lit _ _ (by decide)]
  unfold k0_pay1
  pointwise
/-- The result array after the run. -/
theorem final : (dats m 0 c).arrAt 2 cfg0.N = prod (left m c) (right m c) := by
  refine (dats m 0 c).arrAt_eq_of_covers 2 _ (by decide +kernel) fun t hf y => ?_
  have hN := Nat.lt_of_lt_of_eq t.isLt N_0
  blk_simp
  rw [after0_2]
  obtain ⟨a, b, rfl⟩ : ∃ (a : Fin 1024) (b : Fin 1408), y = ix2 a b := ⟨y 0, y 1, (ix2_eta y).symm⟩
  have he : (win0_2.blk t).view.emb (ix2 a b) = ix2 (rowOf t a) (colOf t b) := by
    blk_ext [idx_2 t, rowOf, colOf]
  rw [he]
  refine (out_at _ _ a b).trans (Finset.sum_congr rfl fun k _ => ?_)
  rw [blk_0, blk_1]
  rfl

end Cert.UpIdeal.Val

namespace Cert.UpReferenceIdeal.Val

open Cert.UpReferenceIdeal Cert.UpReferenceIdeal.Gen
open Idealize.ShloMosaic Idealize.ShloMosaic.TcCoe Idealize.ShloMosaic.Tactic

/-- The reference's result. -/
theorem prod_eq (x : S8192x2048.Idx → EReal) (y : S2048x11264.Idx → EReal) :
    (shapeCast S8192x11264 (transpose S8192x4x2x1408 [0, 2, 1, 3] (shapeCast S8192x2x4x1408
        (Host.dotGeneral (F := Ideal) (φ₁ := .f32) (φ₂ := .f32) dot_S8192x2048_S2048x11264_S8192x11264_1_0_0_1_n_n none x y)
        shapeCasts_S8192x11264_S8192x2x4x1408) transposes_S8192x2x4x1408_S8192x4x2x1408_0_2_1_3) shapeCasts_S8192x4x2x1408_S8192x11264 : S8192x11264.Idx → EReal)
      = Cert.UpIdeal.Val.prod x y := by
  funext i
  obtain ⟨a, j, rfl⟩ : ∃ (a : Fin 8192) (j : Fin 11264), i = ix2 a j := ⟨i 0, i 1, (ix2_eta i).symm⟩
  pointwise
  refine Finset.sum_congr rfl fun k _ => congrArg (fun z => x (ix2 a k) * y (ix2 k z)) (Fin.ext ?_)
  show j.val / 1408 % 2 * 5632 + j.val / 2816 * 1408 + j.val % 1408 = 5632 * (j.val / 1408 % 2) + 1408 * (j.val / 2816) + j.val % 1408
  omega

end Cert.UpReferenceIdeal.Val
-- ==== Proof.Down.lean ====
module

public import proofs.«01_k».proof.Proof.Gen.DownIdeal.Value
public import proofs.«01_k».proof.Proof.Gen.DownReferenceIdeal
public import Idealize.ShloMosaic.Lib.Pipeline.ValueKit
public import Idealize.ShloMosaic.Lib.Pipeline.ValueKit.Point
public import Idealize.ShloMosaic.Lib.Pointwise
public import Idealize.ShloMosaic.Lib.StableHlo.ReadAt

/-! What the call leaves in its result array, the product with w_down, and that the reference's product is the same. -/

@[expose] public section

set_option maxRecDepth 16384
noncomputable section

namespace Cert.DownIdeal.Val

open Cert.DownIdeal Cert.DownIdeal.Gen
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The product's array. -/
def left : S8192x5632.Idx → EReal := m (c.tc.loc main_arg0)
/-- The weight. -/
def right : S5632x2048.Idx → EReal := m (c.tc.loc main_arg1)

/-- The sum over the weight's rows. -/
def prod (x : S8192x5632.Idx → EReal) (y : S5632x2048.Idx → EReal) : S8192x2048.Idx → EReal := fun i => ∑ k : Fin 5632, x (ix2 (i 0) k) * y (ix2 k (i 1))

/-- The launch is given the operands. -/
theorem left_eq : V m c main_v0 = left m c := by
  funext i
  after_reads_at
  rfl
theorem right_eq : V m c main_v1 = right m c := by
  funext i
  after_reads_at
  rfl

theorem idx_0 : ∀ t : Fin cfg0.N, win0_0.index t = ![t.val % 16, 0] := (by decide +kernel : ∀ t : Fin grid0.N, win0_0.index t = ![t.val % 16, 0])
theorem idx_1 : ∀ t : Fin cfg0.N, win0_1.index t = ![0, t.val / 16] := (by decide +kernel : ∀ t : Fin grid0.N, win0_1.index t = ![0, t.val / 16])
theorem idx_2 : ∀ t : Fin cfg0.N, win0_2.index t = ![t.val % 16, t.val / 16] := (by decide +kernel : ∀ t : Fin grid0.N, win0_2.index t = ![t.val % 16, t.val / 16])

/-- The result's row at a row of a grid point's result block. -/
def rowOf (t : Fin cfg0.N) (a : Fin 512) : Fin 8192 := ⟨512 * (t.val % 16) + a.val, by have := Nat.lt_of_lt_of_eq t.isLt N_0; omega⟩
/-- The result's column at a column of a grid point's result block. -/
def colOf (t : Fin cfg0.N) (b : Fin 1024) : Fin 2048 := ⟨1024 * (t.val / 16) + b.val, by have := Nat.lt_of_lt_of_eq t.isLt N_0; omega⟩

theorem blk_0 (t : Fin cfg0.N) (a : Fin 512) (k : Fin 5632) : iblk m c 0 t (ix2 a k) = left m c (ix2 (rowOf t a) k) := by
  rw [← left_eq]
  blk_simp [iblk]
  refine congrArg _ ?_
  blk_ext [rowOf, idx_0 t]

theorem blk_1 (t : Fin cfg0.N) (b : Fin 1024) (k : Fin 5632) : iblk m c 1 t (ix2 k b) = right m c (ix2 k (colOf t b)) := by
  rw [← right_eq]
  blk_simp [iblk]
  refine congrArg _ ?_
  blk_ext [colOf, idx_1 t]

/-- What the body makes of two blocks. -/
theorem out_at (x : S512x5632.Idx → EReal) (y : S5632x1024.Idx → EReal) (a : Fin 512) (b : Fin 1024) :
    out0_2 (F := Ideal) x y (ix2 a b) = ∑ k : Fin 5632, x (ix2 a k) * y (ix2 k b) := by
  unfold out0_2
  rw [View.canon_cons_unit_lit _ _ _ (by decide), View.ld_unit_lit _ _ (by decide), View.ld_unit_lit _ _ (by decide)]
  unfold k0_pay1
  pointwise

/-- The result array after the run. -/
theorem final : (dats m 0 c).arrAt 2 cfg0.N = prod (left m c) (right m c) := by
  refine (dats m 0 c).arrAt_eq_of_covers 2 _ (by decide +kernel) fun t hf y => ?_
  have hN := Nat.lt_of_lt_of_eq t.isLt N_0
  blk_simp
  rw [after0_2]
  obtain ⟨a, b, rfl⟩ : ∃ (a : Fin 512) (b : Fin 1024), y = ix2 a b := ⟨y 0, y 1, (ix2_eta y).symm⟩
  have he : (win0_2.blk t).view.emb (ix2 a b) = ix2 (rowOf t a) (colOf t b) := by
    blk_ext [idx_2 t, rowOf, colOf]
  rw [he]
  refine (out_at _ _ a b).trans (Finset.sum_congr rfl fun k _ => ?_)
  rw [blk_0, blk_1]
  rfl

end Cert.DownIdeal.Val

namespace Cert.DownReferenceIdeal.Val

open Cert.DownReferenceIdeal Cert.DownReferenceIdeal.Gen
open Idealize.ShloMosaic Idealize.ShloMosaic.TcCoe Idealize.ShloMosaic.Tactic

/-- The reference's result. -/
theorem prod_eq (x : S8192x5632.Idx → EReal) (y : S5632x2048.Idx → EReal) :
    Host.dotGeneral (F := Ideal) (φ₁ := .f32) (φ₂ := .f32) dot_S8192x5632_S5632x2048_S8192x2048_1_0_0_1_n_n none x y = Cert.DownIdeal.Val.prod x y := by
  funext i
  pointwise
  rfl

end Cert.DownReferenceIdeal.Val
-- ==== Proof.Dact.lean ====
module

public import proofs.«01_k».proof.Proof.Gen.DactIdeal.Value
public import proofs.«01_k».proof.Proof.Gen.DactReferenceIdeal
public import Idealize.ShloMosaic.Lib.Pipeline.ValueKit
public import Idealize.ShloMosaic.Lib.Pipeline.ValueKit.Point
public import Idealize.ShloMosaic.Lib.Pointwise
public import Idealize.ShloMosaic.Lib.StableHlo.ReadAt

/-! What the call leaves in its result array, the gradient of the array that w_down is applied to, and that the reference's product is the same. -/

@[expose] public section

set_option maxRecDepth 16384
noncomputable section

namespace Cert.DactIdeal.Val

open Cert.DactIdeal Cert.DactIdeal.Gen
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The gradient of the product. -/
def left : S8192x2048.Idx → EReal := m (c.tc.loc main_arg2)
/-- The weight. -/
def right : S5632x2048.Idx → EReal := m (c.tc.loc main_arg1)

/-- The sum over the product's columns. -/
def prod (x : S8192x2048.Idx → EReal) (y : S5632x2048.Idx → EReal) : S8192x5632.Idx → EReal := fun i => ∑ k : Fin 2048, x (ix2 (i 0) k) * y (ix2 (i 1) k)

/-- The launch is given the operands. -/
theorem left_eq : V m c main_v0 = left m c := by
  funext i
  after_reads_at
  rfl
theorem right_eq : V m c main_v1 = right m c := by
  funext i
  after_reads_at
  rfl

theorem idx_0 : ∀ t : Fin cfg0.N, win0_0.index t = ![t.val % 8, 0] := (by decide +kernel : ∀ t : Fin grid0.N, win0_0.index t = ![t.val % 8, 0])
theorem idx_1 : ∀ t : Fin cfg0.N, win0_1.index t = ![t.val / 8, 0] := (by decide +kernel : ∀ t : Fin grid0.N, win0_1.index t = ![t.val / 8, 0])
theorem idx_2 : ∀ t : Fin cfg0.N, win0_2.index t = ![t.val % 8, t.val / 8] := (by decide +kernel : ∀ t : Fin grid0.N, win0_2.index t = ![t.val % 8, t.val / 8])

/-- The result's row at a row of a grid point's result block. -/
def rowOf (t : Fin cfg0.N) (a : Fin 1024) : Fin 8192 := ⟨1024 * (t.val % 8) + a.val, by have := Nat.lt_of_lt_of_eq t.isLt N_0; omega⟩
/-- The result's column at a column of a grid point's result block. -/
def colOf (t : Fin cfg0.N) (b : Fin 1408) : Fin 5632 := ⟨1408 * (t.val / 8) + b.val, by have := Nat.lt_of_lt_of_eq t.isLt N_0; omega⟩

theorem blk_0 (t : Fin cfg0.N) (a : Fin 1024) (k : Fin 2048) : iblk m c 0 t (ix2 a k) = left m c (ix2 (rowOf t a) k) := by
  rw [← left_eq]
  blk_simp [iblk]
  refine congrArg _ ?_
  blk_ext [rowOf, idx_0 t]

theorem blk_1 (t : Fin cfg0.N) (b : Fin 1408) (k : Fin 2048) : iblk m c 1 t (ix2 b k) = right m c (ix2 (colOf t b) k) := by
  rw [← right_eq]
  blk_simp [iblk]
  refine congrArg _ ?_
  blk_ext [colOf, idx_1 t]

/-- What the body makes of two blocks. -/
theorem out_at (x : S1024x2048.Idx → EReal) (y : S1408x2048.Idx → EReal) (a : Fin 1024) (b : Fin 1408) :
    out0_2 (F := Ideal) x y (ix2 a b) = ∑ k : Fin 2048, x (ix2 a k) * y (ix2 b k) := by
  unfold out0_2
  rw [View.canon_cons_unit_lit _ _ _ (by decide), View.ld_unit_lit _ _ (by decide), View.ld_unit_lit _ _ (by decide)]
  unfold k0_pay1
  pointwise

/-- The result array after the run. -/
theorem final : (dats m 0 c).arrAt 2 cfg0.N = prod (left m c) (right m c) := by
  refine (dats m 0 c).arrAt_eq_of_covers 2 _ (by decide +kernel) fun t hf y => ?_
  have hN := Nat.lt_of_lt_of_eq t.isLt N_0
  blk_simp
  rw [after0_2]
  obtain ⟨a, b, rfl⟩ : ∃ (a : Fin 1024) (b : Fin 1408), y = ix2 a b := ⟨y 0, y 1, (ix2_eta y).symm⟩
  have he : (win0_2.blk t).view.emb (ix2 a b) = ix2 (rowOf t a) (colOf t b) := by
    blk_ext [idx_2 t, rowOf, colOf]
  rw [he]
  refine (out_at _ _ a b).trans (Finset.sum_congr rfl fun k _ => ?_)
  rw [blk_0, blk_1]
  rfl

end Cert.DactIdeal.Val

namespace Cert.DactReferenceIdeal.Val

open Cert.DactReferenceIdeal Cert.DactReferenceIdeal.Gen
open Idealize.ShloMosaic Idealize.ShloMosaic.TcCoe Idealize.ShloMosaic.Tactic

/-- The reference's result. -/
theorem prod_eq (x : S8192x2048.Idx → EReal) (y : S5632x2048.Idx → EReal) :
    Host.dotGeneral (F := Ideal) (φ₁ := .f32) (φ₂ := .f32) dot_S8192x2048_S5632x2048_S8192x5632_1_1_0_0_n_n none x y = Cert.DactIdeal.Val.prod x y := by
  funext i
  pointwise
  rfl

end Cert.DactReferenceIdeal.Val
-- ==== Proof.Sums.lean ====
module

public import Mathlib.Data.EReal.Basic
public import Mathlib.Algebra.BigOperators.Fin

/-! Sums over the 8192 positions of the sequence, taken some positions at a time. -/

@[expose] public section

noncomputable section

namespace Cert.Sums

/-- Position `k` of the sequence, for any natural number. -/
def pos (k : ℕ) : Fin 8192 := ⟨k % 8192, Nat.mod_lt _ (by decide)⟩

theorem pos_val {k : ℕ} (h : k < 8192) : (pos k).val = k := Nat.mod_eq_of_lt h

theorem pos_fin (k : Fin 8192) : pos k.val = k := Fin.ext (pos_val k.isLt)

/-- The sum over every position, as a sum over the naturals below 8192. -/
theorem sum_pos (f : Fin 8192 → EReal) : ∑ k ∈ Finset.range 8192, f (pos k) = ∑ k : Fin 8192, f k := by
  rw [Finset.sum_range]
  exact Finset.sum_congr rfl fun k _ => by rw [pos_fin]

/-- The next `b` positions added to the first `a`. -/
theorem sum_next (f : Fin 8192 → EReal) (a b : ℕ) :
    ∑ k ∈ Finset.range (a + b), f (pos k) = ∑ k ∈ Finset.range a, f (pos k) + ∑ k : Fin b, f (pos (a + k.val)) := by
  rw [Finset.sum_range_add, Finset.sum_range (fun k => f (pos (a + k)))]

/-- The first positions alone. -/
theorem sum_first (f : Fin 8192 → EReal) {a b n : ℕ} (hn : n = 0) (ha : a = b) :
    ∑ k : Fin b, f (pos (n + k.val)) = ∑ k ∈ Finset.range a, f (pos k) := by
  subst hn ha
  rw [Finset.sum_range (fun k => f (pos k))]
  exact Finset.sum_congr rfl fun k _ => by rw [Nat.zero_add]

end Cert.Sums
-- ==== Proof.DwDown.lean ====
module

public import proofs.«01_k».proof.Proof.Gen.DwDownIdeal.Value
public import proofs.«01_k».proof.Proof.Gen.DwDownReferenceIdeal
public import proofs.«01_k».proof.Proof.Sums
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.StableHlo.ReadAt

/-! What the call leaves in its result array, the gradient of w_down, and that the reference's product is the same. -/

@[expose] public section

set_option maxRecDepth 16384
noncomputable section

namespace Cert.DwDownIdeal.Val

open Cert.DwDownIdeal Cert.DwDownIdeal.Gen Cert.Sums
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The product's array. -/
def left : S8192x5632.Idx → EReal := m (c.tc.loc main_arg0)
/-- The gradient of the product. -/
def right : S8192x2048.Idx → EReal := m (c.tc.loc main_arg2)

/-- The sum over the sequence. -/
def prod (x : S8192x5632.Idx → EReal) (y : S8192x2048.Idx → EReal) : S5632x2048.Idx → EReal := fun i => ∑ k : Fin 8192, x (ix2 k (i 0)) * y (ix2 k (i 1))

/-- The launch is given the operands. -/
theorem left_eq : V m c main_v0 = left m c := by
  funext i
  after_reads_at
  rfl
theorem right_eq : V m c main_v1 = right m c := by
  funext i
  after_reads_at
  rfl

theorem idx_0 : ∀ t : Fin cfg0.N, win0_0.index t = ![t.val % 2, t.val / 2] := (by decide +kernel : ∀ t : Fin grid0.N, win0_0.index t = ![t.val % 2, t.val / 2])
theorem idx_1 : ∀ t : Fin cfg0.N, win0_1.index t = ![t.val % 2, t.val / 2 % 1] := (by decide +kernel : ∀ t : Fin grid0.N, win0_1.index t = ![t.val % 2, t.val / 2 % 1])
theorem idx_2 : ∀ t : Fin cfg0.N, win0_2.index t = ![t.val / 2, t.val / 2 % 1] := (by decide +kernel : ∀ t : Fin grid0.N, win0_2.index t = ![t.val / 2, t.val / 2 % 1])

/-- The result's row at a row of a grid point's block. -/
def rowOf (t : Fin cfg0.N) (a : Fin 512) : Fin 5632 := ⟨512 * (t.val / 2) + a.val, by have := Nat.lt_of_lt_of_eq t.isLt N_0; omega⟩
/-- The result's column at a column of a grid point's block. -/
def colOf (t : Fin cfg0.N) (b : Fin 2048) : Fin 2048 := ⟨2048 * (t.val / 2 % 1) + b.val, by omega⟩
/-- One position's part of a grid point's entry. -/
def term (t : Fin cfg0.N) (a : Fin 512) (b : Fin 2048) (k : Fin 8192) : EReal := left m c (ix2 k (rowOf t a)) * right m c (ix2 k (colOf t b))

theorem blk_0 (t : Fin cfg0.N) (k : Fin 4096) (a : Fin 512) : iblk m c 0 t (ix2 k a) = left m c (ix2 (pos (4096 * (t.val % 2) + k.val)) (rowOf t a)) := by
  have h : (pos (4096 * (t.val % 2) + k.val)).val = 4096 * (t.val % 2) + k.val := pos_val (by omega)
  rw [← left_eq]
  blk_simp [iblk]
  refine congrArg _ ?_
  blk_ext [rowOf, idx_0 t, h]

theorem blk_1 (t : Fin cfg0.N) (k : Fin 4096) (b : Fin 2048) : iblk m c 1 t (ix2 k b) = right m c (ix2 (pos (4096 * (t.val % 2) + k.val)) (colOf t b)) := by
  have h : (pos (4096 * (t.val % 2) + k.val)).val = 4096 * (t.val % 2) + k.val := pos_val (by omega)
  rw [← right_eq]
  blk_simp [iblk]
  refine congrArg _ ?_
  blk_ext [colOf, idx_1 t, h]

/-- The product of two blocks. -/
theorem pay1_at (x : S4096x512.Idx → EReal) (y : S4096x2048.Idx → EReal) (a : Fin 512) (b : Fin 2048) :
    k0_pay1 (F := Ideal) x y (ix2 a b) = ∑ k : Fin 4096, x (ix2 k a) * y (ix2 k b) := by
  unfold k0_pay1
  pointwise

/-- What a grid point starts its sum with. -/
theorem pay2_at (x : S4096x512.Idx → EReal) (y : S4096x2048.Idx → EReal) (a : Fin 512) (b : Fin 2048) :
    k0_pay2 (F := Ideal) x y (ix2 a b) = ∑ k : Fin 4096, x (ix2 k a) * y (ix2 k b) := by
  rw [← pay1_at]
  unfold k0_pay2
  pointwise

/-- What a grid point makes of the sum before it. -/
theorem pay3_at (x : S4096x512.Idx → EReal) (y : S4096x2048.Idx → EReal) (z : S512x2048.Idx → EReal) (a : Fin 512) (b : Fin 2048) :
    k0_pay3 (F := Ideal) x y z (ix2 a b) = z (ix2 a b) + ∑ k : Fin 4096, x (ix2 k a) * y (ix2 k b) := by
  rw [← pay1_at]
  unfold k0_pay3
  pointwise

/-- A grid point's blocks. -/
def leftBlk (t : Fin cfg0.N) : S4096x512.Idx → EReal := iblk m c 0 t
def rightBlk (t : Fin cfg0.N) : S4096x2048.Idx → EReal := iblk m c 1 t

/-- A grid point's blocks give the terms of its positions. -/
theorem part_eq (t : Fin cfg0.N) (a : Fin 512) (b : Fin 2048) :
    ∑ k : Fin 4096, leftBlk m c t (ix2 k a) * rightBlk m c t (ix2 k b) = ∑ k : Fin 4096, term m c t a b (pos (4096 * (t.val % 2) + k.val)) :=
  Finset.sum_congr rfl fun k _ => by unfold leftBlk rightBlk; rw [blk_0, blk_1]; rfl

/-- The first grid point of a block leaves its own positions' sum. -/
theorem first_at (t : Fin cfg0.N) (h : t.val % 2 = 0) (a : Fin 512) (b : Fin 2048) :
    (outsAt0 m c t.val t.isLt).2 (ix2 a b) = ∑ k : Fin 4096, term m c t a b (pos (4096 * (t.val % 2) + k.val)) := by
  rw [outsAt0_A m c t h (by omega) (by omega)]
  frame_out
  exact (pay2_at _ _ a b).trans (part_eq m c t a b)

/-- Each later one adds its positions' sum. -/
theorem next_at (t : Fin cfg0.N) (h : ¬t.val % 2 = 0) (a : Fin 512) (b : Fin 2048) :
    (outsAt0 m c t.val t.isLt).2 (ix2 a b)
      = (outsAt0 m c (t.val - 1) (Nat.lt_of_le_of_lt (Nat.sub_le _ _) t.isLt)).2 (ix2 a b) + ∑ k : Fin 4096, term m c t a b (pos (4096 * (t.val % 2) + k.val)) := by
  rw [outsAt0_B m c t h (by omega) (by omega)]
  frame_out
  simp only [read_unread_whole]; exact (pay3_at _ _ _ a b).trans (congrArg _ (part_eq m c t a b))

/-- The sum so far. -/
theorem sum_at (a : Fin 512) (b : Fin 2048) : ∀ (n : ℕ) (hn : n < cfg0.N),
    (outsAt0 m c n hn).2 (ix2 a b) = ∑ k ∈ Finset.range (4096 * (n % 2 + 1)), term m c ⟨n, hn⟩ a b (pos k) := by
  intro n
  induction n with
  | zero =>
    intro hn
    exact (first_at m c ⟨0, hn⟩ rfl a b).trans (sum_first _ rfl rfl)
  | succ n ih =>
    intro hn
    by_cases h : (n + 1) % 2 = 0
    · refine (first_at m c ⟨n + 1, hn⟩ h a b).trans (sum_first _ ?_ ?_)
      · show 4096 * ((n + 1) % 2) = 0
        omega
      · omega
    · have f := next_at m c ⟨n + 1, hn⟩ h a b
      have hm : (n + 1) % 2 = n % 2 + 1 := by omega
      have ht : term m c ⟨n, Nat.lt_of_succ_lt hn⟩ a b = term m c ⟨n + 1, hn⟩ a b := by
        have hr : rowOf ⟨n, Nat.lt_of_succ_lt hn⟩ a = rowOf ⟨n + 1, hn⟩ a :=
          Fin.ext (show 512 * (n / 2) + a.val = 512 * ((n + 1) / 2) + a.val by omega)
        have hc : colOf ⟨n, Nat.lt_of_succ_lt hn⟩ b = colOf ⟨n + 1, hn⟩ b :=
          Fin.ext (show 2048 * (n / 2 % 1) + b.val = 2048 * ((n + 1) / 2 % 1) + b.val by omega)
        unfold term
        rw [hr, hc]
      refine f.trans ?_
      simp only [Nat.add_sub_cancel]
      rw [ih (Nat.lt_of_succ_lt hn), ht, hm, Nat.mul_add 4096 (n % 2 + 1) 1, Nat.mul_one, sum_next]

/-- The grid point that ends a block hands its sum over. -/
theorem last_at (t : Fin cfg0.N) (h : t.val % 2 = 1) (a : Fin 512) (b : Fin 2048) :
    (outsAt0 m c t.val t.isLt).1 (ix2 a b) = (outsAt0 m c t.val t.isLt).2 (ix2 a b) := by
  rw [outsAt0_B m c t (by omega) (by omega) h]
  frame_out
  rfl

/-- The result array after the run. -/
theorem final : (dats m 0 c).arrAt 2 cfg0.N = prod (left m c) (right m c) := by
  refine (dats m 0 c).arrAt_eq_of_covers 2 _ (by decide +kernel) fun t hf y => ?_
  have hl : t.val % 2 = 1 := (flush0_2 t).mp hf
  have hN := Nat.lt_of_lt_of_eq t.isLt N_0
  blk_simp
  rw [after0_2]
  obtain ⟨a, b, rfl⟩ : ∃ (a : Fin 512) (b : Fin 2048), y = ix2 a b := ⟨y 0, y 1, (ix2_eta y).symm⟩
  have he : (win0_2.blk t).view.emb (ix2 a b) = ix2 (rowOf t a) (colOf t b) := by
    blk_ext [idx_2 t, rowOf, colOf]
  rw [he]
  refine (last_at m c t hl a b).trans ((sum_at m c a b t.val t.isLt).trans ?_)
  rw [hl]
  exact sum_pos _

end Cert.DwDownIdeal.Val

namespace Cert.DwDownReferenceIdeal.Val

open Cert.DwDownReferenceIdeal Cert.DwDownReferenceIdeal.Gen
open Idealize.ShloMosaic Idealize.ShloMosaic.TcCoe Idealize.ShloMosaic.Tactic

/-- The reference's result. -/
theorem prod_eq (x : S8192x5632.Idx → EReal) (y : S8192x2048.Idx → EReal) :
    (truncf (F := Ideal) .bf16 (transpose S5632x2048 [1, 0] (Host.dotGeneral (F := Ideal) (φ₁ := .f32) (φ₂ := .f32) dot_S8192x2048_S8192x5632_S2048x5632_0_0_1_1_n_n none y x) transposes_S2048x5632_S5632x2048_1_0) bitsLt_bf16_f32 : S5632x2048.Idx → EReal) = Cert.DwDownIdeal.Val.prod x y := by
  funext i
  obtain ⟨a, b, rfl⟩ : ∃ (a : Fin 5632) (b : Fin 2048), i = ix2 a b := ⟨i 0, i 1, (ix2_eta i).symm⟩
  pointwise
  exact Finset.sum_congr rfl fun k _ => mul_comm _ _

end Cert.DwDownReferenceIdeal.Val
-- ==== Proof.Dcat.lean ====
module

public import proofs.«01_k».proof.Proof.Gen.DcatIdeal.Value
public import proofs.«01_k».proof.Proof.Gen.DcatReferenceIdeal
public import Idealize.ShloMosaic.Lib.Pipeline.ValueKit
public import Idealize.ShloMosaic.Lib.Pipeline.ValueKit.Point
public import Idealize.ShloMosaic.Lib.Pointwise
public import Idealize.ShloMosaic.Lib.StableHlo.ReadAt

/-! What the call leaves in its result array, the gradient of the array that w_o is applied to, and that the reference's product is the same. -/

@[expose] public section

set_option maxRecDepth 16384
noncomputable section

namespace Cert.DcatIdeal.Val

open Cert.DcatIdeal Cert.DcatIdeal.Gen
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The gradient of the product. -/
def left : S8192x2048.Idx → EReal := m (c.tc.loc main_arg2)
/-- The weight. -/
def right : S2048x2048.Idx → EReal := m (c.tc.loc main_arg1)

/-- The sum over the product's columns. -/
def prod (x : S8192x2048.Idx → EReal) (y : S2048x2048.Idx → EReal) : S8192x2048.Idx → EReal := fun i => ∑ k : Fin 2048, x (ix2 (i 0) k) * y (ix2 (i 1) k)

/-- The launch is given the operands. -/
theorem left_eq : V m c main_v0 = left m c := by
  funext i
  after_reads_at
  rfl
theorem right_eq : V m c main_v1 = right m c := by
  funext i
  after_reads_at
  rfl

theorem idx_0 : ∀ t : Fin cfg0.N, win0_0.index t = ![t.val / 2, 0] := (by decide +kernel : ∀ t : Fin grid0.N, win0_0.index t = ![t.val / 2, 0])
theorem idx_1 : ∀ t : Fin cfg0.N, win0_1.index t = ![t.val % 2, 0] := (by decide +kernel : ∀ t : Fin grid0.N, win0_1.index t = ![t.val % 2, 0])
theorem idx_2 : ∀ t : Fin cfg0.N, win0_2.index t = ![t.val / 2, t.val % 2] := (by decide +kernel : ∀ t : Fin grid0.N, win0_2.index t = ![t.val / 2, t.val % 2])

/-- The result's row at a row of a grid point's result block. -/
def rowOf (t : Fin cfg0.N) (a : Fin 1024) : Fin 8192 := ⟨1024 * (t.val / 2) + a.val, by have := Nat.lt_of_lt_of_eq t.isLt N_0; omega⟩
/-- The result's column at a column of a grid point's result block. -/
def colOf (t : Fin cfg0.N) (b : Fin 1024) : Fin 2048 := ⟨1024 * (t.val % 2) + b.val, by have := Nat.lt_of_lt_of_eq t.isLt N_0; omega⟩

theorem blk_0 (t : Fin cfg0.N) (a : Fin 1024) (k : Fin 2048) : iblk m c 0 t (ix2 a k) = left m c (ix2 (rowOf t a) k) := by
  rw [← left_eq]
  blk_simp [iblk]
  refine congrArg _ ?_
  blk_ext [rowOf, idx_0 t]

theorem blk_1 (t : Fin cfg0.N) (b : Fin 1024) (k : Fin 2048) : iblk m c 1 t (ix2 b k) = right m c (ix2 (colOf t b) k) := by
  rw [← right_eq]
  blk_simp [iblk]
  refine congrArg _ ?_
  blk_ext [colOf, idx_1 t]

/-- What the body makes of two blocks. -/
theorem out_at (x : S1024x2048.Idx → EReal) (y : S1024x2048.Idx → EReal) (a : Fin 1024) (b : Fin 1024) :
    out0_2 (F := Ideal) x y (ix2 a b) = ∑ k : Fin 2048, x (ix2 a k) * y (ix2 b k) := by
  unfold out0_2
  rw [View.canon_cons_unit_lit _ _ _ (by decide), View.ld_unit_lit _ _ (by decide), View.ld_unit_lit _ _ (by decide)]
  unfold k0_pay1
  pointwise

/-- The result array after the run. -/
theorem final : (dats m 0 c).arrAt 2 cfg0.N = prod (left m c) (right m c) := by
  refine (dats m 0 c).arrAt_eq_of_covers 2 _ (by decide +kernel) fun t hf y => ?_
  have hN := Nat.lt_of_lt_of_eq t.isLt N_0
  blk_simp
  rw [after0_2]
  obtain ⟨a, b, rfl⟩ : ∃ (a : Fin 1024) (b : Fin 1024), y = ix2 a b := ⟨y 0, y 1, (ix2_eta y).symm⟩
  have he : (win0_2.blk t).view.emb (ix2 a b) = ix2 (rowOf t a) (colOf t b) := by
    blk_ext [idx_2 t, rowOf, colOf]
  rw [he]
  refine (out_at _ _ a b).trans (Finset.sum_congr rfl fun k _ => ?_)
  rw [blk_0, blk_1]
  rfl

end Cert.DcatIdeal.Val

namespace Cert.DcatReferenceIdeal.Val

open Cert.DcatReferenceIdeal Cert.DcatReferenceIdeal.Gen
open Idealize.ShloMosaic Idealize.ShloMosaic.TcCoe Idealize.ShloMosaic.Tactic

/-- The reference's result. -/
theorem prod_eq (x : S8192x2048.Idx → EReal) (y : S2048x2048.Idx → EReal) :
    Host.dotGeneral (F := Ideal) (φ₁ := .f32) (φ₂ := .f32) dot_S8192x2048_S2048x2048_S8192x2048_1_1_0_0_n_n none x y = Cert.DcatIdeal.Val.prod x y := by
  funext i
  pointwise
  rfl

end Cert.DcatReferenceIdeal.Val
-- ==== Proof.DwO.lean ====
module

public import proofs.«01_k».proof.Proof.Gen.DwOIdeal.Value
public import proofs.«01_k».proof.Proof.Gen.DwOReferenceIdeal
public import proofs.«01_k».proof.Proof.Sums
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.StableHlo.ReadAt

/-! What the call leaves in its result array, the gradient of w_o, and that the reference's product is the same. -/

@[expose] public section

set_option maxRecDepth 16384
noncomputable section

namespace Cert.DwOIdeal.Val

open Cert.DwOIdeal Cert.DwOIdeal.Gen Cert.Sums
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The product's array. -/
def left : S8192x2048.Idx → EReal := m (c.tc.loc main_arg0)
/-- The gradient of the product. -/
def right : S8192x2048.Idx → EReal := m (c.tc.loc main_arg2)

/-- The sum over the sequence. -/
def prod (x : S8192x2048.Idx → EReal) (y : S8192x2048.Idx → EReal) : S2048x2048.Idx → EReal := fun i => ∑ k : Fin 8192, x (ix2 k (i 0)) * y (ix2 k (i 1))

/-- The launch is given the operands. -/
theorem left_eq : V m c main_v0 = left m c := by
  funext i
  after_reads_at
  rfl
theorem right_eq : V m c main_v1 = right m c := by
  funext i
  after_reads_at
  rfl

theorem idx_0 : ∀ t : Fin cfg0.N, win0_0.index t = ![t.val % 2, t.val / 4] := (by decide +kernel : ∀ t : Fin grid0.N, win0_0.index t = ![t.val % 2, t.val / 4])
theorem idx_1 : ∀ t : Fin cfg0.N, win0_1.index t = ![t.val % 2, t.val / 2 % 2] := (by decide +kernel : ∀ t : Fin grid0.N, win0_1.index t = ![t.val % 2, t.val / 2 % 2])
theorem idx_2 : ∀ t : Fin cfg0.N, win0_2.index t = ![t.val / 4, t.val / 2 % 2] := (by decide +kernel : ∀ t : Fin grid0.N, win0_2.index t = ![t.val / 4, t.val / 2 % 2])

/-- The result's row at a row of a grid point's block. -/
def rowOf (t : Fin cfg0.N) (a : Fin 512) : Fin 2048 := ⟨512 * (t.val / 4) + a.val, by have := Nat.lt_of_lt_of_eq t.isLt N_0; omega⟩
/-- The result's column at a column of a grid point's block. -/
def colOf (t : Fin cfg0.N) (b : Fin 1024) : Fin 2048 := ⟨1024 * (t.val / 2 % 2) + b.val, by omega⟩
/-- One position's part of a grid point's entry. -/
def term (t : Fin cfg0.N) (a : Fin 512) (b : Fin 1024) (k : Fin 8192) : EReal := left m c (ix2 k (rowOf t a)) * right m c (ix2 k (colOf t b))

theorem blk_0 (t : Fin cfg0.N) (k : Fin 4096) (a : Fin 512) : iblk m c 0 t (ix2 k a) = left m c (ix2 (pos (4096 * (t.val % 2) + k.val)) (rowOf t a)) := by
  have h : (pos (4096 * (t.val % 2) + k.val)).val = 4096 * (t.val % 2) + k.val := pos_val (by omega)
  rw [← left_eq]
  blk_simp [iblk]
  refine congrArg _ ?_
  blk_ext [rowOf, idx_0 t, h]

theorem blk_1 (t : Fin cfg0.N) (k : Fin 4096) (b : Fin 1024) : iblk m c 1 t (ix2 k b) = right m c (ix2 (pos (4096 * (t.val % 2) + k.val)) (colOf t b)) := by
  have h : (pos (4096 * (t.val % 2) + k.val)).val = 4096 * (t.val % 2) + k.val := pos_val (by omega)
  rw [← right_eq]
  blk_simp [iblk]
  refine congrArg _ ?_
  blk_ext [colOf, idx_1 t, h]

/-- The product of two blocks. -/
theorem pay1_at (x : S4096x512.Idx → EReal) (y : S4096x1024.Idx → EReal) (a : Fin 512) (b : Fin 1024) :
    k0_pay1 (F := Ideal) x y (ix2 a b) = ∑ k : Fin 4096, x (ix2 k a) * y (ix2 k b) := by
  unfold k0_pay1
  pointwise

/-- What a grid point starts its sum with. -/
theorem pay2_at (x : S4096x512.Idx → EReal) (y : S4096x1024.Idx → EReal) (a : Fin 512) (b : Fin 1024) :
    k0_pay2 (F := Ideal) x y (ix2 a b) = ∑ k : Fin 4096, x (ix2 k a) * y (ix2 k b) := by
  rw [← pay1_at]
  unfold k0_pay2
  pointwise

/-- What a grid point makes of the sum before it. -/
theorem pay3_at (x : S4096x512.Idx → EReal) (y : S4096x1024.Idx → EReal) (z : S512x1024.Idx → EReal) (a : Fin 512) (b : Fin 1024) :
    k0_pay3 (F := Ideal) x y z (ix2 a b) = z (ix2 a b) + ∑ k : Fin 4096, x (ix2 k a) * y (ix2 k b) := by
  rw [← pay1_at]
  unfold k0_pay3
  pointwise

/-- A grid point's blocks. -/
def leftBlk (t : Fin cfg0.N) : S4096x512.Idx → EReal := iblk m c 0 t
def rightBlk (t : Fin cfg0.N) : S4096x1024.Idx → EReal := iblk m c 1 t

/-- A grid point's blocks give the terms of its positions. -/
theorem part_eq (t : Fin cfg0.N) (a : Fin 512) (b : Fin 1024) :
    ∑ k : Fin 4096, leftBlk m c t (ix2 k a) * rightBlk m c t (ix2 k b) = ∑ k : Fin 4096, term m c t a b (pos (4096 * (t.val % 2) + k.val)) :=
  Finset.sum_congr rfl fun k _ => by unfold leftBlk rightBlk; rw [blk_0, blk_1]; rfl

/-- The first grid point of a block leaves its own positions' sum. -/
theorem first_at (t : Fin cfg0.N) (h : t.val % 2 = 0) (a : Fin 512) (b : Fin 1024) :
    (outsAt0 m c t.val t.isLt).2 (ix2 a b) = ∑ k : Fin 4096, term m c t a b (pos (4096 * (t.val % 2) + k.val)) := by
  rw [outsAt0_A m c t h (by omega) (by omega)]
  frame_out
  exact (pay2_at _ _ a b).trans (part_eq m c t a b)

/-- Each later one adds its positions' sum. -/
theorem next_at (t : Fin cfg0.N) (h : ¬t.val % 2 = 0) (a : Fin 512) (b : Fin 1024) :
    (outsAt0 m c t.val t.isLt).2 (ix2 a b)
      = (outsAt0 m c (t.val - 1) (Nat.lt_of_le_of_lt (Nat.sub_le _ _) t.isLt)).2 (ix2 a b) + ∑ k : Fin 4096, term m c t a b (pos (4096 * (t.val % 2) + k.val)) := by
  rw [outsAt0_B m c t h (by omega) (by omega)]
  frame_out
  simp only [read_unread_whole]; exact (pay3_at _ _ _ a b).trans (congrArg _ (part_eq m c t a b))

/-- The sum so far. -/
theorem sum_at (a : Fin 512) (b : Fin 1024) : ∀ (n : ℕ) (hn : n < cfg0.N),
    (outsAt0 m c n hn).2 (ix2 a b) = ∑ k ∈ Finset.range (4096 * (n % 2 + 1)), term m c ⟨n, hn⟩ a b (pos k) := by
  intro n
  induction n with
  | zero =>
    intro hn
    exact (first_at m c ⟨0, hn⟩ rfl a b).trans (sum_first _ rfl rfl)
  | succ n ih =>
    intro hn
    by_cases h : (n + 1) % 2 = 0
    · refine (first_at m c ⟨n + 1, hn⟩ h a b).trans (sum_first _ ?_ ?_)
      · show 4096 * ((n + 1) % 2) = 0
        omega
      · omega
    · have f := next_at m c ⟨n + 1, hn⟩ h a b
      have hm : (n + 1) % 2 = n % 2 + 1 := by omega
      have ht : term m c ⟨n, Nat.lt_of_succ_lt hn⟩ a b = term m c ⟨n + 1, hn⟩ a b := by
        have hr : rowOf ⟨n, Nat.lt_of_succ_lt hn⟩ a = rowOf ⟨n + 1, hn⟩ a :=
          Fin.ext (show 512 * (n / 4) + a.val = 512 * ((n + 1) / 4) + a.val by omega)
        have hc : colOf ⟨n, Nat.lt_of_succ_lt hn⟩ b = colOf ⟨n + 1, hn⟩ b :=
          Fin.ext (show 1024 * (n / 2 % 2) + b.val = 1024 * ((n + 1) / 2 % 2) + b.val by omega)
        unfold term
        rw [hr, hc]
      refine f.trans ?_
      simp only [Nat.add_sub_cancel]
      rw [ih (Nat.lt_of_succ_lt hn), ht, hm, Nat.mul_add 4096 (n % 2 + 1) 1, Nat.mul_one, sum_next]

/-- The grid point that ends a block hands its sum over. -/
theorem last_at (t : Fin cfg0.N) (h : t.val % 2 = 1) (a : Fin 512) (b : Fin 1024) :
    (outsAt0 m c t.val t.isLt).1 (ix2 a b) = (outsAt0 m c t.val t.isLt).2 (ix2 a b) := by
  rw [outsAt0_B m c t (by omega) (by omega) h]
  frame_out
  rfl

/-- The result array after the run. -/
theorem final : (dats m 0 c).arrAt 2 cfg0.N = prod (left m c) (right m c) := by
  refine (dats m 0 c).arrAt_eq_of_covers 2 _ (by decide +kernel) fun t hf y => ?_
  have hl : t.val % 2 = 1 := (flush0_2 t).mp hf
  have hN := Nat.lt_of_lt_of_eq t.isLt N_0
  blk_simp
  rw [after0_2]
  obtain ⟨a, b, rfl⟩ : ∃ (a : Fin 512) (b : Fin 1024), y = ix2 a b := ⟨y 0, y 1, (ix2_eta y).symm⟩
  have he : (win0_2.blk t).view.emb (ix2 a b) = ix2 (rowOf t a) (colOf t b) := by
    blk_ext [idx_2 t, rowOf, colOf]
  rw [he]
  refine (last_at m c t hl a b).trans ((sum_at m c a b t.val t.isLt).trans ?_)
  rw [hl]
  exact sum_pos _

end Cert.DwOIdeal.Val

namespace Cert.DwOReferenceIdeal.Val

open Cert.DwOReferenceIdeal Cert.DwOReferenceIdeal.Gen
open Idealize.ShloMosaic Idealize.ShloMosaic.TcCoe Idealize.ShloMosaic.Tactic

/-- The reference's result. -/
theorem prod_eq (x : S8192x2048.Idx → EReal) (y : S8192x2048.Idx → EReal) :
    (truncf (F := Ideal) .bf16 (transpose S2048x2048 [1, 0] (Host.dotGeneral (F := Ideal) (φ₁ := .f32) (φ₂ := .f32) dot_S8192x2048_S8192x2048_S2048x2048_0_0_1_1_n_n none y x) transposes_S2048x2048_S2048x2048_1_0) bitsLt_bf16_f32 : S2048x2048.Idx → EReal) = Cert.DwOIdeal.Val.prod x y := by
  funext i
  obtain ⟨a, b, rfl⟩ : ∃ (a : Fin 2048) (b : Fin 2048), i = ix2 a b := ⟨i 0, i 1, (ix2_eta i).symm⟩
  pointwise
  exact Finset.sum_congr rfl fun k _ => mul_comm _ _

end Cert.DwOReferenceIdeal.Val
-- ==== Proof.Dh1.lean ====
module

public import proofs.«01_k».proof.Proof.Gen.Dh1Ideal.Value
public import proofs.«01_k».proof.Proof.Gen.Dh1ReferenceIdeal
public import Idealize.ShloMosaic.Lib.Pipeline.ValueKit
public import Idealize.ShloMosaic.Lib.Pipeline.ValueKit.Point
public import Idealize.ShloMosaic.Lib.Pointwise
public import Idealize.ShloMosaic.Lib.StableHlo.ReadAt

/-! What the call leaves in its result array, the gradient of the array that w_in is applied to, and that the reference's product is the same. -/

@[expose] public section

set_option maxRecDepth 16384
noncomputable section

namespace Cert.Dh1Ideal.Val

open Cert.Dh1Ideal Cert.Dh1Ideal.Gen
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The gradient of the product. -/
def left : S8192x4608.Idx → EReal := m (c.tc.loc main_arg2)
/-- The weight. -/
def right : S2048x4608.Idx → EReal := m (c.tc.loc main_arg1)

/-- The sum over the product's columns. -/
def prod (x : S8192x4608.Idx → EReal) (y : S2048x4608.Idx → EReal) : S8192x2048.Idx → EReal := fun i => ∑ k : Fin 4608, x (ix2 (i 0) k) * y (ix2 (i 1) k)

/-- The launch is given the operands. -/
theorem left_eq : V m c main_v0 = left m c := by
  funext i
  after_reads_at
  rfl
theorem right_eq : V m c main_v1 = right m c := by
  funext i
  after_reads_at
  rfl

theorem idx_0 : ∀ t : Fin cfg0.N, win0_0.index t = ![t.val % 16, 0] := (by decide +kernel : ∀ t : Fin grid0.N, win0_0.index t = ![t.val % 16, 0])
theorem idx_1 : ∀ t : Fin cfg0.N, win0_1.index t = ![t.val / 16, 0] := (by decide +kernel : ∀ t : Fin grid0.N, win0_1.index t = ![t.val / 16, 0])
theorem idx_2 : ∀ t : Fin cfg0.N, win0_2.index t = ![t.val % 16, t.val / 16] := (by decide +kernel : ∀ t : Fin grid0.N, win0_2.index t = ![t.val % 16, t.val / 16])

/-- The result's row at a row of a grid point's result block. -/
def rowOf (t : Fin cfg0.N) (a : Fin 512) : Fin 8192 := ⟨512 * (t.val % 16) + a.val, by have := Nat.lt_of_lt_of_eq t.isLt N_0; omega⟩
/-- The result's column at a column of a grid point's result block. -/
def colOf (t : Fin cfg0.N) (b : Fin 1024) : Fin 2048 := ⟨1024 * (t.val / 16) + b.val, by have := Nat.lt_of_lt_of_eq t.isLt N_0; omega⟩

theorem blk_0 (t : Fin cfg0.N) (a : Fin 512) (k : Fin 4608) : iblk m c 0 t (ix2 a k) = left m c (ix2 (rowOf t a) k) := by
  rw [← left_eq]
  blk_simp [iblk]
  refine congrArg _ ?_
  blk_ext [rowOf, idx_0 t]

theorem blk_1 (t : Fin cfg0.N) (b : Fin 1024) (k : Fin 4608) : iblk m c 1 t (ix2 b k) = right m c (ix2 (colOf t b) k) := by
  rw [← right_eq]
  blk_simp [iblk]
  refine congrArg _ ?_
  blk_ext [colOf, idx_1 t]

/-- What the body makes of two blocks. -/
theorem out_at (x : S512x4608.Idx → EReal) (y : S1024x4608.Idx → EReal) (a : Fin 512) (b : Fin 1024) :
    out0_2 (F := Ideal) x y (ix2 a b) = ∑ k : Fin 4608, x (ix2 a k) * y (ix2 b k) := by
  unfold out0_2
  rw [View.canon_cons_unit_lit _ _ _ (by decide), View.ld_unit_lit _ _ (by decide), View.ld_unit_lit _ _ (by decide)]
  unfold k0_pay1
  pointwise

/-- The result array after the run. -/
theorem final : (dats m 0 c).arrAt 2 cfg0.N = prod (left m c) (right m c) := by
  refine (dats m 0 c).arrAt_eq_of_covers 2 _ (by decide +kernel) fun t hf y => ?_
  have hN := Nat.lt_of_lt_of_eq t.isLt N_0
  blk_simp
  rw [after0_2]
  obtain ⟨a, b, rfl⟩ : ∃ (a : Fin 512) (b : Fin 1024), y = ix2 a b := ⟨y 0, y 1, (ix2_eta y).symm⟩
  have he : (win0_2.blk t).view.emb (ix2 a b) = ix2 (rowOf t a) (colOf t b) := by
    blk_ext [idx_2 t, rowOf, colOf]
  rw [he]
  refine (out_at _ _ a b).trans (Finset.sum_congr rfl fun k _ => ?_)
  rw [blk_0, blk_1]
  rfl

end Cert.Dh1Ideal.Val

namespace Cert.Dh1ReferenceIdeal.Val

open Cert.Dh1ReferenceIdeal Cert.Dh1ReferenceIdeal.Gen
open Idealize.ShloMosaic Idealize.ShloMosaic.TcCoe Idealize.ShloMosaic.Tactic

/-- The reference's result. -/
theorem prod_eq (x : S8192x4608.Idx → EReal) (y : S2048x4608.Idx → EReal) :
    Host.dotGeneral (F := Ideal) (φ₁ := .f32) (φ₂ := .f32) dot_S8192x4608_S2048x4608_S8192x2048_1_1_0_0_n_n none x y = Cert.Dh1Ideal.Val.prod x y := by
  funext i
  pointwise
  rfl

end Cert.Dh1ReferenceIdeal.Val
-- ==== Proof.DwIn.lean ====
module

public import proofs.«01_k».proof.Proof.Gen.DwInIdeal.Value
public import proofs.«01_k».proof.Proof.Gen.DwInReferenceIdeal
public import proofs.«01_k».proof.Proof.Sums
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.StableHlo.ReadAt

/-! What the call leaves in its result array, the gradient of w_in, and that the reference's product is the same. -/

@[expose] public section

set_option maxRecDepth 16384
noncomputable section

namespace Cert.DwInIdeal.Val

open Cert.DwInIdeal Cert.DwInIdeal.Gen Cert.Sums
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The product's array. -/
def left : S8192x2048.Idx → EReal := m (c.tc.loc main_arg0)
/-- The gradient of the product. -/
def right : S8192x4608.Idx → EReal := m (c.tc.loc main_arg2)

/-- The sum over the sequence. -/
def prod (x : S8192x2048.Idx → EReal) (y : S8192x4608.Idx → EReal) : S2048x4608.Idx → EReal := fun i => ∑ k : Fin 8192, x (ix2 k (i 0)) * y (ix2 k (i 1))

/-- The launch is given the operands. -/
theorem left_eq : V m c main_v0 = left m c := by
  funext i
  after_reads_at
  rfl
theorem right_eq : V m c main_v1 = right m c := by
  funext i
  after_reads_at
  rfl

theorem idx_0 : ∀ t : Fin cfg0.N, win0_0.index t = ![t.val % 2, t.val / 6] := (by decide +kernel : ∀ t : Fin grid0.N, win0_0.index t = ![t.val % 2, t.val / 6])
theorem idx_1 : ∀ t : Fin cfg0.N, win0_1.index t = ![t.val % 2, t.val / 2 % 3] := (by decide +kernel : ∀ t : Fin grid0.N, win0_1.index t = ![t.val % 2, t.val / 2 % 3])
theorem idx_2 : ∀ t : Fin cfg0.N, win0_2.index t = ![t.val / 6, t.val / 2 % 3] := (by decide +kernel : ∀ t : Fin grid0.N, win0_2.index t = ![t.val / 6, t.val / 2 % 3])

/-- The result's row at a row of a grid point's block. -/
def rowOf (t : Fin cfg0.N) (a : Fin 512) : Fin 2048 := ⟨512 * (t.val / 6) + a.val, by have := Nat.lt_of_lt_of_eq t.isLt N_0; omega⟩
/-- The result's column at a column of a grid point's block. -/
def colOf (t : Fin cfg0.N) (b : Fin 1536) : Fin 4608 := ⟨1536 * (t.val / 2 % 3) + b.val, by omega⟩
/-- One position's part of a grid point's entry. -/
def term (t : Fin cfg0.N) (a : Fin 512) (b : Fin 1536) (k : Fin 8192) : EReal := left m c (ix2 k (rowOf t a)) * right m c (ix2 k (colOf t b))

theorem blk_0 (t : Fin cfg0.N) (k : Fin 4096) (a : Fin 512) : iblk m c 0 t (ix2 k a) = left m c (ix2 (pos (4096 * (t.val % 2) + k.val)) (rowOf t a)) := by
  have h : (pos (4096 * (t.val % 2) + k.val)).val = 4096 * (t.val % 2) + k.val := pos_val (by omega)
  rw [← left_eq]
  blk_simp [iblk]
  refine congrArg _ ?_
  blk_ext [rowOf, idx_0 t, h]

theorem blk_1 (t : Fin cfg0.N) (k : Fin 4096) (b : Fin 1536) : iblk m c 1 t (ix2 k b) = right m c (ix2 (pos (4096 * (t.val % 2) + k.val)) (colOf t b)) := by
  have h : (pos (4096 * (t.val % 2) + k.val)).val = 4096 * (t.val % 2) + k.val := pos_val (by omega)
  rw [← right_eq]
  blk_simp [iblk]
  refine congrArg _ ?_
  blk_ext [colOf, idx_1 t, h]

/-- The product of two blocks. -/
theorem pay1_at (x : S4096x512.Idx → EReal) (y : S4096x1536.Idx → EReal) (a : Fin 512) (b : Fin 1536) :
    k0_pay1 (F := Ideal) x y (ix2 a b) = ∑ k : Fin 4096, x (ix2 k a) * y (ix2 k b) := by
  unfold k0_pay1
  pointwise

/-- What a grid point starts its sum with. -/
theorem pay2_at (x : S4096x512.Idx → EReal) (y : S4096x1536.Idx → EReal) (a : Fin 512) (b : Fin 1536) :
    k0_pay2 (F := Ideal) x y (ix2 a b) = ∑ k : Fin 4096, x (ix2 k a) * y (ix2 k b) := by
  rw [← pay1_at]
  unfold k0_pay2
  pointwise

/-- What a grid point makes of the sum before it. -/
theorem pay3_at (x : S4096x512.Idx → EReal) (y : S4096x1536.Idx → EReal) (z : S512x1536.Idx → EReal) (a : Fin 512) (b : Fin 1536) :
    k0_pay3 (F := Ideal) x y z (ix2 a b) = z (ix2 a b) + ∑ k : Fin 4096, x (ix2 k a) * y (ix2 k b) := by
  rw [← pay1_at]
  unfold k0_pay3
  pointwise

/-- A grid point's blocks. -/
def leftBlk (t : Fin cfg0.N) : S4096x512.Idx → EReal := iblk m c 0 t
def rightBlk (t : Fin cfg0.N) : S4096x1536.Idx → EReal := iblk m c 1 t

/-- A grid point's blocks give the terms of its positions. -/
theorem part_eq (t : Fin cfg0.N) (a : Fin 512) (b : Fin 1536) :
    ∑ k : Fin 4096, leftBlk m c t (ix2 k a) * rightBlk m c t (ix2 k b) = ∑ k : Fin 4096, term m c t a b (pos (4096 * (t.val % 2) + k.val)) :=
  Finset.sum_congr rfl fun k _ => by unfold leftBlk rightBlk; rw [blk_0, blk_1]; rfl

/-- The first grid point of a block leaves its own positions' sum. -/
theorem first_at (t : Fin cfg0.N) (h : t.val % 2 = 0) (a : Fin 512) (b : Fin 1536) :
    (outsAt0 m c t.val t.isLt).2 (ix2 a b) = ∑ k : Fin 4096, term m c t a b (pos (4096 * (t.val % 2) + k.val)) := by
  rw [outsAt0_A m c t h (by omega) (by omega)]
  frame_out
  exact (pay2_at _ _ a b).trans (part_eq m c t a b)

/-- Each later one adds its positions' sum. -/
theorem next_at (t : Fin cfg0.N) (h : ¬t.val % 2 = 0) (a : Fin 512) (b : Fin 1536) :
    (outsAt0 m c t.val t.isLt).2 (ix2 a b)
      = (outsAt0 m c (t.val - 1) (Nat.lt_of_le_of_lt (Nat.sub_le _ _) t.isLt)).2 (ix2 a b) + ∑ k : Fin 4096, term m c t a b (pos (4096 * (t.val % 2) + k.val)) := by
  rw [outsAt0_B m c t h (by omega) (by omega)]
  frame_out
  simp only [read_unread_whole]; exact (pay3_at _ _ _ a b).trans (congrArg _ (part_eq m c t a b))

/-- The sum so far. -/
theorem sum_at (a : Fin 512) (b : Fin 1536) : ∀ (n : ℕ) (hn : n < cfg0.N),
    (outsAt0 m c n hn).2 (ix2 a b) = ∑ k ∈ Finset.range (4096 * (n % 2 + 1)), term m c ⟨n, hn⟩ a b (pos k) := by
  intro n
  induction n with
  | zero =>
    intro hn
    exact (first_at m c ⟨0, hn⟩ rfl a b).trans (sum_first _ rfl rfl)
  | succ n ih =>
    intro hn
    by_cases h : (n + 1) % 2 = 0
    · refine (first_at m c ⟨n + 1, hn⟩ h a b).trans (sum_first _ ?_ ?_)
      · show 4096 * ((n + 1) % 2) = 0
        omega
      · omega
    · have f := next_at m c ⟨n + 1, hn⟩ h a b
      have hm : (n + 1) % 2 = n % 2 + 1 := by omega
      have ht : term m c ⟨n, Nat.lt_of_succ_lt hn⟩ a b = term m c ⟨n + 1, hn⟩ a b := by
        have hr : rowOf ⟨n, Nat.lt_of_succ_lt hn⟩ a = rowOf ⟨n + 1, hn⟩ a :=
          Fin.ext (show 512 * (n / 6) + a.val = 512 * ((n + 1) / 6) + a.val by omega)
        have hc : colOf ⟨n, Nat.lt_of_succ_lt hn⟩ b = colOf ⟨n + 1, hn⟩ b :=
          Fin.ext (show 1536 * (n / 2 % 3) + b.val = 1536 * ((n + 1) / 2 % 3) + b.val by omega)
        unfold term
        rw [hr, hc]
      refine f.trans ?_
      simp only [Nat.add_sub_cancel]
      rw [ih (Nat.lt_of_succ_lt hn), ht, hm, Nat.mul_add 4096 (n % 2 + 1) 1, Nat.mul_one, sum_next]

/-- The grid point that ends a block hands its sum over. -/
theorem last_at (t : Fin cfg0.N) (h : t.val % 2 = 1) (a : Fin 512) (b : Fin 1536) :
    (outsAt0 m c t.val t.isLt).1 (ix2 a b) = (outsAt0 m c t.val t.isLt).2 (ix2 a b) := by
  rw [outsAt0_B m c t (by omega) (by omega) h]
  frame_out
  rfl

/-- The result array after the run. -/
theorem final : (dats m 0 c).arrAt 2 cfg0.N = prod (left m c) (right m c) := by
  refine (dats m 0 c).arrAt_eq_of_covers 2 _ (by decide +kernel) fun t hf y => ?_
  have hl : t.val % 2 = 1 := (flush0_2 t).mp hf
  have hN := Nat.lt_of_lt_of_eq t.isLt N_0
  blk_simp
  rw [after0_2]
  obtain ⟨a, b, rfl⟩ : ∃ (a : Fin 512) (b : Fin 1536), y = ix2 a b := ⟨y 0, y 1, (ix2_eta y).symm⟩
  have he : (win0_2.blk t).view.emb (ix2 a b) = ix2 (rowOf t a) (colOf t b) := by
    blk_ext [idx_2 t, rowOf, colOf]
  rw [he]
  refine (last_at m c t hl a b).trans ((sum_at m c a b t.val t.isLt).trans ?_)
  rw [hl]
  exact sum_pos _

end Cert.DwInIdeal.Val

namespace Cert.DwInReferenceIdeal.Val

open Cert.DwInReferenceIdeal Cert.DwInReferenceIdeal.Gen
open Idealize.ShloMosaic Idealize.ShloMosaic.TcCoe Idealize.ShloMosaic.Tactic

/-- The reference's result. -/
theorem prod_eq (x : S8192x2048.Idx → EReal) (y : S8192x4608.Idx → EReal) :
    (truncf (F := Ideal) .bf16 (transpose S2048x4608 [1, 0] (Host.dotGeneral (F := Ideal) (φ₁ := .f32) (φ₂ := .f32) dot_S8192x4608_S8192x2048_S4608x2048_0_0_1_1_n_n none y x) transposes_S4608x2048_S2048x4608_1_0) bitsLt_bf16_f32 : S2048x4608.Idx → EReal) = Cert.DwInIdeal.Val.prod x y := by
  funext i
  obtain ⟨a, b, rfl⟩ : ∃ (a : Fin 2048) (b : Fin 4608), i = ix2 a b := ⟨i 0, i 1, (ix2_eta i).symm⟩
  pointwise
  exact Finset.sum_congr rfl fun k _ => mul_comm _ _

end Cert.DwInReferenceIdeal.Val
-- ==== Proof.Dqn.lean ====
module

public import proofs.«01_k».proof.Proof.Gen.DqnIdeal.Value
public import proofs.«01_k».proof.Proof.Gen.DqnReferenceIdeal
public import Idealize.ShloMosaic.Lib.Pipeline.ValueKit
public import Idealize.ShloMosaic.Lib.Pipeline.ValueKit.Point
public import Idealize.ShloMosaic.Lib.Pointwise
public import Idealize.ShloMosaic.Lib.StableHlo.ReadAt

/-! What the call leaves in its result array, the gradient of the array that w_uq is applied to, and that the reference's product is the same. -/

@[expose] public section

set_option maxRecDepth 16384
noncomputable section

namespace Cert.DqnIdeal.Val

open Cert.DqnIdeal Cert.DqnIdeal.Gen
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The gradient of the product. -/
def left : S8192x2048.Idx → EReal := m (c.tc.loc main_arg2)
/-- The weight. -/
def right : S768x2048.Idx → EReal := m (c.tc.loc main_arg1)

/-- The sum over the product's columns. -/
def prod (x : S8192x2048.Idx → EReal) (y : S768x2048.Idx → EReal) : S8192x768.Idx → EReal := fun i => ∑ k : Fin 2048, x (ix2 (i 0) k) * y (ix2 (i 1) k)

/-- The launch is given the operands. -/
theorem left_eq : V m c main_v0 = left m c := by
  funext i
  after_reads_at
  rfl
theorem right_eq : V m c main_v1 = right m c := by
  funext i
  after_reads_at
  rfl

theorem idx_0 : ∀ t : Fin cfg0.N, win0_0.index t = ![t.val / 1, 0] := (by decide +kernel : ∀ t : Fin grid0.N, win0_0.index t = ![t.val / 1, 0])
theorem idx_1 : ∀ t : Fin cfg0.N, win0_1.index t = ![t.val % 1, 0] := (by decide +kernel : ∀ t : Fin grid0.N, win0_1.index t = ![t.val % 1, 0])
theorem idx_2 : ∀ t : Fin cfg0.N, win0_2.index t = ![t.val / 1, t.val % 1] := (by decide +kernel : ∀ t : Fin grid0.N, win0_2.index t = ![t.val / 1, t.val % 1])

/-- The result's row at a row of a grid point's result block. -/
def rowOf (t : Fin cfg0.N) (a : Fin 1024) : Fin 8192 := ⟨1024 * (t.val / 1) + a.val, by have := Nat.lt_of_lt_of_eq t.isLt N_0; omega⟩
/-- The result's column at a column of a grid point's result block. -/
def colOf (t : Fin cfg0.N) (b : Fin 768) : Fin 768 := ⟨768 * (t.val % 1) + b.val, by have := Nat.lt_of_lt_of_eq t.isLt N_0; omega⟩

theorem blk_0 (t : Fin cfg0.N) (a : Fin 1024) (k : Fin 2048) : iblk m c 0 t (ix2 a k) = left m c (ix2 (rowOf t a) k) := by
  rw [← left_eq]
  blk_simp [iblk]
  refine congrArg _ ?_
  blk_ext [rowOf, idx_0 t]

theorem blk_1 (t : Fin cfg0.N) (b : Fin 768) (k : Fin 2048) : iblk m c 1 t (ix2 b k) = right m c (ix2 (colOf t b) k) := by
  rw [← right_eq]
  blk_simp [iblk]
  refine congrArg _ ?_
  blk_ext [colOf, idx_1 t]

/-- What the body makes of two blocks. -/
theorem out_at (x : S1024x2048.Idx → EReal) (y : S768x2048.Idx → EReal) (a : Fin 1024) (b : Fin 768) :
    out0_2 (F := Ideal) x y (ix2 a b) = ∑ k : Fin 2048, x (ix2 a k) * y (ix2 b k) := by
  unfold out0_2
  rw [View.canon_cons_unit_lit _ _ _ (by decide), View.ld_unit_lit _ _ (by decide), View.ld_unit_lit _ _ (by decide)]
  unfold k0_pay1
  pointwise

/-- The result array after the run. -/
theorem final : (dats m 0 c).arrAt 2 cfg0.N = prod (left m c) (right m c) := by
  refine (dats m 0 c).arrAt_eq_of_covers 2 _ (by decide +kernel) fun t hf y => ?_
  have hN := Nat.lt_of_lt_of_eq t.isLt N_0
  blk_simp
  rw [after0_2]
  obtain ⟨a, b, rfl⟩ : ∃ (a : Fin 1024) (b : Fin 768), y = ix2 a b := ⟨y 0, y 1, (ix2_eta y).symm⟩
  have he : (win0_2.blk t).view.emb (ix2 a b) = ix2 (rowOf t a) (colOf t b) := by
    blk_ext [idx_2 t, rowOf, colOf]
  rw [he]
  refine (out_at _ _ a b).trans (Finset.sum_congr rfl fun k _ => ?_)
  rw [blk_0, blk_1]
  rfl

end Cert.DqnIdeal.Val

namespace Cert.DqnReferenceIdeal.Val

open Cert.DqnReferenceIdeal Cert.DqnReferenceIdeal.Gen
open Idealize.ShloMosaic Idealize.ShloMosaic.TcCoe Idealize.ShloMosaic.Tactic

/-- The reference's result. -/
theorem prod_eq (x : S8192x2048.Idx → EReal) (y : S768x2048.Idx → EReal) :
    Host.dotGeneral (F := Ideal) (φ₁ := .f32) (φ₂ := .f32) dot_S8192x2048_S768x2048_S8192x768_1_1_0_0_n_n none x y = Cert.DqnIdeal.Val.prod x y := by
  funext i
  pointwise
  rfl

end Cert.DqnReferenceIdeal.Val
-- ==== Proof.DwUq.lean ====
module

public import proofs.«01_k».proof.Proof.Gen.DwUqIdeal.Value
public import proofs.«01_k».proof.Proof.Gen.DwUqReferenceIdeal
public import proofs.«01_k».proof.Proof.Sums
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.StableHlo.ReadAt

/-! What the call leaves in its result array, the gradient of w_uq, and that the reference's product is the same. -/

@[expose] public section

set_option maxRecDepth 16384
noncomputable section

namespace Cert.DwUqIdeal.Val

open Cert.DwUqIdeal Cert.DwUqIdeal.Gen Cert.Sums
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The product's array. -/
def left : S8192x768.Idx → EReal := m (c.tc.loc main_arg0)
/-- The gradient of the product. -/
def right : S8192x2048.Idx → EReal := m (c.tc.loc main_arg2)

/-- The sum over the sequence. -/
def prod (x : S8192x768.Idx → EReal) (y : S8192x2048.Idx → EReal) : S768x2048.Idx → EReal := fun i => ∑ k : Fin 8192, x (ix2 k (i 0)) * y (ix2 k (i 1))

/-- The launch is given the operands. -/
theorem left_eq : V m c main_v0 = left m c := by
  funext i
  after_reads_at
  rfl
theorem right_eq : V m c main_v1 = right m c := by
  funext i
  after_reads_at
  rfl

theorem idx_0 : ∀ t : Fin cfg0.N, win0_0.index t = ![t.val % 8, t.val / 16] := (by decide +kernel : ∀ t : Fin grid0.N, win0_0.index t = ![t.val % 8, t.val / 16])
theorem idx_1 : ∀ t : Fin cfg0.N, win0_1.index t = ![t.val % 8, t.val / 8 % 2] := (by decide +kernel : ∀ t : Fin grid0.N, win0_1.index t = ![t.val % 8, t.val / 8 % 2])
theorem idx_2 : ∀ t : Fin cfg0.N, win0_2.index t = ![t.val / 16, t.val / 8 % 2] := (by decide +kernel : ∀ t : Fin grid0.N, win0_2.index t = ![t.val / 16, t.val / 8 % 2])

/-- The result's row at a row of a grid point's block. -/
def rowOf (t : Fin cfg0.N) (a : Fin 768) : Fin 768 := ⟨768 * (t.val / 16) + a.val, by have := Nat.lt_of_lt_of_eq t.isLt N_0; omega⟩
/-- The result's column at a column of a grid point's block. -/
def colOf (t : Fin cfg0.N) (b : Fin 1024) : Fin 2048 := ⟨1024 * (t.val / 8 % 2) + b.val, by omega⟩
/-- One position's part of a grid point's entry. -/
def term (t : Fin cfg0.N) (a : Fin 768) (b : Fin 1024) (k : Fin 8192) : EReal := left m c (ix2 k (rowOf t a)) * right m c (ix2 k (colOf t b))

theorem blk_0 (t : Fin cfg0.N) (k : Fin 1024) (a : Fin 768) : iblk m c 0 t (ix2 k a) = left m c (ix2 (pos (1024 * (t.val % 8) + k.val)) (rowOf t a)) := by
  have h : (pos (1024 * (t.val % 8) + k.val)).val = 1024 * (t.val % 8) + k.val := pos_val (by omega)
  rw [← left_eq]
  blk_simp [iblk]
  refine congrArg _ ?_
  blk_ext [rowOf, idx_0 t, h]

theorem blk_1 (t : Fin cfg0.N) (k : Fin 1024) (b : Fin 1024) : iblk m c 1 t (ix2 k b) = right m c (ix2 (pos (1024 * (t.val % 8) + k.val)) (colOf t b)) := by
  have h : (pos (1024 * (t.val % 8) + k.val)).val = 1024 * (t.val % 8) + k.val := pos_val (by omega)
  rw [← right_eq]
  blk_simp [iblk]
  refine congrArg _ ?_
  blk_ext [colOf, idx_1 t, h]

/-- The product of two blocks. -/
theorem pay1_at (x : S1024x768.Idx → EReal) (y : S1024x1024.Idx → EReal) (a : Fin 768) (b : Fin 1024) :
    k0_pay1 (F := Ideal) x y (ix2 a b) = ∑ k : Fin 1024, x (ix2 k a) * y (ix2 k b) := by
  unfold k0_pay1
  pointwise

/-- What a grid point starts its sum with. -/
theorem pay2_at (x : S1024x768.Idx → EReal) (y : S1024x1024.Idx → EReal) (a : Fin 768) (b : Fin 1024) :
    k0_pay2 (F := Ideal) x y (ix2 a b) = ∑ k : Fin 1024, x (ix2 k a) * y (ix2 k b) := by
  rw [← pay1_at]
  unfold k0_pay2
  pointwise

/-- What a grid point makes of the sum before it. -/
theorem pay3_at (x : S1024x768.Idx → EReal) (y : S1024x1024.Idx → EReal) (z : S768x1024.Idx → EReal) (a : Fin 768) (b : Fin 1024) :
    k0_pay3 (F := Ideal) x y z (ix2 a b) = z (ix2 a b) + ∑ k : Fin 1024, x (ix2 k a) * y (ix2 k b) := by
  rw [← pay1_at]
  unfold k0_pay3
  pointwise

/-- A grid point's blocks. -/
def leftBlk (t : Fin cfg0.N) : S1024x768.Idx → EReal := iblk m c 0 t
def rightBlk (t : Fin cfg0.N) : S1024x1024.Idx → EReal := iblk m c 1 t

/-- A grid point's blocks give the terms of its positions. -/
theorem part_eq (t : Fin cfg0.N) (a : Fin 768) (b : Fin 1024) :
    ∑ k : Fin 1024, leftBlk m c t (ix2 k a) * rightBlk m c t (ix2 k b) = ∑ k : Fin 1024, term m c t a b (pos (1024 * (t.val % 8) + k.val)) :=
  Finset.sum_congr rfl fun k _ => by unfold leftBlk rightBlk; rw [blk_0, blk_1]; rfl

/-- The first grid point of a block leaves its own positions' sum. -/
theorem first_at (t : Fin cfg0.N) (h : t.val % 8 = 0) (a : Fin 768) (b : Fin 1024) :
    (outsAt0 m c t.val t.isLt).2 (ix2 a b) = ∑ k : Fin 1024, term m c t a b (pos (1024 * (t.val % 8) + k.val)) := by
  rw [outsAt0_A m c t h (by omega) (by omega)]
  frame_out
  exact (pay2_at _ _ a b).trans (part_eq m c t a b)

/-- Each later one adds its positions' sum. -/
theorem next_at (t : Fin cfg0.N) (h : ¬t.val % 8 = 0) (a : Fin 768) (b : Fin 1024) :
    (outsAt0 m c t.val t.isLt).2 (ix2 a b)
      = (outsAt0 m c (t.val - 1) (Nat.lt_of_le_of_lt (Nat.sub_le _ _) t.isLt)).2 (ix2 a b) + ∑ k : Fin 1024, term m c t a b (pos (1024 * (t.val % 8) + k.val)) := by
  by_cases h7 : t.val % 8 = 7
  · rw [outsAt0_C m c t h (by omega) h7]
    frame_out
    simp only [read_unread_whole]; exact (pay3_at _ _ _ a b).trans (congrArg _ (part_eq m c t a b))
  · rw [outsAt0_B m c t h (by omega) h7]
    frame_out
    simp only [read_unread_whole]; exact (pay3_at _ _ _ a b).trans (congrArg _ (part_eq m c t a b))

/-- The sum so far. -/
theorem sum_at (a : Fin 768) (b : Fin 1024) : ∀ (n : ℕ) (hn : n < cfg0.N),
    (outsAt0 m c n hn).2 (ix2 a b) = ∑ k ∈ Finset.range (1024 * (n % 8 + 1)), term m c ⟨n, hn⟩ a b (pos k) := by
  intro n
  induction n with
  | zero =>
    intro hn
    exact (first_at m c ⟨0, hn⟩ rfl a b).trans (sum_first _ rfl rfl)
  | succ n ih =>
    intro hn
    by_cases h : (n + 1) % 8 = 0
    · refine (first_at m c ⟨n + 1, hn⟩ h a b).trans (sum_first _ ?_ ?_)
      · show 1024 * ((n + 1) % 8) = 0
        omega
      · omega
    · have f := next_at m c ⟨n + 1, hn⟩ h a b
      have hm : (n + 1) % 8 = n % 8 + 1 := by omega
      have ht : term m c ⟨n, Nat.lt_of_succ_lt hn⟩ a b = term m c ⟨n + 1, hn⟩ a b := by
        have hr : rowOf ⟨n, Nat.lt_of_succ_lt hn⟩ a = rowOf ⟨n + 1, hn⟩ a :=
          Fin.ext (show 768 * (n / 16) + a.val = 768 * ((n + 1) / 16) + a.val by omega)
        have hc : colOf ⟨n, Nat.lt_of_succ_lt hn⟩ b = colOf ⟨n + 1, hn⟩ b :=
          Fin.ext (show 1024 * (n / 8 % 2) + b.val = 1024 * ((n + 1) / 8 % 2) + b.val by omega)
        unfold term
        rw [hr, hc]
      refine f.trans ?_
      simp only [Nat.add_sub_cancel]
      rw [ih (Nat.lt_of_succ_lt hn), ht, hm, Nat.mul_add 1024 (n % 8 + 1) 1, Nat.mul_one, sum_next]

/-- The grid point that ends a block hands its sum over. -/
theorem last_at (t : Fin cfg0.N) (h : t.val % 8 = 7) (a : Fin 768) (b : Fin 1024) :
    (outsAt0 m c t.val t.isLt).1 (ix2 a b) = (outsAt0 m c t.val t.isLt).2 (ix2 a b) := by
  rw [outsAt0_C m c t (by omega) (by omega) h]
  frame_out
  rfl

/-- The result array after the run. -/
theorem final : (dats m 0 c).arrAt 2 cfg0.N = prod (left m c) (right m c) := by
  refine (dats m 0 c).arrAt_eq_of_covers 2 _ (by decide +kernel) fun t hf y => ?_
  have hl : t.val % 8 = 7 := (flush0_2 t).mp hf
  have hN := Nat.lt_of_lt_of_eq t.isLt N_0
  blk_simp
  rw [after0_2]
  obtain ⟨a, b, rfl⟩ : ∃ (a : Fin 768) (b : Fin 1024), y = ix2 a b := ⟨y 0, y 1, (ix2_eta y).symm⟩
  have he : (win0_2.blk t).view.emb (ix2 a b) = ix2 (rowOf t a) (colOf t b) := by
    blk_ext [idx_2 t, rowOf, colOf]
  rw [he]
  refine (last_at m c t hl a b).trans ((sum_at m c a b t.val t.isLt).trans ?_)
  rw [hl]
  exact sum_pos _

end Cert.DwUqIdeal.Val

namespace Cert.DwUqReferenceIdeal.Val

open Cert.DwUqReferenceIdeal Cert.DwUqReferenceIdeal.Gen
open Idealize.ShloMosaic Idealize.ShloMosaic.TcCoe Idealize.ShloMosaic.Tactic

/-- The reference's result. -/
theorem prod_eq (x : S8192x768.Idx → EReal) (y : S8192x2048.Idx → EReal) :
    (truncf (F := Ideal) .bf16 (transpose S768x2048 [1, 0] (Host.dotGeneral (F := Ideal) (φ₁ := .f32) (φ₂ := .f32) dot_S8192x2048_S8192x768_S2048x768_0_0_1_1_n_n none y x) transposes_S2048x768_S768x2048_1_0) bitsLt_bf16_f32 : S768x2048.Idx → EReal) = Cert.DwUqIdeal.Val.prod x y := by
  funext i
  obtain ⟨a, b, rfl⟩ : ∃ (a : Fin 768) (b : Fin 2048), i = ix2 a b := ⟨i 0, i 1, (ix2_eta i).symm⟩
  pointwise
  exact Finset.sum_congr rfl fun k _ => mul_comm _ _

end Cert.DwUqReferenceIdeal.Val
-- ==== Proof.Dkvn.lean ====
module

public import proofs.«01_k».proof.Proof.Gen.DkvnIdeal.Value
public import proofs.«01_k».proof.Proof.Gen.DkvnReferenceIdeal
public import Idealize.ShloMosaic.Lib.Pipeline.ValueKit
public import Idealize.ShloMosaic.Lib.Pipeline.ValueKit.Point
public import Idealize.ShloMosaic.Lib.Pointwise
public import Idealize.ShloMosaic.Lib.StableHlo.ReadAt

/-! What the call leaves in its result array, the gradient of the array that w_ukv is applied to, and that the reference's product is the same. -/

@[expose] public section

set_option maxRecDepth 16384
noncomputable section

namespace Cert.DkvnIdeal.Val

open Cert.DkvnIdeal Cert.DkvnIdeal.Gen
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The gradient of the product. -/
def left : S8192x2048.Idx → EReal := m (c.tc.loc main_arg2)
/-- The weight. -/
def right : S512x2048.Idx → EReal := m (c.tc.loc main_arg1)

/-- The sum over the product's columns. -/
def prod (x : S8192x2048.Idx → EReal) (y : S512x2048.Idx → EReal) : S8192x512.Idx → EReal := fun i => ∑ k : Fin 2048, x (ix2 (i 0) k) * y (ix2 (i 1) k)

/-- The launch is given the operands. -/
theorem left_eq : V m c main_v0 = left m c := by
  funext i
  after_reads_at
  rfl
theorem right_eq : V m c main_v1 = right m c := by
  funext i
  after_reads_at
  rfl

theorem idx_0 : ∀ t : Fin cfg0.N, win0_0.index t = ![t.val / 1, 0] := (by decide +kernel : ∀ t : Fin grid0.N, win0_0.index t = ![t.val / 1, 0])
theorem idx_1 : ∀ t : Fin cfg0.N, win0_1.index t = ![t.val % 1, 0] := (by decide +kernel : ∀ t : Fin grid0.N, win0_1.index t = ![t.val % 1, 0])
theorem idx_2 : ∀ t : Fin cfg0.N, win0_2.index t = ![t.val / 1, t.val % 1] := (by decide +kernel : ∀ t : Fin grid0.N, win0_2.index t = ![t.val / 1, t.val % 1])

/-- The result's row at a row of a grid point's result block. -/
def rowOf (t : Fin cfg0.N) (a : Fin 1024) : Fin 8192 := ⟨1024 * (t.val / 1) + a.val, by have := Nat.lt_of_lt_of_eq t.isLt N_0; omega⟩
/-- The result's column at a column of a grid point's result block. -/
def colOf (t : Fin cfg0.N) (b : Fin 512) : Fin 512 := ⟨512 * (t.val % 1) + b.val, by have := Nat.lt_of_lt_of_eq t.isLt N_0; omega⟩

theorem blk_0 (t : Fin cfg0.N) (a : Fin 1024) (k : Fin 2048) : iblk m c 0 t (ix2 a k) = left m c (ix2 (rowOf t a) k) := by
  rw [← left_eq]
  blk_simp [iblk]
  refine congrArg _ ?_
  blk_ext [rowOf, idx_0 t]

theorem blk_1 (t : Fin cfg0.N) (b : Fin 512) (k : Fin 2048) : iblk m c 1 t (ix2 b k) = right m c (ix2 (colOf t b) k) := by
  rw [← right_eq]
  blk_simp [iblk]
  refine congrArg _ ?_
  blk_ext [colOf, idx_1 t]

/-- What the body makes of two blocks. -/
theorem out_at (x : S1024x2048.Idx → EReal) (y : S512x2048.Idx → EReal) (a : Fin 1024) (b : Fin 512) :
    out0_2 (F := Ideal) x y (ix2 a b) = ∑ k : Fin 2048, x (ix2 a k) * y (ix2 b k) := by
  unfold out0_2
  rw [View.canon_cons_unit_lit _ _ _ (by decide), View.ld_unit_lit _ _ (by decide), View.ld_unit_lit _ _ (by decide)]
  unfold k0_pay1
  pointwise

/-- The result array after the run. -/
theorem final : (dats m 0 c).arrAt 2 cfg0.N = prod (left m c) (right m c) := by
  refine (dats m 0 c).arrAt_eq_of_covers 2 _ (by decide +kernel) fun t hf y => ?_
  have hN := Nat.lt_of_lt_of_eq t.isLt N_0
  blk_simp
  rw [after0_2]
  obtain ⟨a, b, rfl⟩ : ∃ (a : Fin 1024) (b : Fin 512), y = ix2 a b := ⟨y 0, y 1, (ix2_eta y).symm⟩
  have he : (win0_2.blk t).view.emb (ix2 a b) = ix2 (rowOf t a) (colOf t b) := by
    blk_ext [idx_2 t, rowOf, colOf]
  rw [he]
  refine (out_at _ _ a b).trans (Finset.sum_congr rfl fun k _ => ?_)
  rw [blk_0, blk_1]
  rfl

end Cert.DkvnIdeal.Val

namespace Cert.DkvnReferenceIdeal.Val

open Cert.DkvnReferenceIdeal Cert.DkvnReferenceIdeal.Gen
open Idealize.ShloMosaic Idealize.ShloMosaic.TcCoe Idealize.ShloMosaic.Tactic

/-- The reference's result. -/
theorem prod_eq (x : S8192x2048.Idx → EReal) (y : S512x2048.Idx → EReal) :
    Host.dotGeneral (F := Ideal) (φ₁ := .f32) (φ₂ := .f32) dot_S8192x2048_S512x2048_S8192x512_1_1_0_0_n_n none x y = Cert.DkvnIdeal.Val.prod x y := by
  funext i
  pointwise
  rfl

end Cert.DkvnReferenceIdeal.Val
-- ==== Proof.DwUkv.lean ====
module

public import proofs.«01_k».proof.Proof.Gen.DwUkvIdeal.Value
public import proofs.«01_k».proof.Proof.Gen.DwUkvReferenceIdeal
public import proofs.«01_k».proof.Proof.Sums
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.StableHlo.ReadAt

/-! What the call leaves in its result array, the gradient of w_ukv, and that the reference's product is the same. -/

@[expose] public section

set_option maxRecDepth 16384
noncomputable section

namespace Cert.DwUkvIdeal.Val

open Cert.DwUkvIdeal Cert.DwUkvIdeal.Gen Cert.Sums
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The product's array. -/
def left : S8192x512.Idx → EReal := m (c.tc.loc main_arg0)
/-- The gradient of the product. -/
def right : S8192x2048.Idx → EReal := m (c.tc.loc main_arg2)

/-- The sum over the sequence. -/
def prod (x : S8192x512.Idx → EReal) (y : S8192x2048.Idx → EReal) : S512x2048.Idx → EReal := fun i => ∑ k : Fin 8192, x (ix2 k (i 0)) * y (ix2 k (i 1))

/-- The launch is given the operands. -/
theorem left_eq : V m c main_v0 = left m c := by
  funext i
  after_reads_at
  rfl
theorem right_eq : V m c main_v1 = right m c := by
  funext i
  after_reads_at
  rfl

theorem idx_0 : ∀ t : Fin cfg0.N, win0_0.index t = ![t.val % 8, t.val / 16] := (by decide +kernel : ∀ t : Fin grid0.N, win0_0.index t = ![t.val % 8, t.val / 16])
theorem idx_1 : ∀ t : Fin cfg0.N, win0_1.index t = ![t.val % 8, t.val / 8 % 2] := (by decide +kernel : ∀ t : Fin grid0.N, win0_1.index t = ![t.val % 8, t.val / 8 % 2])
theorem idx_2 : ∀ t : Fin cfg0.N, win0_2.index t = ![t.val / 16, t.val / 8 % 2] := (by decide +kernel : ∀ t : Fin grid0.N, win0_2.index t = ![t.val / 16, t.val / 8 % 2])

/-- The result's row at a row of a grid point's block. -/
def rowOf (t : Fin cfg0.N) (a : Fin 512) : Fin 512 := ⟨512 * (t.val / 16) + a.val, by have := Nat.lt_of_lt_of_eq t.isLt N_0; omega⟩
/-- The result's column at a column of a grid point's block. -/
def colOf (t : Fin cfg0.N) (b : Fin 1024) : Fin 2048 := ⟨1024 * (t.val / 8 % 2) + b.val, by omega⟩
/-- One position's part of a grid point's entry. -/
def term (t : Fin cfg0.N) (a : Fin 512) (b : Fin 1024) (k : Fin 8192) : EReal := left m c (ix2 k (rowOf t a)) * right m c (ix2 k (colOf t b))

theorem blk_0 (t : Fin cfg0.N) (k : Fin 1024) (a : Fin 512) : iblk m c 0 t (ix2 k a) = left m c (ix2 (pos (1024 * (t.val % 8) + k.val)) (rowOf t a)) := by
  have h : (pos (1024 * (t.val % 8) + k.val)).val = 1024 * (t.val % 8) + k.val := pos_val (by omega)
  rw [← left_eq]
  blk_simp [iblk]
  refine congrArg _ ?_
  blk_ext [rowOf, idx_0 t, h]

theorem blk_1 (t : Fin cfg0.N) (k : Fin 1024) (b : Fin 1024) : iblk m c 1 t (ix2 k b) = right m c (ix2 (pos (1024 * (t.val % 8) + k.val)) (colOf t b)) := by
  have h : (pos (1024 * (t.val % 8) + k.val)).val = 1024 * (t.val % 8) + k.val := pos_val (by omega)
  rw [← right_eq]
  blk_simp [iblk]
  refine congrArg _ ?_
  blk_ext [colOf, idx_1 t, h]

/-- The product of two blocks. -/
theorem pay1_at (x : S1024x512.Idx → EReal) (y : S1024x1024.Idx → EReal) (a : Fin 512) (b : Fin 1024) :
    k0_pay1 (F := Ideal) x y (ix2 a b) = ∑ k : Fin 1024, x (ix2 k a) * y (ix2 k b) := by
  unfold k0_pay1
  pointwise

/-- What a grid point starts its sum with. -/
theorem pay2_at (x : S1024x512.Idx → EReal) (y : S1024x1024.Idx → EReal) (a : Fin 512) (b : Fin 1024) :
    k0_pay2 (F := Ideal) x y (ix2 a b) = ∑ k : Fin 1024, x (ix2 k a) * y (ix2 k b) := by
  rw [← pay1_at]
  unfold k0_pay2
  pointwise

/-- What a grid point makes of the sum before it. -/
theorem pay3_at (x : S1024x512.Idx → EReal) (y : S1024x1024.Idx → EReal) (z : S512x1024.Idx → EReal) (a : Fin 512) (b : Fin 1024) :
    k0_pay3 (F := Ideal) x y z (ix2 a b) = z (ix2 a b) + ∑ k : Fin 1024, x (ix2 k a) * y (ix2 k b) := by
  rw [← pay1_at]
  unfold k0_pay3
  pointwise

/-- A grid point's blocks. -/
def leftBlk (t : Fin cfg0.N) : S1024x512.Idx → EReal := iblk m c 0 t
def rightBlk (t : Fin cfg0.N) : S1024x1024.Idx → EReal := iblk m c 1 t

/-- A grid point's blocks give the terms of its positions. -/
theorem part_eq (t : Fin cfg0.N) (a : Fin 512) (b : Fin 1024) :
    ∑ k : Fin 1024, leftBlk m c t (ix2 k a) * rightBlk m c t (ix2 k b) = ∑ k : Fin 1024, term m c t a b (pos (1024 * (t.val % 8) + k.val)) :=
  Finset.sum_congr rfl fun k _ => by unfold leftBlk rightBlk; rw [blk_0, blk_1]; rfl

/-- The first grid point of a block leaves its own positions' sum. -/
theorem first_at (t : Fin cfg0.N) (h : t.val % 8 = 0) (a : Fin 512) (b : Fin 1024) :
    (outsAt0 m c t.val t.isLt).2 (ix2 a b) = ∑ k : Fin 1024, term m c t a b (pos (1024 * (t.val % 8) + k.val)) := by
  rw [outsAt0_A m c t h (by omega) (by omega)]
  frame_out
  exact (pay2_at _ _ a b).trans (part_eq m c t a b)

/-- Each later one adds its positions' sum. -/
theorem next_at (t : Fin cfg0.N) (h : ¬t.val % 8 = 0) (a : Fin 512) (b : Fin 1024) :
    (outsAt0 m c t.val t.isLt).2 (ix2 a b)
      = (outsAt0 m c (t.val - 1) (Nat.lt_of_le_of_lt (Nat.sub_le _ _) t.isLt)).2 (ix2 a b) + ∑ k : Fin 1024, term m c t a b (pos (1024 * (t.val % 8) + k.val)) := by
  by_cases h7 : t.val % 8 = 7
  · rw [outsAt0_C m c t h (by omega) h7]
    frame_out
    simp only [read_unread_whole]; exact (pay3_at _ _ _ a b).trans (congrArg _ (part_eq m c t a b))
  · rw [outsAt0_B m c t h (by omega) h7]
    frame_out
    simp only [read_unread_whole]; exact (pay3_at _ _ _ a b).trans (congrArg _ (part_eq m c t a b))

/-- The sum so far. -/
theorem sum_at (a : Fin 512) (b : Fin 1024) : ∀ (n : ℕ) (hn : n < cfg0.N),
    (outsAt0 m c n hn).2 (ix2 a b) = ∑ k ∈ Finset.range (1024 * (n % 8 + 1)), term m c ⟨n, hn⟩ a b (pos k) := by
  intro n
  induction n with
  | zero =>
    intro hn
    exact (first_at m c ⟨0, hn⟩ rfl a b).trans (sum_first _ rfl rfl)
  | succ n ih =>
    intro hn
    by_cases h : (n + 1) % 8 = 0
    · refine (first_at m c ⟨n + 1, hn⟩ h a b).trans (sum_first _ ?_ ?_)
      · show 1024 * ((n + 1) % 8) = 0
        omega
      · omega
    · have f := next_at m c ⟨n + 1, hn⟩ h a b
      have hm : (n + 1) % 8 = n % 8 + 1 := by omega
      have ht : term m c ⟨n, Nat.lt_of_succ_lt hn⟩ a b = term m c ⟨n + 1, hn⟩ a b := by
        have hr : rowOf ⟨n, Nat.lt_of_succ_lt hn⟩ a = rowOf ⟨n + 1, hn⟩ a :=
          Fin.ext (show 512 * (n / 16) + a.val = 512 * ((n + 1) / 16) + a.val by omega)
        have hc : colOf ⟨n, Nat.lt_of_succ_lt hn⟩ b = colOf ⟨n + 1, hn⟩ b :=
          Fin.ext (show 1024 * (n / 8 % 2) + b.val = 1024 * ((n + 1) / 8 % 2) + b.val by omega)
        unfold term
        rw [hr, hc]
      refine f.trans ?_
      simp only [Nat.add_sub_cancel]
      rw [ih (Nat.lt_of_succ_lt hn), ht, hm, Nat.mul_add 1024 (n % 8 + 1) 1, Nat.mul_one, sum_next]

/-- The grid point that ends a block hands its sum over. -/
theorem last_at (t : Fin cfg0.N) (h : t.val % 8 = 7) (a : Fin 512) (b : Fin 1024) :
    (outsAt0 m c t.val t.isLt).1 (ix2 a b) = (outsAt0 m c t.val t.isLt).2 (ix2 a b) := by
  rw [outsAt0_C m c t (by omega) (by omega) h]
  frame_out
  rfl

/-- The result array after the run. -/
theorem final : (dats m 0 c).arrAt 2 cfg0.N = prod (left m c) (right m c) := by
  refine (dats m 0 c).arrAt_eq_of_covers 2 _ (by decide +kernel) fun t hf y => ?_
  have hl : t.val % 8 = 7 := (flush0_2 t).mp hf
  have hN := Nat.lt_of_lt_of_eq t.isLt N_0
  blk_simp
  rw [after0_2]
  obtain ⟨a, b, rfl⟩ : ∃ (a : Fin 512) (b : Fin 1024), y = ix2 a b := ⟨y 0, y 1, (ix2_eta y).symm⟩
  have he : (win0_2.blk t).view.emb (ix2 a b) = ix2 (rowOf t a) (colOf t b) := by
    blk_ext [idx_2 t, rowOf, colOf]
  rw [he]
  refine (last_at m c t hl a b).trans ((sum_at m c a b t.val t.isLt).trans ?_)
  rw [hl]
  exact sum_pos _

end Cert.DwUkvIdeal.Val

namespace Cert.DwUkvReferenceIdeal.Val

open Cert.DwUkvReferenceIdeal Cert.DwUkvReferenceIdeal.Gen
open Idealize.ShloMosaic Idealize.ShloMosaic.TcCoe Idealize.ShloMosaic.Tactic

/-- The reference's result. -/
theorem prod_eq (x : S8192x512.Idx → EReal) (y : S8192x2048.Idx → EReal) :
    (truncf (F := Ideal) .bf16 (transpose S512x2048 [1, 0] (Host.dotGeneral (F := Ideal) (φ₁ := .f32) (φ₂ := .f32) dot_S8192x2048_S8192x512_S2048x512_0_0_1_1_n_n none y x) transposes_S2048x512_S512x2048_1_0) bitsLt_bf16_f32 : S512x2048.Idx → EReal) = Cert.DwUkvIdeal.Val.prod x y := by
  funext i
  obtain ⟨a, b, rfl⟩ : ∃ (a : Fin 512) (b : Fin 2048), i = ix2 a b := ⟨i 0, i 1, (ix2_eta i).symm⟩
  pointwise
  exact Finset.sum_congr rfl fun k _ => mul_comm _ _

end Cert.DwUkvReferenceIdeal.Val
-- ==== Proof.DwUp.lean ====
module

public import proofs.«01_k».proof.Proof.Gen.DwUpIdeal.Value
public import proofs.«01_k».proof.Proof.Gen.DwUpReferenceIdeal
public import proofs.«01_k».proof.Proof.Sums
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.StableHlo.ReadAt

/-! What the call leaves in its result array, the gradient of w_up cut by columns over the chips, and that the reference's
product is the same. The call takes the two halves of the columns in turn, 1408 columns at a time. -/

@[expose] public section

set_option maxRecDepth 16384
noncomputable section

namespace Cert.DwUpIdeal.Val

open Cert.DwUpIdeal Cert.DwUpIdeal.Gen Cert.Sums
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The product's array. -/
def left : S8192x2048.Idx → EReal := m (c.tc.loc main_arg0)
/-- The gradient of the product. -/
def right : S8192x11264.Idx → EReal := m (c.tc.loc main_arg2)

/-- The sum over the sequence. -/
def prod (x : S8192x2048.Idx → EReal) (y : S8192x11264.Idx → EReal) : S4x2048x2816.Idx → EReal := fun i =>
  ∑ k : Fin 8192, x (ix2 k (i 1)) * y (ix2 k ⟨(i 0).val * 2816 + (i 2).val, by have := (i 0).isLt; have := (i 2).isLt; simp [Shape.size] at *; omega⟩)

/-- A column of the call's operand. -/
def paired (j : Fin 8) (b : Fin 1408) : Fin 11264 := ⟨1408 * j.val + b.val, by omega⟩
/-- The column it was. -/
def column (j : Fin 8) (b : Fin 1408) : Fin 11264 := ⟨5632 * (j.val % 2) + 1408 * (j.val / 2) + b.val, by omega⟩

/-- The launch is given the operands. -/
theorem left_eq : V m c main_v0 = left m c := by
  funext i
  after_reads_at
  rfl
theorem right_at (k : Fin 8192) (j : Fin 8) (b : Fin 1408) : V m c main_v4 (ix2 k (paired j b)) = right m c (ix2 k (column j b)) := by
  after_reads_at
  refine congrArg (fun z => right m c (ix2 k z)) (Fin.ext ?_)
  show (1408 * j.val + b.val) / 1408 % 2 * 5632 + (1408 * j.val + b.val) / 2816 * 1408 + (1408 * j.val + b.val) % 1408
    = 5632 * (j.val % 2) + 1408 * (j.val / 2) + b.val
  omega

theorem idx_0 : ∀ t : Fin cfg0.N, win0_0.index t = ![t.val % 2, t.val / 16] := (by decide +kernel : ∀ t : Fin grid0.N, win0_0.index t = ![t.val % 2, t.val / 16])
theorem idx_1 : ∀ t : Fin cfg0.N, win0_1.index t = ![t.val % 2, t.val / 2 % 8] := (by decide +kernel : ∀ t : Fin grid0.N, win0_1.index t = ![t.val % 2, t.val / 2 % 8])
theorem idx_2 : ∀ t : Fin cfg0.N, win0_2.index t = ![(t.val / 2 % 8 % 2 * 4 + t.val / 2 % 8 / 2) / 2, t.val / 16, (t.val / 2 % 8 % 2 * 4 + t.val / 2 % 8 / 2) % 2] := (by decide +kernel : ∀ t : Fin grid0.N, win0_2.index t = ![(t.val / 2 % 8 % 2 * 4 + t.val / 2 % 8 / 2) / 2, t.val / 16, (t.val / 2 % 8 % 2 * 4 + t.val / 2 % 8 / 2) % 2])

/-- The result's row at a row of a grid point's block. -/
def rowOf (t : Fin cfg0.N) (a : Fin 512) : Fin 2048 := ⟨512 * (t.val / 16) + a.val, by have := Nat.lt_of_lt_of_eq t.isLt N_0; omega⟩
/-- The result's column at a column of a grid point's block. -/
def colOf (t : Fin cfg0.N) (b : Fin 1408) : Fin 11264 := column ⟨t.val / 2 % 8, by omega⟩ b
/-- The chip whose columns a grid point's block is of, -/
def shardOf (t : Fin cfg0.N) : Fin 4 := ⟨(t.val / 2 % 8 % 2 * 4 + t.val / 2 % 8 / 2) / 2, by omega⟩
/-- and the place of a column of the block among them. -/
def placeOf (t : Fin cfg0.N) (b : Fin 1408) : Fin 2816 := ⟨1408 * ((t.val / 2 % 8 % 2 * 4 + t.val / 2 % 8 / 2) % 2) + b.val, by omega⟩
/-- One position's part of a grid point's entry. -/
def term (t : Fin cfg0.N) (a : Fin 512) (b : Fin 1408) (k : Fin 8192) : EReal := left m c (ix2 k (rowOf t a)) * right m c (ix2 k (colOf t b))

theorem blk_0 (t : Fin cfg0.N) (k : Fin 4096) (a : Fin 512) : iblk m c 0 t (ix2 k a) = left m c (ix2 (pos (4096 * (t.val % 2) + k.val)) (rowOf t a)) := by
  have h : (pos (4096 * (t.val % 2) + k.val)).val = 4096 * (t.val % 2) + k.val := pos_val (by omega)
  rw [← left_eq]
  blk_simp [iblk]
  refine congrArg _ ?_
  blk_ext [rowOf, idx_0 t, h]

theorem blk_1 (t : Fin cfg0.N) (k : Fin 4096) (b : Fin 1408) : iblk m c 1 t (ix2 k b) = right m c (ix2 (pos (4096 * (t.val % 2) + k.val)) (colOf t b)) := by
  have h : (pos (4096 * (t.val % 2) + k.val)).val = 4096 * (t.val % 2) + k.val := pos_val (by omega)
  unfold colOf
  rw [← right_at]
  blk_simp [iblk]
  refine congrArg _ ?_
  blk_ext [paired, idx_1 t, h]

/-- The product of two blocks. -/
theorem pay1_at (x : S4096x512.Idx → EReal) (y : S4096x1408.Idx → EReal) (a : Fin 512) (b : Fin 1408) :
    k0_pay1 (F := Ideal) x y (ix2 a b) = ∑ k : Fin 4096, x (ix2 k a) * y (ix2 k b) := by
  unfold k0_pay1
  pointwise

/-- What a grid point starts its sum with. -/
theorem pay2_at (x : S4096x512.Idx → EReal) (y : S4096x1408.Idx → EReal) (a : Fin 512) (b : Fin 1408) :
    k0_pay2 (F := Ideal) x y (ix2 a b) = ∑ k : Fin 4096, x (ix2 k a) * y (ix2 k b) := by
  rw [← pay1_at]
  unfold k0_pay2
  pointwise

/-- What a grid point makes of the sum before it. -/
theorem pay3_at (x : S4096x512.Idx → EReal) (y : S4096x1408.Idx → EReal) (z : S512x1408.Idx → EReal) (a : Fin 512) (b : Fin 1408) :
    k0_pay3 (F := Ideal) x y z (ix2 a b) = z (ix2 a b) + ∑ k : Fin 4096, x (ix2 k a) * y (ix2 k b) := by
  rw [← pay1_at]
  unfold k0_pay3
  pointwise

/-- A grid point's blocks. -/
def leftBlk (t : Fin cfg0.N) : S4096x512.Idx → EReal := iblk m c 0 t
def rightBlk (t : Fin cfg0.N) : S4096x1408.Idx → EReal := iblk m c 1 t

/-- A grid point's blocks give the terms of its positions. -/
theorem part_eq (t : Fin cfg0.N) (a : Fin 512) (b : Fin 1408) :
    ∑ k : Fin 4096, leftBlk m c t (ix2 k a) * rightBlk m c t (ix2 k b) = ∑ k : Fin 4096, term m c t a b (pos (4096 * (t.val % 2) + k.val)) :=
  Finset.sum_congr rfl fun k _ => by unfold leftBlk rightBlk; rw [blk_0, blk_1]; rfl

/-- The first grid point of a block leaves its own positions' sum. -/
theorem first_at (t : Fin cfg0.N) (h : t.val % 2 = 0) (a : Fin 512) (b : Fin 1408) :
    (outsAt0 m c t.val t.isLt).2 (ix2 a b) = ∑ k : Fin 4096, term m c t a b (pos (4096 * (t.val % 2) + k.val)) := by
  rw [outsAt0_A m c t h (by omega) (by omega)]
  frame_out
  exact (pay2_at _ _ a b).trans (part_eq m c t a b)

/-- Each later one adds its positions' sum. -/
theorem next_at (t : Fin cfg0.N) (h : ¬t.val % 2 = 0) (a : Fin 512) (b : Fin 1408) :
    (outsAt0 m c t.val t.isLt).2 (ix2 a b)
      = (outsAt0 m c (t.val - 1) (Nat.lt_of_le_of_lt (Nat.sub_le _ _) t.isLt)).2 (ix2 a b) + ∑ k : Fin 4096, term m c t a b (pos (4096 * (t.val % 2) + k.val)) := by
  rw [outsAt0_B m c t h (by omega) (by omega)]
  frame_out
  simp only [read_unread_whole]; exact (pay3_at _ _ _ a b).trans (congrArg _ (part_eq m c t a b))

/-- The sum so far. -/
theorem sum_at (a : Fin 512) (b : Fin 1408) : ∀ (n : ℕ) (hn : n < cfg0.N),
    (outsAt0 m c n hn).2 (ix2 a b) = ∑ k ∈ Finset.range (4096 * (n % 2 + 1)), term m c ⟨n, hn⟩ a b (pos k) := by
  intro n
  induction n with
  | zero =>
    intro hn
    exact (first_at m c ⟨0, hn⟩ rfl a b).trans (sum_first _ rfl rfl)
  | succ n ih =>
    intro hn
    by_cases h : (n + 1) % 2 = 0
    · refine (first_at m c ⟨n + 1, hn⟩ h a b).trans (sum_first _ ?_ ?_)
      · show 4096 * ((n + 1) % 2) = 0
        omega
      · omega
    · have f := next_at m c ⟨n + 1, hn⟩ h a b
      have hm : (n + 1) % 2 = n % 2 + 1 := by omega
      have ht : term m c ⟨n, Nat.lt_of_succ_lt hn⟩ a b = term m c ⟨n + 1, hn⟩ a b := by
        have hr : rowOf ⟨n, Nat.lt_of_succ_lt hn⟩ a = rowOf ⟨n + 1, hn⟩ a :=
          Fin.ext (show 512 * (n / 16) + a.val = 512 * ((n + 1) / 16) + a.val by omega)
        have hc : colOf ⟨n, Nat.lt_of_succ_lt hn⟩ b = colOf ⟨n + 1, hn⟩ b :=
          by
          unfold colOf
          refine congrArg (fun j => column j b) (Fin.ext ?_)
          show n / 2 % 8 = (n + 1) / 2 % 8
          omega
        unfold term
        rw [hr, hc]
      refine f.trans ?_
      simp only [Nat.add_sub_cancel]
      rw [ih (Nat.lt_of_succ_lt hn), ht, hm, Nat.mul_add 4096 (n % 2 + 1) 1, Nat.mul_one, sum_next]

/-- The grid point that ends a block hands its sum over. -/
theorem last_at (t : Fin cfg0.N) (h : t.val % 2 = 1) (a : Fin 512) (b : Fin 1408) :
    (outsAt0 m c t.val t.isLt).1 (ix3 0 a b) = (outsAt0 m c t.val t.isLt).2 (ix2 a b) := by
  rw [outsAt0_B m c t (by omega) (by omega) h]
  frame_out
  unfold k0_pay4
  pointwise

/-- The result array after the run. -/
theorem final : (dats m 0 c).arrAt 2 cfg0.N = prod (left m c) (right m c) := by
  refine (dats m 0 c).arrAt_eq_of_covers 2 _ (by decide +kernel) fun t hf y => ?_
  have hl : t.val % 2 = 1 := (flush0_2 t).mp hf
  have hN := Nat.lt_of_lt_of_eq t.isLt N_0
  blk_simp
  rw [after0_2]
  obtain ⟨a, b, rfl⟩ : ∃ (a : Fin 512) (b : Fin 1408), y = ix3 0 a b := ⟨y 1, y 2, by
    refine (ix3_eta y).symm.trans ?_
    rw [show y 0 = (0 : Fin 1) from Fin.ext (Nat.lt_one_iff.mp (y 0).isLt)]⟩
  have he : (win0_2.blk t).view.emb (ix3 0 a b) = ix3 (shardOf t) (rowOf t a) (placeOf t b) := by
    blk_ext [idx_2 t, rowOf, shardOf, placeOf]
  rw [he]
  refine (last_at m c t hl a b).trans ((sum_at m c a b t.val t.isLt).trans ?_)
  rw [hl]
  refine (sum_pos _).trans (Finset.sum_congr rfl fun k _ => ?_)
  have hc : colOf t b = ⟨(shardOf t).val * 2816 + (placeOf t b).val, by have := (shardOf t).isLt; have := (placeOf t b).isLt; omega⟩ := by
    refine Fin.ext ?_
    show 5632 * (t.val / 2 % 8 % 2) + 1408 * (t.val / 2 % 8 / 2) + b.val
      = (t.val / 2 % 8 % 2 * 4 + t.val / 2 % 8 / 2) / 2 * 2816 + (1408 * ((t.val / 2 % 8 % 2 * 4 + t.val / 2 % 8 / 2) % 2) + b.val)
    omega
  unfold term
  rw [hc]
  rfl

end Cert.DwUpIdeal.Val

namespace Cert.DwUpReferenceIdeal.Val

open Cert.DwUpReferenceIdeal Cert.DwUpReferenceIdeal.Gen
open Idealize.ShloMosaic Idealize.ShloMosaic.TcCoe Idealize.ShloMosaic.Tactic

/-- The reference's result. -/
theorem prod_eq (x : S8192x2048.Idx → EReal) (y : S8192x11264.Idx → EReal) :
    (transpose S4x2048x2816 [1, 0, 2] (shapeCast S2048x4x2816 (truncf (F := Ideal) .bf16 (transpose S2048x11264 [1, 0]
        (Host.dotGeneral (F := Ideal) (φ₁ := .f32) (φ₂ := .f32) dot_S8192x11264_S8192x2048_S11264x2048_0_0_1_1_n_n none y x)
        transposes_S11264x2048_S2048x11264_1_0) bitsLt_bf16_f32) shapeCasts_S2048x11264_S2048x4x2816) transposes_S2048x4x2816_S4x2048x2816_1_0_2 : S4x2048x2816.Idx → EReal)
      = Cert.DwUpIdeal.Val.prod x y := by
  funext i
  obtain ⟨s, a, b, rfl⟩ : ∃ (s : Fin 4) (a : Fin 2048) (b : Fin 2816), i = ix3 s a b := ⟨i 0, i 1, i 2, (ix3_eta i).symm⟩
  pointwise
  exact Finset.sum_congr rfl fun k _ => mul_comm _ _

end Cert.DwUpReferenceIdeal.Val
-- ==== Proof.Dh2.lean ====
module

public import proofs.«01_k».proof.Proof.Gen.Dh2Ideal.Value
public import proofs.«01_k».proof.Proof.Gen.Dh2ReferenceIdeal
public import Idealize.ShloMosaic.Lib.Pipeline.ValueKit
public import Idealize.ShloMosaic.Lib.Pipeline.ValueKit.Point
public import Idealize.ShloMosaic.Lib.Pipeline.ReadBack
public import Idealize.ShloMosaic.Lib.Pointwise
public import Idealize.ShloMosaic.Lib.StableHlo.ReadAt

/-! What the call leaves in its result array, the gradient of the array that w_up is applied to, and that the reference's
product is the same. The call takes the two halves of the columns in turn, 1408 columns at a time. -/

@[expose] public section

set_option maxRecDepth 16384
noncomputable section

namespace Cert.Dh2Ideal.Val

open Cert.Dh2Ideal Cert.Dh2Ideal.Gen
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD)

/-- The gradient of the product. -/
def left : S8192x11264.Idx → EReal := m (c.tc.loc main_arg2)
/-- The weight. -/
def right : S2048x11264.Idx → EReal := m (c.tc.loc main_arg1)

/-- The sum over the product's columns. -/
def prod (x : S8192x11264.Idx → EReal) (y : S2048x11264.Idx → EReal) : S8192x2048.Idx → EReal := fun i => ∑ k : Fin 11264, x (ix2 (i 0) k) * y (ix2 (i 1) k)

/-- A column of the call's first operand. -/
def paired (j : Fin 8) (e : Fin 1408) : Fin 11264 := ⟨1408 * j.val + e.val, by omega⟩
/-- The column it was. -/
def column (j : Fin 8) (e : Fin 1408) : Fin 11264 := ⟨5632 * (j.val % 2) + 1408 * (j.val / 2) + e.val, by omega⟩
/-- The place of a column among a chip's. -/
def joined (s : Fin 4) (u : Fin 2816) : Fin 11264 := ⟨2816 * s.val + u.val, by omega⟩

/-- The launch is given the operands. -/
theorem left_at (q : Fin 8192) (j : Fin 8) (e : Fin 1408) : V m c main_v3 (ix2 q (paired j e)) = left m c (ix2 q (column j e)) := by
  after_reads_at
  refine congrArg (fun z => left m c (ix2 q z)) (Fin.ext ?_)
  show (1408 * j.val + e.val) / 1408 % 2 * 5632 + (1408 * j.val + e.val) / 2816 * 1408 + (1408 * j.val + e.val) % 1408
    = 5632 * (j.val % 2) + 1408 * (j.val / 2) + e.val
  omega
theorem right_at (s : Fin 4) (b : Fin 2048) (u : Fin 2816) : V m c main_v6 (ix3 s b u) = right m c (ix2 b (joined s u)) := by
  after_reads_at
  refine congrArg (fun z => right m c (ix2 b z)) (Fin.ext ?_)
  show s.val * 2816 + u.val = 2816 * s.val + u.val
  omega

theorem idx_0 : ∀ t : Fin cfg0.N, win0_0.index t = ![t.val / 4, t.val % 2] := (by decide +kernel : ∀ t : Fin grid0.N, win0_0.index t = ![t.val / 4, t.val % 2])
theorem idx_1 : ∀ t : Fin cfg0.N, win0_1.index t = ![(0 + 2 * (t.val % 2)) / 2, t.val / 2 % 2, (0 + 2 * (t.val % 2)) % 2] := (by decide +kernel : ∀ t : Fin grid0.N, win0_1.index t = ![(0 + 2 * (t.val % 2)) / 2, t.val / 2 % 2, (0 + 2 * (t.val % 2)) % 2])
theorem idx_2 : ∀ t : Fin cfg0.N, win0_2.index t = ![(4 + 2 * (t.val % 2)) / 2, t.val / 2 % 2, (4 + 2 * (t.val % 2)) % 2] := (by decide +kernel : ∀ t : Fin grid0.N, win0_2.index t = ![(4 + 2 * (t.val % 2)) / 2, t.val / 2 % 2, (4 + 2 * (t.val % 2)) % 2])
theorem idx_3 : ∀ t : Fin cfg0.N, win0_3.index t = ![(1 + 2 * (t.val % 2)) / 2, t.val / 2 % 2, (1 + 2 * (t.val % 2)) % 2] := (by decide +kernel : ∀ t : Fin grid0.N, win0_3.index t = ![(1 + 2 * (t.val % 2)) / 2, t.val / 2 % 2, (1 + 2 * (t.val % 2)) % 2])
theorem idx_4 : ∀ t : Fin cfg0.N, win0_4.index t = ![(5 + 2 * (t.val % 2)) / 2, t.val / 2 % 2, (5 + 2 * (t.val % 2)) % 2] := (by decide +kernel : ∀ t : Fin grid0.N, win0_4.index t = ![(5 + 2 * (t.val % 2)) / 2, t.val / 2 % 2, (5 + 2 * (t.val % 2)) % 2])
theorem idx_5 : ∀ t : Fin cfg0.N, win0_5.index t = ![t.val / 4, t.val / 2 % 2] := (by decide +kernel : ∀ t : Fin grid0.N, win0_5.index t = ![t.val / 4, t.val / 2 % 2])

/-- The result's row at a row of a grid point's block. -/
def rowOf (t : Fin cfg0.N) (a : Fin 512) : Fin 8192 := ⟨512 * (t.val / 4) + a.val, by have := Nat.lt_of_lt_of_eq t.isLt N_0; omega⟩
/-- The result's column at a column of a grid point's block. -/
def colOf (t : Fin cfg0.N) (b : Fin 1024) : Fin 2048 := ⟨1024 * (t.val / 2 % 2) + b.val, by omega⟩
/-- The blocks of 1408 columns that a grid point sums over. -/
def blockOf (t : Fin cfg0.N) (p : Fin 4) : Fin 8 := ⟨4 * (t.val % 2) + p.val, by omega⟩
/-- One column's part of a grid point's entry. -/
def term (t : Fin cfg0.N) (a : Fin 512) (b : Fin 1024) (k : Fin 11264) : EReal := left m c (ix2 (rowOf t a) k) * right m c (ix2 (colOf t b) k)
/-- One block of columns' part. -/
def blockSum (t : Fin cfg0.N) (a : Fin 512) (b : Fin 1024) (j : Fin 8) : EReal := ∑ e : Fin 1408, term m c t a b (column j e)

/-- A column of a grid point's block of the first operand. -/
def slice (p : Fin 4) (e : Fin 1408) : Fin 5632 := ⟨1408 * p.val + e.val, by omega⟩

theorem blk_0 (t : Fin cfg0.N) (a : Fin 512) (p : Fin 4) (e : Fin 1408) :
    iblk m c 0 t (ix2 a (slice p e)) = left m c (ix2 (rowOf t a) (column (blockOf t p) e)) := by
  rw [← left_at]
  blk_simp [iblk]
  refine congrArg _ ?_
  blk_ext [rowOf, paired, blockOf, slice, idx_0 t]

theorem blk_1 (t : Fin cfg0.N) (b : Fin 1024) (e : Fin 1408) :
    iblk m c 1 t (ix3 0 b e) = right m c (ix2 (colOf t b) (column (blockOf t 0) e)) := by
  have hj : joined ⟨(0 + 2 * (t.val % 2)) / 2, by omega⟩ ⟨1408 * ((0 + 2 * (t.val % 2)) % 2) + e.val, by omega⟩ = column (blockOf t 0) e := by
    refine Fin.ext ?_
    show 2816 * ((0 + 2 * (t.val % 2)) / 2) + (1408 * ((0 + 2 * (t.val % 2)) % 2) + e.val) = 5632 * ((4 * (t.val % 2) + 0) % 2) + 1408 * ((4 * (t.val % 2) + 0) / 2) + e.val
    omega
  rw [← hj, ← right_at]
  blk_simp [iblk]
  refine congrArg _ ?_
  blk_ext [colOf, idx_1 t]

theorem blk_2 (t : Fin cfg0.N) (b : Fin 1024) (e : Fin 1408) :
    iblk m c 2 t (ix3 0 b e) = right m c (ix2 (colOf t b) (column (blockOf t 1) e)) := by
  have hj : joined ⟨(4 + 2 * (t.val % 2)) / 2, by omega⟩ ⟨1408 * ((4 + 2 * (t.val % 2)) % 2) + e.val, by omega⟩ = column (blockOf t 1) e := by
    refine Fin.ext ?_
    show 2816 * ((4 + 2 * (t.val % 2)) / 2) + (1408 * ((4 + 2 * (t.val % 2)) % 2) + e.val) = 5632 * ((4 * (t.val % 2) + 1) % 2) + 1408 * ((4 * (t.val % 2) + 1) / 2) + e.val
    omega
  rw [← hj, ← right_at]
  blk_simp [iblk]
  refine congrArg _ ?_
  blk_ext [colOf, idx_2 t]

theorem blk_3 (t : Fin cfg0.N) (b : Fin 1024) (e : Fin 1408) :
    iblk m c 3 t (ix3 0 b e) = right m c (ix2 (colOf t b) (column (blockOf t 2) e)) := by
  have hj : joined ⟨(1 + 2 * (t.val % 2)) / 2, by omega⟩ ⟨1408 * ((1 + 2 * (t.val % 2)) % 2) + e.val, by omega⟩ = column (blockOf t 2) e := by
    refine Fin.ext ?_
    show 2816 * ((1 + 2 * (t.val % 2)) / 2) + (1408 * ((1 + 2 * (t.val % 2)) % 2) + e.val) = 5632 * ((4 * (t.val % 2) + 2) % 2) + 1408 * ((4 * (t.val % 2) + 2) / 2) + e.val
    omega
  rw [← hj, ← right_at]
  blk_simp [iblk]
  refine congrArg _ ?_
  blk_ext [colOf, idx_3 t]

theorem blk_4 (t : Fin cfg0.N) (b : Fin 1024) (e : Fin 1408) :
    iblk m c 4 t (ix3 0 b e) = right m c (ix2 (colOf t b) (column (blockOf t 3) e)) := by
  have hj : joined ⟨(5 + 2 * (t.val % 2)) / 2, by omega⟩ ⟨1408 * ((5 + 2 * (t.val % 2)) % 2) + e.val, by omega⟩ = column (blockOf t 3) e := by
    refine Fin.ext ?_
    show 2816 * ((5 + 2 * (t.val % 2)) / 2) + (1408 * ((5 + 2 * (t.val % 2)) % 2) + e.val) = 5632 * ((4 * (t.val % 2) + 3) % 2) + 1408 * ((4 * (t.val % 2) + 3) / 2) + e.val
    omega
  rw [← hj, ← right_at]
  blk_simp [iblk]
  refine congrArg _ ?_
  blk_ext [colOf, idx_4 t]

/-- The products of the blocks. -/
theorem pay1_at (x : S512x5632.Idx → EReal) (y0 y1 y2 y3 : S1x1024x1408.Idx → EReal) (a : Fin 512) (b : Fin 1024) :
    k0_pay1 (F := Ideal) x y0 y1 y2 y3 (ix2 a b)
      = (∑ e : Fin 1408, x (ix2 a (slice 0 e)) * y0 (ix3 0 b e)) + (∑ e : Fin 1408, x (ix2 a (slice 1 e)) * y1 (ix3 0 b e))
        + (∑ e : Fin 1408, x (ix2 a (slice 2 e)) * y2 (ix3 0 b e)) + (∑ e : Fin 1408, x (ix2 a (slice 3 e)) * y3 (ix3 0 b e)) := by
  unfold k0_pay1
  pointwise
  rfl

/-- What a grid point starts its sum with. -/
theorem pay2_at (x : S512x5632.Idx → EReal) (y0 y1 y2 y3 : S1x1024x1408.Idx → EReal) (a : Fin 512) (b : Fin 1024) :
    k0_pay2 (F := Ideal) x y0 y1 y2 y3 (ix2 a b) = k0_pay1 (F := Ideal) x y0 y1 y2 y3 (ix2 a b) := by
  unfold k0_pay2
  generalize k0_pay1 (F := Ideal) x y0 y1 y2 y3 = z
  pointwise

/-- What a grid point makes of the sum before it. -/
theorem pay3_at (x : S512x5632.Idx → EReal) (y0 y1 y2 y3 : S1x1024x1408.Idx → EReal) (w : S512x1024.Idx → EReal) (a : Fin 512) (b : Fin 1024) :
    k0_pay3 (F := Ideal) x y0 y1 y2 y3 w (ix2 a b) = w (ix2 a b) + k0_pay1 (F := Ideal) x y0 y1 y2 y3 (ix2 a b) := by
  unfold k0_pay3
  generalize k0_pay1 (F := Ideal) x y0 y1 y2 y3 = z
  pointwise

/-- What a grid point's blocks give. -/
def part (t : Fin cfg0.N) (a : Fin 512) (b : Fin 1024) : EReal :=
  blockSum m c t a b (blockOf t 0) + blockSum m c t a b (blockOf t 1) + blockSum m c t a b (blockOf t 2) + blockSum m c t a b (blockOf t 3)

theorem part_eq (t : Fin cfg0.N) (a : Fin 512) (b : Fin 1024) :
    k0_pay1 (F := Ideal) (iblk m c 0 t) (iblk m c 1 t) (iblk m c 2 t) (iblk m c 3 t) (iblk m c 4 t) (ix2 a b) = part m c t a b := by
  refine (pay1_at _ _ _ _ _ a b).trans ?_
  unfold part blockSum term
  refine congrArg₂ (· + ·) (congrArg₂ (· + ·) (congrArg₂ (· + ·) ?_ ?_) ?_) ?_
  · exact Finset.sum_congr rfl fun e _ => by rw [blk_0, blk_1]
  · exact Finset.sum_congr rfl fun e _ => by rw [blk_0, blk_2]
  · exact Finset.sum_congr rfl fun e _ => by rw [blk_0, blk_3]
  · exact Finset.sum_congr rfl fun e _ => by rw [blk_0, blk_4]

/-- The first grid point of a block leaves its own part. -/
theorem first_at (t : Fin cfg0.N) (h : t.val % 2 = 0) (a : Fin 512) (b : Fin 1024) :
    (outsAt0 m c t.val t.isLt).2 (ix2 a b) = part m c t a b := by
  rw [outsAt0_A m c t h (by omega) (by omega)]
  frame_out
  exact (pay2_at _ _ _ _ _ a b).trans (part_eq m c t a b)

/-- The second adds its part, and hands the sum over. -/
theorem last_at (t : Fin cfg0.N) (h : t.val % 2 = 1) (a : Fin 512) (b : Fin 1024) :
    (outsAt0 m c t.val t.isLt).1 (ix2 a b)
      = (outsAt0 m c (t.val - 1) (Nat.lt_of_le_of_lt (Nat.sub_le _ _) t.isLt)).2 (ix2 a b) + part m c t a b := by
  rw [outsAt0_B m c t (by omega) h h]
  frame_out
  simp only [read_unread_whole]
  exact (pay3_at _ _ _ _ _ _ a b).trans (congrArg _ (part_eq m c t a b))

/-- The eight blocks are all the columns. -/
theorem sum_blocks (f : Fin 11264 → EReal) :
    ((∑ e : Fin 1408, f (column 0 e)) + (∑ e : Fin 1408, f (column 1 e)) + (∑ e : Fin 1408, f (column 2 e)) + (∑ e : Fin 1408, f (column 3 e)))
      + ((∑ e : Fin 1408, f (column 4 e)) + (∑ e : Fin 1408, f (column 5 e)) + (∑ e : Fin 1408, f (column 6 e)) + (∑ e : Fin 1408, f (column 7 e)))
      = ∑ k : Fin 11264, f k := by
  have h := Fin.sum_mul_add_fin (M := EReal) (n := 1408) (L := 11264) 8 f
  rw [← h, Fin.sum_univ_eight]
  have hc : ∀ (j : Fin 8) (o : ℕ), 5632 * (j.val % 2) + 1408 * (j.val / 2) = o * 1408 → ∀ (e : Fin 1408) (hl : o * 1408 + e.val < 11264), f (column j e) = f ⟨o * 1408 + e.val, hl⟩ :=
    fun j o ho e hl => congrArg f (Fin.ext (show 5632 * (j.val % 2) + 1408 * (j.val / 2) + e.val = o * 1408 + e.val by rw [ho]))
  have hs : ∀ (j : Fin 8) (o : Fin 8), 5632 * (j.val % 2) + 1408 * (j.val / 2) = o.val * 1408 →
      ∑ e : Fin 1408, f (column j e) = ∑ e : Fin 1408, f ⟨o.val * 1408 + e.val, by omega⟩ :=
    fun j o ho => Finset.sum_congr rfl fun e _ => hc j o.val ho e _
  rw [hs 0 0 rfl, hs 1 4 rfl, hs 2 1 rfl, hs 3 5 rfl, hs 4 2 rfl, hs 5 6 rfl, hs 6 3 rfl, hs 7 7 rfl]
  abel

/-- The result array after the run. -/
theorem final : (dats m 0 c).arrAt 5 cfg0.N = prod (left m c) (right m c) := by
  refine (dats m 0 c).arrAt_eq_of_covers 5 _ (by decide +kernel) fun t hf y => ?_
  have hl : t.val % 2 = 1 := (flush0_5 t).mp hf
  have hN := Nat.lt_of_lt_of_eq t.isLt N_0
  blk_simp
  rw [after0_5]
  obtain ⟨a, b, rfl⟩ : ∃ (a : Fin 512) (b : Fin 1024), y = ix2 a b := ⟨y 0, y 1, (ix2_eta y).symm⟩
  have he : (win0_5.blk t).view.emb (ix2 a b) = ix2 (rowOf t a) (colOf t b) := by
    blk_ext [idx_5 t, rowOf, colOf]
  rw [he]
  refine (last_at m c t hl a b).trans ?_
  have ht : t.val - 1 < cfg0.N := Nat.lt_of_le_of_lt (Nat.sub_le _ _) t.isLt
  have hf := first_at m c ⟨t.val - 1, ht⟩ (by show (t.val - 1) % 2 = 0; omega) a b
  have hp : ∀ j : Fin 8, blockSum m c ⟨t.val - 1, ht⟩ a b j = blockSum m c t a b j := by
    have hr : rowOf ⟨t.val - 1, ht⟩ a = rowOf t a := Fin.ext (show 512 * ((t.val - 1) / 4) + a.val = 512 * (t.val / 4) + a.val by omega)
    have hc : colOf ⟨t.val - 1, ht⟩ b = colOf t b := Fin.ext (show 1024 * ((t.val - 1) / 2 % 2) + b.val = 1024 * (t.val / 2 % 2) + b.val by omega)
    intro j
    unfold blockSum term
    rw [hr, hc]
  have hb0 : ∀ p : Fin 4, blockOf ⟨t.val - 1, ht⟩ p = ⟨p.val, by omega⟩ := fun p => Fin.ext (show 4 * ((t.val - 1) % 2) + p.val = p.val by omega)
  have hb1 : ∀ p : Fin 4, blockOf t p = ⟨4 + p.val, by omega⟩ := fun p => Fin.ext (show 4 * (t.val % 2) + p.val = 4 + p.val by omega)
  refine (congrArg (· + part m c t a b) hf).trans ?_
  unfold part
  simp only [hp, hb0, hb1]
  exact sum_blocks (term m c t a b)

end Cert.Dh2Ideal.Val

namespace Cert.Dh2ReferenceIdeal.Val

open Cert.Dh2ReferenceIdeal Cert.Dh2ReferenceIdeal.Gen
open Idealize.ShloMosaic Idealize.ShloMosaic.TcCoe Idealize.ShloMosaic.Tactic

/-- The reference's result. -/
theorem prod_eq (x : S8192x11264.Idx → EReal) (y : S2048x11264.Idx → EReal) :
    Host.dotGeneral (F := Ideal) (φ₁ := .f32) (φ₂ := .f32) dot_S8192x11264_S2048x11264_S8192x2048_1_1_0_0_n_n none x y = Cert.Dh2Ideal.Val.prod x y := by
  funext i
  pointwise
  rfl

end Cert.Dh2ReferenceIdeal.Val
-- ==== Proof.Products.lean ====
module

public import proofs.«01_k».proof.Defs
public import proofs.«01_k».proof.Proof.Gen.Proj.Frame
public import proofs.«01_k».proof.Proof.Gen.ProjIdeal.Frame
public import proofs.«01_k».proof.Proof.Gen.ProjReferenceIdeal.Run
public import proofs.«01_k».proof.Proof.Proj
public import proofs.«01_k».proof.Proof.Gen.Q.Frame
public import proofs.«01_k».proof.Proof.Gen.QIdeal.Frame
public import proofs.«01_k».proof.Proof.Gen.QReferenceIdeal.Run
public import proofs.«01_k».proof.Proof.Q
public import proofs.«01_k».proof.Proof.Gen.Kv.Frame
public import proofs.«01_k».proof.Proof.Gen.KvIdeal.Frame
public import proofs.«01_k».proof.Proof.Gen.KvReferenceIdeal.Run
public import proofs.«01_k».proof.Proof.Kv
public import proofs.«01_k».proof.Proof.Gen.Mix.Frame
public import proofs.«01_k».proof.Proof.Gen.MixIdeal.Frame
public import proofs.«01_k».proof.Proof.Gen.MixReferenceIdeal.Run
public import proofs.«01_k».proof.Proof.Mix
public import proofs.«01_k».proof.Proof.Gen.Up.Frame
public import proofs.«01_k».proof.Proof.Gen.UpIdeal.Frame
public import proofs.«01_k».proof.Proof.Gen.UpReferenceIdeal.Run
public import proofs.«01_k».proof.Proof.Up
public import proofs.«01_k».proof.Proof.Gen.Down.Frame
public import proofs.«01_k».proof.Proof.Gen.DownIdeal.Frame
public import proofs.«01_k».proof.Proof.Gen.DownReferenceIdeal.Run
public import proofs.«01_k».proof.Proof.Down
public import proofs.«01_k».proof.Proof.Gen.Dact.Frame
public import proofs.«01_k».proof.Proof.Gen.DactIdeal.Frame
public import proofs.«01_k».proof.Proof.Gen.DactReferenceIdeal.Run
public import proofs.«01_k».proof.Proof.Dact
public import proofs.«01_k».proof.Proof.Gen.DwDown.Frame
public import proofs.«01_k».proof.Proof.Gen.DwDownIdeal.Frame
public import proofs.«01_k».proof.Proof.Gen.DwDownReferenceIdeal.Run
public import proofs.«01_k».proof.Proof.DwDown
public import proofs.«01_k».proof.Proof.Gen.Dcat.Frame
public import proofs.«01_k».proof.Proof.Gen.DcatIdeal.Frame
public import proofs.«01_k».proof.Proof.Gen.DcatReferenceIdeal.Run
public import proofs.«01_k».proof.Proof.Dcat
public import proofs.«01_k».proof.Proof.Gen.DwO.Frame
public import proofs.«01_k».proof.Proof.Gen.DwOIdeal.Frame
public import proofs.«01_k».proof.Proof.Gen.DwOReferenceIdeal.Run
public import proofs.«01_k».proof.Proof.DwO
public import proofs.«01_k».proof.Proof.Gen.Dh1.Frame
public import proofs.«01_k».proof.Proof.Gen.Dh1Ideal.Frame
public import proofs.«01_k».proof.Proof.Gen.Dh1ReferenceIdeal.Run
public import proofs.«01_k».proof.Proof.Dh1
public import proofs.«01_k».proof.Proof.Gen.DwIn.Frame
public import proofs.«01_k».proof.Proof.Gen.DwInIdeal.Frame
public import proofs.«01_k».proof.Proof.Gen.DwInReferenceIdeal.Run
public import proofs.«01_k».proof.Proof.DwIn
public import proofs.«01_k».proof.Proof.Gen.Dqn.Frame
public import proofs.«01_k».proof.Proof.Gen.DqnIdeal.Frame
public import proofs.«01_k».proof.Proof.Gen.DqnReferenceIdeal.Run
public import proofs.«01_k».proof.Proof.Dqn
public import proofs.«01_k».proof.Proof.Gen.DwUq.Frame
public import proofs.«01_k».proof.Proof.Gen.DwUqIdeal.Frame
public import proofs.«01_k».proof.Proof.Gen.DwUqReferenceIdeal.Run
public import proofs.«01_k».proof.Proof.DwUq
public import proofs.«01_k».proof.Proof.Gen.Dkvn.Frame
public import proofs.«01_k».proof.Proof.Gen.DkvnIdeal.Frame
public import proofs.«01_k».proof.Proof.Gen.DkvnReferenceIdeal.Run
public import proofs.«01_k».proof.Proof.Dkvn
public import proofs.«01_k».proof.Proof.Gen.DwUkv.Frame
public import proofs.«01_k».proof.Proof.Gen.DwUkvIdeal.Frame
public import proofs.«01_k».proof.Proof.Gen.DwUkvReferenceIdeal.Run
public import proofs.«01_k».proof.Proof.DwUkv
public import proofs.«01_k».proof.Proof.Gen.DwUp.Frame
public import proofs.«01_k».proof.Proof.Gen.DwUpIdeal.Frame
public import proofs.«01_k».proof.Proof.Gen.DwUpReferenceIdeal.Run
public import proofs.«01_k».proof.Proof.DwUp
public import proofs.«01_k».proof.Proof.Gen.Dh2.Frame
public import proofs.«01_k».proof.Proof.Gen.Dh2Ideal.Frame
public import proofs.«01_k».proof.Proof.Gen.Dh2ReferenceIdeal.Run
public import proofs.«01_k».proof.Proof.Dh2
public import Idealize.ShloMosaic.Lib.Quiescent

/-! The claims of the linear maps' products: each call ends with its arguments as they were, and with the reference's result. -/

@[expose] public section

noncomputable section

namespace Cert.Proof

open Idealize.ShloMosaic Idealize.SL.Sem

/-- The call that computes the product with w_in ends, with its arguments as they were. -/
theorem frame_proj : Cert.quiescent_Proj := fun m g _ => Cert.Proj.Gen.frame m g
/-- So does it at the reals. -/
theorem frame_proj_ideal : Cert.quiescent_ProjIdeal := fun m g _ => Cert.ProjIdeal.Gen.frame m g
/-- So does its reference. -/
theorem frame_proj_reference : Cert.quiescent_ProjReferenceIdeal := fun m g _ =>
  (θ_run Cert.ProjReferenceIdeal.defs _ _).mono (fun r h => ⟨fun c => (h c).2, sem_eq_zero_of_no_sems (by decide) r.2⟩)
    (Cert.ProjReferenceIdeal.Value.run m g)
/-- The call and its reference end with equal results. -/
theorem equal_proj : Cert.algebraic_ProjIdeal_ProjReferenceIdeal := by
  intro m g m' g' _ he
  refine ⟨fun c => Cert.ProjIdeal.Val.prod (Cert.ProjIdeal.Val.left m c) (Cert.ProjIdeal.Val.right m c),
    (θ_run Cert.ProjIdeal.defs _ _).mono (fun r h c => ⟨(h c).1.trans (Cert.ProjIdeal.Val.final m c), (h c).2⟩) (Cert.ProjIdeal.Value.run_blocks m g),
    (θ_run Cert.ProjReferenceIdeal.defs _ _).mono (fun r h c => ⟨(h c).1.trans ?_, (h c).2⟩) (Cert.ProjReferenceIdeal.Value.run m' g')⟩
  obtain ⟨e0, e1⟩ := he c
  rw [e0, e1]
  exact Cert.ProjReferenceIdeal.Val.prod_eq _ _

/-- The call that computes the product with w_uq ends, with its arguments as they were. -/
theorem frame_q : Cert.quiescent_Q := fun m g _ => Cert.Q.Gen.frame m g
/-- So does it at the reals. -/
theorem frame_q_ideal : Cert.quiescent_QIdeal := fun m g _ => Cert.QIdeal.Gen.frame m g
/-- So does its reference. -/
theorem frame_q_reference : Cert.quiescent_QReferenceIdeal := fun m g _ =>
  (θ_run Cert.QReferenceIdeal.defs _ _).mono (fun r h => ⟨fun c => (h c).2, sem_eq_zero_of_no_sems (by decide) r.2⟩)
    (Cert.QReferenceIdeal.Value.run m g)
/-- The call and its reference end with equal results. -/
theorem equal_q : Cert.algebraic_QIdeal_QReferenceIdeal := by
  intro m g m' g' _ he
  refine ⟨fun c => Cert.QIdeal.Val.prod (Cert.QIdeal.Val.left m c) (Cert.QIdeal.Val.right m c),
    (θ_run Cert.QIdeal.defs _ _).mono (fun r h c => ⟨(h c).1.trans (Cert.QIdeal.Val.final m c), (h c).2⟩) (Cert.QIdeal.Value.run_blocks m g),
    (θ_run Cert.QReferenceIdeal.defs _ _).mono (fun r h c => ⟨(h c).1.trans ?_, (h c).2⟩) (Cert.QReferenceIdeal.Value.run m' g')⟩
  obtain ⟨e0, e1⟩ := he c
  rw [e0, e1]
  exact Cert.QReferenceIdeal.Val.prod_eq _ _

/-- The call that computes the product with w_ukv ends, with its arguments as they were. -/
theorem frame_kv : Cert.quiescent_Kv := fun m g _ => Cert.Kv.Gen.frame m g
/-- So does it at the reals. -/
theorem frame_kv_ideal : Cert.quiescent_KvIdeal := fun m g _ => Cert.KvIdeal.Gen.frame m g
/-- So does its reference. -/
theorem frame_kv_reference : Cert.quiescent_KvReferenceIdeal := fun m g _ =>
  (θ_run Cert.KvReferenceIdeal.defs _ _).mono (fun r h => ⟨fun c => (h c).2, sem_eq_zero_of_no_sems (by decide) r.2⟩)
    (Cert.KvReferenceIdeal.Value.run m g)
/-- The call and its reference end with equal results. -/
theorem equal_kv : Cert.algebraic_KvIdeal_KvReferenceIdeal := by
  intro m g m' g' _ he
  refine ⟨fun c => Cert.KvIdeal.Val.prod (Cert.KvIdeal.Val.left m c) (Cert.KvIdeal.Val.right m c),
    (θ_run Cert.KvIdeal.defs _ _).mono (fun r h c => ⟨(h c).1.trans (Cert.KvIdeal.Val.final m c), (h c).2⟩) (Cert.KvIdeal.Value.run_blocks m g),
    (θ_run Cert.KvReferenceIdeal.defs _ _).mono (fun r h c => ⟨(h c).1.trans ?_, (h c).2⟩) (Cert.KvReferenceIdeal.Value.run m' g')⟩
  obtain ⟨e0, e1⟩ := he c
  rw [e0, e1]
  exact Cert.KvReferenceIdeal.Val.prod_eq _ _

/-- The call that computes the product with w_o ends, with its arguments as they were. -/
theorem frame_mix : Cert.quiescent_Mix := fun m g _ => Cert.Mix.Gen.frame m g
/-- So does it at the reals. -/
theorem frame_mix_ideal : Cert.quiescent_MixIdeal := fun m g _ => Cert.MixIdeal.Gen.frame m g
/-- So does its reference. -/
theorem frame_mix_reference : Cert.quiescent_MixReferenceIdeal := fun m g _ =>
  (θ_run Cert.MixReferenceIdeal.defs _ _).mono (fun r h => ⟨fun c => (h c).2, sem_eq_zero_of_no_sems (by decide) r.2⟩)
    (Cert.MixReferenceIdeal.Value.run m g)
/-- The call and its reference end with equal results. -/
theorem equal_mix : Cert.algebraic_MixIdeal_MixReferenceIdeal := by
  intro m g m' g' _ he
  refine ⟨fun c => Cert.MixIdeal.Val.prod (Cert.MixIdeal.Val.left m c) (Cert.MixIdeal.Val.right m c),
    (θ_run Cert.MixIdeal.defs _ _).mono (fun r h c => ⟨(h c).1.trans (Cert.MixIdeal.Val.final m c), (h c).2⟩) (Cert.MixIdeal.Value.run_blocks m g),
    (θ_run Cert.MixReferenceIdeal.defs _ _).mono (fun r h c => ⟨(h c).1.trans ?_, (h c).2⟩) (Cert.MixReferenceIdeal.Value.run m' g')⟩
  obtain ⟨e0, e1⟩ := he c
  rw [e0, e1]
  exact Cert.MixReferenceIdeal.Val.prod_eq _ _

/-- The call that computes the product with w_up ends, with its arguments as they were. -/
theorem frame_up : Cert.quiescent_Up := fun m g _ => Cert.Up.Gen.frame m g
/-- So does it at the reals. -/
theorem frame_up_ideal : Cert.quiescent_UpIdeal := fun m g _ => Cert.UpIdeal.Gen.frame m g
/-- So does its reference. -/
theorem frame_up_reference : Cert.quiescent_UpReferenceIdeal := fun m g _ =>
  (θ_run Cert.UpReferenceIdeal.defs _ _).mono (fun r h => ⟨fun c => (h c).2, sem_eq_zero_of_no_sems (by decide) r.2⟩)
    (Cert.UpReferenceIdeal.Value.run m g)
/-- The call and its reference end with equal results. -/
theorem equal_up : Cert.algebraic_UpIdeal_UpReferenceIdeal := by
  intro m g m' g' _ he
  refine ⟨fun c => Cert.UpIdeal.Val.prod (Cert.UpIdeal.Val.left m c) (Cert.UpIdeal.Val.right m c),
    (θ_run Cert.UpIdeal.defs _ _).mono (fun r h c => ⟨(h c).1.trans (Cert.UpIdeal.Val.final m c), (h c).2⟩) (Cert.UpIdeal.Value.run_blocks m g),
    (θ_run Cert.UpReferenceIdeal.defs _ _).mono (fun r h c => ⟨(h c).1.trans ?_, (h c).2⟩) (Cert.UpReferenceIdeal.Value.run m' g')⟩
  obtain ⟨e0, e1⟩ := he c
  rw [e0, e1]
  exact Cert.UpReferenceIdeal.Val.prod_eq _ _

/-- The call that computes the product with w_down ends, with its arguments as they were. -/
theorem frame_down : Cert.quiescent_Down := fun m g _ => Cert.Down.Gen.frame m g
/-- So does it at the reals. -/
theorem frame_down_ideal : Cert.quiescent_DownIdeal := fun m g _ => Cert.DownIdeal.Gen.frame m g
/-- So does its reference. -/
theorem frame_down_reference : Cert.quiescent_DownReferenceIdeal := fun m g _ =>
  (θ_run Cert.DownReferenceIdeal.defs _ _).mono (fun r h => ⟨fun c => (h c).2, sem_eq_zero_of_no_sems (by decide) r.2⟩)
    (Cert.DownReferenceIdeal.Value.run m g)
/-- The call and its reference end with equal results. -/
theorem equal_down : Cert.algebraic_DownIdeal_DownReferenceIdeal := by
  intro m g m' g' _ he
  refine ⟨fun c => Cert.DownIdeal.Val.prod (Cert.DownIdeal.Val.left m c) (Cert.DownIdeal.Val.right m c),
    (θ_run Cert.DownIdeal.defs _ _).mono (fun r h c => ⟨(h c).1.trans (Cert.DownIdeal.Val.final m c), (h c).2⟩) (Cert.DownIdeal.Value.run_blocks m g),
    (θ_run Cert.DownReferenceIdeal.defs _ _).mono (fun r h c => ⟨(h c).1.trans ?_, (h c).2⟩) (Cert.DownReferenceIdeal.Value.run m' g')⟩
  obtain ⟨e0, e1⟩ := he c
  rw [e0, e1]
  exact Cert.DownReferenceIdeal.Val.prod_eq _ _

/-- The call that computes the gradient of the array that w_down is applied to ends, with its arguments as they were. -/
theorem frame_dact : Cert.quiescent_Dact := fun m g _ => Cert.Dact.Gen.frame m g
/-- So does it at the reals. -/
theorem frame_dact_ideal : Cert.quiescent_DactIdeal := fun m g _ => Cert.DactIdeal.Gen.frame m g
/-- So does its reference. -/
theorem frame_dact_reference : Cert.quiescent_DactReferenceIdeal := fun m g _ =>
  (θ_run Cert.DactReferenceIdeal.defs _ _).mono (fun r h => ⟨fun c => (h c).2, sem_eq_zero_of_no_sems (by decide) r.2⟩)
    (Cert.DactReferenceIdeal.Value.run m g)
/-- The call and its reference end with equal results. -/
theorem equal_dact : Cert.algebraic_DactIdeal_DactReferenceIdeal := by
  intro m g m' g' _ he
  refine ⟨fun c => Cert.DactIdeal.Val.prod (Cert.DactIdeal.Val.left m c) (Cert.DactIdeal.Val.right m c),
    (θ_run Cert.DactIdeal.defs _ _).mono (fun r h c => ⟨(h c).1.trans (Cert.DactIdeal.Val.final m c), (h c).2⟩) (Cert.DactIdeal.Value.run_blocks m g),
    (θ_run Cert.DactReferenceIdeal.defs _ _).mono (fun r h c => ⟨(h c).1.trans ?_, (h c).2⟩) (Cert.DactReferenceIdeal.Value.run m' g')⟩
  obtain ⟨e0, e1, e2⟩ := he c
  rw [e2, e1]
  exact Cert.DactReferenceIdeal.Val.prod_eq _ _

/-- The call that computes the gradient of w_down ends, with its arguments as they were. -/
theorem frame_dwDown : Cert.quiescent_DwDown := fun m g _ => Cert.DwDown.Gen.frame m g
/-- So does it at the reals. -/
theorem frame_dwDown_ideal : Cert.quiescent_DwDownIdeal := fun m g _ => Cert.DwDownIdeal.Gen.frame m g
/-- So does its reference. -/
theorem frame_dwDown_reference : Cert.quiescent_DwDownReferenceIdeal := fun m g _ =>
  (θ_run Cert.DwDownReferenceIdeal.defs _ _).mono (fun r h => ⟨fun c => (h c).2, sem_eq_zero_of_no_sems (by decide) r.2⟩)
    (Cert.DwDownReferenceIdeal.Value.run m g)
/-- The call and its reference end with equal results. -/
theorem equal_dwDown : Cert.algebraic_DwDownIdeal_DwDownReferenceIdeal := by
  intro m g m' g' _ he
  refine ⟨fun c => Cert.DwDownIdeal.Val.prod (Cert.DwDownIdeal.Val.left m c) (Cert.DwDownIdeal.Val.right m c),
    (θ_run Cert.DwDownIdeal.defs _ _).mono (fun r h c => ⟨(h c).1.trans (Cert.DwDownIdeal.Val.final m c), (h c).2⟩) (Cert.DwDownIdeal.Value.run_blocks m g),
    (θ_run Cert.DwDownReferenceIdeal.defs _ _).mono (fun r h c => ⟨(h c).1.trans ?_, (h c).2⟩) (Cert.DwDownReferenceIdeal.Value.run m' g')⟩
  obtain ⟨e0, e1, e2⟩ := he c
  rw [e2, e0]
  exact Cert.DwDownReferenceIdeal.Val.prod_eq _ _

/-- The call that computes the gradient of the array that w_o is applied to ends, with its arguments as they were. -/
theorem frame_dcat : Cert.quiescent_Dcat := fun m g _ => Cert.Dcat.Gen.frame m g
/-- So does it at the reals. -/
theorem frame_dcat_ideal : Cert.quiescent_DcatIdeal := fun m g _ => Cert.DcatIdeal.Gen.frame m g
/-- So does its reference. -/
theorem frame_dcat_reference : Cert.quiescent_DcatReferenceIdeal := fun m g _ =>
  (θ_run Cert.DcatReferenceIdeal.defs _ _).mono (fun r h => ⟨fun c => (h c).2, sem_eq_zero_of_no_sems (by decide) r.2⟩)
    (Cert.DcatReferenceIdeal.Value.run m g)
/-- The call and its reference end with equal results. -/
theorem equal_dcat : Cert.algebraic_DcatIdeal_DcatReferenceIdeal := by
  intro m g m' g' _ he
  refine ⟨fun c => Cert.DcatIdeal.Val.prod (Cert.DcatIdeal.Val.left m c) (Cert.DcatIdeal.Val.right m c),
    (θ_run Cert.DcatIdeal.defs _ _).mono (fun r h c => ⟨(h c).1.trans (Cert.DcatIdeal.Val.final m c), (h c).2⟩) (Cert.DcatIdeal.Value.run_blocks m g),
    (θ_run Cert.DcatReferenceIdeal.defs _ _).mono (fun r h c => ⟨(h c).1.trans ?_, (h c).2⟩) (Cert.DcatReferenceIdeal.Value.run m' g')⟩
  obtain ⟨e0, e1, e2⟩ := he c
  rw [e2, e1]
  exact Cert.DcatReferenceIdeal.Val.prod_eq _ _

/-- The call that computes the gradient of w_o ends, with its arguments as they were. -/
theorem frame_dwO : Cert.quiescent_DwO := fun m g _ => Cert.DwO.Gen.frame m g
/-- So does it at the reals. -/
theorem frame_dwO_ideal : Cert.quiescent_DwOIdeal := fun m g _ => Cert.DwOIdeal.Gen.frame m g
/-- So does its reference. -/
theorem frame_dwO_reference : Cert.quiescent_DwOReferenceIdeal := fun m g _ =>
  (θ_run Cert.DwOReferenceIdeal.defs _ _).mono (fun r h => ⟨fun c => (h c).2, sem_eq_zero_of_no_sems (by decide) r.2⟩)
    (Cert.DwOReferenceIdeal.Value.run m g)
/-- The call and its reference end with equal results. -/
theorem equal_dwO : Cert.algebraic_DwOIdeal_DwOReferenceIdeal := by
  intro m g m' g' _ he
  refine ⟨fun c => Cert.DwOIdeal.Val.prod (Cert.DwOIdeal.Val.left m c) (Cert.DwOIdeal.Val.right m c),
    (θ_run Cert.DwOIdeal.defs _ _).mono (fun r h c => ⟨(h c).1.trans (Cert.DwOIdeal.Val.final m c), (h c).2⟩) (Cert.DwOIdeal.Value.run_blocks m g),
    (θ_run Cert.DwOReferenceIdeal.defs _ _).mono (fun r h c => ⟨(h c).1.trans ?_, (h c).2⟩) (Cert.DwOReferenceIdeal.Value.run m' g')⟩
  obtain ⟨e0, e1, e2⟩ := he c
  rw [e2, e0]
  exact Cert.DwOReferenceIdeal.Val.prod_eq _ _

/-- The call that computes the gradient of the array that w_in is applied to ends, with its arguments as they were. -/
theorem frame_dh1 : Cert.quiescent_Dh1 := fun m g _ => Cert.Dh1.Gen.frame m g
/-- So does it at the reals. -/
theorem frame_dh1_ideal : Cert.quiescent_Dh1Ideal := fun m g _ => Cert.Dh1Ideal.Gen.frame m g
/-- So does its reference. -/
theorem frame_dh1_reference : Cert.quiescent_Dh1ReferenceIdeal := fun m g _ =>
  (θ_run Cert.Dh1ReferenceIdeal.defs _ _).mono (fun r h => ⟨fun c => (h c).2, sem_eq_zero_of_no_sems (by decide) r.2⟩)
    (Cert.Dh1ReferenceIdeal.Value.run m g)
/-- The call and its reference end with equal results. -/
theorem equal_dh1 : Cert.algebraic_Dh1Ideal_Dh1ReferenceIdeal := by
  intro m g m' g' _ he
  refine ⟨fun c => Cert.Dh1Ideal.Val.prod (Cert.Dh1Ideal.Val.left m c) (Cert.Dh1Ideal.Val.right m c),
    (θ_run Cert.Dh1Ideal.defs _ _).mono (fun r h c => ⟨(h c).1.trans (Cert.Dh1Ideal.Val.final m c), (h c).2⟩) (Cert.Dh1Ideal.Value.run_blocks m g),
    (θ_run Cert.Dh1ReferenceIdeal.defs _ _).mono (fun r h c => ⟨(h c).1.trans ?_, (h c).2⟩) (Cert.Dh1ReferenceIdeal.Value.run m' g')⟩
  obtain ⟨e0, e1, e2⟩ := he c
  rw [e2, e1]
  exact Cert.Dh1ReferenceIdeal.Val.prod_eq _ _

/-- The call that computes the gradient of w_in ends, with its arguments as they were. -/
theorem frame_dwIn : Cert.quiescent_DwIn := fun m g _ => Cert.DwIn.Gen.frame m g
/-- So does it at the reals. -/
theorem frame_dwIn_ideal : Cert.quiescent_DwInIdeal := fun m g _ => Cert.DwInIdeal.Gen.frame m g
/-- So does its reference. -/
theorem frame_dwIn_reference : Cert.quiescent_DwInReferenceIdeal := fun m g _ =>
  (θ_run Cert.DwInReferenceIdeal.defs _ _).mono (fun r h => ⟨fun c => (h c).2, sem_eq_zero_of_no_sems (by decide) r.2⟩)
    (Cert.DwInReferenceIdeal.Value.run m g)
/-- The call and its reference end with equal results. -/
theorem equal_dwIn : Cert.algebraic_DwInIdeal_DwInReferenceIdeal := by
  intro m g m' g' _ he
  refine ⟨fun c => Cert.DwInIdeal.Val.prod (Cert.DwInIdeal.Val.left m c) (Cert.DwInIdeal.Val.right m c),
    (θ_run Cert.DwInIdeal.defs _ _).mono (fun r h c => ⟨(h c).1.trans (Cert.DwInIdeal.Val.final m c), (h c).2⟩) (Cert.DwInIdeal.Value.run_blocks m g),
    (θ_run Cert.DwInReferenceIdeal.defs _ _).mono (fun r h c => ⟨(h c).1.trans ?_, (h c).2⟩) (Cert.DwInReferenceIdeal.Value.run m' g')⟩
  obtain ⟨e0, e1, e2⟩ := he c
  rw [e2, e0]
  exact Cert.DwInReferenceIdeal.Val.prod_eq _ _

/-- The call that computes the gradient of the array that w_uq is applied to ends, with its arguments as they were. -/
theorem frame_dqn : Cert.quiescent_Dqn := fun m g _ => Cert.Dqn.Gen.frame m g
/-- So does it at the reals. -/
theorem frame_dqn_ideal : Cert.quiescent_DqnIdeal := fun m g _ => Cert.DqnIdeal.Gen.frame m g
/-- So does its reference. -/
theorem frame_dqn_reference : Cert.quiescent_DqnReferenceIdeal := fun m g _ =>
  (θ_run Cert.DqnReferenceIdeal.defs _ _).mono (fun r h => ⟨fun c => (h c).2, sem_eq_zero_of_no_sems (by decide) r.2⟩)
    (Cert.DqnReferenceIdeal.Value.run m g)
/-- The call and its reference end with equal results. -/
theorem equal_dqn : Cert.algebraic_DqnIdeal_DqnReferenceIdeal := by
  intro m g m' g' _ he
  refine ⟨fun c => Cert.DqnIdeal.Val.prod (Cert.DqnIdeal.Val.left m c) (Cert.DqnIdeal.Val.right m c),
    (θ_run Cert.DqnIdeal.defs _ _).mono (fun r h c => ⟨(h c).1.trans (Cert.DqnIdeal.Val.final m c), (h c).2⟩) (Cert.DqnIdeal.Value.run_blocks m g),
    (θ_run Cert.DqnReferenceIdeal.defs _ _).mono (fun r h c => ⟨(h c).1.trans ?_, (h c).2⟩) (Cert.DqnReferenceIdeal.Value.run m' g')⟩
  obtain ⟨e0, e1, e2⟩ := he c
  rw [e2, e1]
  exact Cert.DqnReferenceIdeal.Val.prod_eq _ _

/-- The call that computes the gradient of w_uq ends, with its arguments as they were. -/
theorem frame_dwUq : Cert.quiescent_DwUq := fun m g _ => Cert.DwUq.Gen.frame m g
/-- So does it at the reals. -/
theorem frame_dwUq_ideal : Cert.quiescent_DwUqIdeal := fun m g _ => Cert.DwUqIdeal.Gen.frame m g
/-- So does its reference. -/
theorem frame_dwUq_reference : Cert.quiescent_DwUqReferenceIdeal := fun m g _ =>
  (θ_run Cert.DwUqReferenceIdeal.defs _ _).mono (fun r h => ⟨fun c => (h c).2, sem_eq_zero_of_no_sems (by decide) r.2⟩)
    (Cert.DwUqReferenceIdeal.Value.run m g)
/-- The call and its reference end with equal results. -/
theorem equal_dwUq : Cert.algebraic_DwUqIdeal_DwUqReferenceIdeal := by
  intro m g m' g' _ he
  refine ⟨fun c => Cert.DwUqIdeal.Val.prod (Cert.DwUqIdeal.Val.left m c) (Cert.DwUqIdeal.Val.right m c),
    (θ_run Cert.DwUqIdeal.defs _ _).mono (fun r h c => ⟨(h c).1.trans (Cert.DwUqIdeal.Val.final m c), (h c).2⟩) (Cert.DwUqIdeal.Value.run_blocks m g),
    (θ_run Cert.DwUqReferenceIdeal.defs _ _).mono (fun r h c => ⟨(h c).1.trans ?_, (h c).2⟩) (Cert.DwUqReferenceIdeal.Value.run m' g')⟩
  obtain ⟨e0, e1, e2⟩ := he c
  rw [e2, e0]
  exact Cert.DwUqReferenceIdeal.Val.prod_eq _ _

/-- The call that computes the gradient of the array that w_ukv is applied to ends, with its arguments as they were. -/
theorem frame_dkvn : Cert.quiescent_Dkvn := fun m g _ => Cert.Dkvn.Gen.frame m g
/-- So does it at the reals. -/
theorem frame_dkvn_ideal : Cert.quiescent_DkvnIdeal := fun m g _ => Cert.DkvnIdeal.Gen.frame m g
/-- So does its reference. -/
theorem frame_dkvn_reference : Cert.quiescent_DkvnReferenceIdeal := fun m g _ =>
  (θ_run Cert.DkvnReferenceIdeal.defs _ _).mono (fun r h => ⟨fun c => (h c).2, sem_eq_zero_of_no_sems (by decide) r.2⟩)
    (Cert.DkvnReferenceIdeal.Value.run m g)
/-- The call and its reference end with equal results. -/
theorem equal_dkvn : Cert.algebraic_DkvnIdeal_DkvnReferenceIdeal := by
  intro m g m' g' _ he
  refine ⟨fun c => Cert.DkvnIdeal.Val.prod (Cert.DkvnIdeal.Val.left m c) (Cert.DkvnIdeal.Val.right m c),
    (θ_run Cert.DkvnIdeal.defs _ _).mono (fun r h c => ⟨(h c).1.trans (Cert.DkvnIdeal.Val.final m c), (h c).2⟩) (Cert.DkvnIdeal.Value.run_blocks m g),
    (θ_run Cert.DkvnReferenceIdeal.defs _ _).mono (fun r h c => ⟨(h c).1.trans ?_, (h c).2⟩) (Cert.DkvnReferenceIdeal.Value.run m' g')⟩
  obtain ⟨e0, e1, e2⟩ := he c
  rw [e2, e1]
  exact Cert.DkvnReferenceIdeal.Val.prod_eq _ _

/-- The call that computes the gradient of w_ukv ends, with its arguments as they were. -/
theorem frame_dwUkv : Cert.quiescent_DwUkv := fun m g _ => Cert.DwUkv.Gen.frame m g
/-- So does it at the reals. -/
theorem frame_dwUkv_ideal : Cert.quiescent_DwUkvIdeal := fun m g _ => Cert.DwUkvIdeal.Gen.frame m g
/-- So does its reference. -/
theorem frame_dwUkv_reference : Cert.quiescent_DwUkvReferenceIdeal := fun m g _ =>
  (θ_run Cert.DwUkvReferenceIdeal.defs _ _).mono (fun r h => ⟨fun c => (h c).2, sem_eq_zero_of_no_sems (by decide) r.2⟩)
    (Cert.DwUkvReferenceIdeal.Value.run m g)
/-- The call and its reference end with equal results. -/
theorem equal_dwUkv : Cert.algebraic_DwUkvIdeal_DwUkvReferenceIdeal := by
  intro m g m' g' _ he
  refine ⟨fun c => Cert.DwUkvIdeal.Val.prod (Cert.DwUkvIdeal.Val.left m c) (Cert.DwUkvIdeal.Val.right m c),
    (θ_run Cert.DwUkvIdeal.defs _ _).mono (fun r h c => ⟨(h c).1.trans (Cert.DwUkvIdeal.Val.final m c), (h c).2⟩) (Cert.DwUkvIdeal.Value.run_blocks m g),
    (θ_run Cert.DwUkvReferenceIdeal.defs _ _).mono (fun r h c => ⟨(h c).1.trans ?_, (h c).2⟩) (Cert.DwUkvReferenceIdeal.Value.run m' g')⟩
  obtain ⟨e0, e1, e2⟩ := he c
  rw [e2, e0]
  exact Cert.DwUkvReferenceIdeal.Val.prod_eq _ _

/-- The call that computes the gradient of w_up ends, with its arguments as they were. -/
theorem frame_dwUp : Cert.quiescent_DwUp := fun m g _ => Cert.DwUp.Gen.frame m g
/-- So does it at the reals. -/
theorem frame_dwUp_ideal : Cert.quiescent_DwUpIdeal := fun m g _ => Cert.DwUpIdeal.Gen.frame m g
/-- So does its reference. -/
theorem frame_dwUp_reference : Cert.quiescent_DwUpReferenceIdeal := fun m g _ =>
  (θ_run Cert.DwUpReferenceIdeal.defs _ _).mono (fun r h => ⟨fun c => (h c).2, sem_eq_zero_of_no_sems (by decide) r.2⟩)
    (Cert.DwUpReferenceIdeal.Value.run m g)
/-- The call and its reference end with equal results. -/
theorem equal_dwUp : Cert.algebraic_DwUpIdeal_DwUpReferenceIdeal := by
  intro m g m' g' _ he
  refine ⟨fun c => Cert.DwUpIdeal.Val.prod (Cert.DwUpIdeal.Val.left m c) (Cert.DwUpIdeal.Val.right m c),
    (θ_run Cert.DwUpIdeal.defs _ _).mono (fun r h c => ⟨(h c).1.trans (Cert.DwUpIdeal.Val.final m c), (h c).2⟩) (Cert.DwUpIdeal.Value.run_blocks m g),
    (θ_run Cert.DwUpReferenceIdeal.defs _ _).mono (fun r h c => ⟨(h c).1.trans ?_, (h c).2⟩) (Cert.DwUpReferenceIdeal.Value.run m' g')⟩
  obtain ⟨e0, e1, e2⟩ := he c
  rw [e2, e0]
  exact Cert.DwUpReferenceIdeal.Val.prod_eq _ _

/-- The call that computes the gradient of the array that w_up is applied to ends, with its arguments as they were. -/
theorem frame_dh2 : Cert.quiescent_Dh2 := fun m g _ => Cert.Dh2.Gen.frame m g
/-- So does it at the reals. -/
theorem frame_dh2_ideal : Cert.quiescent_Dh2Ideal := fun m g _ => Cert.Dh2Ideal.Gen.frame m g
/-- So does its reference. -/
theorem frame_dh2_reference : Cert.quiescent_Dh2ReferenceIdeal := fun m g _ =>
  (θ_run Cert.Dh2ReferenceIdeal.defs _ _).mono (fun r h => ⟨fun c => (h c).2, sem_eq_zero_of_no_sems (by decide) r.2⟩)
    (Cert.Dh2ReferenceIdeal.Value.run m g)
/-- The call and its reference end with equal results. -/
theorem equal_dh2 : Cert.algebraic_Dh2Ideal_Dh2ReferenceIdeal := by
  intro m g m' g' _ he
  refine ⟨fun c => Cert.Dh2Ideal.Val.prod (Cert.Dh2Ideal.Val.left m c) (Cert.Dh2Ideal.Val.right m c),
    (θ_run Cert.Dh2Ideal.defs _ _).mono (fun r h c => ⟨(h c).1.trans (Cert.Dh2Ideal.Val.final m c), (h c).2⟩) (Cert.Dh2Ideal.Value.run_blocks m g),
    (θ_run Cert.Dh2ReferenceIdeal.defs _ _).mono (fun r h c => ⟨(h c).1.trans ?_, (h c).2⟩) (Cert.Dh2ReferenceIdeal.Value.run m' g')⟩
  obtain ⟨e0, e1, e2⟩ := he c
  rw [e2, e1]
  exact Cert.Dh2ReferenceIdeal.Val.prod_eq _ _

end Cert.Proof
-- ==== Proof.lean ====
/- The claims of `Cert.Claim`, from the modules beside this one: the kernel's run at its own formats (Proof/Frame.lean),
   its run at the reals and the values of its results (Proof/Equal.lean), the reference's run, the forward attention's
   results (Proof/FwdEqual.lean), and the products of the linear maps (Proof/Products.lean). -/
module

public import proofs.«01_k».proof.Defs
public import proofs.«01_k».proof.Proof.Gen.Kernel
public import proofs.«01_k».proof.Proof.Gen.KernelIdeal
public import proofs.«01_k».proof.Proof.Gen.Proj.Frame
public import proofs.«01_k».proof.Proof.Gen.ProjIdeal.Value
public import proofs.«01_k».proof.Proof.Gen.ProjReferenceIdeal.Run
public import proofs.«01_k».proof.Proof.Gen.Q.Frame
public import proofs.«01_k».proof.Proof.Gen.QIdeal.Value
public import proofs.«01_k».proof.Proof.Gen.QReferenceIdeal.Run
public import proofs.«01_k».proof.Proof.Gen.Kv.Frame
public import proofs.«01_k».proof.Proof.Gen.KvIdeal.Value
public import proofs.«01_k».proof.Proof.Gen.KvReferenceIdeal.Run
public import proofs.«01_k».proof.Proof.Gen.Mix.Frame
public import proofs.«01_k».proof.Proof.Gen.MixIdeal.Value
public import proofs.«01_k».proof.Proof.Gen.MixReferenceIdeal.Run
public import proofs.«01_k».proof.Proof.Gen.Up.Frame
public import proofs.«01_k».proof.Proof.Gen.UpIdeal.Value
public import proofs.«01_k».proof.Proof.Gen.UpReferenceIdeal.Run
public import proofs.«01_k».proof.Proof.Gen.Down.Frame
public import proofs.«01_k».proof.Proof.Gen.DownIdeal.Value
public import proofs.«01_k».proof.Proof.Gen.DownReferenceIdeal.Run
public import proofs.«01_k».proof.Proof.Gen.Dact.Frame
public import proofs.«01_k».proof.Proof.Gen.DactIdeal.Value
public import proofs.«01_k».proof.Proof.Gen.DactReferenceIdeal.Run
public import proofs.«01_k».proof.Proof.Gen.DwDown.Frame
public import proofs.«01_k».proof.Proof.Gen.DwDownIdeal.Value
public import proofs.«01_k».proof.Proof.Gen.DwDownReferenceIdeal.Run
public import proofs.«01_k».proof.Proof.Gen.Dcat.Frame
public import proofs.«01_k».proof.Proof.Gen.DcatIdeal.Value
public import proofs.«01_k».proof.Proof.Gen.DcatReferenceIdeal.Run
public import proofs.«01_k».proof.Proof.Gen.DwO.Frame
public import proofs.«01_k».proof.Proof.Gen.DwOIdeal.Value
public import proofs.«01_k».proof.Proof.Gen.DwOReferenceIdeal.Run
public import proofs.«01_k».proof.Proof.Gen.Dh1.Frame
public import proofs.«01_k».proof.Proof.Gen.Dh1Ideal.Value
public import proofs.«01_k».proof.Proof.Gen.Dh1ReferenceIdeal.Run
public import proofs.«01_k».proof.Proof.Gen.DwIn.Frame
public import proofs.«01_k».proof.Proof.Gen.DwInIdeal.Value
public import proofs.«01_k».proof.Proof.Gen.DwInReferenceIdeal.Run
public import proofs.«01_k».proof.Proof.Gen.Dqn.Frame
public import proofs.«01_k».proof.Proof.Gen.DqnIdeal.Value
public import proofs.«01_k».proof.Proof.Gen.DqnReferenceIdeal.Run
public import proofs.«01_k».proof.Proof.Gen.DwUq.Frame
public import proofs.«01_k».proof.Proof.Gen.DwUqIdeal.Value
public import proofs.«01_k».proof.Proof.Gen.DwUqReferenceIdeal.Run
public import proofs.«01_k».proof.Proof.Gen.Dkvn.Frame
public import proofs.«01_k».proof.Proof.Gen.DkvnIdeal.Value
public import proofs.«01_k».proof.Proof.Gen.DkvnReferenceIdeal.Run
public import proofs.«01_k».proof.Proof.Gen.DwUkv.Frame
public import proofs.«01_k».proof.Proof.Gen.DwUkvIdeal.Value
public import proofs.«01_k».proof.Proof.Gen.DwUkvReferenceIdeal.Run
public import proofs.«01_k».proof.Proof.Gen.DwUp.Frame
public import proofs.«01_k».proof.Proof.Gen.DwUpIdeal.Value
public import proofs.«01_k».proof.Proof.Gen.DwUpReferenceIdeal.Run
public import proofs.«01_k».proof.Proof.Gen.Dh2.Frame
public import proofs.«01_k».proof.Proof.Gen.Dh2Ideal.Value
public import proofs.«01_k».proof.Proof.Gen.Dh2ReferenceIdeal.Run
public import proofs.«01_k».proof.Proof.Gen.Fwd.Frame
public import proofs.«01_k».proof.Proof.Gen.FwdIdeal.Frame
public import proofs.«01_k».proof.Proof.Gen.FwdReferenceIdeal.Run
public import proofs.«01_k».proof.Proof.Gen.FwdReferenceIdeal.Read
public import proofs.«01_k».proof.Proof.Gen.ReferenceIdeal
public import proofs.«01_k».proof.Proof.Gen.ReferenceIdeal.Run
public import proofs.«01_k».proof.Proof.Frame
public import proofs.«01_k».proof.Proof.Finite
public import proofs.«01_k».proof.Proof.Equal
public import proofs.«01_k».proof.Proof.FwdEqual
public import proofs.«01_k».proof.Proof.Products
public import Idealize.ShloMosaic.Lib.Quiescent

@[expose] public section

noncomputable section

namespace Cert.Proof

open Idealize.ShloMosaic Idealize.SL.Sem

attribute [local instance] Cert.KernelIdeal.Val.finite_facts Cert.FwdIdeal.Val.finite_facts

/-- The kernel at its own formats ends, with its arguments as they were. -/
theorem kernel_frame : Cert.quiescent_Kernel := fun m g _ => Cert.Kernel.Val.frame m g

/-- So does the kernel at the reals. -/
theorem ideal_frame : Cert.quiescent_KernelIdeal := fun m g _ =>
  (θ_run Cert.KernelIdeal.defs _ _).mono (fun _ h => ⟨fun c => (h.1 c).2.2.2.2, h.2⟩) (Cert.KernelIdeal.Val.run m g)

/-- So does the reference. -/
theorem reference_frame : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run m g)

/-- Where the arguments are finite, the kernel and the reference end with equal results. -/
theorem equal : Cert.algebraic_KernelIdeal_ReferenceIdeal_pre_finite := by
  intro m g m' g' hp he
  have hA : ∀ c, (Cert.KernelIdeal.Val.args m c).Real := Cert.KernelIdeal.Val.real_of_finite m hp
  refine ⟨fun c => Cert.KernelIdeal.Val.outQ m c, fun c => Cert.KernelIdeal.Val.outK m c, fun c => Cert.KernelIdeal.Val.outV m c,
    fun c => Cert.KernelIdeal.Val.outR m c,
    (θ_run Cert.KernelIdeal.defs _ _).mono (fun _ h c => h.1 c) (Cert.KernelIdeal.Val.run m g),
    (θ_run Cert.ReferenceIdeal.defs _ _).mono (fun r h c => ?_) (Cert.ReferenceIdeal.Value.run m' g')⟩
  obtain ⟨h0, h1, h2, h3, hk⟩ := h c
  obtain ⟨e0, e1, e2, e3, e4, e5⟩ := he c
  refine ⟨h0.trans ?_, h1.trans ?_, h2.trans ?_, h3.trans ?_, hk⟩
  · rw [Cert.ReferenceIdeal.Read.val_main_v75_eq, e0, e1, e2, e3, e4, e5]; exact (Cert.KernelIdeal.Val.outQ_eq m c (hA c)).symm
  · rw [Cert.ReferenceIdeal.Read.val_main_v77_eq, e0, e1, e2, e3, e4, e5]; exact (Cert.KernelIdeal.Val.outK_eq m c (hA c)).symm
  · rw [Cert.ReferenceIdeal.Read.val_main_v79_eq, e0, e1, e2, e3, e5]; exact (Cert.KernelIdeal.Val.outV_eq m c (hA c)).symm
  · rw [Cert.ReferenceIdeal.Read.val_main_v81_eq, e0, e1, e2, e3, e4, e5]; exact (Cert.KernelIdeal.Val.outR_eq m c (hA c)).symm

/-- The three named constants. -/
theorem constants : Cert.preserves_Kernel_KernelIdeal :=
  ⟨IdealRules.named_const.statement Cert.KernelIdeal.κ "mask" .f32 0xF149F2CA#32 ⊥ rfl,
    IdealRules.named_const.statement Cert.KernelIdeal.κ "scale2" .f32 0x3DD53B95#32 (((Real.sqrt 192)⁻¹ * (Real.log 2)⁻¹ : ℝ) : EReal) rfl,
    IdealRules.named_const.statement Cert.KernelIdeal.κ "scale" .f32 0x3D93CD3A#32 (((Real.sqrt 192)⁻¹ : ℝ) : EReal) rfl⟩

/-- The forward attention at its own formats ends, with its arguments as they were. -/
theorem frame_fwd : Cert.quiescent_Fwd := fun m g _ => Cert.Fwd.Gen.frame m g

/-- So does the forward attention at the reals. -/
theorem frame_fwd_ideal : Cert.quiescent_FwdIdeal := fun m g _ => Cert.FwdIdeal.Gen.frame m g

/-- So does the forward attention's reference. -/
theorem frame_fwd_reference : Cert.quiescent_FwdReferenceIdeal := fun m g _ =>
  (θ_run Cert.FwdReferenceIdeal.defs _ _).mono (fun r h => ⟨fun c => (h c).2.2, sem_eq_zero_of_no_sems (by decide) r.2⟩)
    (Cert.FwdReferenceIdeal.Value.run m g)

/-- Where the queries and the keys are finite, the forward attention and its reference end with equal results. -/
theorem equal_fwd : Cert.algebraic_FwdIdeal_FwdReferenceIdeal_pre_finite_scores := by
  intro m g m' g' hp he
  have hA : ∀ c, (Cert.FwdIdeal.Val.args m c).RealQK := Cert.FwdIdeal.Val.real_of_finite m hp
  refine ⟨fun c => Cert.FwdIdeal.Val.outO m c, fun c => Cert.FwdIdeal.Val.outL m c, Cert.FwdIdeal.Val.run m hA g,
    (θ_run Cert.FwdReferenceIdeal.defs _ _).mono (fun r h c => ?_) (Cert.FwdReferenceIdeal.Value.run m' g')⟩
  obtain ⟨h0, h1, hk⟩ := h c
  obtain ⟨e0, e1, e2, e3, e4⟩ := he c
  refine ⟨h0.trans ?_, h1.trans ?_, hk⟩
  · rw [Cert.FwdReferenceIdeal.Read.val_main_v55_eq, e0, e1, e2, e3, e4]; exact (Cert.FwdIdeal.Val.outO_eq m c).symm
  · rw [Cert.FwdReferenceIdeal.Read.val_main_v59_eq, e0, e1, e2, e3]; exact (Cert.FwdIdeal.Val.outL_eq m c).symm

/-- The forward attention's three named constants. -/
theorem constants_fwd : Cert.preserves_Fwd_FwdIdeal :=
  ⟨IdealRules.named_const.statement Cert.FwdIdeal.κ "mask" .f32 0xF149F2CA#32 ⊥ rfl,
    IdealRules.named_const.statement Cert.FwdIdeal.κ "scale2" .f32 0x3DD53B95#32 (((Real.sqrt 192)⁻¹ * (Real.log 2)⁻¹ : ℝ) : EReal) rfl,
    IdealRules.named_const.statement Cert.FwdIdeal.κ "log2e" .f32 0x3FB8AA3B#32 (((Real.log 2)⁻¹ : ℝ) : EReal) rfl⟩

/-- Every claim. -/
theorem claim : Cert.Claim :=
  ⟨Cert.Kernel.Gen.facts, Cert.KernelIdeal.Gen.facts, Cert.ReferenceIdeal.Gen.facts,
    Cert.Fwd.Gen.facts, Cert.FwdIdeal.Gen.facts, Cert.FwdReferenceIdeal.Gen.facts,
    Cert.Proj.Gen.facts, Cert.ProjIdeal.Gen.facts, Cert.ProjReferenceIdeal.Gen.facts,
    Cert.Q.Gen.facts, Cert.QIdeal.Gen.facts, Cert.QReferenceIdeal.Gen.facts,
    Cert.Kv.Gen.facts, Cert.KvIdeal.Gen.facts, Cert.KvReferenceIdeal.Gen.facts,
    Cert.Mix.Gen.facts, Cert.MixIdeal.Gen.facts, Cert.MixReferenceIdeal.Gen.facts,
    Cert.Up.Gen.facts, Cert.UpIdeal.Gen.facts, Cert.UpReferenceIdeal.Gen.facts,
    Cert.Down.Gen.facts, Cert.DownIdeal.Gen.facts, Cert.DownReferenceIdeal.Gen.facts,
    Cert.Dact.Gen.facts, Cert.DactIdeal.Gen.facts, Cert.DactReferenceIdeal.Gen.facts,
    Cert.DwDown.Gen.facts, Cert.DwDownIdeal.Gen.facts, Cert.DwDownReferenceIdeal.Gen.facts,
    Cert.Dcat.Gen.facts, Cert.DcatIdeal.Gen.facts, Cert.DcatReferenceIdeal.Gen.facts,
    Cert.DwO.Gen.facts, Cert.DwOIdeal.Gen.facts, Cert.DwOReferenceIdeal.Gen.facts,
    Cert.Dh1.Gen.facts, Cert.Dh1Ideal.Gen.facts, Cert.Dh1ReferenceIdeal.Gen.facts,
    Cert.DwIn.Gen.facts, Cert.DwInIdeal.Gen.facts, Cert.DwInReferenceIdeal.Gen.facts,
    Cert.Dqn.Gen.facts, Cert.DqnIdeal.Gen.facts, Cert.DqnReferenceIdeal.Gen.facts,
    Cert.DwUq.Gen.facts, Cert.DwUqIdeal.Gen.facts, Cert.DwUqReferenceIdeal.Gen.facts,
    Cert.Dkvn.Gen.facts, Cert.DkvnIdeal.Gen.facts, Cert.DkvnReferenceIdeal.Gen.facts,
    Cert.DwUkv.Gen.facts, Cert.DwUkvIdeal.Gen.facts, Cert.DwUkvReferenceIdeal.Gen.facts,
    Cert.DwUp.Gen.facts, Cert.DwUpIdeal.Gen.facts, Cert.DwUpReferenceIdeal.Gen.facts,
    Cert.Dh2.Gen.facts, Cert.Dh2Ideal.Gen.facts, Cert.Dh2ReferenceIdeal.Gen.facts,
    Cert.KernelIdeal.Val.finite_facts, Cert.FwdIdeal.Val.finite_facts,
    kernel_frame, ideal_frame, fun m g _ => ideal_frame m g trivial, reference_frame, fun m g _ => reference_frame m g trivial,
    frame_fwd, frame_fwd_ideal, fun m g _ => frame_fwd_ideal m g trivial, frame_fwd_reference, fun m g _ => frame_fwd_reference m g trivial,
    frame_proj, frame_proj_ideal, frame_proj_reference,
    frame_q, frame_q_ideal, frame_q_reference,
    frame_kv, frame_kv_ideal, frame_kv_reference,
    frame_mix, frame_mix_ideal, frame_mix_reference,
    frame_up, frame_up_ideal, frame_up_reference,
    frame_down, frame_down_ideal, frame_down_reference,
    frame_dact, frame_dact_ideal, frame_dact_reference,
    frame_dwDown, frame_dwDown_ideal, frame_dwDown_reference,
    frame_dcat, frame_dcat_ideal, frame_dcat_reference,
    frame_dwO, frame_dwO_ideal, frame_dwO_reference,
    frame_dh1, frame_dh1_ideal, frame_dh1_reference,
    frame_dwIn, frame_dwIn_ideal, frame_dwIn_reference,
    frame_dqn, frame_dqn_ideal, frame_dqn_reference,
    frame_dwUq, frame_dwUq_ideal, frame_dwUq_reference,
    frame_dkvn, frame_dkvn_ideal, frame_dkvn_reference,
    frame_dwUkv, frame_dwUkv_ideal, frame_dwUkv_reference,
    frame_dwUp, frame_dwUp_ideal, frame_dwUp_reference,
    frame_dh2, frame_dh2_ideal, frame_dh2_reference,
    constants, equal,
    constants_fwd, equal_fwd,
    trivial, equal_proj,
    trivial, equal_q,
    trivial, equal_kv,
    trivial, equal_mix,
    trivial, equal_up,
    trivial, equal_down,
    trivial, equal_dact,
    trivial, equal_dwDown,
    trivial, equal_dcat,
    trivial, equal_dwO,
    trivial, equal_dh1,
    trivial, equal_dwIn,
    trivial, equal_dqn,
    trivial, equal_dwUq,
    trivial, equal_dkvn,
    trivial, equal_dwUkv,
    trivial, equal_dwUp,
    trivial, equal_dh2⟩

end Cert.Proof
end
